-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gla_finite [hPre_gla_finite : Cert.Pre_gla_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gla_finite [hPre_gla_finite : Cert.Pre_gla_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_hgrn_finite [hPre_hgrn_finite : Cert.Pre_hgrn_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_hgrn_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_hgrn_finite [hPre_hgrn_finite : Cert.Pre_hgrn_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_hgrn_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_gla_gate_finite [hPre_gla_gate_finite : Cert.Pre_gla_gate_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_gla_gate_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_gla_gate_finite [hPre_gla_gate_finite : Cert.Pre_gla_gate_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_gla_gate_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_bound_finite [hPre_bound_finite : Cert.Pre_bound_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_bound_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_bound_finite [hPre_bound_finite : Cert.Pre_bound_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_bound_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gla_finite [hKernelIdeal : Cert.KernelIdeal.Facts] [hPre_gla_finite : Cert.Pre_gla_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gla_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gla_finite [hReferenceIdeal : Cert.ReferenceIdeal.Facts] [hPre_gla_finite : Cert.Pre_gla_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gla_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_hgrn_finite [hKernel5Ideal : Cert.Kernel5Ideal.Facts] [hPre_hgrn_finite : Cert.Pre_hgrn_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_hgrn_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_hgrn_finite [hReference5Ideal : Cert.Reference5Ideal.Facts] [hPre_hgrn_finite : Cert.Pre_hgrn_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_hgrn_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_gla_gate_finite [hKernel10Ideal : Cert.Kernel10Ideal.Facts] [hPre_gla_gate_finite : Cert.Pre_gla_gate_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_gla_gate_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_gla_gate_finite [hReference10Ideal : Cert.Reference10Ideal.Facts] [hPre_gla_gate_finite : Cert.Pre_gla_gate_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_gla_gate_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_bound_finite [hKernel11Ideal : Cert.Kernel11Ideal.Facts] [hPre_bound_finite : Cert.Pre_bound_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_bound_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_bound_finite [hReference11Ideal : Cert.Reference11Ideal.Facts] [hPre_bound_finite : Cert.Pre_bound_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_bound_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_gla_finite [hKernelIdeal : Cert.KernelIdeal.Facts] [hReferenceIdeal : Cert.ReferenceIdeal.Facts] [hPre_gla_finite : Cert.Pre_gla_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gla_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v23) = v3 c
          ∧ r.2.mem ((c.tc : Thread Cert.Reference3Ideal.nD Cert.Reference3Ideal.τ).loc Cert.Reference3Ideal.main_v26) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_hgrn_finite [hKernel5Ideal : Cert.Kernel5Ideal.Facts] [hReference5Ideal : Cert.Reference5Ideal.Facts] [hPre_hgrn_finite : Cert.Pre_hgrn_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_hgrn_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v94) = v0 c
          ∧ r.2.mem ((c.tc : Thread Cert.Reference5Ideal.nD Cert.Reference5Ideal.τ).loc Cert.Reference5Ideal.main_v73) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v13)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v16)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v42)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v42) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_gla_gate_finite [hKernel10Ideal : Cert.Kernel10Ideal.Facts] [hReference10Ideal : Cert.Reference10Ideal.Facts] [hPre_gla_gate_finite : Cert.Pre_gla_gate_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_gla_gate_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v10_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_bound_finite [hKernel11Ideal : Cert.Kernel11Ideal.Facts] [hReference11Ideal : Cert.Reference11Ideal.Facts] [hPre_bound_finite : Cert.Pre_bound_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_bound_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v43) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_gla_finite : Cert.Pre_gla_finite.Facts) (hPre_hgrn_finite : Cert.Pre_hgrn_finite.Facts) (hPre_gla_gate_finite : Cert.Pre_gla_gate_finite.Facts) (hPre_bound_finite : Cert.Pre_bound_finite.Facts),
    quiescent_Kernel (hKernel := hKernel)
    ∧ quiescent_KernelIdeal (hKernelIdeal := hKernelIdeal)
    ∧ quiescent_KernelIdeal_pre_gla_finite (hKernelIdeal := hKernelIdeal) (hPre_gla_finite := hPre_gla_finite)
    ∧ quiescent_ReferenceIdeal (hReferenceIdeal := hReferenceIdeal)
    ∧ quiescent_ReferenceIdeal_pre_gla_finite (hReferenceIdeal := hReferenceIdeal) (hPre_gla_finite := hPre_gla_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_hgrn_finite (hKernel5Ideal := hKernel5Ideal) (hPre_hgrn_finite := hPre_hgrn_finite)
    ∧ quiescent_Reference5Ideal (hReference5Ideal := hReference5Ideal)
    ∧ quiescent_Reference5Ideal_pre_hgrn_finite (hReference5Ideal := hReference5Ideal) (hPre_hgrn_finite := hPre_hgrn_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_gla_gate_finite (hKernel10Ideal := hKernel10Ideal) (hPre_gla_gate_finite := hPre_gla_gate_finite)
    ∧ quiescent_Reference10Ideal (hReference10Ideal := hReference10Ideal)
    ∧ quiescent_Reference10Ideal_pre_gla_gate_finite (hReference10Ideal := hReference10Ideal) (hPre_gla_gate_finite := hPre_gla_gate_finite)
    ∧ quiescent_Kernel11 (hKernel11 := hKernel11)
    ∧ quiescent_Kernel11Ideal (hKernel11Ideal := hKernel11Ideal)
    ∧ quiescent_Kernel11Ideal_pre_bound_finite (hKernel11Ideal := hKernel11Ideal) (hPre_bound_finite := hPre_bound_finite)
    ∧ quiescent_Reference11Ideal (hReference11Ideal := hReference11Ideal)
    ∧ quiescent_Reference11Ideal_pre_bound_finite (hReference11Ideal := hReference11Ideal) (hPre_bound_finite := hPre_bound_finite)
    ∧ preserves_Kernel_KernelIdeal
    ∧ algebraic_KernelIdeal_ReferenceIdeal_pre_gla_finite (hKernelIdeal := hKernelIdeal) (hReferenceIdeal := hReferenceIdeal) (hPre_gla_finite := hPre_gla_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_hgrn_finite (hKernel5Ideal := hKernel5Ideal) (hReference5Ideal := hReference5Ideal) (hPre_hgrn_finite := hPre_hgrn_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_gla_gate_finite (hKernel10Ideal := hKernel10Ideal) (hReference10Ideal := hReference10Ideal) (hPre_gla_gate_finite := hPre_gla_gate_finite)
    ∧ preserves_Kernel11_Kernel11Ideal
    ∧ algebraic_Kernel11Ideal_Reference11Ideal_pre_bound_finite (hKernel11Ideal := hKernel11Ideal) (hReference11Ideal := hReference11Ideal) (hPre_bound_finite := hPre_bound_finite)
-- ==== Pre_bound_finite.lean ====
abbrev S16x2048x3352 : Shape := ⟨3, ![16, 2048, 3352]⟩
abbrev S2x512 : Shape := ⟨2, ![2, 512]⟩
abbrev S128 : Shape := ⟨1, ![128]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S16x2048x3352 .f32) (main_arg1 : FVec F S2x512 .f32) (main_arg2 : FVec F S128 .f32) : IVec S_ 1 :=
  let main_v0 : FVec F S2x512 .f32 := Host.absf main_arg1
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  main_v3
-- ==== Pre_gla_finite.lean ====
abbrev S32x1x3088 : Shape := ⟨3, ![32, 1, 3088]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S32x1x2064 : Shape := ⟨3, ![32, 1, 2064]⟩
abbrev S_ : Shape := ⟨0, ![]⟩

class Facts : Prop where
  slices_S32x1x3088_S32x1x2064_0_0_0 : S32x1x3088.Slices ![0, 0, 0] S32x1x2064
  bcast_S_S32x1x2064 : S_.BroadcastsInDim S32x1x2064 (![] : Fin 0 → Fin S32x1x2064.rank)
  reducesTo_S32x1x2064_S_d0_1_2 : S32x1x2064.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32x1x3088 .f32) (main_arg1 : FVec F S16x512 .f32) (main_arg2 : FVec F S512 .f32) (main_arg3 : FVec F S256 .f32) (main_arg4 : FVec F S32x4x128x256 .f32) : IVec S_ 1 :=
  let main_v0 : FVec F S32x1x2064 .f32 := (extractStridedSlice S32x1x2064 ![0, 0, 0] · slices_S32x1x3088_S32x1x2064_0_0_0) main_arg0
  let main_v1 : FVec F S32x1x2064 .f32 := Host.absf main_v0
  let main_cst : FVec F S_ .f32 := constant S_ .f32 0x7F800000#32
  let main_v2 : FVec F S32x1x2064 .f32 := broadcastInDim S32x1x2064 ![] bcast_S_S32x1x2064 main_cst
  let main_v3 : IVec S32x1x2064 1 := cmpf .olt main_v1 main_v2
  let main_c : IVec S_ 1 := constantI S_ 1 1#1
  let main_v4 : IVec S_ 1 := (fun x v => Host.reduce IntOp.andi x v reducesTo_S32x1x2064_S_d0_1_2 h_S_) main_v3 main_c
  let main_v5 : FVec F S16x512 .f32 := Host.absf main_arg1
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_c_1 : IVec S_ 1 := constantI S_ 1 1#1
  let main_v8 : IVec S_ 1 := (fun x v => Host.reduce IntOp.andi x v reducesTo_S16x512_S_d0_1 h_S_) main_v7 main_c_1
  let main_v9 : IVec S_ 1 := andi main_v4 main_v8
  let main_v10 : FVec F S512 .f32 := Host.absf main_arg2
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : IVec S_ 1 := andi main_v9 main_v13
  main_v14
-- ==== Pre_gla_gate_finite.lean ====
abbrev S16x2048x3088 : Shape := ⟨3, ![16, 2048, 3088]⟩
abbrev S16x512 : Shape := ⟨2, ![16, 512]⟩
abbrev S512 : Shape := ⟨1, ![512]⟩
abbrev S256 : Shape := ⟨1, ![256]⟩
abbrev S16x2048x16 : Shape := ⟨3, ![16, 2048, 16]⟩
abbrev S_ : Shape := ⟨0, ![]⟩

class Facts : Prop where
  slices_S16x2048x3088_S16x2048x16_0_0_2048 : S16x2048x3088.Slices ![0, 0, 2048] S16x2048x16
  bcast_S_S16x2048x16 : S_.BroadcastsInDim S16x2048x16 (![] : Fin 0 → Fin S16x2048x16.rank)
  reducesTo_S16x2048x16_S_d0_1_2 : S16x2048x16.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16x2048x3088 .f32) (main_arg1 : FVec F S16x512 .f32) (main_arg2 : FVec F S512 .f32) (main_arg3 : FVec F S256 .f32) : IVec S_ 1 :=
  let main_v0 : FVec F S16x2048x16 .f32 := (extractStridedSlice S16x2048x16 ![0, 0, 2048] · slices_S16x2048x3088_S16x2048x16_0_0_2048) main_arg0
  let main_v1 : FVec F S16x2048x16 .f32 := Host.absf main_v0
  let main_cst : FVec F S_ .f32 := constant S_ .f32 0x7F800000#32
  let main_v2 : FVec F S16x2048x16 .f32 := broadcastInDim S16x2048x16 ![] bcast_S_S16x2048x16 main_cst
  let main_v3 : IVec S16x2048x16 1 := cmpf .olt main_v1 main_v2
  let main_c : IVec S_ 1 := constantI S_ 1 1#1
  let main_v4 : IVec S_ 1 := (fun x v => Host.reduce IntOp.andi x v reducesTo_S16x2048x16_S_d0_1_2 h_S_) main_v3 main_c
  let main_v5 : FVec F S16x512 .f32 := Host.absf main_arg1
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_c_1 : IVec S_ 1 := constantI S_ 1 1#1
  let main_v8 : IVec S_ 1 := (fun x v => Host.reduce IntOp.andi x v reducesTo_S16x512_S_d0_1 h_S_) main_v7 main_c_1
  let main_v9 : IVec S_ 1 := andi main_v4 main_v8
  let main_v10 : FVec F S512 .f32 := Host.absf main_arg2
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : IVec S_ 1 := andi main_v9 main_v13
  main_v14
-- ==== Pre_hgrn_finite.lean ====
abbrev S32x1x3352 : Shape := ⟨3, ![32, 1, 3352]⟩
abbrev S2x512 : Shape := ⟨2, ![2, 512]⟩
abbrev S128 : Shape := ⟨1, ![128]⟩
abbrev S32x4x128x128 : Shape := ⟨4, ![32, 4, 128, 128]⟩
abbrev S32x1x512 : Shape := ⟨3, ![32, 1, 512]⟩
abbrev S_ : Shape := ⟨0, ![]⟩

class Facts : Prop where
  slices_S32x1x3352_S32x1x512_0_0_0 : S32x1x3352.Slices ![0, 0, 0] S32x1x512
  bcast_S_S32x1x512 : S_.BroadcastsInDim S32x1x512 (![] : Fin 0 → Fin S32x1x512.rank)
  reducesTo_S32x1x512_S_d0_1_2 : S32x1x512.ReducesTo [0, 1, 2] S_
  h_S_ : 0 < S_.numel
  slices_S32x1x3352_S32x1x512_0_0_1024 : S32x1x3352.Slices ![0, 0, 1024] S32x1x512
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S32x1x3352 .f32) (main_arg1 : FVec F S2x512 .f32) (main_arg2 : FVec F S128 .f32) (main_arg3 : FVec F S32x4x128x128 .f32) : IVec S_ 1 :=
  let main_v0 : FVec F S32x1x512 .f32 := (extractStridedSlice S32x1x512 ![0, 0, 0] · slices_S32x1x3352_S32x1x512_0_0_0) main_arg0
  let main_v1 : FVec F S32x1x512 .f32 := Host.absf main_v0
  let main_cst : FVec F S_ .f32 := constant S_ .f32 0x7F800000#32
  let main_v2 : FVec F S32x1x512 .f32 := broadcastInDim S32x1x512 ![] bcast_S_S32x1x512 main_cst
  let main_v3 : IVec S32x1x512 1 := cmpf .olt main_v1 main_v2
  let main_c : IVec S_ 1 := constantI S_ 1 1#1
  let main_v4 : IVec S_ 1 := (fun x v => Host.reduce IntOp.andi x v reducesTo_S32x1x512_S_d0_1_2 h_S_) main_v3 main_c
  let main_v5 : FVec F S32x1x512 .f32 := (extractStridedSlice S32x1x512 ![0, 0, 1024] · slices_S32x1x3352_S32x1x512_0_0_1024) main_arg0
  let main_v6 : FVec F S32x1x512 .f32 := Host.absf main_v5
  let main_cst_0 : FVec F S_ .f32 := constant S_ .f32 0x7F800000#32
  let main_v7 : FVec F S32x1x512 .f32 := broadcastInDim S32x1x512 ![] bcast_S_S32x1x512 main_cst_0
  let main_v8 : IVec S32x1x512 1 := cmpf .olt main_v6 main_v7
  let main_c_1 : IVec S_ 1 := constantI S_ 1 1#1
  let main_v9 : IVec S_ 1 := (fun x v => Host.reduce IntOp.andi x v reducesTo_S32x1x512_S_d0_1_2 h_S_) main_v8 main_c_1
  let main_v10 : IVec S_ 1 := andi main_v4 main_v9
  let main_v11 : FVec F S2x512 .f32 := Host.absf main_arg1
  let main_cst_2 : FVec F S_ .f32 := constant S_ .f32 0x7F800000#32
  let main_v12 : FVec F S2x512 .f32 := broadcastInDim S2x512 ![] bcast_S_S2x512 main_cst_2
  let main_v13 : IVec S2x512 1 := cmpf .olt main_v11 main_v12
  let main_c_3 : IVec S_ 1 := constantI S_ 1 1#1
  let main_v14 : IVec S_ 1 := (fun x v => Host.reduce IntOp.andi x v reducesTo_S2x512_S_d0_1 h_S_) main_v13 main_c_3
  let main_v15 : IVec S_ 1 := andi main_v10 main_v14
  main_v15
-- ==== Kernel.lean ====
abbrev S32x1x3088 : Shape := ⟨3, ![32, 1, 3088]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S32x3088 : Shape := ⟨2, ![32, 3088]⟩
abbrev S32x2048 : Shape := ⟨2, ![32, 2048]⟩
abbrev S32x1024 : Shape := ⟨2, ![32, 1024]⟩
abbrev S32x16 : Shape := ⟨2, ![32, 16]⟩
abbrev S_ : Shape := ⟨0, ![]⟩
abbrev S32x3200 : Shape := ⟨2, ![32, 3200]⟩
abbrev S128x512 : Shape := ⟨2, ![128, 512]⟩
abbrev S1x512 : Shape := ⟨2, ![1, 512]⟩
abbrev S1x256 : Shape := ⟨2, ![1, 256]⟩
abbrev S32x128 : Shape := ⟨2, ![32, 128]⟩
abbrev S32x256 : Shape := ⟨2, ![32, 256]⟩
abbrev S128x128 : Shape := ⟨2, ![128, 128]⟩
abbrev S1x128 : Shape := ⟨2, ![1, 128]⟩
abbrev S32x1x128x256 : Shape := ⟨4, ![32, 1, 128, 256]⟩
abbrev S96x128 : Shape := ⟨2, ![96, 128]⟩
abbrev S128x1 : Shape := ⟨2, ![128, 1]⟩
abbrev S1x1x128x256 : Shape := ⟨4, ![1, 1, 128, 256]⟩
abbrev S128x256 : Shape := ⟨2, ![128, 256]⟩
abbrev S32 : Shape := ⟨1, ![32]⟩
abbrev S32x1 : Shape := ⟨2, ![32, 1]⟩

abbrev nBuf : Space → Nat
  | .hbm => 21
  | .vmem => 21
  | .smem => 0
  | _ => 0

abbrev bufTy : (tb : Table) → Fin (tcTables nBuf tb) → BufTy
  | .hbm, ⟨0, _⟩ => ⟨S32x1x3088, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S32x4x128x256, .f32⟩
  | .hbm, ⟨5, _⟩ => ⟨S32x3088, .f32⟩
  | .hbm, ⟨6, _⟩ => ⟨S32x2048, .f32⟩
  | .hbm, ⟨7, _⟩ => ⟨S32x1024, .f32⟩
  | .hbm, ⟨8, _⟩ => ⟨S32x16, .f32⟩
  | .hbm, ⟨9, _⟩ => ⟨S32x3088, .f32⟩
  | .hbm, ⟨10, _⟩ => ⟨S_, .i32⟩
  | .hbm, ⟨11, _⟩ => ⟨S_, .f32⟩
  | .hbm, ⟨12, _⟩ => ⟨S32x3200, .f32⟩
  | .hbm, ⟨13, _⟩ => ⟨S_, .i32⟩
  | .hbm, ⟨14, _⟩ => ⟨S_, .f32⟩
  | .hbm, ⟨15, _⟩ => ⟨S128x512, .f32⟩
  | .hbm, ⟨16, _⟩ => ⟨S128x512, .bf16⟩
  | .hbm, ⟨17, _⟩ => ⟨S1x512, .f32⟩
  | .hbm, ⟨18, _⟩ => ⟨S1x256, .f32⟩
  | .hbm, ⟨19, _⟩ => ⟨S32x1024, .f32⟩
  | .hbm, ⟨20, _⟩ => ⟨S32x4x128x256, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x128, .f32⟩
  | .local _ .vmem, ⟨9, _⟩ => ⟨S128x128, .bf16⟩
  | .local _ .vmem, ⟨10, _⟩ => ⟨S128x128, .bf16⟩
  | .local _ .vmem, ⟨11, _⟩ => ⟨S1x128, .f32⟩
  | .local _ .vmem, ⟨12, _⟩ => ⟨S1x128, .f32⟩
  | .local _ .vmem, ⟨13, _⟩ => ⟨S1x256, .f32⟩
  | .local _ .vmem, ⟨14, _⟩ => ⟨S32x1x128x256, .f32⟩
  | .local _ .vmem, ⟨15, _⟩ => ⟨S32x1x128x256, .f32⟩
  | .local _ .vmem, ⟨16, _⟩ => ⟨S32x256, .f32⟩
  | .local _ .vmem, ⟨17, _⟩ => ⟨S32x256, .f32⟩
  | .local _ .vmem, ⟨18, _⟩ => ⟨S32x1x128x256, .f32⟩
  | .local _ .vmem, ⟨19, _⟩ => ⟨S32x1x128x256, .f32⟩
  | .local _ .vmem, ⟨20, _⟩ => ⟨S32x256, .f32⟩
  | _, _ => ⟨S32x1x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c24_i32 : BitVec 32 := 24#32
  let c0_i32_0 : BitVec 32 := 0#32
  ![c0_i32.toNat, c24_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32x1x3088 : Shape := ⟨3, ![32, 1, 3088]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S32x1x512 : Shape := ⟨3, ![32, 1, 512]⟩
abbrev S32x1x4x128 : Shape := ⟨4, ![32, 1, 4, 128]⟩
abbrev S_ : Shape := ⟨0, ![]⟩
abbrev S32x1x1024 : Shape := ⟨3, ![32, 1, 1024]⟩
abbrev S32x1x4x256 : Shape := ⟨4, ![32, 1, 4, 256]⟩
abbrev S32x1x16 : Shape := ⟨3, ![32, 1, 16]⟩
abbrev S1x1x512 : Shape := ⟨3, ![1, 1, 512]⟩
abbrev S1x1 : Shape := ⟨2, ![1, 1]⟩
abbrev S1x1x1x1x1 : Shape := ⟨5, ![1, 1, 1, 1, 1]⟩
abbrev S32x1x1x4x128 : Shape := ⟨5, ![32, 1, 1, 4, 128]⟩
abbrev S32x1x1x4 : Shape := ⟨4, ![32, 1, 1, 4]⟩
abbrev S32x4x1x1 : Shape := ⟨4, ![32, 4, 1, 1]⟩
abbrev S32x4x256x1 : Shape := ⟨4, ![32, 4, 256, 1]⟩
abbrev S32x4x128 : Shape := ⟨3, ![32, 4, 128]⟩
abbrev S32x4x128x1 : Shape := ⟨4, ![32, 4, 128, 1]⟩
abbrev S32x1x4 : Shape := ⟨3, ![32, 1, 4]⟩
abbrev S32x1x4x1 : Shape := ⟨4, ![32, 1, 4, 1]⟩
abbrev S1x1x1x256 : Shape := ⟨4, ![1, 1, 1, 256]⟩
abbrev S32x1024 : Shape := ⟨2, ![32, 1024]⟩

abbrev nBuf : Space → Nat
  | .hbm => 117
  | .vmem => 0
  | .smem => 0
  | _ => 0

abbrev bufTy : (tb : Table) → Fin (tcTables nBuf tb) → BufTy
  | .hbm, ⟨0, _⟩ => ⟨S32x1x3088, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S32x4x128x256, .f32⟩
  | .hbm, ⟨5, _⟩ => ⟨S32x1x512, .f32⟩
  | .hbm, ⟨6, _⟩ => ⟨S32x1x4x128, .f32⟩
  | .hbm, ⟨7, _⟩ => ⟨S_, .f32⟩
  | .hbm, ⟨8, _⟩ => ⟨S32x1x4x128, .f32⟩
  | .hbm, ⟨9, _⟩ => ⟨S32x1x4x128, .f32⟩
  | .hbm, ⟨10, _⟩ => ⟨S32x1x512, .f32⟩
  | .hbm, ⟨11, _⟩ => ⟨S32x1x4x128, .f32⟩
  | .hbm, ⟨12, _⟩ => ⟨S32x1x1024, .f32⟩
  | .hbm, ⟨13, _⟩ => ⟨S32x1x4x256, .f32⟩
  | .hbm, ⟨14, _⟩ => ⟨S32x1x16, .f32⟩
  | .hbm, ⟨15, _⟩ => ⟨S32x1x1024, .f32⟩
  | .hbm, ⟨16, _⟩ => ⟨S32x1x4x256, .f32⟩
  | .hbm, ⟨17, _⟩ => ⟨S32x1x512, .f32⟩
  | .hbm, ⟨18, _⟩ => ⟨S1x1x512, .f32⟩
  | .hbm, ⟨19, _⟩ => ⟨S32x1x512, .f32⟩
  | .hbm, ⟨20, _⟩ => ⟨S32x1x512, .f32⟩
  | .hbm, ⟨21, _⟩ => ⟨S32x1x512, .f32⟩
  | .hbm, ⟨22, _⟩ => ⟨S_, .f32⟩
  | .hbm, ⟨23, _⟩ => ⟨S32x1x512, .f32⟩
  | .hbm, ⟨24, _⟩ => ⟨S32x1x512, .f32⟩
  | .hbm, ⟨25, _⟩ => ⟨S32x1x512, .f32⟩
  | .hbm, ⟨26, _⟩ => ⟨S32x1x512, .f32⟩
  | .hbm, ⟨27, _⟩ => ⟨S32x1x512, .i1⟩
  | .hbm, ⟨28, _⟩ => ⟨S32x1x512, .f32⟩
  | .hbm, ⟨29, _⟩ => ⟨S32x1x512, .f32⟩
  | .hbm, ⟨30, _⟩ => ⟨S32x1x512, .f32⟩
  | .hbm, ⟨31, _⟩ => ⟨S32x1x512, .f32⟩
  | .hbm, ⟨32, _⟩ => ⟨S32x1x512, .f32⟩
  | .hbm, ⟨33, _⟩ => ⟨S32x1x512, .f32⟩
  | .hbm, ⟨34, _⟩ => ⟨S32x1x512, .f32⟩
  | .hbm, ⟨35, _⟩ => ⟨S32x1x512, .f32⟩
  | .hbm, ⟨36, _⟩ => ⟨S32x1x512, .f32⟩
  | .hbm, ⟨37, _⟩ => ⟨S_, .f32⟩
  | .hbm, ⟨38, _⟩ => ⟨S32x1x512, .f32⟩
  | .hbm, ⟨39, _⟩ => ⟨S32x1x512, .f32⟩
  | .hbm, ⟨40, _⟩ => ⟨S32x1x4x128, .f32⟩
  | .hbm, ⟨41, _⟩ => ⟨S_, .i1⟩
  | .hbm, ⟨42, _⟩ => ⟨S1x1, .i1⟩
  | .hbm, ⟨43, _⟩ => ⟨S1x1, .i32⟩
  | .hbm, ⟨44, _⟩ => ⟨S_, .i32⟩
  | .hbm, ⟨45, _⟩ => ⟨S1x1, .i32⟩
  | .hbm, ⟨46, _⟩ => ⟨S1x1, .i32⟩
  | .hbm, ⟨47, _⟩ => ⟨S1x1, .i32⟩
  | .hbm, ⟨48, _⟩ => ⟨S1x1, .i1⟩
  | .hbm, ⟨49, _⟩ => ⟨S_, .i1⟩
  | .hbm, ⟨50, _⟩ => ⟨S1x1, .i1⟩
  | .hbm, ⟨51, _⟩ => ⟨S1x1, .i1⟩
  | .hbm, ⟨52, _⟩ => ⟨S1x1x1x1x1, .i1⟩
  | .hbm, ⟨53, _⟩ => ⟨S_, .f32⟩
  | .hbm, ⟨54, _⟩ => ⟨S_, .f32⟩
  | .hbm, ⟨55, _⟩ => ⟨S32x1x4x128, .f32⟩
  | .hbm, ⟨56, _⟩ => ⟨S32x1x1x4x128, .f32⟩
  | .hbm, ⟨57, _⟩ => ⟨S32x1x1x4x128, .f32⟩
  | .hbm, ⟨58, _⟩ => ⟨S32x1x1x4x128, .f32⟩
  | .hbm, ⟨59, _⟩ => ⟨S_, .f32⟩
  | .hbm, ⟨60, _⟩ => ⟨S_, .f32⟩
  | .hbm, ⟨61, _⟩ => ⟨S32x1x1x4x128, .i1⟩
  | .hbm, ⟨62, _⟩ => ⟨S32x1x1x4x128, .f32⟩
  | .hbm, ⟨63, _⟩ => ⟨S32x1x1x4x128, .f32⟩
  | .hbm, ⟨64, _⟩ => ⟨S32x1x1x4x128, .f32⟩
  | .hbm, ⟨65, _⟩ => ⟨S32x1x1x4x128, .f32⟩
  | .hbm, ⟨66, _⟩ => ⟨S32x1x1x4x128, .f32⟩
  | .hbm, ⟨67, _⟩ => ⟨S32x1x1x4x128, .f32⟩
  | .hbm, ⟨68, _⟩ => ⟨S32x1x1x4x128, .f32⟩
  | .hbm, ⟨69, _⟩ => ⟨S_, .f32⟩
  | .hbm, ⟨70, _⟩ => ⟨S32x1x1x4, .f32⟩
  | .hbm, ⟨71, _⟩ => ⟨S32x4x1x1, .f32⟩
  | .hbm, ⟨72, _⟩ => ⟨S32x1x4x128, .f32⟩
  | .hbm, ⟨73, _⟩ => ⟨S32x1x4x128, .f32⟩
  | .hbm, ⟨74, _⟩ => ⟨S32x4x256x1, .f32⟩
  | .hbm, ⟨75, _⟩ => ⟨S32x1x4x256, .f32⟩
  | .hbm, ⟨76, _⟩ => ⟨S32x4x256x1, .f32⟩
  | .hbm, ⟨77, _⟩ => ⟨S32x1x4x256, .f32⟩
  | .hbm, ⟨78, _⟩ => ⟨S32x1x4x256, .f32⟩
  | .hbm, ⟨79, _⟩ => ⟨S32x4x128, .f32⟩
  | .hbm, ⟨80, _⟩ => ⟨S32x4x128, .f32⟩
  | .hbm, ⟨81, _⟩ => ⟨S32x4x128x1, .f32⟩
  | .hbm, ⟨82, _⟩ => ⟨S32x4x128x256, .f32⟩
  | .hbm, ⟨83, _⟩ => ⟨S32x4x128x256, .f32⟩
  | .hbm, ⟨84, _⟩ => ⟨S32x1x4x128, .f32⟩
  | .hbm, ⟨85, _⟩ => ⟨S32x1x4x128, .f32⟩
  | .hbm, ⟨86, _⟩ => ⟨S32x1x4x128, .f32⟩
  | .hbm, ⟨87, _⟩ => ⟨S32x1x4x128, .f32⟩
  | .hbm, ⟨88, _⟩ => ⟨S32x4x128x256, .f32⟩
  | .hbm, ⟨89, _⟩ => ⟨S32x4x128x256, .f32⟩
  | .hbm, ⟨90, _⟩ => ⟨S32x1x4x256, .f32⟩
  | .hbm, ⟨91, _⟩ => ⟨S_, .f32⟩
  | .hbm, ⟨92, _⟩ => ⟨S32x1x4, .f32⟩
  | .hbm, ⟨93, _⟩ => ⟨S32x1x4x1, .f32⟩
  | .hbm, ⟨94, _⟩ => ⟨S_, .f32⟩
  | .hbm, ⟨95, _⟩ => ⟨S32x1x4x1, .f32⟩
  | .hbm, ⟨96, _⟩ => ⟨S32x1x4x1, .f32⟩
  | .hbm, ⟨97, _⟩ => ⟨S_, .f32⟩
  | .hbm, ⟨98, _⟩ => ⟨S32x1x4x1, .f32⟩
  | .hbm, ⟨99, _⟩ => ⟨S32x1x4x1, .f32⟩
  | .hbm, ⟨100, _⟩ => ⟨S32x1x4x1, .f32⟩
  | .hbm, ⟨101, _⟩ => ⟨S32x1x4x256, .f32⟩
  | .hbm, ⟨102, _⟩ => ⟨S32x1x4x256, .f32⟩
  | .hbm, ⟨103, _⟩ => ⟨S1x1x1x256, .f32⟩
  | .hbm, ⟨104, _⟩ => ⟨S32x1x4x256, .f32⟩
  | .hbm, ⟨105, _⟩ => ⟨S32x1x4x256, .f32⟩
  | .hbm, ⟨106, _⟩ => ⟨S32x1x4x256, .f32⟩
  | .hbm, ⟨107, _⟩ => ⟨S32x1x4x256, .f32⟩
  | .hbm, ⟨108, _⟩ => ⟨S_, .f32⟩
  | .hbm, ⟨109, _⟩ => ⟨S32x1x4x256, .f32⟩
  | .hbm, ⟨110, _⟩ => ⟨S32x1x4x256, .f32⟩
  | .hbm, ⟨111, _⟩ => ⟨S_, .f32⟩
  | .hbm, ⟨112, _⟩ => ⟨S32x1x4x256, .f32⟩
  | .hbm, ⟨113, _⟩ => ⟨S32x1x4x256, .f32⟩
  | .hbm, ⟨114, _⟩ => ⟨S32x1x4x256, .f32⟩
  | .hbm, ⟨115, _⟩ => ⟨S32x1x4x256, .f32⟩
  | .hbm, ⟨116, _⟩ => ⟨S32x1024, .f32⟩
  | _, _ => ⟨S32x1x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_0 : Ref sig .tc := ⟨.hbm, 49, rfl⟩
abbrev main_call1_v5 : Ref sig .tc := ⟨.hbm, 50, rfl⟩
abbrev main_v20 : Ref sig .tc := ⟨.hbm, 51, rfl⟩
abbrev main_v21 : Ref sig .tc := ⟨.hbm, 52, rfl⟩
abbrev main_call2_call0_cst : Ref sig .tc := ⟨.hbm, 53, rfl⟩
abbrev main_call2_call0_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_1 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_2 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_3 : Ref sig .tc := ⟨.hbm, 91, rfl⟩
abbrev main_v53 : Ref sig .tc := ⟨.hbm, 92, rfl⟩
abbrev main_v54 : Ref sig .tc := ⟨.hbm, 93, rfl⟩
abbrev main_cst_4 : Ref sig .tc := ⟨.hbm, 94, rfl⟩
abbrev main_v55 : Ref sig .tc := ⟨.hbm, 95, rfl⟩
abbrev main_v56 : Ref sig .tc := ⟨.hbm, 96, rfl⟩
abbrev main_cst_5 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1024x2816 : Shape := ⟨2, ![1024, 2816]⟩
abbrev S1024x2x1408 : Shape := ⟨3, ![1024, 2, 1408]⟩
abbrev S1024x2x2816 : Shape := ⟨3, ![1024, 2, 2816]⟩
abbrev S1x1024 : Shape := ⟨2, ![1, 1024]⟩
abbrev S512x1024 : Shape := ⟨2, ![512, 1024]⟩
abbrev S1408x1024 : Shape := ⟨2, ![1408, 1024]⟩
abbrev S512 : Shape := ⟨1, ![512]⟩
abbrev S512x1 : Shape := ⟨2, ![512, 1]⟩
abbrev S512x2816 : Shape := ⟨2, ![512, 2816]⟩
abbrev S512x1408 : Shape := ⟨2, ![512, 1408]⟩

abbrev nBuf : Space → Nat
  | .hbm => 21
  | .vmem => 16
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32768x1024, .bf16⟩
  | .hbm, ⟨8, _⟩ => ⟨S32768x1024, .f32⟩
  | .hbm, ⟨9, _⟩ => ⟨S1024x1024, .bf16⟩
  | .hbm, ⟨10, _⟩ => ⟨S1024x2816, .f32⟩
  | .hbm, ⟨11, _⟩ => ⟨S1024x2x1408, .f32⟩
  | .hbm, ⟨12, _⟩ => ⟨S1024x2816, .f32⟩
  | .hbm, ⟨13, _⟩ => ⟨S1024x2x1408, .f32⟩
  | .hbm, ⟨14, _⟩ => ⟨S1024x2x2816, .f32⟩
  | .hbm, ⟨15, _⟩ => ⟨S1024x5632, .f32⟩
  | .hbm, ⟨16, _⟩ => ⟨S1024x5632, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S1408x1024, .bf16⟩
  | .local _ .vmem, ⟨9, _⟩ => ⟨S1408x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S32768x1024, .bf16⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x5632, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S32768x1024, .f32⟩
  | .hbm, ⟨58, _⟩ => ⟨S32768x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x3352 : Shape := ⟨2, ![1024, 3352]⟩
abbrev S1024x2048 : Shape := ⟨2, ![1024, 2048]⟩
abbrev S1024x256 : Shape := ⟨2, ![1024, 256]⟩
abbrev S1024x2304 : Shape := ⟨2, ![1024, 2304]⟩
abbrev S1024x1304 : Shape := ⟨2, ![1024, 1304]⟩
abbrev S1304x1024 : Shape := ⟨2, ![1304, 1024]⟩
abbrev S_ : Shape := ⟨0, ![]⟩
abbrev S1312x1024 : Shape := ⟨2, ![1312, 1024]⟩
abbrev S32768x1024 : Shape := ⟨2, ![32768, 1024]⟩
abbrev S1x1024 : Shape := ⟨2, ![1, 1024]⟩
abbrev S32768x2304 : Shape := ⟨2, ![32768, 2304]⟩
abbrev S16x512x2048 : Shape := ⟨3, ![16, 512, 2048]⟩
abbrev S16x256x2048 : Shape := ⟨3, ![16, 256, 2048]⟩
abbrev S16x32x2048 : Shape := ⟨3, ![16, 32, 2048]⟩
abbrev S512x1024 : Shape := ⟨2, ![512, 1024]⟩
abbrev S512x2304 : Shape := ⟨2, ![512, 2304]⟩
abbrev S1x512x512 : Shape := ⟨3, ![1, 512, 512]⟩
abbrev S1x256x512 : Shape := ⟨3, ![1, 256, 512]⟩
abbrev S1x32x512 : Shape := ⟨3, ![1, 32, 512]⟩
abbrev S512 : Shape := ⟨1, ![512]⟩
abbrev S512x1 : Shape := ⟨2, ![512, 1]⟩
abbrev S1312x512 : Shape := ⟨2, ![1312, 512]⟩
abbrev S512x512 : Shape := ⟨2, ![512, 512]⟩
abbrev S256x512 : Shape := ⟨2, ![256, 512]⟩
abbrev S32x512 : Shape := ⟨2, ![32, 512]⟩

abbrev nBuf : Space → Nat
  | .hbm => 20
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3352, .f32⟩
  | .hbm, ⟨3, _⟩ => ⟨S1024x2048, .f32⟩
  | .hbm, ⟨4, _⟩ => ⟨S1024x256, .f32⟩
  | .hbm, ⟨5, _⟩ => ⟨S1024x2304, .f32⟩
  | .hbm, ⟨6, _⟩ => ⟨S1024x2304, .bf16⟩
  | .hbm, ⟨7, _⟩ => ⟨S1024x1304, .f32⟩
  | .hbm, ⟨8, _⟩ => ⟨S1304x1024, .f32⟩
  | .hbm, ⟨9, _⟩ => ⟨S_, .i32⟩
  | .hbm, ⟨10, _⟩ => ⟨S_, .f32⟩
  | .hbm, ⟨11, _⟩ => ⟨S1312x1024, .f32⟩
  | .hbm, ⟨12, _⟩ => ⟨S1312x1024, .bf16⟩
  | .hbm, ⟨13, _⟩ => ⟨S32768x1024, .f32⟩
  | .hbm, ⟨14, _⟩ => ⟨S1x1024, .f32⟩
  | .hbm, ⟨15, _⟩ => ⟨S32768x2304, .f32⟩
  | .hbm, ⟨16, _⟩ => ⟨S16x512x2048, .f32⟩
  | .hbm, ⟨17, _⟩ => ⟨S16x512x2048, .f32⟩
  | .hbm, ⟨18, _⟩ => ⟨S16x256x2048, .f32⟩
  | .hbm, ⟨19, _⟩ => ⟨S16x32x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1312x1024, .bf16⟩
  | .local _ .vmem, ⟨5, _⟩ => ⟨S512x2304, .f32⟩
  | .local _ .vmem, ⟨6, _⟩ => ⟨S512x2304, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x256x512, .f32⟩
  | .local _ .vmem, ⟨12, _⟩ => ⟨S1x256x512, .f32⟩
  | .local _ .vmem, ⟨13, _⟩ => ⟨S1x32x512, .f32⟩
  | .local _ .vmem, ⟨14, _⟩ => ⟨S1x32x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1312x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16x2048x1024 : Shape := ⟨3, ![16, 2048, 1024]⟩
abbrev S1024 : Shape := ⟨1, ![1024]⟩
abbrev S1024x3352 : Shape := ⟨2, ![1024, 3352]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3352 : Shape := ⟨3, ![16, 2048, 3352]⟩
abbrev S16x2048x2048 : Shape := ⟨3, ![16, 2048, 2048]⟩
abbrev S16x2048x256 : Shape := ⟨3, ![16, 2048, 256]⟩
abbrev S16x2048x2304 : Shape := ⟨3, ![16, 2048, 2304]⟩
abbrev S32768x2304 : Shape := ⟨2, ![32768, 2304]⟩
abbrev S16x2048x512 : Shape := ⟨3, ![16, 2048, 512]⟩
abbrev S16x512x2048 : Shape := ⟨3, ![16, 512, 2048]⟩
abbrev S16x256x2048 : Shape := ⟨3, ![16, 256, 2048]⟩
abbrev S16x2048x24 : Shape := ⟨3, ![16, 2048, 24]⟩
abbrev S16x2048x32 : Shape := ⟨3, ![16, 2048, 32]⟩
abbrev S16x32x2048 : Shape := ⟨3, ![16, 32, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3352, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3352, .f32⟩
  | .hbm, ⟨20, _⟩ => ⟨S16x2048x2048, .f32⟩
  | .hbm, ⟨21, _⟩ => ⟨S16x2048x256, .f32⟩
  | .hbm, ⟨22, _⟩ => ⟨S16x2048x2304, .f32⟩
  | .hbm, ⟨23, _⟩ => ⟨S32768x2304, .f32⟩
  | .hbm, ⟨24, _⟩ => ⟨S16x2048x512, .f32⟩
  | .hbm, ⟨25, _⟩ => ⟨S16x512x2048, .f32⟩
  | .hbm, ⟨26, _⟩ => ⟨S16x2048x512, .f32⟩
  | .hbm, ⟨27, _⟩ => ⟨S16x512x2048, .f32⟩
  | .hbm, ⟨28, _⟩ => ⟨S16x2048x256, .f32⟩
  | .hbm, ⟨29, _⟩ => ⟨S16x256x2048, .f32⟩
  | .hbm, ⟨30, _⟩ => ⟨S16x2048x24, .f32⟩
  | .hbm, ⟨31, _⟩ => ⟨S_, .i32⟩
  | .hbm, ⟨32, _⟩ => ⟨S_, .f32⟩
  | .hbm, ⟨33, _⟩ => ⟨S16x2048x32, .f32⟩
  | .hbm, ⟨34, _⟩ => ⟨S16x32x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S1024x3088 : Shape := ⟨2, ![1024, 3088]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x3200 : Shape := ⟨2, ![1024, 3200]⟩
abbrev S32768x1024 : Shape := ⟨2, ![32768, 1024]⟩
abbrev S1x1024 : Shape := ⟨2, ![1, 1024]⟩
abbrev S32768x3200 : Shape := ⟨2, ![32768, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 14
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3088, .f32⟩
  | .hbm, ⟨3, _⟩ => ⟨S1024x2048, .f32⟩
  | .hbm, ⟨4, _⟩ => ⟨S1024x1024, .f32⟩
  | .hbm, ⟨5, _⟩ => ⟨S1024x16, .f32⟩
  | .hbm, ⟨6, _⟩ => ⟨S1024x3088, .f32⟩
  | .hbm, ⟨7, _⟩ => ⟨S_, .i32⟩
  | .hbm, ⟨8, _⟩ => ⟨S_, .f32⟩
  | .hbm, ⟨9, _⟩ => ⟨S1024x3200, .f32⟩
  | .hbm, ⟨10, _⟩ => ⟨S1024x3200, .bf16⟩
  | .hbm, ⟨11, _⟩ => ⟨S32768x1024, .f32⟩
  | .hbm, ⟨12, _⟩ => ⟨S1x1024, .f32⟩
  | .hbm, ⟨13, _⟩ => ⟨S32768x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x2048x1024 : Shape := ⟨3, ![16, 2048, 1024]⟩
abbrev S1024 : Shape := ⟨1, ![1024]⟩
abbrev S1024x3088 : Shape := ⟨2, ![1024, 3088]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3088 : Shape := ⟨3, ![16, 2048, 3088]⟩
abbrev S32768x3088 : Shape := ⟨2, ![32768, 3088]⟩
abbrev S32768x2048 : Shape := ⟨2, ![32768, 2048]⟩
abbrev S32768x1024 : Shape := ⟨2, ![32768, 1024]⟩
abbrev S32768x16 : Shape := ⟨2, ![32768, 16]⟩
abbrev S32768x3200 : Shape := ⟨2, ![32768, 3200]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3088, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3088, .f32⟩
  | .hbm, ⟨20, _⟩ => ⟨S32768x3088, .f32⟩
  | .hbm, ⟨21, _⟩ => ⟨S32768x2048, .f32⟩
  | .hbm, ⟨22, _⟩ => ⟨S32768x1024, .f32⟩
  | .hbm, ⟨23, _⟩ => ⟨S32768x16, .f32⟩
  | .hbm, ⟨24, _⟩ => ⟨S32768x3088, .f32⟩
  | .hbm, ⟨25, _⟩ => ⟨S_, .i32⟩
  | .hbm, ⟨26, _⟩ => ⟨S_, .f32⟩
  | .hbm, ⟨27, _⟩ => ⟨S32768x3200, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S32x1x3352 : Shape := ⟨3, ![32, 1, 3352]⟩
abbrev S2x512 : Shape := ⟨2, ![2, 512]⟩
abbrev S128 : Shape := ⟨1, ![128]⟩
abbrev S32x4x128x128 : Shape := ⟨4, ![32, 4, 128, 128]⟩
abbrev S32x3352 : Shape := ⟨2, ![32, 3352]⟩
abbrev S_ : Shape := ⟨0, ![]⟩
abbrev S32x3584 : Shape := ⟨2, ![32, 3584]⟩
abbrev S2x4x128 : Shape := ⟨3, ![2, 4, 128]⟩
abbrev S4x2x128 : Shape := ⟨3, ![4, 2, 128]⟩
abbrev S1x128 : Shape := ⟨2, ![1, 128]⟩
abbrev S32x512 : Shape := ⟨2, ![32, 512]⟩
abbrev S32x128 : Shape := ⟨2, ![32, 128]⟩
abbrev S1x2x128 : Shape := ⟨3, ![1, 2, 128]⟩
abbrev S32x1x128x128 : Shape := ⟨4, ![32, 1, 128, 128]⟩
abbrev S2x128 : Shape := ⟨2, ![2, 128]⟩
abbrev S96x128 : Shape := ⟨2, ![96, 128]⟩
abbrev S128x128 : Shape := ⟨2, ![128, 128]⟩
abbrev S128x1 : Shape := ⟨2, ![128, 1]⟩
abbrev S1x1x128x128 : Shape := ⟨4, ![1, 1, 128, 128]⟩
abbrev S32 : Shape := ⟨1, ![32]⟩
abbrev S32x1 : Shape := ⟨2, ![32, 1]⟩

abbrev nBuf : Space → Nat
  | .hbm => 13
  | .vmem => 18
  | .smem => 0
  | _ => 0

abbrev bufTy : (tb : Table) → Fin (tcTables nBuf tb) → BufTy
  | .hbm, ⟨0, _⟩ => ⟨S32x1x3352, .f32⟩
  | .hbm, ⟨1, _⟩ => ⟨S2x512, .f32⟩
  | .hbm, ⟨2, _⟩ => ⟨S128, .f32⟩
  | .hbm, ⟨3, _⟩ => ⟨S32x4x128x128, .f32⟩
  | .hbm, ⟨4, _⟩ => ⟨S32x3352, .f32⟩
  | .hbm, ⟨5, _⟩ => ⟨S_, .i32⟩
  | .hbm, ⟨6, _⟩ => ⟨S_, .f32⟩
  | .hbm, ⟨7, _⟩ => ⟨S32x3584, .f32⟩
  | .hbm, ⟨8, _⟩ => ⟨S2x4x128, .f32⟩
  | .hbm, ⟨9, _⟩ => ⟨S4x2x128, .f32⟩
  | .hbm, ⟨10, _⟩ => ⟨S1x128, .f32⟩
  | .hbm, ⟨11, _⟩ => ⟨S32x512, .f32⟩
  | .hbm, ⟨12, _⟩ => ⟨S32x4x128x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S1x2x128, .f32⟩
  | .local _ .vmem, ⟨9, _⟩ => ⟨S1x2x128, .f32⟩
  | .local _ .vmem, ⟨10, _⟩ => ⟨S1x128, .f32⟩
  | .local _ .vmem, ⟨11, _⟩ => ⟨S32x1x128x128, .f32⟩
  | .local _ .vmem, ⟨12, _⟩ => ⟨S32x1x128x128, .f32⟩
  | .local _ .vmem, ⟨13, _⟩ => ⟨S32x128, .f32⟩
  | .local _ .vmem, ⟨14, _⟩ => ⟨S32x128, .f32⟩
  | .local _ .vmem, ⟨15, _⟩ => ⟨S32x1x128x128, .f32⟩
  | .local _ .vmem, ⟨16, _⟩ => ⟨S32x1x128x128, .f32⟩
  | .local _ .vmem, ⟨17, _⟩ => ⟨S32x128, .f32⟩
  | _, _ => ⟨S32x1x3352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S32x1x3352 : Shape := ⟨3, ![32, 1, 3352]⟩
abbrev S2x512 : Shape := ⟨2, ![2, 512]⟩
abbrev S128 : Shape := ⟨1, ![128]⟩
abbrev S32x4x128x128 : Shape := ⟨4, ![32, 4, 128, 128]⟩
abbrev S32x1x2048 : Shape := ⟨3, ![32, 1, 2048]⟩
abbrev S_ : Shape := ⟨0, ![]⟩
abbrev S512 : Shape := ⟨1, ![512]⟩
abbrev S1x512 : Shape := ⟨2, ![1, 512]⟩
abbrev S32x1x512 : Shape := ⟨3, ![32, 1, 512]⟩
abbrev S32x1x4x128 : Shape := ⟨4, ![32, 1, 4, 128]⟩
abbrev S1x1x512 : Shape := ⟨3, ![1, 1, 512]⟩
abbrev S1x1 : Shape := ⟨2, ![1, 1]⟩
abbrev S1x1x1x1x1 : Shape := ⟨5, ![1, 1, 1, 1, 1]⟩
abbrev S32x1x1x4x128 : Shape := ⟨5, ![32, 1, 1, 4, 128]⟩
abbrev S32x1x1x4 : Shape := ⟨4, ![32, 1, 1, 4]⟩
abbrev S32x4x1x1 : Shape := ⟨4, ![32, 4, 1, 1]⟩
abbrev S32x4x128x1 : Shape := ⟨4, ![32, 4, 128, 1]⟩
abbrev S32x4x128 : Shape := ⟨3, ![32, 4, 128]⟩
abbrev S32x1x4 : Shape := ⟨3, ![32, 1, 4]⟩
abbrev S32x1x4x1 : Shape := ⟨4, ![32, 1, 4, 1]⟩
abbrev S1x1x1x128 : Shape := ⟨4, ![1, 1, 1, 128]⟩
abbrev S32x512 : Shape := ⟨2, ![32, 512]⟩

abbrev nBuf : Space → Nat
  | .hbm => 137
  | .vmem => 0
  | .smem => 0
  | _ => 0

abbrev hbmTy0_0 (i : Nat) : BufTy := match i % 128 with
  | 0 => ⟨S32x1x3352, .f32⟩
  | 1 => ⟨S2x512, .f32⟩
  | 2 => ⟨S128, .f32⟩
  | 3 => ⟨S32x4x128x128, .f32⟩
  | 4 => ⟨S32x1x2048, .f32⟩
  | 5 => ⟨S_, .f32⟩
  | 6 => ⟨S512, .f32⟩
  | 7 => ⟨S_, .f32⟩
  | 8 => ⟨S512, .f32⟩
  | 9 => ⟨S512, .f32⟩
  | 10 => ⟨S1x512, .f32⟩
  | 11 => ⟨S2x512, .f32⟩
  | 12 => ⟨S2x512, .f32⟩
  | 13 => ⟨S2x512, .f32⟩
  | 14 => ⟨S_, .f32⟩
  | 15 => ⟨S512, .f32⟩
  | 16 => ⟨S1x512, .f32⟩
  | 17 => ⟨S2x512, .f32⟩
  | 18 => ⟨S2x512, .f32⟩
  | 19 => ⟨S_, .f32⟩
  | 20 => ⟨S_, .f32⟩
  | 21 => ⟨S2x512, .f32⟩
  | 22 => ⟨S1x512, .f32⟩
  | 23 => ⟨S512, .f32⟩
  | 24 => ⟨S32x1x512, .f32⟩
  | 25 => ⟨S32x1x512, .f32⟩
  | 26 => ⟨S32x1x512, .f32⟩
  | 27 => ⟨S_, .f32⟩
  | 28 => ⟨S32x1x512, .f32⟩
  | 29 => ⟨S32x1x512, .f32⟩
  | 30 => ⟨S_, .f32⟩
  | 31 => ⟨S32x1x512, .f32⟩
  | 32 => ⟨S32x1x512, .f32⟩
  | 33 => ⟨S32x1x512, .f32⟩
  | 34 => ⟨S32x1x4x128, .f32⟩
  | 35 => ⟨S_, .f32⟩
  | 36 => ⟨S512, .f32⟩
  | 37 => ⟨S512, .f32⟩
  | 38 => ⟨S32x1x512, .f32⟩
  | 39 => ⟨S32x1x512, .f32⟩
  | 40 => ⟨S32x1x512, .f32⟩
  | 41 => ⟨S_, .f32⟩
  | 42 => ⟨S32x1x512, .f32⟩
  | 43 => ⟨S32x1x512, .f32⟩
  | 44 => ⟨S_, .f32⟩
  | 45 => ⟨S32x1x512, .f32⟩
  | 46 => ⟨S32x1x512, .f32⟩
  | 47 => ⟨S1x1x512, .f32⟩
  | 48 => ⟨S32x1x512, .f32⟩
  | 49 => ⟨S32x1x512, .f32⟩
  | 50 => ⟨S1x1x512, .f32⟩
  | 51 => ⟨S32x1x512, .f32⟩
  | 52 => ⟨S32x1x512, .f32⟩
  | 53 => ⟨S32x1x4x128, .f32⟩
  | 54 => ⟨S32x1x512, .f32⟩
  | 55 => ⟨S32x1x4x128, .f32⟩
  | 56 => ⟨S32x1x512, .f32⟩
  | 57 => ⟨S32x1x4x128, .f32⟩
  | 58 => ⟨S_, .f32⟩
  | 59 => ⟨S32x1x4x128, .f32⟩
  | 60 => ⟨S32x1x4x128, .f32⟩
  | 61 => ⟨S32x1x4x128, .f32⟩
  | 62 => ⟨S_, .i1⟩
  | 63 => ⟨S1x1, .i1⟩
  | 64 => ⟨S1x1, .i32⟩
  | 65 => ⟨S_, .i32⟩
  | 66 => ⟨S1x1, .i32⟩
  | 67 => ⟨S1x1, .i32⟩
  | 68 => ⟨S1x1, .i32⟩
  | 69 => ⟨S1x1, .i1⟩
  | 70 => ⟨S_, .i1⟩
  | 71 => ⟨S1x1, .i1⟩
  | 72 => ⟨S1x1, .i1⟩
  | 73 => ⟨S1x1x1x1x1, .i1⟩
  | 74 => ⟨S_, .f32⟩
  | 75 => ⟨S_, .f32⟩
  | 76 => ⟨S32x1x4x128, .f32⟩
  | 77 => ⟨S32x1x1x4x128, .f32⟩
  | 78 => ⟨S32x1x1x4x128, .f32⟩
  | 79 => ⟨S32x1x1x4x128, .f32⟩
  | 80 => ⟨S_, .f32⟩
  | 81 => ⟨S_, .f32⟩
  | 82 => ⟨S32x1x1x4x128, .i1⟩
  | 83 => ⟨S32x1x1x4x128, .f32⟩
  | 84 => ⟨S32x1x1x4x128, .f32⟩
  | 85 => ⟨S32x1x1x4x128, .f32⟩
  | 86 => ⟨S32x1x1x4x128, .f32⟩
  | 87 => ⟨S32x1x1x4x128, .f32⟩
  | 88 => ⟨S32x1x1x4x128, .f32⟩
  | 89 => ⟨S32x1x1x4x128, .f32⟩
  | 90 => ⟨S_, .f32⟩
  | 91 => ⟨S32x1x1x4, .f32⟩
  | 92 => ⟨S32x4x1x1, .f32⟩
  | 93 => ⟨S32x1x4x128, .f32⟩
  | 94 => ⟨S32x1x4x128, .f32⟩
  | 95 => ⟨S32x4x128x1, .f32⟩
  | 96 => ⟨S32x1x4x128, .f32⟩
  | 97 => ⟨S32x4x128x1, .f32⟩
  | 98 => ⟨S32x1x4x128, .f32⟩
  | 99 => ⟨S32x1x4x128, .f32⟩
  | 100 => ⟨S32x4x128, .f32⟩
  | 101 => ⟨S32x4x128, .f32⟩
  | 102 => ⟨S32x4x128x1, .f32⟩
  | 103 => ⟨S32x4x128x128, .f32⟩
  | 104 => ⟨S32x4x128x128, .f32⟩
  | 105 => ⟨S32x1x4x128, .f32⟩
  | 106 => ⟨S32x1x4x128, .f32⟩
  | 107 => ⟨S32x1x4x128, .f32⟩
  | 108 => ⟨S32x1x4x128, .f32⟩
  | 109 => ⟨S32x4x128x128, .f32⟩
  | 110 => ⟨S32x4x128x128, .f32⟩
  | 111 => ⟨S32x1x4x128, .f32⟩
  | 112 => ⟨S_, .f32⟩
  | 113 => ⟨S32x1x4, .f32⟩
  | 114 => ⟨S32x1x4x1, .f32⟩
  | 115 => ⟨S_, .f32⟩
  | 116 => ⟨S32x1x4x1, .f32⟩
  | 117 => ⟨S32x1x4x1, .f32⟩
  | 118 => ⟨S_, .f32⟩
  | 119 => ⟨S32x1x4x1, .f32⟩
  | 120 => ⟨S32x1x4x1, .f32⟩
  | 121 => ⟨S32x1x4x1, .f32⟩
  | 122 => ⟨S32x1x4x128, .f32⟩
  | 123 => ⟨S32x1x4x128, .f32⟩
  | 124 => ⟨S1x1x1x128, .f32⟩
  | 125 => ⟨S32x1x4x128, .f32⟩
  | 126 => ⟨S32x1x4x128, .f32⟩
  | 127 => ⟨S32x1x4x128, .f32⟩
  | _ => ⟨S32x1x3352, .f32⟩

abbrev hbmTy0_1 (i : Nat) : BufTy := match i % 128 with
  | 0 => ⟨S32x1x4x128, .f32⟩
  | 1 => ⟨S_, .f32⟩
  | 2 => ⟨S32x1x4x128, .f32⟩
  | 3 => ⟨S32x1x4x128, .f32⟩
  | 4 => ⟨S_, .f32⟩
  | 5 => ⟨S32x1x4x128, .f32⟩
  | 6 => ⟨S32x1x4x128, .f32⟩
  | 7 => ⟨S32x1x4x128, .f32⟩
  | 8 => ⟨S32x512, .f32⟩
  | _ => ⟨S32x1x3352, .f32⟩

abbrev hbmTy (i : Nat) : BufTy := match i / 128 with
  | 0 => hbmTy0_0 i
  | 1 => hbmTy0_1 i
  | _ => ⟨S32x1x3352, .f32⟩

abbrev bufTy : (tb : Table) → Fin (tcTables nBuf tb) → BufTy
  | .hbm, ⟨i, _⟩ => hbmTy i
  | _, _ => ⟨S32x1x3352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_call0_cst : Ref sig .tc := ⟨.hbm, 19, rfl⟩
abbrev main_call0_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c : Ref sig .tc := ⟨.hbm, 62, rfl⟩
abbrev main_v41 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v42 : Ref sig .tc := ⟨.hbm, 72, rfl⟩
abbrev main_v43 : Ref sig .tc := ⟨.hbm, 73, rfl⟩
abbrev main_call3_call0_cst : Ref sig .tc := ⟨.hbm, 74, rfl⟩
abbrev main_call3_call0_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_7 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_8 : Ref sig .tc := ⟨.hbm, 112, rfl⟩
abbrev main_v75 : Ref sig .tc := ⟨.hbm, 113, rfl⟩
abbrev main_v76 : Ref sig .tc := ⟨.hbm, 114, rfl⟩
abbrev main_cst_9 : Ref sig .tc := ⟨.hbm, 115, rfl⟩
abbrev main_v77 : Ref sig .tc := ⟨.hbm, 116, rfl⟩
abbrev main_v78 : Ref sig .tc := ⟨.hbm, 117, rfl⟩
abbrev main_cst_10 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_11 : Ref sig .tc := ⟨.hbm, 129, rfl⟩
abbrev main_v89 : Ref sig .tc := ⟨.hbm, 130, rfl⟩
abbrev main_v90 : Ref sig .tc := ⟨.hbm, 131, rfl⟩
abbrev main_cst_12 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]
-- ==== Kernel6.lean ====
abbrev S32x1x1024 : Shape := ⟨3, ![32, 1, 1024]⟩
abbrev S1024 : Shape := ⟨1, ![1024]⟩
abbrev S1024x3352 : Shape := ⟨2, ![1024, 3352]⟩
abbrev S_ : Shape := ⟨0, ![]⟩
abbrev S1024x3584 : Shape := ⟨2, ![1024, 3584]⟩
abbrev S32x1024 : Shape := ⟨2, ![32, 1024]⟩
abbrev S1x1024 : Shape := ⟨2, ![1, 1024]⟩
abbrev S32x3584 : Shape := ⟨2, ![32, 3584]⟩
abbrev S1024x1792 : Shape := ⟨2, ![1024, 1792]⟩
abbrev S32x1792 : Shape := ⟨2, ![32, 1792]⟩
abbrev S32 : Shape := ⟨1, ![32]⟩
abbrev S32x1 : Shape := ⟨2, ![32, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3352, .f32⟩
  | .hbm, ⟨3, _⟩ => ⟨S_, .i32⟩
  | .hbm, ⟨4, _⟩ => ⟨S_, .f32⟩
  | .hbm, ⟨5, _⟩ => ⟨S1024x3584, .f32⟩
  | .hbm, ⟨6, _⟩ => ⟨S1024x3584, .bf16⟩
  | .hbm, ⟨7, _⟩ => ⟨S32x1024, .f32⟩
  | .hbm, ⟨8, _⟩ => ⟨S1x1024, .f32⟩
  | .hbm, ⟨9, _⟩ => ⟨S32x3584, .f32⟩
  | .local _ .vmem, ⟨0, _⟩ => ⟨S32x1024, .f32⟩
  | .local _ .vmem, ⟨1, _⟩ => ⟨S1x1024, .f32⟩
  | .local _ .vmem, ⟨2, _⟩ => ⟨S1024x1792, .bf16⟩
  | .local _ .vmem, ⟨3, _⟩ => ⟨S1024x1792, .bf16⟩
  | .local _ .vmem, ⟨4, _⟩ => ⟨S32x1792, .f32⟩
  | .local _ .vmem, ⟨5, _⟩ => ⟨S32x1792, .f32⟩
  | .local _ .vmem, ⟨6, _⟩ => ⟨S32x1024, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32x1x1024 : Shape := ⟨3, ![32, 1, 1024]⟩
abbrev S1024 : Shape := ⟨1, ![1024]⟩
abbrev S1024x3352 : Shape := ⟨2, ![1024, 3352]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x3352 : Shape := ⟨3, ![32, 1, 3352]⟩
abbrev S32x3352 : Shape := ⟨2, ![32, 3352]⟩
abbrev S32x3584 : Shape := ⟨2, ![32, 3584]⟩

abbrev nBuf : Space → Nat
  | .hbm => 24
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3352, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S32x1x3352, .f32⟩
  | .hbm, ⟨20, _⟩ => ⟨S32x3352, .f32⟩
  | .hbm, ⟨21, _⟩ => ⟨S_, .i32⟩
  | .hbm, ⟨22, _⟩ => ⟨S_, .f32⟩
  | .hbm, ⟨23, _⟩ => ⟨S32x3584, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel7.lean ====
abbrev S32x1x1024 : Shape := ⟨3, ![32, 1, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32x1024 : Shape := ⟨2, ![32, 1024]⟩
abbrev S1024x2816 : Shape := ⟨2, ![1024, 2816]⟩
abbrev S1024x2x1408 : Shape := ⟨3, ![1024, 2, 1408]⟩
abbrev S1024x2x2816 : Shape := ⟨3, ![1024, 2, 2816]⟩
abbrev S1x1024 : Shape := ⟨2, ![1, 1024]⟩
abbrev S1408x1024 : Shape := ⟨2, ![1408, 1024]⟩
abbrev S32 : Shape := ⟨1, ![32]⟩
abbrev S32x1 : Shape := ⟨2, ![32, 1]⟩
abbrev S32x2816 : Shape := ⟨2, ![32, 2816]⟩
abbrev S32x1408 : Shape := ⟨2, ![32, 1408]⟩

abbrev nBuf : Space → Nat
  | .hbm => 21
  | .vmem => 13
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32x1024, .f32⟩
  | .hbm, ⟨8, _⟩ => ⟨S32x1024, .f32⟩
  | .hbm, ⟨9, _⟩ => ⟨S1024x1024, .bf16⟩
  | .hbm, ⟨10, _⟩ => ⟨S1024x2816, .f32⟩
  | .hbm, ⟨11, _⟩ => ⟨S1024x2x1408, .f32⟩
  | .hbm, ⟨12, _⟩ => ⟨S1024x2816, .f32⟩
  | .hbm, ⟨13, _⟩ => ⟨S1024x2x1408, .f32⟩
  | .hbm, ⟨14, _⟩ => ⟨S1024x2x2816, .f32⟩
  | .hbm, ⟨15, _⟩ => ⟨S1024x5632, .f32⟩
  | .hbm, ⟨16, _⟩ => ⟨S1024x5632, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S1024x1024, .bf16⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .bf16⟩
  | .local _ .vmem, ⟨12, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference7Ideal.lean ====
abbrev S32x1x1024 : Shape := ⟨3, ![32, 1, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32x1024 : Shape := ⟨2, ![32, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x5632 : Shape := ⟨2, ![32, 5632]⟩
abbrev S32x2816 : Shape := ⟨2, ![32, 2816]⟩

abbrev nBuf : Space → Nat
  | .hbm => 58
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S_, .f32⟩
  | .hbm, ⟨19, _⟩ => ⟨S32x1, .f32⟩
  | .hbm, ⟨20, _⟩ => ⟨S32x1, .f32⟩
  | .hbm, ⟨21, _⟩ => ⟨S32x1, .f32⟩
  | .hbm, ⟨22, _⟩ => ⟨S32x1024, .f32⟩
  | .hbm, ⟨23, _⟩ => ⟨S32x1024, .f32⟩
  | .hbm, ⟨24, _⟩ => ⟨S1x1024, .f32⟩
  | .hbm, ⟨25, _⟩ => ⟨S32x1024, .f32⟩
  | .hbm, ⟨26, _⟩ => ⟨S32x1024, .f32⟩
  | .hbm, ⟨27, _⟩ => ⟨S32x5632, .f32⟩
  | .hbm, ⟨28, _⟩ => ⟨S32x2816, .f32⟩
  | .hbm, ⟨29, _⟩ => ⟨S32x2816, .f32⟩
  | .hbm, ⟨30, _⟩ => ⟨S32x2816, .f32⟩
  | .hbm, ⟨31, _⟩ => ⟨S_, .f32⟩
  | .hbm, ⟨32, _⟩ => ⟨S32x2816, .f32⟩
  | .hbm, ⟨33, _⟩ => ⟨S32x2816, .f32⟩
  | .hbm, ⟨34, _⟩ => ⟨S_, .f32⟩
  | .hbm, ⟨35, _⟩ => ⟨S32x2816, .f32⟩
  | .hbm, ⟨36, _⟩ => ⟨S32x2816, .f32⟩
  | .hbm, ⟨37, _⟩ => ⟨S32x2816, .f32⟩
  | .hbm, ⟨38, _⟩ => ⟨S32x2816, .f32⟩
  | .hbm, ⟨39, _⟩ => ⟨S32x2816, .f32⟩
  | .hbm, ⟨40, _⟩ => ⟨S32x1024, .f32⟩
  | .hbm, ⟨41, _⟩ => ⟨S32x1024, .f32⟩
  | .hbm, ⟨42, _⟩ => ⟨S32x1024, .f32⟩
  | .hbm, ⟨43, _⟩ => ⟨S_, .f32⟩
  | .hbm, ⟨44, _⟩ => ⟨S32, .f32⟩
  | .hbm, ⟨45, _⟩ => ⟨S32x1, .f32⟩
  | .hbm, ⟨46, _⟩ => ⟨S_, .f32⟩
  | .hbm, ⟨47, _⟩ => ⟨S32x1, .f32⟩
  | .hbm, ⟨48, _⟩ => ⟨S32x1, .f32⟩
  | .hbm, ⟨49, _⟩ => ⟨S_, .f32⟩
  | .hbm, ⟨50, _⟩ => ⟨S32x1, .f32⟩
  | .hbm, ⟨51, _⟩ => ⟨S32x1, .f32⟩
  | .hbm, ⟨52, _⟩ => ⟨S32x1, .f32⟩
  | .hbm, ⟨53, _⟩ => ⟨S32x1024, .f32⟩
  | .hbm, ⟨54, _⟩ => ⟨S32x1024, .f32⟩
  | .hbm, ⟨55, _⟩ => ⟨S1x1024, .f32⟩
  | .hbm, ⟨56, _⟩ => ⟨S32x1024, .f32⟩
  | .hbm, ⟨57, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Kernel8.lean ====
abbrev S16x2048x512 : Shape := ⟨3, ![16, 2048, 512]⟩
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S32768x512 : Shape := ⟨2, ![32768, 512]⟩
abbrev S32768x1024 : Shape := ⟨2, ![32768, 1024]⟩
abbrev S1024x2816 : Shape := ⟨2, ![1024, 2816]⟩
abbrev S1024x2x1408 : Shape := ⟨3, ![1024, 2, 1408]⟩
abbrev S1024x2x2816 : Shape := ⟨3, ![1024, 2, 2816]⟩
abbrev S1x1024 : Shape := ⟨2, ![1, 1024]⟩
abbrev S512x512 : Shape := ⟨2, ![512, 512]⟩
abbrev S1408x1024 : Shape := ⟨2, ![1408, 1024]⟩
abbrev S512 : Shape := ⟨1, ![512]⟩
abbrev S512x1 : Shape := ⟨2, ![512, 1]⟩
abbrev S512x2816 : Shape := ⟨2, ![512, 2816]⟩
abbrev S512x1408 : Shape := ⟨2, ![512, 1408]⟩

abbrev nBuf : Space → Nat
  | .hbm => 24
  | .vmem => 18
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S512x1024, .f32⟩
  | .hbm, ⟨8, _⟩ => ⟨S512x1024, .bf16⟩
  | .hbm, ⟨9, _⟩ => ⟨S512x1024, .f32⟩
  | .hbm, ⟨10, _⟩ => ⟨S512x1024, .bf16⟩
  | .hbm, ⟨11, _⟩ => ⟨S32768x512, .bf16⟩
  | .hbm, ⟨12, _⟩ => ⟨S32768x512, .bf16⟩
  | .hbm, ⟨13, _⟩ => ⟨S32768x1024, .f32⟩
  | .hbm, ⟨14, _⟩ => ⟨S1024x2816, .f32⟩
  | .hbm, ⟨15, _⟩ => ⟨S1024x2x1408, .f32⟩
  | .hbm, ⟨16, _⟩ => ⟨S1024x2816, .f32⟩
  | .hbm, ⟨17, _⟩ => ⟨S1024x2x1408, .f32⟩
  | .hbm, ⟨18, _⟩ => ⟨S1024x2x2816, .f32⟩
  | .hbm, ⟨19, _⟩ => ⟨S1024x5632, .f32⟩
  | .hbm, ⟨20, _⟩ => ⟨S1024x5632, .bf16⟩
  | .hbm, ⟨21, _⟩ => ⟨S2816x1024, .bf16⟩
  | .hbm, ⟨22, _⟩ => ⟨S1x1024, .f32⟩
  | .hbm, ⟨23, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S1408x1024, .bf16⟩
  | .local _ .vmem, ⟨12, _⟩ => ⟨S1408x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S16x2048x512 : Shape := ⟨3, ![16, 2048, 512]⟩
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S32768x1024, .f32⟩
  | .hbm, ⟨8, _⟩ => ⟨S32768x512, .bf16⟩
  | .hbm, ⟨9, _⟩ => ⟨S32768x512, .bf16⟩
  | .hbm, ⟨10, _⟩ => ⟨S32768x512, .f32⟩
  | .hbm, ⟨11, _⟩ => ⟨S32768x512, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x5632, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S_, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S32768x2816, .f32⟩
  | .hbm, ⟨44, _⟩ => ⟨S32768x1024, .f32⟩
  | .hbm, ⟨45, _⟩ => ⟨S32768x1024, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel9.lean ====
abbrev S16x2048x3352 : Shape := ⟨3, ![16, 2048, 3352]⟩
abbrev S2x64x64 : Shape := ⟨3, ![2, 64, 64]⟩
abbrev S2x4096x64 : Shape := ⟨3, ![2, 4096, 64]⟩
abbrev S32768x3352 : Shape := ⟨2, ![32768, 3352]⟩
abbrev S32768x2048 : Shape := ⟨2, ![32768, 2048]⟩
abbrev S32768x256 : Shape := ⟨2, ![32768, 256]⟩
abbrev S32768x2304 : Shape := ⟨2, ![32768, 2304]⟩
abbrev S2x64x64x64 : Shape := ⟨4, ![2, 64, 64, 64]⟩
abbrev S1x64x64x64 : Shape := ⟨4, ![1, 64, 64, 64]⟩
abbrev S64x64x64 : Shape := ⟨3, ![64, 64, 64]⟩
abbrev S_ : Shape := ⟨0, ![]⟩
abbrev S64x64x256 : Shape := ⟨3, ![64, 64, 256]⟩
abbrev S64x256x256 : Shape := ⟨3, ![64, 256, 256]⟩
abbrev S1x64x64 : Shape := ⟨3, ![1, 64, 64]⟩
abbrev S64x64 : Shape := ⟨2, ![64, 64]⟩
abbrev S64x256 : Shape := ⟨2, ![64, 256]⟩
abbrev S256x256 : Shape := ⟨2, ![256, 256]⟩
abbrev S512x256 : Shape := ⟨2, ![512, 256]⟩
abbrev S8192x128 : Shape := ⟨2, ![8192, 128]⟩
abbrev S128x256 : Shape := ⟨2, ![128, 256]⟩
abbrev S128x128 : Shape := ⟨2, ![128, 128]⟩
abbrev S1x256 : Shape := ⟨2, ![1, 256]⟩
abbrev S1x256x256 : Shape := ⟨3, ![1, 256, 256]⟩

abbrev nBuf : Space → Nat
  | .hbm => 63
  | .vmem => 10
  | .smem => 0
  | _ => 0

abbrev bufTy : (tb : Table) → Fin (tcTables nBuf tb) → BufTy
  | .hbm, ⟨0, _⟩ => ⟨S16x2048x3352, .f32⟩
  | .hbm, ⟨1, _⟩ => ⟨S2x64x64, .f32⟩
  | .hbm, ⟨2, _⟩ => ⟨S2x4096x64, .f32⟩
  | .hbm, ⟨3, _⟩ => ⟨S2x64x64, .f32⟩
  | .hbm, ⟨4, _⟩ => ⟨S32768x3352, .f32⟩
  | .hbm, ⟨5, _⟩ => ⟨S32768x2048, .f32⟩
  | .hbm, ⟨6, _⟩ => ⟨S32768x256, .f32⟩
  | .hbm, ⟨7, _⟩ => ⟨S32768x2304, .f32⟩
  | .hbm, ⟨8, _⟩ => ⟨S2x64x64x64, .f32⟩
  | .hbm, ⟨9, _⟩ => ⟨S1x64x64x64, .f32⟩
  | .hbm, ⟨10, _⟩ => ⟨S64x64x64, .f32⟩
  | .hbm, ⟨11, _⟩ => ⟨S_, .i32⟩
  | .hbm, ⟨12, _⟩ => ⟨S_, .f32⟩
  | .hbm, ⟨13, _⟩ => ⟨S64x64x256, .f32⟩
  | .hbm, ⟨14, _⟩ => ⟨S1x64x64x64, .f32⟩
  | .hbm, ⟨15, _⟩ => ⟨S64x64x64, .f32⟩
  | .hbm, ⟨16, _⟩ => ⟨S_, .i32⟩
  | .hbm, ⟨17, _⟩ => ⟨S_, .f32⟩
  | .hbm, ⟨18, _⟩ => ⟨S64x64x256, .f32⟩
  | .hbm, ⟨19, _⟩ => ⟨S1x64x64x64, .f32⟩
  | .hbm, ⟨20, _⟩ => ⟨S64x64x64, .f32⟩
  | .hbm, ⟨21, _⟩ => ⟨S_, .i32⟩
  | .hbm, ⟨22, _⟩ => ⟨S_, .f32⟩
  | .hbm, ⟨23, _⟩ => ⟨S64x64x256, .f32⟩
  | .hbm, ⟨24, _⟩ => ⟨S1x64x64x64, .f32⟩
  | .hbm, ⟨25, _⟩ => ⟨S64x64x64, .f32⟩
  | .hbm, ⟨26, _⟩ => ⟨S_, .i32⟩
  | .hbm, ⟨27, _⟩ => ⟨S_, .f32⟩
  | .hbm, ⟨28, _⟩ => ⟨S64x64x256, .f32⟩
  | .hbm, ⟨29, _⟩ => ⟨S64x256x256, .f32⟩
  | .hbm, ⟨30, _⟩ => ⟨S1x64x64, .f32⟩
  | .hbm, ⟨31, _⟩ => ⟨S64x64, .f32⟩
  | .hbm, ⟨32, _⟩ => ⟨S_, .i32⟩
  | .hbm, ⟨33, _⟩ => ⟨S_, .f32⟩
  | .hbm, ⟨34, _⟩ => ⟨S64x256, .f32⟩
  | .hbm, ⟨35, _⟩ => ⟨S1x64x64, .f32⟩
  | .hbm, ⟨36, _⟩ => ⟨S64x64, .f32⟩
  | .hbm, ⟨37, _⟩ => ⟨S_, .i32⟩
  | .hbm, ⟨38, _⟩ => ⟨S_, .f32⟩
  | .hbm, ⟨39, _⟩ => ⟨S64x256, .f32⟩
  | .hbm, ⟨40, _⟩ => ⟨S1x64x64, .f32⟩
  | .hbm, ⟨41, _⟩ => ⟨S64x64, .f32⟩
  | .hbm, ⟨42, _⟩ => ⟨S_, .i32⟩
  | .hbm, ⟨43, _⟩ => ⟨S_, .f32⟩
  | .hbm, ⟨44, _⟩ => ⟨S64x256, .f32⟩
  | .hbm, ⟨45, _⟩ => ⟨S1x64x64, .f32⟩
  | .hbm, ⟨46, _⟩ => ⟨S64x64, .f32⟩
  | .hbm, ⟨47, _⟩ => ⟨S_, .i32⟩
  | .hbm, ⟨48, _⟩ => ⟨S_, .f32⟩
  | .hbm, ⟨49, _⟩ => ⟨S64x256, .f32⟩
  | .hbm, ⟨50, _⟩ => ⟨S256x256, .f32⟩
  | .hbm, ⟨51, _⟩ => ⟨S1x64x64, .f32⟩
  | .hbm, ⟨52, _⟩ => ⟨S64x64, .f32⟩
  | .hbm, ⟨53, _⟩ => ⟨S1x64x64, .f32⟩
  | .hbm, ⟨54, _⟩ => ⟨S64x64, .f32⟩
  | .hbm, ⟨55, _⟩ => ⟨S1x64x64, .f32⟩
  | .hbm, ⟨56, _⟩ => ⟨S64x64, .f32⟩
  | .hbm, ⟨57, _⟩ => ⟨S1x64x64, .f32⟩
  | .hbm, ⟨58, _⟩ => ⟨S64x64, .f32⟩
  | .hbm, ⟨59, _⟩ => ⟨S64x256, .f32⟩
  | .hbm, ⟨60, _⟩ => ⟨S64x256x256, .bf16⟩
  | .hbm, ⟨61, _⟩ => ⟨S256x256, .bf16⟩
  | .hbm, ⟨62, _⟩ => ⟨S512x256, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S64x256, .f32⟩
  | .local _ .vmem, ⟨5, _⟩ => ⟨S64x256x256, .bf16⟩
  | .local _ .vmem, ⟨6, _⟩ => ⟨S256x256, .bf16⟩
  | .local _ .vmem, ⟨7, _⟩ => ⟨S128x256, .f32⟩
  | .local _ .vmem, ⟨8, _⟩ => ⟨S128x256, .f32⟩
  | .local _ .vmem, ⟨9, _⟩ => ⟨S128x256, .f32⟩
  | _, _ => ⟨S16x2048x3352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_call2_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call3_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_call4_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_call5_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_call6_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_call7_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S16x2048x3352 : Shape := ⟨3, ![16, 2048, 3352]⟩
abbrev S2x64x64 : Shape := ⟨3, ![2, 64, 64]⟩
abbrev S2x4096x64 : Shape := ⟨3, ![2, 4096, 64]⟩
abbrev S16x2048x1304 : Shape := ⟨3, ![16, 2048, 1304]⟩
abbrev S16x2048x768 : Shape := ⟨3, ![16, 2048, 768]⟩
abbrev S16x2048x6x2x64 : Shape := ⟨5, ![16, 2048, 6, 2, 64]⟩
abbrev S16x2048x4x2x64 : Shape := ⟨5, ![16, 2048, 4, 2, 64]⟩
abbrev S16x32x64x4x2x64 : Shape := ⟨6, ![16, 32, 64, 4, 2, 64]⟩
abbrev S16x32x64x1x2x64 : Shape := ⟨6, ![16, 32, 64, 1, 2, 64]⟩
abbrev S16x32x64x2x64 : Shape := ⟨5, ![16, 32, 64, 2, 64]⟩
abbrev S1x64x64 : Shape := ⟨3, ![1, 64, 64]⟩
abbrev S64x64 : Shape := ⟨2, ![64, 64]⟩
abbrev S1x4096x64 : Shape := ⟨3, ![1, 4096, 64]⟩
abbrev S4096x64 : Shape := ⟨2, ![4096, 64]⟩
abbrev S64x1x64 : Shape := ⟨3, ![64, 1, 64]⟩
abbrev S1x1x64x1x64 : Shape := ⟨5, ![1, 1, 64, 1, 64]⟩
abbrev S16x32x2x64x64 : Shape := ⟨5, ![16, 32, 2, 64, 64]⟩
abbrev S16x32x2x4096 : Shape := ⟨4, ![16, 32, 2, 4096]⟩
abbrev S16x32x2x64 : Shape := ⟨4, ![16, 32, 2, 64]⟩
abbrev S_ : Shape := ⟨0, ![]⟩
abbrev S16x32x1x2x64 : Shape := ⟨5, ![16, 32, 1, 2, 64]⟩
abbrev S16x32x2x2x64 : Shape := ⟨5, ![16, 32, 2, 2, 64]⟩
abbrev S512x256 : Shape := ⟨2, ![512, 256]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x3352, .f32⟩
  | .hbm, ⟨1, _⟩ => ⟨S2x64x64, .f32⟩
  | .hbm, ⟨2, _⟩ => ⟨S2x4096x64, .f32⟩
  | .hbm, ⟨3, _⟩ => ⟨S2x64x64, .f32⟩
  | .hbm, ⟨4, _⟩ => ⟨S16x2048x1304, .f32⟩
  | .hbm, ⟨5, _⟩ => ⟨S16x2048x768, .f32⟩
  | .hbm, ⟨6, _⟩ => ⟨S16x2048x6x2x64, .f32⟩
  | .hbm, ⟨7, _⟩ => ⟨S16x2048x4x2x64, .f32⟩
  | .hbm, ⟨8, _⟩ => ⟨S16x32x64x4x2x64, .f32⟩
  | .hbm, ⟨9, _⟩ => ⟨S16x32x64x1x2x64, .f32⟩
  | .hbm, ⟨10, _⟩ => ⟨S16x32x64x2x64, .f32⟩
  | .hbm, ⟨11, _⟩ => ⟨S1x64x64, .f32⟩
  | .hbm, ⟨12, _⟩ => ⟨S64x64, .f32⟩
  | .hbm, ⟨13, _⟩ => ⟨S1x4096x64, .f32⟩
  | .hbm, ⟨14, _⟩ => ⟨S4096x64, .f32⟩
  | .hbm, ⟨15, _⟩ => ⟨S1x64x64, .f32⟩
  | .hbm, ⟨16, _⟩ => ⟨S64x64, .f32⟩
  | .hbm, ⟨17, _⟩ => ⟨S64x1x64, .f32⟩
  | .hbm, ⟨18, _⟩ => ⟨S1x1x64x1x64, .f32⟩
  | .hbm, ⟨19, _⟩ => ⟨S16x32x64x2x64, .f32⟩
  | .hbm, ⟨20, _⟩ => ⟨S16x32x64x2x64, .f32⟩
  | .hbm, ⟨21, _⟩ => ⟨S16x32x2x64x64, .f32⟩
  | .hbm, ⟨22, _⟩ => ⟨S16x32x2x4096, .f32⟩
  | .hbm, ⟨23, _⟩ => ⟨S16x32x2x64, .f32⟩
  | .hbm, ⟨24, _⟩ => ⟨S16x32x2x64, .f32⟩
  | .hbm, ⟨25, _⟩ => ⟨S16x32x2x64, .f32⟩
  | .hbm, ⟨26, _⟩ => ⟨S_, .f32⟩
  | .hbm, ⟨27, _⟩ => ⟨S16x32x2x64, .f32⟩
  | .hbm, ⟨28, _⟩ => ⟨S16x32x2x64, .f32⟩
  | .hbm, ⟨29, _⟩ => ⟨S_, .f32⟩
  | .hbm, ⟨30, _⟩ => ⟨S16x32x2x64, .f32⟩
  | .hbm, ⟨31, _⟩ => ⟨S16x32x2x64, .f32⟩
  | .hbm, ⟨32, _⟩ => ⟨S16x32x2x64, .f32⟩
  | .hbm, ⟨33, _⟩ => ⟨S16x32x2x64, .f32⟩
  | .hbm, ⟨34, _⟩ => ⟨S16x32x64x1x2x64, .f32⟩
  | .hbm, ⟨35, _⟩ => ⟨S16x32x64x2x64, .f32⟩
  | .hbm, ⟨36, _⟩ => ⟨S1x64x64, .f32⟩
  | .hbm, ⟨37, _⟩ => ⟨S64x64, .f32⟩
  | .hbm, ⟨38, _⟩ => ⟨S1x4096x64, .f32⟩
  | .hbm, ⟨39, _⟩ => ⟨S4096x64, .f32⟩
  | .hbm, ⟨40, _⟩ => ⟨S1x64x64, .f32⟩
  | .hbm, ⟨41, _⟩ => ⟨S64x64, .f32⟩
  | .hbm, ⟨42, _⟩ => ⟨S64x1x64, .f32⟩
  | .hbm, ⟨43, _⟩ => ⟨S1x1x64x1x64, .f32⟩
  | .hbm, ⟨44, _⟩ => ⟨S16x32x64x2x64, .f32⟩
  | .hbm, ⟨45, _⟩ => ⟨S16x32x64x2x64, .f32⟩
  | .hbm, ⟨46, _⟩ => ⟨S16x32x2x64x64, .f32⟩
  | .hbm, ⟨47, _⟩ => ⟨S16x32x2x4096, .f32⟩
  | .hbm, ⟨48, _⟩ => ⟨S16x32x2x64, .f32⟩
  | .hbm, ⟨49, _⟩ => ⟨S16x32x2x64, .f32⟩
  | .hbm, ⟨50, _⟩ => ⟨S16x32x2x64, .f32⟩
  | .hbm, ⟨51, _⟩ => ⟨S_, .f32⟩
  | .hbm, ⟨52, _⟩ => ⟨S16x32x2x64, .f32⟩
  | .hbm, ⟨53, _⟩ => ⟨S16x32x2x64, .f32⟩
  | .hbm, ⟨54, _⟩ => ⟨S_, .f32⟩
  | .hbm, ⟨55, _⟩ => ⟨S16x32x2x64, .f32⟩
  | .hbm, ⟨56, _⟩ => ⟨S16x32x2x64, .f32⟩
  | .hbm, ⟨57, _⟩ => ⟨S16x32x2x64, .f32⟩
  | .hbm, ⟨58, _⟩ => ⟨S16x32x2x64, .f32⟩
  | .hbm, ⟨59, _⟩ => ⟨S16x32x1x2x64, .f32⟩
  | .hbm, ⟨60, _⟩ => ⟨S16x32x1x2x64, .f32⟩
  | .hbm, ⟨61, _⟩ => ⟨S16x32x2x2x64, .f32⟩
  | .hbm, ⟨62, _⟩ => ⟨S512x256, .f32⟩
  | _, _ => ⟨S16x2048x3352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel10.lean ====
abbrev S16x2048x3088 : Shape := ⟨3, ![16, 2048, 3088]⟩
abbrev S16x512 : Shape := ⟨2, ![16, 512]⟩
abbrev S512 : Shape := ⟨1, ![512]⟩
abbrev S256 : Shape := ⟨1, ![256]⟩
abbrev S32768x3088 : Shape := ⟨2, ![32768, 3088]⟩
abbrev S32768x2048 : Shape := ⟨2, ![32768, 2048]⟩
abbrev S32768x1024 : Shape := ⟨2, ![32768, 1024]⟩
abbrev S32768x16 : Shape := ⟨2, ![32768, 16]⟩
abbrev S_ : Shape := ⟨0, ![]⟩
abbrev S32768x3200 : Shape := ⟨2, ![32768, 3200]⟩
abbrev S128x512 : Shape := ⟨2, ![128, 512]⟩
abbrev S1x512 : Shape := ⟨2, ![1, 512]⟩
abbrev S1x256 : Shape := ⟨2, ![1, 256]⟩
abbrev S16x4x128x256 : Shape := ⟨4, ![16, 4, 128, 256]⟩
abbrev S512x512 : Shape := ⟨2, ![512, 512]⟩
abbrev S512x1024 : Shape := ⟨2, ![512, 1024]⟩
abbrev S512x128 : Shape := ⟨2, ![512, 128]⟩
abbrev S1x4x128x256 : Shape := ⟨4, ![1, 4, 128, 256]⟩
abbrev S4x256x128 : Shape := ⟨3, ![4, 256, 128]⟩
abbrev S128x128 : Shape := ⟨2, ![128, 128]⟩
abbrev S128x256 : Shape := ⟨2, ![128, 256]⟩
abbrev S1x256x128 : Shape := ⟨3, ![1, 256, 128]⟩
abbrev S256x128 : Shape := ⟨2, ![256, 128]⟩
abbrev S16x128 : Shape := ⟨2, ![16, 128]⟩
abbrev S8x128 : Shape := ⟨2, ![8, 128]⟩
abbrev S1x128 : Shape := ⟨2, ![1, 128]⟩
abbrev S16 : Shape := ⟨1, ![16]⟩
abbrev S16x1 : Shape := ⟨2, ![16, 1]⟩
abbrev S8x1 : Shape := ⟨2, ![8, 1]⟩
abbrev S8 : Shape := ⟨1, ![8]⟩
abbrev S128 : Shape := ⟨1, ![128]⟩
abbrev S128x1 : Shape := ⟨2, ![128, 1]⟩
abbrev S1x1x128x256 : Shape := ⟨4, ![1, 1, 128, 256]⟩

abbrev nBuf : Space → Nat
  | .hbm => 20
  | .vmem => 18
  | .smem => 0
  | _ => 0

abbrev bufTy : (tb : Table) → Fin (tcTables nBuf tb) → BufTy
  | .hbm, ⟨0, _⟩ => ⟨S16x2048x3088, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S32768x3088, .f32⟩
  | .hbm, ⟨5, _⟩ => ⟨S32768x2048, .f32⟩
  | .hbm, ⟨6, _⟩ => ⟨S32768x1024, .f32⟩
  | .hbm, ⟨7, _⟩ => ⟨S32768x16, .f32⟩
  | .hbm, ⟨8, _⟩ => ⟨S32768x3088, .f32⟩
  | .hbm, ⟨9, _⟩ => ⟨S_, .i32⟩
  | .hbm, ⟨10, _⟩ => ⟨S_, .f32⟩
  | .hbm, ⟨11, _⟩ => ⟨S32768x3200, .f32⟩
  | .hbm, ⟨12, _⟩ => ⟨S_, .i32⟩
  | .hbm, ⟨13, _⟩ => ⟨S_, .f32⟩
  | .hbm, ⟨14, _⟩ => ⟨S128x512, .f32⟩
  | .hbm, ⟨15, _⟩ => ⟨S128x512, .bf16⟩
  | .hbm, ⟨16, _⟩ => ⟨S1x512, .f32⟩
  | .hbm, ⟨17, _⟩ => ⟨S1x256, .f32⟩
  | .hbm, ⟨18, _⟩ => ⟨S32768x1024, .bf16⟩
  | .hbm, ⟨19, _⟩ => ⟨S16x4x128x256, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S512x1024, .bf16⟩
  | .local _ .vmem, ⟨14, _⟩ => ⟨S512x1024, .bf16⟩
  | .local _ .vmem, ⟨15, _⟩ => ⟨S1x4x128x256, .f32⟩
  | .local _ .vmem, ⟨16, _⟩ => ⟨S1x4x128x256, .f32⟩
  | .local _ .vmem, ⟨17, _⟩ => ⟨S4x256x128, .f32⟩
  | _, _ => ⟨S16x2048x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  v7
def k0_off1 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  let v8 : BitVec 32 := v7
  let v9 : Index := Scalar.indexCast v8
  let c0 : Index := 0#32
  ![v9.toNat, 0]
def k0_off2 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  let v8 : BitVec 32 := v7
  let v32 : Index := Scalar.indexCast v8
  let c0_12 : Index := 0#32
  ![v32.toNat, 0]
def k0_off3 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  let v8 : BitVec 32 := v7
  let v40 : Index := Scalar.indexCast v8
  let c0_15 : Index := 0#32
  ![v40.toNat, 0]
def k0_off4 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  let v8 : BitVec 32 := v7
  let v3015 : Index := Scalar.indexCast v8
  let c128 : Index := 128#32
  ![v3015.toNat, 128]
def k0_off5 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  let v8 : BitVec 32 := v7
  let v3023 : Index := Scalar.indexCast v8
  let c256 : Index := 256#32
  ![v3023.toNat, 256]
def k0_off6 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  let v8 : BitVec 32 := v7
  let v5998 : Index := Scalar.indexCast v8
  let c256_683 : Index := 256#32
  ![v5998.toNat, 256]
def k0_off7 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  let v8 : BitVec 32 := v7
  let v6006 : Index := Scalar.indexCast v8
  let c512 : Index := 512#32
  ![v6006.toNat, 512]
def k0_off8 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  let v8 : BitVec 32 := v7
  let v8981 : Index := Scalar.indexCast v8
  let c384 : Index := 384#32
  ![v8981.toNat, 384]
def k0_off9 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v7 : BitVec 32 := Scalar.muli arg13 c128_i32
  let v8 : BitVec 32 := v7
  let v8989 : Index := Scalar.indexCast v8
  let c768 : Index := 768#32
  ![v8989.toNat, 768]
def k0_cond2 (i : grid0.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c24_i32 : BitVec 32 := 24#32
  let c0_i32 : BitVec 32 := 0#32
  ![v1.toNat, c24_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference10Ideal.lean ====
abbrev S16x2048x3088 : Shape := ⟨3, ![16, 2048, 3088]⟩
abbrev S16x512 : Shape := ⟨2, ![16, 512]⟩
abbrev S512 : Shape := ⟨1, ![512]⟩
abbrev S256 : Shape := ⟨1, ![256]⟩
abbrev S16x2048x512 : Shape := ⟨3, ![16, 2048, 512]⟩
abbrev S16x2048x4x128 : Shape := ⟨4, ![16, 2048, 4, 128]⟩
abbrev S16x2048x1024 : Shape := ⟨3, ![16, 2048, 1024]⟩
abbrev S16x2048x4x256 : Shape := ⟨4, ![16, 2048, 4, 256]⟩
abbrev S16x2048x16 : Shape := ⟨3, ![16, 2048, 16]⟩
abbrev S1x1x512 : Shape := ⟨3, ![1, 1, 512]⟩
abbrev S_ : Shape := ⟨0, ![]⟩
abbrev S16x1x4x128 : Shape := ⟨4, ![16, 1, 4, 128]⟩
abbrev S16x4x128 : Shape := ⟨3, ![16, 4, 128]⟩
abbrev S16x4x128x256 : Shape := ⟨4, ![16, 4, 128, 256]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x3088, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S16x2048x512, .f32⟩
  | .hbm, ⟨5, _⟩ => ⟨S16x2048x4x128, .f32⟩
  | .hbm, ⟨6, _⟩ => ⟨S16x2048x1024, .f32⟩
  | .hbm, ⟨7, _⟩ => ⟨S16x2048x4x256, .f32⟩
  | .hbm, ⟨8, _⟩ => ⟨S16x2048x16, .f32⟩
  | .hbm, ⟨9, _⟩ => ⟨S16x2048x512, .f32⟩
  | .hbm, ⟨10, _⟩ => ⟨S1x1x512, .f32⟩
  | .hbm, ⟨11, _⟩ => ⟨S16x2048x512, .f32⟩
  | .hbm, ⟨12, _⟩ => ⟨S16x2048x512, .f32⟩
  | .hbm, ⟨13, _⟩ => ⟨S16x2048x512, .f32⟩
  | .hbm, ⟨14, _⟩ => ⟨S_, .f32⟩
  | .hbm, ⟨15, _⟩ => ⟨S16x2048x512, .f32⟩
  | .hbm, ⟨16, _⟩ => ⟨S16x2048x512, .f32⟩
  | .hbm, ⟨17, _⟩ => ⟨S16x2048x512, .f32⟩
  | .hbm, ⟨18, _⟩ => ⟨S16x2048x512, .f32⟩
  | .hbm, ⟨19, _⟩ => ⟨S16x2048x512, .i1⟩
  | .hbm, ⟨20, _⟩ => ⟨S16x2048x512, .f32⟩
  | .hbm, ⟨21, _⟩ => ⟨S16x2048x512, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S_, .f32⟩
  | .hbm, ⟨30, _⟩ => ⟨S16x2048x512, .f32⟩
  | .hbm, ⟨31, _⟩ => ⟨S16x2048x512, .f32⟩
  | .hbm, ⟨32, _⟩ => ⟨S16x2048x4x128, .f32⟩
  | .hbm, ⟨33, _⟩ => ⟨S_, .f32⟩
  | .hbm, ⟨34, _⟩ => ⟨S_, .f32⟩
  | .hbm, ⟨35, _⟩ => ⟨S16x2048x4x128, .f32⟩
  | .hbm, ⟨36, _⟩ => ⟨S16x1x4x128, .f32⟩
  | .hbm, ⟨37, _⟩ => ⟨S16x4x128, .f32⟩
  | .hbm, ⟨38, _⟩ => ⟨S16x1x4x128, .f32⟩
  | .hbm, ⟨39, _⟩ => ⟨S16x2048x4x128, .f32⟩
  | .hbm, ⟨40, _⟩ => ⟨S16x2048x4x128, .f32⟩
  | .hbm, ⟨41, _⟩ => ⟨S16x2048x4x128, .f32⟩
  | .hbm, ⟨42, _⟩ => ⟨S16x2048x4x128, .f32⟩
  | .hbm, ⟨43, _⟩ => ⟨S16x4x128x256, .f32⟩
  | _, _ => ⟨S16x2048x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_call0_cst : Ref sig .tc := ⟨.hbm, 33, rfl⟩
abbrev main_call1_call0_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== Kernel11.lean ====
abbrev S16x2048x3352 : Shape := ⟨3, ![16, 2048, 3352]⟩
abbrev S2x512 : Shape := ⟨2, ![2, 512]⟩
abbrev S128 : Shape := ⟨1, ![128]⟩
abbrev S32768x3352 : Shape := ⟨2, ![32768, 3352]⟩
abbrev S_ : Shape := ⟨0, ![]⟩
abbrev S32768x3584 : Shape := ⟨2, ![32768, 3584]⟩
abbrev S1x128 : Shape := ⟨2, ![1, 128]⟩
abbrev S32768x512 : Shape := ⟨2, ![32768, 512]⟩
abbrev S16x4x128x128 : Shape := ⟨4, ![16, 4, 128, 128]⟩
abbrev S512x512 : Shape := ⟨2, ![512, 512]⟩
abbrev S1x4x128x128 : Shape := ⟨4, ![1, 4, 128, 128]⟩
abbrev S4x128x128 : Shape := ⟨3, ![4, 128, 128]⟩
abbrev S2x128 : Shape := ⟨2, ![2, 128]⟩
abbrev S128x128 : Shape := ⟨2, ![128, 128]⟩
abbrev S1x128x128 : Shape := ⟨3, ![1, 128, 128]⟩
abbrev S16x128 : Shape := ⟨2, ![16, 128]⟩
abbrev S8x128 : Shape := ⟨2, ![8, 128]⟩
abbrev S16 : Shape := ⟨1, ![16]⟩
abbrev S16x1 : Shape := ⟨2, ![16, 1]⟩
abbrev S8x1 : Shape := ⟨2, ![8, 1]⟩
abbrev S8 : Shape := ⟨1, ![8]⟩
abbrev S128x1 : Shape := ⟨2, ![128, 1]⟩
abbrev S1x1x128x128 : Shape := ⟨4, ![1, 1, 128, 128]⟩

abbrev nBuf : Space → Nat
  | .hbm => 10
  | .vmem => 15
  | .smem => 0
  | _ => 0

abbrev bufTy : (tb : Table) → Fin (tcTables nBuf tb) → BufTy
  | .hbm, ⟨0, _⟩ => ⟨S16x2048x3352, .f32⟩
  | .hbm, ⟨1, _⟩ => ⟨S2x512, .f32⟩
  | .hbm, ⟨2, _⟩ => ⟨S128, .f32⟩
  | .hbm, ⟨3, _⟩ => ⟨S32768x3352, .f32⟩
  | .hbm, ⟨4, _⟩ => ⟨S_, .i32⟩
  | .hbm, ⟨5, _⟩ => ⟨S_, .f32⟩
  | .hbm, ⟨6, _⟩ => ⟨S32768x3584, .f32⟩
  | .hbm, ⟨7, _⟩ => ⟨S1x128, .f32⟩
  | .hbm, ⟨8, _⟩ => ⟨S32768x512, .bf16⟩
  | .hbm, ⟨9, _⟩ => ⟨S16x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2x512, .f32⟩
  | .local _ .vmem, ⟨9, _⟩ => ⟨S1x128, .f32⟩
  | .local _ .vmem, ⟨10, _⟩ => ⟨S512x512, .bf16⟩
  | .local _ .vmem, ⟨11, _⟩ => ⟨S512x512, .bf16⟩
  | .local _ .vmem, ⟨12, _⟩ => ⟨S1x4x128x128, .f32⟩
  | .local _ .vmem, ⟨13, _⟩ => ⟨S1x4x128x128, .f32⟩
  | .local _ .vmem, ⟨14, _⟩ => ⟨S4x128x128, .f32⟩
  | _, _ => ⟨S16x2048x3352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c128_i32 : BitVec 32 := 128#32
  let v7 : BitVec 32 := Scalar.muli arg11 c128_i32
  v7
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v7 : BitVec 32 := Scalar.muli arg11 c128_i32
  let v8 : BitVec 32 := v7
  let v19 : Index := Scalar.indexCast v8
  let c0_6 : Index := 0#32
  ![v19.toNat, 0]
def k0_off2 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v7 : BitVec 32 := Scalar.muli arg11 c128_i32
  let v8 : BitVec 32 := v7
  let v3032 : Index := Scalar.indexCast v8
  let c128_291 : Index := 128#32
  ![v3032.toNat, 128]
def k0_off3 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v7 : BitVec 32 := Scalar.muli arg11 c128_i32
  let v8 : BitVec 32 := v7
  let v6045 : Index := Scalar.indexCast v8
  let c256_699 : Index := 256#32
  ![v6045.toNat, 256]
def k0_off4 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v7 : BitVec 32 := Scalar.muli arg11 c128_i32
  let v8 : BitVec 32 := v7
  let v9058 : Index := Scalar.indexCast v8
  let c384_1107 : Index := 384#32
  ![v9058.toNat, 384]
def k0_cond2 (i : grid0.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference11Ideal.lean ====
abbrev S16x2048x3352 : Shape := ⟨3, ![16, 2048, 3352]⟩
abbrev S2x512 : Shape := ⟨2, ![2, 512]⟩
abbrev S128 : Shape := ⟨1, ![128]⟩
abbrev S_ : Shape := ⟨0, ![]⟩
abbrev S512 : Shape := ⟨1, ![512]⟩
abbrev S1x512 : Shape := ⟨2, ![1, 512]⟩
abbrev S16x2048x512 : Shape := ⟨3, ![16, 2048, 512]⟩
abbrev S1x1x512 : Shape := ⟨3, ![1, 1, 512]⟩
abbrev S16x2048x4x128 : Shape := ⟨4, ![16, 2048, 4, 128]⟩
abbrev S16x1x4x128 : Shape := ⟨4, ![16, 1, 4, 128]⟩
abbrev S16x4x128 : Shape := ⟨3, ![16, 4, 128]⟩
abbrev S16x4x128x128 : Shape := ⟨4, ![16, 4, 128, 128]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x3352, .f32⟩
  | .hbm, ⟨1, _⟩ => ⟨S2x512, .f32⟩
  | .hbm, ⟨2, _⟩ => ⟨S128, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S_, .f32⟩
  | .hbm, ⟨19, _⟩ => ⟨S2x512, .f32⟩
  | .hbm, ⟨20, _⟩ => ⟨S1x512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S_, .f32⟩
  | .hbm, ⟨29, _⟩ => ⟨S16x2048x512, .f32⟩
  | .hbm, ⟨30, _⟩ => ⟨S16x2048x512, .f32⟩
  | .hbm, ⟨31, _⟩ => ⟨S_, .f32⟩
  | .hbm, ⟨32, _⟩ => ⟨S16x2048x512, .f32⟩
  | .hbm, ⟨33, _⟩ => ⟨S16x2048x512, .f32⟩
  | .hbm, ⟨34, _⟩ => ⟨S1x1x512, .f32⟩
  | .hbm, ⟨35, _⟩ => ⟨S16x2048x512, .f32⟩
  | .hbm, ⟨36, _⟩ => ⟨S16x2048x512, .f32⟩
  | .hbm, ⟨37, _⟩ => ⟨S1x1x512, .f32⟩
  | .hbm, ⟨38, _⟩ => ⟨S16x2048x512, .f32⟩
  | .hbm, ⟨39, _⟩ => ⟨S16x2048x512, .f32⟩
  | .hbm, ⟨40, _⟩ => ⟨S16x2048x4x128, .f32⟩
  | .hbm, ⟨41, _⟩ => ⟨S16x2048x512, .f32⟩
  | .hbm, ⟨42, _⟩ => ⟨S16x2048x4x128, .f32⟩
  | .hbm, ⟨43, _⟩ => ⟨S_, .f32⟩
  | .hbm, ⟨44, _⟩ => ⟨S16x2048x4x128, .f32⟩
  | .hbm, ⟨45, _⟩ => ⟨S16x2048x4x128, .f32⟩
  | .hbm, ⟨46, _⟩ => ⟨S16x2048x4x128, .f32⟩
  | .hbm, ⟨47, _⟩ => ⟨S_, .f32⟩
  | .hbm, ⟨48, _⟩ => ⟨S_, .f32⟩
  | .hbm, ⟨49, _⟩ => ⟨S16x2048x4x128, .f32⟩
  | .hbm, ⟨50, _⟩ => ⟨S16x1x4x128, .f32⟩
  | .hbm, ⟨51, _⟩ => ⟨S16x4x128, .f32⟩
  | .hbm, ⟨52, _⟩ => ⟨S16x1x4x128, .f32⟩
  | .hbm, ⟨53, _⟩ => ⟨S16x2048x4x128, .f32⟩
  | .hbm, ⟨54, _⟩ => ⟨S16x2048x4x128, .f32⟩
  | .hbm, ⟨55, _⟩ => ⟨S16x2048x4x128, .f32⟩
  | .hbm, ⟨56, _⟩ => ⟨S16x2048x4x128, .f32⟩
  | .hbm, ⟨57, _⟩ => ⟨S16x4x128x128, .f32⟩
  | _, _ => ⟨S16x2048x3352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call1_call0_cst : Ref sig .tc := ⟨.hbm, 47, rfl⟩
abbrev main_call1_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.GlaBlock.lean ====
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.GlaDecode

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- A row's new state: the decayed old state plus the outer product of key and value. -/
theorem state_point (c : Dev nD) (t : Fin cfg0.N) (y : S32x1x128x256.Idx) :
    (outsAt0 m c t).2 y
      = k0_pay5 (F := Ideal) (iblk m c 4 t) (iblk m c 5 t) (iblk m c 6 t) (ix2 (y 0) (y 2)) * (show Vec Ideal S32x1x128x256 .f32 from iblk m c 8 t) y
        + (show Vec Ideal S32x128 .f32 from iblk m c 1 t) (ix2 (y 0) (y 2)) * (show Vec Ideal S32x256 .f32 from X0_2 m c t) (ix2 (y 0) (y 3)) := by
  unfold outsAt0
  frame_out
  generalize k0_pay5 (F := Ideal) (iblk m c 4 t) (iblk m c 5 t) (iblk m c 6 t) = e
  canon_tiles x h
  all_goals (open_payloads; pointwise; blk_point [])

/-- What the rows' outputs hold before the norm: the scaled query against the new state. -/
def scr (q k e : Vec Ideal S32x128 .f32) (v : Vec Ideal S32x256 .f32) (s : Vec Ideal S32x1x128x256 .f32) : Vec Ideal S32x256 .f32 :=
  fun i => ∑ a : Fin 128, q (ix2 (i 0) a) * Ideal.ofBits .f32 0x3DB504F3#32
    * (e (ix2 (i 0) a) * s (ix4 (i 0) 0 a (i 1)) + k (ix2 (i 0) a) * v (ix2 (i 0) (i 1)))

set_option maxHeartbeats 2000000 in
theorem out_point (c : Dev nD) (t : Fin cfg0.N) (y : S32x256.Idx) :
    (outsAt0 m c t).1 y
      = (fun z => k0_pay1 (F := Ideal) z (k0_pay125 (iblk m c 7 t)) (k0_pay126 z) (X0_3 m c t) y)
          (scr (iblk m c 0 t) (iblk m c 1 t) (k0_pay5 (F := Ideal) (iblk m c 4 t) (iblk m c 5 t) (iblk m c 6 t)) (X0_2 m c t) (iblk m c 8 t)) := by
  unfold outsAt0
  frame_out
  generalize k0_pay5 (F := Ideal) (iblk m c 4 t) (iblk m c 5 t) (iblk m c 6 t) = e
  refine congrArg (fun z => k0_pay1 (F := Ideal) z (k0_pay125 (iblk m c 7 t)) (k0_pay126 z) (X0_3 m c t) y) (funext fun j => ?_)
  rw [View.readCov_eq_canon']
  show View.ld (View.canon _) (Rect.unit (s := S32x256) ![0, 0] S32x256.size inb_S32x256_S32x256_0_0) j = _
  rw [View.ld_unit_zero (by funext a; fin_cases a <;> rfl)]
  canon_tiles x h
  all_goals (open_payloads; pointwise [scr]; blk_point [])
end Cert.GlaDecode
-- ==== Proof.GlaRead.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.GlaDecode

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The projection. -/
abbrev argP (c : Dev nD) : Vec Ideal S32x1x3088 .f32 := m ((c : Thread nD τ).loc main_arg0)
/-- The gate's second factor. -/
abbrev argW (c : Dev nD) : Vec Ideal S16x512 .f32 := m ((c : Thread nD τ).loc main_arg1)
/-- The gate's bias. -/
abbrev argB (c : Dev nD) : Vec Ideal S512 .f32 := m ((c : Thread nD τ).loc main_arg2)
/-- The norm's gain. -/
abbrev argG (c : Dev nD) : Vec Ideal S256 .f32 := m ((c : Thread nD τ).loc main_arg3)
/-- The state before the step. -/
abbrev argS (c : Dev nD) : Vec Ideal S32x4x128x256 .f32 := m ((c : Thread nD τ).loc main_arg4)

/-- The block every window reads or writes at a grid point. -/
theorem idx : ∀ t : Fin cfg0.N, t.val < 4 ∧ win0_0.index t = ![0, t.val] ∧ win0_1.index t = ![0, 4 + t.val] ∧ win0_2.index t = ![0, 4 + t.val]
    ∧ win0_3.index t = ![0, 8 + t.val] ∧ win0_4.index t = ![0, 24] ∧ win0_5.index t = ![0, t.val] ∧ win0_6.index t = ![0, t.val]
    ∧ win0_7.index t = ![0, 0] ∧ win0_8.index t = ![0, t.val, 0, 0] ∧ win0_9.index t = ![0, t.val] ∧ win0_10.index t = ![0, t.val, 0, 0] :=
  (by decide +kernel : ∀ t : Fin grid0.N, _)

/-- Three runs of columns put side by side. -/
def cat3 (a : Vec Ideal S32x2048 .f32) (b : Vec Ideal S32x1024 .f32) (d : Vec Ideal S32x16 .f32) : Vec Ideal S32x3088 .f32 :=
  concatenate S32x3088 1 [⟨S32x2048, a⟩, ⟨S32x1024, b⟩, ⟨S32x16, d⟩] concatenates_S32x2048_S32x1024_S32x16_S32x3088_d1

/-- The projection's columns in the kernel's order: the low-rank gate's columns moved last, zeros up to the next block. -/
def cols (p : Vec Ideal S32x1x3088 .f32) : Vec Ideal S32x3200 .f32 :=
  pad S32x3200 ![0, 0] ![0, 112] ![0, 0]
    (cat3 (extractStridedSlice S32x2048 ![0, 0] (shapeCast S32x3088 p shapeCasts_S32x1x3088_S32x3088) slices_S32x3088_S32x2048_0_0)
      (extractStridedSlice S32x1024 ![0, 2064] (shapeCast S32x3088 p shapeCasts_S32x1x3088_S32x3088) slices_S32x3088_S32x1024_0_2064)
      (extractStridedSlice S32x16 ![0, 2048] (shapeCast S32x3088 p shapeCasts_S32x1x3088_S32x3088) slices_S32x3088_S32x16_0_2048))
    (sitofp (F := Ideal) .f32 (constantI S_ 32 0#32)) pads_S32x3088_S32x3200_000_01120 h_S_

theorem V_v4 (c : Dev nD) : V m c main_v4 = cat3 (V m c main_v1) (V m c main_v2) (V m c main_v3) := by
  simp only [V, hostOps0, hostOps0_1, hostOps0_2, hostOps0_3, hostOps0_4, List.flatten_cons, List.flatten_nil, List.append_nil, List.cons_append,
      List.nil_append]
  after_reads_simp
  show cat3 _ _ _ = cat3 _ _ _
  refine congr (congr (congrArg cat3 ?_) ?_) ?_
  · show StableHlo.upto _ _ _ (Proc.tc.devRef main_v1) = _
    after_reads_simp
  · show StableHlo.upto _ _ _ (Proc.tc.devRef main_v2) = _
    after_reads_simp
  · show StableHlo.upto _ _ _ (Proc.tc.devRef main_v3) = _
    after_reads_simp

theorem V_cols (c : Dev nD) : V m c main_v5 = cols (argP m c) := by
  have h5 : V m c main_v5 = pad S32x3200 ![0, 0] ![0, 112] ![0, 0] (V m c main_v4)
      (sitofp (F := Ideal) .f32 (constantI S_ 32 0#32)) pads_S32x3088_S32x3200_000_01120 h_S_ := by
    simp only [V, hostOps0, hostOps0_1, hostOps0_2, hostOps0_3, hostOps0_4, List.flatten_cons, List.flatten_nil, List.append_nil, List.cons_append,
      List.nil_append]
    after_reads_simp
    rfl
  have h1 : V m c main_v1 = extractStridedSlice S32x2048 ![0, 0] (shapeCast S32x3088 (argP m c) shapeCasts_S32x1x3088_S32x3088)
      slices_S32x3088_S32x2048_0_0 := by
    entry_read; rfl
  have h2 : V m c main_v2 = extractStridedSlice S32x1024 ![0, 2064] (shapeCast S32x3088 (argP m c) shapeCasts_S32x1x3088_S32x3088)
      slices_S32x3088_S32x1024_0_2064 := by
    entry_read; rfl
  have h3 : V m c main_v3 = extractStridedSlice S32x16 ![0, 2048] (shapeCast S32x3088 (argP m c) shapeCasts_S32x1x3088_S32x3088)
      slices_S32x3088_S32x16_0_2048 := by
    entry_read; rfl
  rw [h5, V_v4, h1, h2, h3]
  rfl

theorem cols_lo (p : Vec Ideal S32x1x3088 .f32) (b : Fin 32) (j : Fin 3200) (i : Fin 3088) (hj : j.val < 2048) (hi : i.val = j) :
    cols p (ix2 b j) = p (ix3 b 0 i) := by
  pointwise [cols, cat3]
  rw [dif_pos (by omega), dif_pos hj]
  exact congrArg (fun x => p (ix3 b 0 x)) (Fin.ext (by simp only []; omega))

theorem cols_mid (p : Vec Ideal S32x1x3088 .f32) (b : Fin 32) (j : Fin 3200) (i : Fin 3088) (h0 : 2048 ≤ j.val) (hj : j.val < 3072)
    (hi : i.val = j + 16) :
    cols p (ix2 b j) = p (ix3 b 0 i) := by
  pointwise [cols, cat3]
  rw [dif_pos (by omega), dif_neg (by omega), dif_pos (by omega)]
  exact congrArg (fun x => p (ix3 b 0 x)) (Fin.ext (by simp only []; omega))

theorem cols_low (p : Vec Ideal S32x1x3088 .f32) (b : Fin 32) (j : Fin 3200) (i : Fin 3088) (h0 : 3072 ≤ j.val) (hj : j.val < 3088)
    (hi : i.val + 1024 = j) :
    cols p (ix2 b j) = p (ix3 b 0 i) := by
  pointwise [cols, cat3]
  rw [dif_pos (by omega), dif_neg (by omega), dif_neg (by omega)]
  exact congrArg (fun x => p (ix3 b 0 x)) (Fin.ext (by simp only []; omega))

theorem cols_pad (p : Vec Ideal S32x1x3088 .f32) (b : Fin 32) (j : Fin 3200) (hj : 3088 ≤ j.val) :
    cols p (ix2 b j) = 0 := by
  pointwise [cols, cat3]
  rw [dif_neg (by omega)]
  show ((((0#32 : BitVec 32).toInt : ℝ)) : EReal) = 0
  simp

/-- The gate's second factor with zero rows below it. -/
def wpad (w : Vec Ideal S16x512 .f32) : Vec Ideal S128x512 .f32 :=
  pad S128x512 ![0, 0] ![112, 0] ![0, 0] w (sitofp (F := Ideal) .f32 (constantI S_ 32 0#32)) pads_S16x512_S128x512_01120_000 h_S_

theorem V_wa (c : Dev nD) : V m c main_v7 = truncf (F := Ideal) .bf16 (wpad (argW m c)) bitsLt_bf16_f32 := by
  simp only [V, hostOps0, hostOps0_1, hostOps0_2, hostOps0_3, hostOps0_4, List.flatten_cons, List.flatten_nil, List.append_nil, List.cons_append,
      List.nil_append]
  after_reads_simp
  rfl

theorem V_ba (c : Dev nD) : V m c main_v8 = shapeCast S1x512 (argB m c) shapeCasts_S512_S1x512 := by
  simp only [V, hostOps0, hostOps0_1, hostOps0_2, hostOps0_3, hostOps0_4, List.flatten_cons, List.flatten_nil, List.append_nil, List.cons_append,
      List.nil_append]
  after_reads_simp
  rfl

theorem V_gain (c : Dev nD) : V m c main_v9 = shapeCast S1x256 (argG m c) shapeCasts_S256_S1x256 := by
  simp only [V, hostOps0, hostOps0_1, hostOps0_2, hostOps0_3, hostOps0_4, List.flatten_cons, List.flatten_nil, List.append_nil, List.cons_append,
      List.nil_append]
  after_reads_simp
  rfl

theorem q_at (c : Dev nD) (t : Fin cfg0.N) (b : Fin 32) (k : Fin 128) (i : Fin 3088) (hi : (i : ℕ) = t.val * 128 + k) :
    (show Vec Ideal S32x128 .f32 from iblk m c 0 t) (ix2 b k)
      = (argP m c) (ix3 b 0 i) := by
  have ht := (idx t).1
  refine Eq.trans ?_ ((congrFun (V_cols m c) (ix2 b ⟨t.val * 128 + k, by omega⟩)).trans (cols_lo _ b _ i (by simp only []; omega) (by simp only []; omega)))
  blk_ext [iblk, idx t]

theorem k_at (c : Dev nD) (t : Fin cfg0.N) (b : Fin 32) (k : Fin 128) (i : Fin 3088) (hi : (i : ℕ) = 512 + t.val * 128 + k) :
    (show Vec Ideal S32x128 .f32 from iblk m c 1 t) (ix2 b k)
      = (argP m c) (ix3 b 0 i) := by
  have ht := (idx t).1
  refine Eq.trans ?_ ((congrFun (V_cols m c) (ix2 b ⟨512 + t.val * 128 + k, by omega⟩)).trans (cols_lo _ b _ i (by simp only []; omega) (by simp only []; omega)))
  blk_ext [iblk, idx t]

theorem v_at (c : Dev nD) (t : Fin cfg0.N) (b : Fin 32) (n : Fin 256) (i : Fin 3088) (hi : (i : ℕ) = 1024 + t.val * 256 + n) :
    (show Vec Ideal S32x256 .f32 from X0_2 m c t) (ix2 b n)
      = (argP m c) (ix3 b 0 i) := by
  have ht := (idx t).1
  refine Eq.trans ?_ ((congrFun (V_cols m c) (ix2 b ⟨1024 + t.val * 256 + n, by omega⟩)).trans (cols_lo _ b _ i (by simp only []; omega) (by simp only []; omega)))
  show X0_2 m c t (ix2 b n) = _
  unfold X0_2 Pipeline.Window.fill
  rw [dif_pos (moved0_2 t _)]
  blk_ext [iblk, idx t]

theorem r_at (c : Dev nD) (t : Fin cfg0.N) (b : Fin 32) (n : Fin 256) (i : Fin 3088) (hi : (i : ℕ) = 2064 + t.val * 256 + n) :
    (show Vec Ideal S32x256 .f32 from X0_3 m c t) (ix2 b n)
      = (argP m c) (ix3 b 0 i) := by
  have ht := (idx t).1
  refine Eq.trans ?_ ((congrFun (V_cols m c) (ix2 b ⟨2048 + t.val * 256 + n, by omega⟩)).trans (cols_mid _ b _ i (by simp only []; omega) (by simp only []; omega) (by simp only []; omega)))
  show X0_3 m c t (ix2 b n) = _
  unfold X0_3 Pipeline.Window.fill
  rw [dif_pos (moved0_3 t _)]
  blk_ext [iblk, idx t]

theorem a_at (c : Dev nD) (t : Fin cfg0.N) (b : Fin 32) (k : Fin 128) (i : Fin 3088) (hk : k.val < 16) (hi : (i : ℕ) = 2048 + k) :
    (show Vec Ideal S32x128 .f32 from iblk m c 4 t) (ix2 b k)
      = (argP m c) (ix3 b 0 i) := by
  have ht := (idx t).1
  refine Eq.trans ?_ ((congrFun (V_cols m c) (ix2 b ⟨3072 + k, by omega⟩)).trans (cols_low _ b _ i (by simp only []; omega) (by simp only []; omega) (by simp only []; omega)))
  blk_ext [iblk, idx t]

theorem a_pad (c : Dev nD) (t : Fin cfg0.N) (b : Fin 32) (k : Fin 128) (hk : 16 ≤ k.val) :
    (show Vec Ideal S32x128 .f32 from iblk m c 4 t) (ix2 b k) = 0 := by
  have ht := (idx t).1
  refine Eq.trans ?_ ((congrFun (V_cols m c) (ix2 b ⟨3072 + k, by omega⟩)).trans (cols_pad _ b _ (by simp only []; omega)))
  blk_ext [iblk, idx t]

theorem wa_at (c : Dev nD) (t : Fin cfg0.N) (r : Fin 128) (k : Fin 128) (i : Fin 16) (j : Fin 512) (hi : (i : ℕ) = r) (hj : (j : ℕ) = t.val * 128 + k) :
    (show Vec Ideal S128x128 .bf16 from iblk m c 5 t) (ix2 r k)
      = (argW m c) (ix2 i j) := by
  have ht := (idx t).1
  have h : (show Vec Ideal S128x512 .bf16 from V m c main_v7) (ix2 r j)
      = (argW m c) (ix2 i j) := by
    rw [V_wa]
    pointwise [wpad]
    rw [dif_pos (by omega)]
    exact congrArg (fun x => (argW m c) (ix2 x j)) (Fin.ext (by simp only []; omega))
  rw [← h]
  blk_ext [iblk, idx t]

theorem ba_at (c : Dev nD) (t : Fin cfg0.N) (k : Fin 128) (j : Fin 512) (hj : (j : ℕ) = t.val * 128 + k) :
    (show Vec Ideal S1x128 .f32 from iblk m c 6 t) (ix2 0 k)
      = (argB m c) (ix1 j) := by
  have ht := (idx t).1
  have h : (show Vec Ideal S1x512 .f32 from V m c main_v8) (ix2 0 j)
      = (argB m c) (ix1 j) := by
    rw [V_ba]
    pointwise
  rw [← h]
  blk_ext [iblk, idx t]

theorem gain_at (c : Dev nD) (t : Fin cfg0.N) (n : Fin 256) :
    (show Vec Ideal S1x256 .f32 from iblk m c 7 t) (ix2 0 n)
      = (argG m c) (ix1 n) := by
  have ht := (idx t).1
  have h : (show Vec Ideal S1x256 .f32 from V m c main_v9) (ix2 0 n)
      = (argG m c) (ix1 n) := by
    rw [V_gain]
    pointwise
  rw [← h]
  blk_ext [iblk, idx t]

theorem s_at (c : Dev nD) (t : Fin cfg0.N) (b : Fin 32) (h : Fin 4) (k : Fin 128) (n : Fin 256) (hh : h.val = t.val) :
    (show Vec Ideal S32x1x128x256 .f32 from iblk m c 8 t) (ix4 b 0 k n)
      = (argS m c) (ix4 b h k n) := by
  have ht := (idx t).1
  show _ = (argS m c) (ix4 b h k n)
  refine Eq.trans ?_ (congrFun (V_main_arg4 m c) (ix4 b h k n))
  blk_ext [iblk, idx t]
end Cert.GlaDecode
-- ==== Proof.Scalar.lean ====
module

public import Idealize.ShloMosaic.Lib.Pointwise
public import Idealize.ShloMosaic.Lib.Claim

@[expose] public section

set_option maxRecDepth 16384

noncomputable section

namespace Cert.Scalar

open Idealize.ShloMosaic

theorem half_lit : Ideal.ofBits .f32 0x3F000000#32 = ((1 / 2 : ℝ) : EReal) := by
  simp [Ideal.ofBits, Ideal.ieee, -EReal.coe_mul]; norm_num

theorem sixteenth_lit : Ideal.ofBits .f32 0x3D800000#32 = ((1 / 16 : ℝ) : EReal) := by
  simp [Ideal.ofBits, Ideal.ieee, -EReal.coe_mul]; norm_num

theorem sixteen_lit : Ideal.ofBits .f32 0x41800000#32 = ((16 : ℝ) : EReal) := by
  simp [Ideal.ofBits, Ideal.ieee, -EReal.coe_mul]; norm_num

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

theorem log_one : Ideal.log 1 = 0 := by
  rw [← EReal.coe_one, Ideal.log_coe, if_neg (by norm_num), Real.log_one, EReal.coe_zero]

theorem real_sigmoid (r : ℝ) : (1 / 2 : ℝ) * Real.tanh (1 / 2 * r) + 1 / 2 = (1 + Real.exp (-r))⁻¹ := by
  have e : Real.exp (-r) = Real.exp (-(1 / 2 * r)) * Real.exp (-(1 / 2 * r)) := by rw [← Real.exp_add]; congr 1; ring
  have h : Real.exp (1 / 2 * r) * Real.exp (-(1 / 2 * r)) = 1 := by rw [← Real.exp_add]; simp
  rw [Real.tanh_eq_sinh_div_cosh, Real.sinh_eq, Real.cosh_eq, e]
  have h1 := Real.exp_pos (1 / 2 * r)
  have h2 := Real.exp_pos (-(1 / 2 * r))
  generalize Real.exp (1 / 2 * r) = a at *
  generalize Real.exp (-(1 / 2 * r)) = b at *
  have hb : b = a⁻¹ := by field_simp; linarith
  subst hb
  field_simp
  ring

/-- The logistic written with the hyperbolic tangent is the logistic, at the infinities too. -/
theorem sigmoid_eq (x : EReal) :
    Ideal.ofBits .f32 0x3F000000#32 * Ideal.tanh (Ideal.ofBits .f32 0x3F000000#32 * x) + Ideal.ofBits .f32 0x3F000000#32 = Ideal.logistic x := by
  rw [half_lit]
  induction x with
  | bot =>
    rw [EReal.coe_mul_bot_of_pos (by norm_num), Ideal.tanh_bot, Ideal.logistic_bot, show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add, real_sigmoid]

/-- The logarithm of the logistic function, negative and positive arguments apart. -/
def logsig (x : EReal) : EReal := min x 0 - Ideal.log (1 + Ideal.exp (0 - max x (-x)))

theorem logsig_coe (r : ℝ) : logsig r = ((min r 0 - Real.log (1 + Real.exp (-|r|)) : ℝ) : EReal) := by
  have hm : max (r : EReal) (-(r : EReal)) = ((|r| : ℝ) : EReal) := by rw [← EReal.coe_neg, ← coe_max]; rfl
  have h0 : (0 : EReal) - ((|r| : ℝ) : EReal) = ((-|r| : ℝ) : EReal) := by rw [zero_sub, EReal.coe_neg]
  have h1 : (1 : EReal) + ((Real.exp (-|r|) : ℝ) : EReal) = ((1 + Real.exp (-|r|) : ℝ) : EReal) := by rw [EReal.coe_add, EReal.coe_one]
  have hp : ¬ (1 + Real.exp (-|r|)) ≤ 0 := by have := Real.exp_pos (-|r|); linarith
  have h2 : min (r : EReal) 0 = ((min r 0 : ℝ) : EReal) := by rw [coe_min, EReal.coe_zero]
  rw [logsig, hm, h0, Ideal.exp_coe, h1, Ideal.log_coe, if_neg hp, h2, EReal.coe_sub]

/-- A sixteenth of it, as the negated soft-plus of the negated argument over sixteen. -/
theorem logsig_eq (x : EReal) :
    Ideal.div (-(max (-x) 0 + Ideal.log1p (Ideal.exp (-max (-x) (- -x))))) (Ideal.ofBits .f32 0x41800000#32)
      = logsig x * Ideal.ofBits .f32 0x3D800000#32 := by
  rw [sixteen_lit, sixteenth_lit, Ideal.div_coe (by norm_num)]
  refine congrArg (· * _) ?_
  induction x with
  | bot => simp [logsig, Ideal.log1p, log_one]
  | top => simp [logsig, Ideal.log1p, log_one]
  | coe r =>
    have hm : max (-(r : EReal)) (- -(r : EReal)) = ((|r| : ℝ) : EReal) := by
      rw [neg_neg, max_comm, ← EReal.coe_neg, ← coe_max]; rfl
    have h1 : (1 : EReal) + ((Real.exp (-|r|) : ℝ) : EReal) = ((1 + Real.exp (-|r|) : ℝ) : EReal) := by rw [EReal.coe_add, EReal.coe_one]
    have hp : ¬ (1 + Real.exp (-|r|)) ≤ 0 := by have := Real.exp_pos (-|r|); linarith
    have h2 : max (-(r : EReal)) 0 = ((max (-r) 0 : ℝ) : EReal) := by rw [coe_max, EReal.coe_zero, EReal.coe_neg]
    rw [logsig_coe, hm, ← EReal.coe_neg |r|, Ideal.exp_coe, Ideal.log1p, h1, Ideal.log_coe, if_neg hp, h2, ← EReal.coe_add, ← EReal.coe_neg]
    congr 1
    rcases le_total r 0 with h | h
    · rw [max_eq_left (by linarith), min_eq_left h]; ring
    · rw [max_eq_right (by linarith), min_eq_right h]; ring

/-- A value that is neither infinity. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, by rw [EReal.coe_mul]⟩

theorem IsReal.add {x y : EReal} (hx : IsReal x) (hy : IsReal y) : IsReal (x + y) := by
  obtain ⟨a, rfl⟩ := hx; obtain ⟨b, rfl⟩ := hy; exact ⟨a + b, by rw [EReal.coe_add]⟩

theorem IsReal.sum {ι : Type} (t : Finset ι) {f : ι → EReal} (h : ∀ i, IsReal (f i)) : IsReal (∑ i ∈ t, f i) := by
  classical
  induction t using Finset.induction_on with
  | empty => exact ⟨0, by simp⟩
  | insert a t ha ih => rw [Finset.sum_insert ha]; exact (h a).add ih

theorem IsReal.logsig {x : EReal} (hx : IsReal x) : IsReal (logsig x) := by
  obtain ⟨a, rfl⟩ := hx; exact ⟨_, logsig_coe a⟩

theorem IsReal.exp {x : EReal} (hx : IsReal x) : IsReal (Ideal.exp x) := by
  obtain ⟨a, rfl⟩ := hx; exact ⟨_, Ideal.exp_coe a⟩

theorem IsReal.exp_sub_self {x : EReal} (hx : IsReal x) : Ideal.exp (x - x) = 1 := by
  obtain ⟨a, rfl⟩ := hx
  rw [← EReal.coe_sub, Ideal.exp_coe, sub_self, Real.exp_zero, EReal.coe_one]

theorem scale_real : IsReal (Ideal.ofBits .f32 0x3DB504F3#32) := by
  refine ⟨11863283 / 134217728, ?_⟩
  simp [Ideal.ofBits, Ideal.ieee, -EReal.coe_mul]
  norm_num

theorem negInf_lit : Ideal.ofBits .f32 0xFF800000#32 = ⊥ := by simp [Ideal.ofBits, Ideal.ieee]

theorem one_lit : Ideal.ofBits .f32 0x3F800000#32 = 1 := by
  simp [Ideal.ofBits, Ideal.ieee, -EReal.coe_mul]; norm_num

/-- The logistic is a real number from zero to one, at the infinities too. -/
theorem logistic_real (x : EReal) : ∃ r : ℝ, Ideal.logistic x = r ∧ 0 ≤ r ∧ r ≤ 1 := by
  induction x with
  | bot => exact ⟨0, by rw [Ideal.logistic_bot, EReal.coe_zero], le_refl _, zero_le_one⟩
  | top => exact ⟨1, by rw [Ideal.logistic_top, EReal.coe_one], zero_le_one, le_refl _⟩
  | coe r =>
    have h := Real.exp_pos (-r)
    exact ⟨_, Ideal.logistic_coe r, by positivity, inv_le_one_of_one_le₀ (by linarith)⟩

/-- The first of two real logits' soft-max, shifted by any real number: a real number above zero, at most one. -/
theorem softmax_real (a b s : ℝ) : ∃ r : ℝ, Ideal.div (Ideal.exp (a - s)) (Ideal.exp (a - s) + Ideal.exp (b - s)) = r ∧ 0 < r ∧ r ≤ 1 := by
  have h1 := Real.exp_pos (a - s)
  have h2 := Real.exp_pos (b - s)
  refine ⟨Real.exp (a - s) * (1 / (Real.exp (a - s) + Real.exp (b - s))), ?_, by positivity, ?_⟩
  · rw [← EReal.coe_sub, ← EReal.coe_sub, Ideal.exp_coe, Ideal.exp_coe, ← EReal.coe_add, Ideal.div_coe (by positivity), ← EReal.coe_mul]
  · rw [mul_one_div, div_le_one (by positivity)]
    linarith

/-- A mean of one and a number from zero to one, the weight of the one above zero, is real and so is its logarithm. -/
theorem blend_real {l s : EReal} (hl : ∃ r : ℝ, l = r ∧ 0 < r ∧ r ≤ 1) (hs : ∃ r : ℝ, s = r ∧ 0 ≤ r ∧ r ≤ 1) :
    IsReal (l + (1 - l) * s) ∧ IsReal (Ideal.log (l + (1 - l) * s)) := by
  obtain ⟨a, rfl, ha, ha'⟩ := hl
  obtain ⟨b, rfl, hb, hb'⟩ := hs
  have e : (a : EReal) + (1 - (a : EReal)) * (b : EReal) = ((a + (1 - a) * b : ℝ) : EReal) := by
    rw [EReal.coe_add, EReal.coe_mul, EReal.coe_sub, EReal.coe_one]
  have hp : ¬ a + (1 - a) * b ≤ 0 := by nlinarith
  rw [e, Ideal.log_coe, if_neg hp]
  exact ⟨⟨_, rfl⟩, ⟨_, rfl⟩⟩

theorem IsReal.one_sub {x : EReal} (hx : IsReal x) : IsReal (1 - x) := by
  obtain ⟨a, rfl⟩ := hx; exact ⟨1 - a, by rw [EReal.coe_sub, EReal.coe_one]⟩

/-- A real factor distributes over a sum with one real term. -/
theorem mul_add_real (q y : ℝ) (x : EReal) : (q : EReal) * (x + y) = q * x + q * y := by
  rcases le_or_gt 0 q with h | h
  · exact EReal.left_distrib_of_nonneg_of_ne_top (by exact_mod_cast h) (EReal.coe_ne_top q) x y
  · have h' : (0 : EReal) ≤ ((-q : ℝ) : EReal) := by exact_mod_cast (by linarith : (0 : ℝ) ≤ -q)
    have e := EReal.left_distrib_of_nonneg_of_ne_top h' (EReal.coe_ne_top _) x y
    have n : (q : EReal) = -((-q : ℝ) : EReal) := by rw [EReal.coe_neg, neg_neg]
    rw [n, neg_mul, neg_mul, neg_mul, e, ← EReal.coe_mul, EReal.neg_add (Or.inr (EReal.coe_ne_top _)) (Or.inr (EReal.coe_ne_bot _)), sub_eq_add_neg]

/-- One value read by a query through a decayed state and a fresh outer product, the two ways of adding it up. -/
theorem read_sum {K : ℕ} (q k e s : Fin K → EReal) (v : EReal) (hq : ∀ i, IsReal (q i)) (hk : ∀ i, IsReal (k i)) (hv : IsReal v) :
    ∑ i, q i * (e i * s i + k i * v) = ∑ i, s i * (q i * e i) + v * ∑ i, q i * k i := by
  choose q' hq using hq
  choose k' hk using hk
  obtain ⟨v', rfl⟩ := hv
  have c : (v' : EReal) * ∑ i, q i * k i = ∑ i, q i * (k i * v') := by
    simp only [hq, hk, ← EReal.coe_mul, coe_sum]
    congr 1
    rw [Finset.mul_sum]
    exact Finset.sum_congr rfl fun i _ => by ring
  rw [c, ← Finset.sum_add_distrib]
  refine Finset.sum_congr rfl fun i _ => ?_
  rw [hq, hk, ← EReal.coe_mul, mul_add_real, mul_comm (s i), mul_assoc]
end Cert.Scalar
-- ==== Proof.GlaArr.lean ====
module

public import proofs.«01_k».proof.Proof.GlaBlock
public import proofs.«01_k».proof.Proof.GlaRead
public import proofs.«01_k».proof.Proof.Scalar

@[expose] public section

set_option maxRecDepth 16384

noncomputable section

namespace Cert.GlaDecode

open Cert.KernelIdeal Cert.KernelIdeal.Gen Idealize.ShloMosaic Idealize.ShloMosaic.TcCoe Idealize.SL.Sem
open Idealize.ShloMosaic.Pipeline (Dat)

variable (p : Vec Ideal S32x1x3088 .f32) (w : Vec Ideal S16x512 .f32) (d : Vec Ideal S512 .f32) (g : Vec Ideal S256 .f32)
variable (s : Vec Ideal S32x4x128x256 .f32)

/-- A channel of a head's keys. -/
abbrev chan (h : Fin 4) (k : Fin 128) : Fin 512 := ⟨h.val * 128 + k.val, by omega⟩

/-- The low-rank gate of a channel. -/
def gate (b : Fin 32) (j : Fin 512) : EReal :=
  ∑ r : Fin 16, p (ix3 b 0 ⟨2048 + r.val, by omega⟩) * w (ix2 r j) + d (ix1 j)

/-- A channel's decay: the sixteenth root of the gate's logistic. -/
def decay (b : Fin 32) (j : Fin 512) : EReal := Ideal.exp (Scalar.logsig (gate p w d b j) * Ideal.ofBits .f32 0x3D800000#32)

/-- The state after the step. -/
def newS (b : Fin 32) (h : Fin 4) (k : Fin 128) (n : Fin 256) : EReal :=
  decay p w d b (chan h k) * s (ix4 b h k n) + p (ix3 b 0 ⟨512 + h.val * 128 + k.val, by omega⟩) * p (ix3 b 0 ⟨1024 + h.val * 256 + n.val, by omega⟩)

/-- The scaled query against the new state. -/
def raw (b : Fin 32) (h : Fin 4) (n : Fin 256) : EReal :=
  ∑ k : Fin 128, p (ix3 b 0 ⟨h.val * 128 + k.val, by omega⟩) * Ideal.ofBits .f32 0x3DB504F3#32 * newS p w d s b h k n

/-- A head's output `z` normed over its values, scaled by the gain and gated by `r`. -/
def gated (z : Fin 256 → EReal) (g r : EReal) (n : Fin 256) : EReal :=
  z n * Ideal.rsqrt (Ideal.div (∑ x, z x * z x) (Ideal.ofBits .f32 0x43800000#32) + Ideal.ofBits .f32 0x358637BD#32) * g
    * (r * (Ideal.ofBits .f32 0x3F000000#32 * Ideal.tanh (Ideal.ofBits .f32 0x3F000000#32 * r) + Ideal.ofBits .f32 0x3F000000#32))

variable (m : (ℓ : Loc nD τ sig) → Buf (Elt Ideal) ℓ)

theorem sum_first {f : Fin 128 → EReal} {e : Fin 16 → EReal} (h : ∀ (k : Fin 128) (r : Fin 16), r.val = k → f k = e r)
    (h0 : ∀ k : Fin 128, 16 ≤ k.val → f k = 0) : ∑ k, f k = ∑ r, e r := by
  rw [show (∑ k, f k) = ∑ k : Fin (16 + 112), f k from rfl, Fin.sum_univ_add,
    Finset.sum_eq_zero (f := fun i : Fin 112 => f (Fin.natAdd 16 i)) (fun i _ => h0 _ (by simp)), add_zero]
  exact Finset.sum_congr rfl fun r _ => h _ r rfl

theorem pay5_at (c : Dev nD) (t : Fin cfg0.N) (h : Fin 4) (hh : h.val = t.val) (b : Fin 32) (k : Fin 128) :
    k0_pay5 (F := Ideal) (iblk m c 4 t) (iblk m c 5 t) (iblk m c 6 t) (ix2 b k)
      = decay (argP m c) (argW m c) (argB m c) b (chan h k) := by
  have hg : (∑ x : Fin 128, (show Vec Ideal S32x128 .f32 from iblk m c 4 t) (ix2 b x) * (show Vec Ideal S128x128 .bf16 from iblk m c 5 t) (ix2 x k))
      + (show Vec Ideal S1x128 .f32 from iblk m c 6 t) (ix2 0 k) = gate (argP m c) (argW m c) (argB m c) b (chan h k) := by
    unfold gate
    rw [ba_at m c t k (chan h k) (by rw [← hh])]
    refine congrArg (· + _) (sum_first (fun x r hr => ?_) fun x hx => ?_)
    · rw [a_at m c t b x ⟨2048 + r.val, by omega⟩ (by omega) (by simp only []; omega), wa_at m c t x k r (chan h k) hr (by rw [← hh])]
    · rw [a_pad m c t b x hx, zero_mul]
  unfold decay
  rw [← hg]
  pointwise [k0_pay5]
  rfl

theorem newS_at (c : Dev nD) (t : Fin cfg0.N) (h : Fin 4) (hh : h.val = t.val) (b : Fin 32) (k : Fin 128) (n : Fin 256) :
    k0_pay5 (F := Ideal) (iblk m c 4 t) (iblk m c 5 t) (iblk m c 6 t) (ix2 b k) * (show Vec Ideal S32x1x128x256 .f32 from iblk m c 8 t) (ix4 b 0 k n)
        + (show Vec Ideal S32x128 .f32 from iblk m c 1 t) (ix2 b k) * (show Vec Ideal S32x256 .f32 from X0_2 m c t) (ix2 b n)
      = newS (argP m c) (argW m c) (argB m c) (argS m c) b h k n := by
  unfold newS
  rw [pay5_at m c t h hh, s_at m c t b h k n hh, k_at m c t b k ⟨512 + h.val * 128 + k.val, by omega⟩ (by simp only []; omega),
    v_at m c t b n ⟨1024 + h.val * 256 + n.val, by omega⟩ (by simp only []; omega)]

theorem raw_at (c : Dev nD) (t : Fin cfg0.N) (h : Fin 4) (hh : h.val = t.val) (b : Fin 32) (n : Fin 256) :
    scr (iblk m c 0 t) (iblk m c 1 t) (k0_pay5 (F := Ideal) (iblk m c 4 t) (iblk m c 5 t) (iblk m c 6 t)) (X0_2 m c t) (iblk m c 8 t) (ix2 b n)
      = raw (argP m c) (argW m c) (argB m c) (argS m c) b h n := by
  unfold scr raw
  refine Finset.sum_congr rfl fun k _ => ?_
  rw [← newS_at m c t h hh b k n, ← q_at m c t b k ⟨h.val * 128 + k.val, by omega⟩ (by simp only []; omega)]
  rfl

theorem pay1_at (z : Vec Ideal S32x256 .f32) (g : Vec Ideal S1x256 .f32) (r : Vec Ideal S32x256 .f32) (b : Fin 32) (n : Fin 256) :
    k0_pay1 (F := Ideal) z (k0_pay125 g) (k0_pay126 z) r (ix2 b n) = gated (fun x => z (ix2 b x)) (g (ix2 0 n)) (r (ix2 b n)) n := by
  unfold gated
  pointwise [k0_pay1, k0_pay125, k0_pay126]

/-- The step's output: every head's new state read by its query, normed and gated. -/
def outG : Vec Ideal S32x1024 .f32 := fun y =>
  gated (raw p w d s (y 0) ⟨(y 1).val / 256, by have := (y 1).isLt; simp only [Nat.div_lt_iff_lt_mul (by decide : 0 < 256)]; exact this⟩)
    (g (ix1 ⟨(y 1).val % 256, Nat.mod_lt _ (by decide)⟩))
    (p (ix3 (y 0) 0 ⟨2064 + (y 1).val, by have : (y 1).val < 1024 := (y 1).isLt; omega⟩)) ⟨(y 1).val % 256, Nat.mod_lt _ (by decide)⟩

/-- The state after the step, as an array. -/
def stateG : Vec Ideal S32x4x128x256 .f32 := fun y => newS p w d s (y 0) (y 1) (y 2) (y 3)

theorem emb10 (G : Vec Ideal S32x4x128x256 .f32) (t : Fin cfg0.N) (ht : t.val < 4) (b : Fin 32) (z : Fin 1) (k : Fin 128) (n : Fin 256) :
    G ((win0_10.blk t).view.emb (ix4 b z k n)) = G (ix4 b ⟨t.val, ht⟩ k n) := by
  blk_ext [idx t]

theorem emb9 (G : Vec Ideal S32x1024 .f32) (t : Fin cfg0.N) (ht : t.val < 4) (b : Fin 32) (n : Fin 256) :
    G ((win0_9.blk t).view.emb (ix2 b n)) = G (ix2 b ⟨t.val * 256 + n.val, by omega⟩) := by
  blk_ext [idx t]

theorem state_pt (c : Dev nD) (t : Fin cfg0.N) (ht : t.val < 4) (b : Fin 32) (z : Fin 1) (k : Fin 128) (n : Fin 256) :
    (outsAt0 m c t).2 (ix4 b z k n) = stateG (argP m c) (argW m c) (argB m c) (argS m c) (ix4 b ⟨t.val, ht⟩ k n) := by
  obtain rfl : z = 0 := Subsingleton.elim _ _
  exact (state_point m c t (ix4 b 0 k n)).trans (newS_at m c t ⟨t.val, ht⟩ rfl b k n)

theorem out_pt (c : Dev nD) (t : Fin cfg0.N) (ht : t.val < 4) (b : Fin 32) (n : Fin 256) :
    (outsAt0 m c t).1 (ix2 b n) = outG (argP m c) (argW m c) (argB m c) (argG m c) (argS m c) (ix2 b ⟨t.val * 256 + n.val, by omega⟩) := by
  refine (out_point m c t (ix2 b n)).trans ?_
  refine (pay1_at _ _ _ b n).trans ?_
  refine (congrFun (congr (congr (congrArg gated (funext fun x => raw_at m c t ⟨t.val, ht⟩ rfl b x)) (gain_at m c t n))
    (r_at m c t b n ⟨2064 + (t.val * 256 + n.val), by omega⟩ (by simp only []; omega))) n).trans ?_
  have hd : (⟨(t.val * 256 + n.val) / 256, by omega⟩ : Fin 4) = ⟨t.val, ht⟩ := Fin.ext (by simp only []; omega)
  have hm : (⟨(t.val * 256 + n.val) % 256, by omega⟩ : Fin 256) = n := Fin.ext (by simp only []; omega)
  show _ = gated (raw _ _ _ _ b ⟨(t.val * 256 + n.val) / 256, _⟩) (argG m c (ix1 ⟨(t.val * 256 + n.val) % 256, _⟩))
    (argP m c (ix3 b 0 ⟨2064 + (t.val * 256 + n.val), _⟩)) ⟨(t.val * 256 + n.val) % 256, _⟩
  rw [hd, hm]

theorem state_arr (c : Dev nD) : (dats m 0 c).arrAt 10 cfg0.N = stateG (argP m c) (argW m c) (argB m c) (argS m c) := by
  refine (dats m 0 c).arrAt_eq_of_covers 10 _ (by decide +kernel) fun t hf y => ?_
  have ht := (idx t).1
  blk_simp
  rw [after0_10]
  have key : ∀ y : S32x1x128x256.Idx, (outsAt0 m c t).2 y
      = stateG (argP m c) (argW m c) (argB m c) (argS m c) ((win0_10.blk t).view.emb y) := by
    intro y
    obtain ⟨b, z, k, n, rfl⟩ : ∃ b z k n, y = ix4 b z k n := ⟨y 0, y 1, y 2, y 3, by funext a; fin_cases a <;> rfl⟩
    exact (state_pt m c t ht b z k n).trans (emb10 _ t ht b z k n).symm
  exact key y

theorem out_arr (c : Dev nD) : (dats m 0 c).arrAt 9 cfg0.N = outG (argP m c) (argW m c) (argB m c) (argG m c) (argS m c) := by
  refine (dats m 0 c).arrAt_eq_of_covers 9 _ (by decide +kernel) fun t hf y => ?_
  have ht := (idx t).1
  blk_simp
  rw [after0_9]
  have key : ∀ y : S32x256.Idx, (outsAt0 m c t).1 y
      = outG (argP m c) (argW m c) (argB m c) (argG m c) (argS m c) ((win0_9.blk t).view.emb y) := by
    intro y
    obtain ⟨b, n, rfl⟩ : ∃ b n, y = ix2 b n := ⟨y 0, y 1, by funext a; fin_cases a <;> rfl⟩
    exact (out_pt m c t ht b n).trans (emb9 _ t ht b n).symm
  exact key y
end Cert.GlaDecode
-- ==== Proof.Scan.lean ====
module

public import Idealize.ShloMosaic.Lib.Pointwise
public import Idealize.ShloMosaic.Lib.Claim

@[expose] public section

set_option maxRecDepth 16384

noncomputable section

namespace Cert.Scan

open Idealize.ShloMosaic

/-- A running sum along an axis of length one is its initial value plus the element. -/
theorem window_one {n0 n1 n2 n3 : ℕ} (x : FVec Ideal ⟨4, ![n0, n1, n2, n3]⟩ .f32) (init : FVec Ideal ⟨0, ![]⟩ .f32) (h) (hu)
    (j : (⟨4, ![n0, n1, n2, n3]⟩ : Shape).Idx) :
    Host.reduceWindowAdd (s := ⟨4, ![n0, n1, n2, n3]⟩) (t := ⟨4, ![n0, n1, n2, n3]⟩) ![1, 1, 1, 1] ![1, 1, 1, 1] ![0, 0, 0, 0] ![0, 0, 0, 0] x init h hu j
      = init (Shape.Idx.first hu) + x j := by
  have hw : (⟨4, ![1, 1, 1, 1]⟩ : Shape).numel = 1 := rfl
  have hr : ∀ (n : Fin (⟨4, ![1, 1, 1, 1]⟩ : Shape).numel) (a : Fin 4), (((⟨4, ![1, 1, 1, 1]⟩ : Shape).rowMajor.symm n) a).val = 0 := by
    intro n a
    have := (((⟨4, ![1, 1, 1, 1]⟩ : Shape).rowMajor.symm n) a).isLt
    fin_cases a <;> simp_all
  show Host.reduceWindow (s := ⟨4, ![n0, n1, n2, n3]⟩) (t := ⟨4, ![n0, n1, n2, n3]⟩) (u := ⟨0, ![]⟩) (fun a b : EReal => a + b) ![1, 1, 1, 1] ![1, 1, 1, 1] ![0, 0, 0, 0] ![0, 0, 0, 0] x (fun _ => init (Shape.Idx.first hu)) h hu j = _
  unfold Host.reduceWindow
  have hl : List.finRange (⟨4, ![1, 1, 1, 1]⟩ : Shape).numel = [⟨0, by decide⟩] := by decide
  show List.foldl _ _ (List.finRange (⟨4, ![1, 1, 1, 1]⟩ : Shape).numel) = _
  rw [hl]
  simp only [List.foldl_cons, List.foldl_nil]
  rw [dif_pos]
  · refine congrArg (fun z => _ + x z) (funext fun a => Fin.ext ?_)
    have h0 := hr ⟨0, by decide⟩ a
    fin_cases a <;> simp_all
  · intro a
    have h0 := hr ⟨0, by decide⟩ a
    have hj := (j a).isLt
    fin_cases a <;> simp_all

/-- The first row of a running sum down two rows is its initial value, twice, plus that row. -/
theorem window_first {n : ℕ} (x : FVec Ideal ⟨2, ![2, n]⟩ .f32) (init : FVec Ideal ⟨0, ![]⟩ .f32) (h) (hu) (j : Fin n) :
    Host.reduceWindowAdd (s := ⟨2, ![2, n]⟩) (t := ⟨2, ![2, n]⟩) ![2, 1] ![1, 1] ![1, 0] ![0, 0] x init h hu (ix2 0 j)
      = init (Shape.Idx.first hu) + init (Shape.Idx.first hu) + x (ix2 0 j) := by
  have h0 : ∀ a : Fin 2, (((⟨2, ![2, 1]⟩ : Shape).rowMajor.symm ⟨0, by decide⟩) a).val = ![0, 0] a := by decide
  have h1 : ∀ a : Fin 2, (((⟨2, ![2, 1]⟩ : Shape).rowMajor.symm ⟨1, by decide⟩) a).val = ![1, 0] a := by decide
  show Host.reduceWindow (s := ⟨2, ![2, n]⟩) (t := ⟨2, ![2, n]⟩) (u := ⟨0, ![]⟩) (fun a b : EReal => a + b) ![2, 1] ![1, 1] ![1, 0] ![0, 0] x
    (fun _ => init (Shape.Idx.first hu)) h hu (ix2 0 j) = _
  unfold Host.reduceWindow
  have hl : List.finRange (⟨2, ![2, 1]⟩ : Shape).numel = [⟨0, by decide⟩, ⟨1, by decide⟩] := by decide
  show List.foldl _ _ (List.finRange (⟨2, ![2, 1]⟩ : Shape).numel) = _
  rw [hl]
  simp only [List.foldl_cons, List.foldl_nil]
  rw [dif_neg, dif_pos]
  · refine congrArg (fun z => _ + x z) (funext fun a => Fin.ext ?_)
    have := h1 a
    fin_cases a <;> simp_all
  · intro a
    have := h1 a
    have hj := j.isLt
    fin_cases a <;> simp_all
  · intro ha
    have := (ha 0).1
    have h := h0 0
    simp_all

end Cert.Scan
-- ==== Proof.GlaRef.lean ====
module

public import proofs.«01_k».proof.Proof.Gen.ReferenceIdeal.Run
public import proofs.«01_k».proof.Proof.Gen.ReferenceIdeal.Read
public import proofs.«01_k».proof.Proof.GlaArr
public import proofs.«01_k».proof.Proof.Scan
public import proofs.«01_k».proof.Proof.Scalar

@[expose] public section

set_option maxRecDepth 16384

noncomputable section

namespace Cert.GlaDecode

open Cert.ReferenceIdeal Cert.ReferenceIdeal.Gen Cert.ReferenceIdeal.Read Idealize.ShloMosaic Idealize.ShloMosaic.TcCoe Idealize.SL.Sem

variable (p : Vec Ideal S32x1x3088 .f32) (w : Vec Ideal S16x512 .f32) (d : Vec Ideal S512 .f32) (g : Vec Ideal S256 .f32)
variable (s : Vec Ideal S32x4x128x256 .f32)

theorem ref_gate (b : Fin 32) (z : Fin 1) (j : Fin 512) : val_main_v14 (F := Ideal) p w d (ix3 b z j) = gate p w d b j := by
  unfold gate
  pointwise [val_main_v14, val_main_v11, val_main_v8, val_main_v13, val_main_v12]

theorem ref_log (b : Fin 32) (z : Fin 1) (h : Fin 4) (k : Fin 128) :
    val_main_v18 (F := Ideal) p w d (ix4 b z h k) = Scalar.logsig (gate p w d b (chan h k)) * Ideal.ofBits .f32 0x3D800000#32 := by
  pointwise [val_main_v18, val_main_v17, val_main_v16, val_main_v15, val_main_call0_v1, val_main_call0_call0_v11, val_main_call0_call0_v10,
    val_main_call0_call0_v9, val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_v0, val_main_call0_call0_cst,
    val_main_cst_0, ref_gate]
  rw [if_neg (by simp)]
  exact Scalar.logsig_eq _

theorem ref_q (b : Fin 32) (z : Fin 1) (h : Fin 4) (k : Fin 128) :
    val_main_v3 (F := Ideal) p (ix4 b z h k) = p (ix3 b 0 ⟨h.val * 128 + k.val, by omega⟩) * Ideal.ofBits .f32 0x3DB504F3#32 := by
  pointwise [val_main_v3, val_main_v2, val_main_v1, val_main_v0, val_main_cst]

theorem ref_k (b : Fin 32) (z : Fin 1) (h : Fin 4) (k : Fin 128) :
    val_main_v5 (F := Ideal) p (ix4 b z h k) = p (ix3 b 0 ⟨512 + h.val * 128 + k.val, by omega⟩) := by
  pointwise [val_main_v5, val_main_v4]
  simp only [Nat.add_assoc]

theorem ref_v (b : Fin 32) (z : Fin 1) (h : Fin 4) (n : Fin 256) :
    val_main_v7 (F := Ideal) p (ix4 b z h n) = p (ix3 b 0 ⟨1024 + h.val * 256 + n.val, by omega⟩) := by
  pointwise [val_main_v7, val_main_v6]
  simp only [Nat.add_assoc]

theorem ref_r (b : Fin 32) (z : Fin 1) (h : Fin 4) (n : Fin 256) :
    val_main_v10 (F := Ideal) p (ix4 b z h n) = p (ix3 b 0 ⟨2064 + (h.val * 256 + n.val), by omega⟩) := by
  pointwise [val_main_v10, val_main_v9]

/-- The logarithm of a channel's decay. -/
def logdec (b : Fin 32) (h : Fin 4) (k : Fin 128) : EReal := Scalar.logsig (gate p w d b (chan h k)) * Ideal.ofBits .f32 0x3D800000#32

theorem ref_cum (b : Fin 32) (z : Fin 1) (h : Fin 4) (k : Fin 128) :
    val_main_v22 (F := Ideal) p w d (ix4 b z h k) = logdec p w d b h k := by
  unfold val_main_v22 logdec
  refine (Cert.Scan.window_one _ _ _ _ _).trans ?_
  rw [ref_log]
  pointwise [val_main_call2_call0_v0, val_main_call2_call0_cst]

theorem ref_dec (b : Fin 32) (x y : Fin 1) (h : Fin 4) (k : Fin 128) :
    val_main_v27 (F := Ideal) p w d (ix5 b x y h k) = Ideal.exp (logdec p w d b h k - logdec p w d b h k) := by
  pointwise [val_main_v27, val_main_v26, val_main_v25, val_main_v24, val_main_v23, val_main_v21, val_main_v20, val_main_v19, val_main_c, val_main_call3_v0,
    val_main_call3_v1, val_main_call3_v2, val_main_cst_1, val_main_call1_v0, val_main_call1_v1, val_main_call1_v2, val_main_call1_v3, val_main_call1_v4,
    val_main_call1_v5, val_main_call1_c, val_main_call1_c_0, ref_cum]
  rw [show IntOp.cmpi CmpIPredicate.sge (IntOp.addi 0#32 0#32) 0#32 = 1#1 by decide]
  rfl

/-- The arguments the claim is about: no infinity among those the recurrence multiplies by. -/
structure Reals (p : Vec Ideal S32x1x3088 .f32) (w : Vec Ideal S16x512 .f32) (d : Vec Ideal S512 .f32) : Prop where
  p : ∀ (b : Fin 32) (i : Fin 3088), i.val < 2064 → Scalar.IsReal (p (ix3 b 0 i))
  w : ∀ i, Scalar.IsReal (w i)
  d : ∀ i, Scalar.IsReal (d i)

variable {p w d s}

theorem Reals.logdec (r : Reals p w d) (b : Fin 32) (h : Fin 4) (k : Fin 128) : Scalar.IsReal (logdec p w d b h k) :=
  (((Scalar.IsReal.sum _ fun _ => (r.p _ _ (by simp only []; omega)).mul (r.w _)).add (r.d _)).logsig).mul ⟨_, Scalar.sixteenth_lit⟩

theorem decay_eq (b : Fin 32) (h : Fin 4) (k : Fin 128) : Ideal.exp (logdec p w d b h k) = decay p w d b (chan h k) := rfl

theorem ref_state (r : Reals p w d) (b : Fin 32) (h : Fin 4) (k : Fin 128) (n : Fin 256) :
    val_main_v51 (F := Ideal) p w d s (ix4 b h k n) = newS p w d s b h k n := by
  pointwise [val_main_v51, val_main_v50, val_main_v49, val_main_v48, val_main_v47, val_main_v46, val_main_v45, val_main_v44, val_main_v43, val_main_v42,
    val_main_v41, ref_cum, ref_k, ref_v]
  rw [(r.logdec b h k).exp_sub_self, mul_one, decay_eq]
  simp [newS]

theorem ref_a (r : Reals p w d) (b : Fin 32) (h : Fin 4) (x y : Fin 1) :
    val_main_v33 (F := Ideal) p w d (ix4 b h x y) = ∑ k : Fin 128, p (ix3 b 0 ⟨h.val * 128 + k.val, by omega⟩) * Ideal.ofBits .f32 0x3DB504F3#32
      * p (ix3 b 0 ⟨512 + h.val * 128 + k.val, by omega⟩) := by
  pointwise [val_main_v33, val_main_v32, val_main_v31, val_main_v30, val_main_v29, val_main_v28, val_main_cst_2, ref_dec, ref_q, ref_k]
  exact Finset.sum_congr rfl fun k _ => by rw [(r.logdec b h k).exp_sub_self, mul_one]

theorem ref_raw (r : Reals p w d) (b : Fin 32) (z : Fin 1) (h : Fin 4) (n : Fin 256) :
    val_main_v40 (F := Ideal) p w d s (ix4 b z h n) = raw p w d s b h n := by
  pointwise [val_main_v40, val_main_v39, val_main_v38, val_main_v37, val_main_v36, val_main_v35, val_main_v34, ref_cum, ref_q, ref_v]
  simp only [Fin.sum_univ_one, Finset.univ_unique, Finset.sum_singleton, decay_eq]
  rw [ref_a r]
  unfold raw newS
  exact (Scalar.read_sum _ _ _ _ _ (fun k => (r.p _ _ (by simp only []; omega)).mul Scalar.scale_real) (fun k => r.p _ _ (by simp only []; omega))
    (r.p _ _ (by simp only []; omega))).symm

theorem ref_out (r : Reals p w d) (b : Fin 32) (z : Fin 1) (h : Fin 4) (n : Fin 256) :
    val_main_v66 (F := Ideal) p w d g s (ix4 b z h n)
      = gated (raw p w d s b h) (g (ix1 n)) (p (ix3 b 0 ⟨2064 + (h.val * 256 + n.val), by omega⟩)) n := by
  pointwise [val_main_v66, val_main_v65, val_main_v64, val_main_v63, val_main_v62, val_main_v61, val_main_v60, val_main_v59, val_main_v58, val_main_v57,
    val_main_v56, val_main_v55, val_main_v54, val_main_v53, val_main_v52, val_main_cst_3, val_main_cst_4, val_main_cst_5, val_main_call4_v0,
    val_main_call4_v1, val_main_call4_v2, val_main_call4_v3, val_main_call4_v4, val_main_call4_v5, val_main_call4_cst, val_main_call4_cst_0, ref_r]
  simp only [ref_raw r]
  unfold gated
  rw [Scalar.sigmoid_eq]
  rfl

theorem ref_stateG (r : Reals p w d) : val_main_v51 (F := Ideal) p w d s = stateG p w d s := by
  funext y
  obtain ⟨b, h, k, n, rfl⟩ : ∃ b h k n, y = ix4 b h k n := ⟨y 0, y 1, y 2, y 3, by funext a; fin_cases a <;> rfl⟩
  exact ref_state r b h k n

theorem ref_outG (r : Reals p w d) : val_main_v67 (F := Ideal) p w d g s = outG p w d g s := by
  funext y
  obtain ⟨b, j, rfl⟩ : ∃ b j, y = ix2 b j := ⟨y 0, y 1, by funext a; fin_cases a <;> rfl⟩
  pointwise [val_main_v67]
  rw [ref_out g r]
  have hj : (⟨2064 + (j.val / 256 * 256 + j.val % 256), by omega⟩ : Fin 3088) = ⟨2064 + j.val, by omega⟩ := Fin.ext (by simp only []; omega)
  rw [hj]
  rfl
end Cert.GlaDecode
-- ==== Proof.Finite.lean ====
module

public import Idealize.ShloMosaic.Lib.Pointwise
public import Idealize.ShloMosaic.Lib.ReduceAll
public import proofs.«01_k».proof.Proof.Scalar

@[expose] public section

/-! What a precondition of the form `all(|x| < inf)` says: every element is a real number. -/

namespace Cert.Scalar

open Idealize.ShloMosaic

theorem inf_lit : Ideal.ofBits .f32 0x7F800000#32 = ⊤ := by simp [Ideal.ofBits, Ideal.ieee]

theorem isReal_of_lt {x : EReal} (h : Ideal.cmp .olt (max x (-x)) ⊤ = 1#1) : IsReal x := by
  have h' : max x (-x) < ⊤ := by
    by_contra hn
    have : Ideal.cmp .olt (max x (-x)) ⊤ = 0#1 := by simp [Ideal.cmp, hn]
    rw [this] at h
    exact absurd h (by decide)
  induction x with
  | bot => simp at h'
  | coe r => exact ⟨r, rfl⟩
  | top => simp at h'

/-- `jnp.all(jnp.abs(x) < jnp.inf)` read at one index. -/
theorem isReal_of_all {s t u v : Shape} {axes : List (Fin s.rank)} [Subsingleton t.Idx] (x : FVec Ideal s .f32)
    (dims : Fin v.rank → Fin s.rank) (hb : v.BroadcastsInDim s dims) (init : IVec u 1) (h : s.ReducesTo axes t) (hu : 0 < u.numel) (j : t.Idx)
    (e : Host.reduce IntOp.andi (cmpf .olt (Host.absf x) (broadcastInDim s dims hb (constant v .f32 0x7F800000#32))) init h hu j = 1#1) (i : s.Idx) :
    IsReal (x i) := by
  have := Host.reduce_andi_all _ init h hu j e i
  exact isReal_of_lt (by rw [← inf_lit]; exact this)

theorem and_one {a b : BitVec 1} (h : IntOp.andi a b = 1#1) : a = 1#1 ∧ b = 1#1 := by
  revert h; revert a b; decide

end Cert.Scalar
-- ==== Proof.GlaClaim.lean ====
module

public import proofs.«01_k».proof.Defs
public import proofs.«01_k».proof.Proof.Gen.Pre_gla_finite
public import proofs.«01_k».proof.Proof.Gen.KernelIdeal.Frame
public import proofs.«01_k».proof.Proof.Gen.ReferenceIdeal
public import proofs.«01_k».proof.Proof.GlaRef
public import proofs.«01_k».proof.Proof.Finite
public import Idealize.ShloMosaic.Lib.Claim

@[expose] public section

set_option maxRecDepth 16384

noncomputable section

namespace Cert.GlaDecode

open Idealize.ShloMosaic Idealize.ShloMosaic.TcCoe Idealize.SL.Sem

variable (m : (ℓ : Loc Cert.KernelIdeal.nD Cert.KernelIdeal.τ Cert.KernelIdeal.sig) → Buf (Elt Ideal) ℓ)

instance : Subsingleton Cert.Pre_gla_finite.S_.Idx := ⟨fun a b => funext fun i => i.elim0⟩

/-- What the precondition says of the arguments. -/
theorem reals (hpre : Cert.Pre_KernelIdeal_gla_finite m) (c : Dev Cert.KernelIdeal.nD) : Reals (argP m c) (argW m c) (argB m c) := by
  have h0 := congrFun (hpre c) (fun i => i.elim0)
  obtain ⟨h1, hd⟩ := Scalar.and_one h0
  obtain ⟨hp, hw⟩ := Scalar.and_one h1
  refine ⟨fun b i hi => ?_, fun i => ?_, fun i => ?_⟩
  · have := Scalar.isReal_of_all _ _ _ _ _ _ _ hp (ix3 b 0 ⟨i.val, hi⟩)
    refine cast (congrArg Scalar.IsReal ?_) this
    pointwise []
  · exact Scalar.isReal_of_all _ _ _ _ _ _ _ hw i
  · exact Scalar.isReal_of_all _ _ _ _ _ _ _ hd i

theorem algebraic : Cert.algebraic_KernelIdeal_ReferenceIdeal_pre_gla_finite := by
  pair_intro
  · run_from Cert.KernelIdeal.Gen.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
  · run_from Cert.ReferenceIdeal.Value.run m' g'
    · rw [Cert.ReferenceIdeal.Read.val_main_v67_eq, (hagree c).1, (hagree c).2.1, (hagree c).2.2.1, (hagree c).2.2.2.1, (hagree c).2.2.2.2]
      exact (ref_outG _ (reals m hpre c)).trans (out_arr m c).symm
    · rw [Cert.ReferenceIdeal.Read.val_main_v51_eq, (hagree c).1, (hagree c).2.1, (hagree c).2.2.1, (hagree c).2.2.2.2]
      exact (ref_stateG (reals m hpre c)).trans (state_arr m c).symm

end Cert.GlaDecode
-- ==== Proof.FfnBlock.lean ====
module

public import proofs.«01_k».proof.Proof.Gen.Kernel2Ideal.Value
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.OutFfn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- What the first tile of a block of rows leaves in the scratches: the stream after the mixer, its norm, and the first tile's part of the network. -/
theorem first_point (c : Dev nD) (t : Fin cfg0.N) (h0 : t.val % 2 = 0) :
    (outsAt0 m c t.val t.isLt).2
      = (k0_pay2 (F := Ideal) (iblk m c 1 t) (iblk m c 0 t) (iblk m c 2 t),
          k0_pay3 (F := Ideal) (iblk m c 1 t) (iblk m c 0 t) (iblk m c 2 t) (iblk m c 3 t),
          k0_pay5 (F := Ideal) (k0_pay3 (F := Ideal) (iblk m c 1 t) (iblk m c 0 t) (iblk m c 2 t) (iblk m c 3 t)) (iblk m c 4 t)
            (k0_pay4 (F := Ideal)) (iblk m c 5 t)) := by
  rw [outsAt0_A m c t h0 (by omega)]
  refine Prod.ext ?_ (Prod.ext ?_ ?_)
  · frame_out
  · frame_out
  · frame_out

/-- What the last tile writes out: the stream after the network, normed. -/
theorem last_point (c : Dev nD) (t : Fin cfg0.N) (h0 : t.val % 2 = 1) (hp : t.val - 1 < cfg0.N) :
    (outsAt0 m c t.val t.isLt).1
      = (fun r => k0_pay6 (F := Ideal) r.1 (k0_pay5 (F := Ideal) r.2.1 (iblk m c 4 t) r.2.2 (iblk m c 5 t)) (iblk m c 6 t))
          (outsAt0 m c (t.val - 1) hp).2 := by
  rw [outsAt0_B m c t (by omega) h0]
  generalize (outsAt0 m c (t.val - 1) _).2 = r
  frame_out
  simp only [read_unread_whole]

end Cert.OutFfn
-- ==== Proof.FfnRead.lean ====
module

public import proofs.«01_k».proof.Proof.Gen.Kernel2Ideal.Value
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.OutFfn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The mixer's rows. -/
abbrev argO (c : Dev nD) : Vec Ideal S16x2048x1024 .bf16 := m ((c : Thread nD τ).loc main_arg0)
/-- The stream. -/
abbrev argX (c : Dev nD) : Vec Ideal S16x2048x1024 .f32 := m ((c : Thread nD τ).loc main_arg1)
/-- The output projection. -/
abbrev argW (c : Dev nD) : Vec Ideal S1024x1024 .f32 := m ((c : Thread nD τ).loc main_arg2)
/-- The gain of the network's norm. -/
abbrev argG (c : Dev nD) : Vec Ideal S1024 .f32 := m ((c : Thread nD τ).loc main_arg3)
/-- The network's first factors. -/
abbrev argU (c : Dev nD) : Vec Ideal S1024x5632 .f32 := m ((c : Thread nD τ).loc main_arg4)
/-- The network's second factor. -/
abbrev argD (c : Dev nD) : Vec Ideal S2816x1024 .f32 := m ((c : Thread nD τ).loc main_arg5)
/-- The gain of the closing norm. -/
abbrev argF (c : Dev nD) : Vec Ideal S1024 .f32 := m ((c : Thread nD τ).loc main_arg6)

/-- The block every window reads or writes at a grid point. -/
theorem idx : ∀ t : Fin cfg0.N, t.val < 2 * 64 ∧ win0_0.index t = ![t.val / 2, 0] ∧ win0_1.index t = ![t.val / 2, 0] ∧ win0_2.index t = ![0, 0]
    ∧ win0_3.index t = ![0, 0] ∧ win0_4.index t = ![0, t.val % 2] ∧ win0_5.index t = ![t.val % 2, 0] ∧ win0_6.index t = ![0, 0]
    ∧ win0_7.index t = ![t.val / 2, 0] :=
  (by decide +kernel : ∀ t : Fin grid0.N, _)

/-- Two runs of columns put side by side in every tile. -/
def cat2 (a b : Vec Ideal S1024x2x1408 .f32) : Vec Ideal S1024x2x2816 .f32 :=
  concatenate S1024x2x2816 2 [⟨S1024x2x1408, a⟩, ⟨S1024x2x1408, b⟩] concatenates_S1024x2x1408_S1024x2x1408_S1024x2x2816_d2

/-- The network's first factors in the kernel's order: each tile's gates, then its values. -/
def tiled (u : Vec Ideal S1024x5632 .f32) : Vec Ideal S1024x5632 .f32 :=
  shapeCast S1024x5632
    (cat2 (shapeCast S1024x2x1408 (extractStridedSlice S1024x2816 ![0, 0] u slices_S1024x5632_S1024x2816_0_0) shapeCasts_S1024x2816_S1024x2x1408)
      (shapeCast S1024x2x1408 (extractStridedSlice S1024x2816 ![0, 2816] u slices_S1024x5632_S1024x2816_0_2816) shapeCasts_S1024x2816_S1024x2x1408))
    shapeCasts_S1024x2x2816_S1024x5632

theorem V_v7 (c : Dev nD) : V m c main_v7 = cat2 (V m c main_v4) (V m c main_v6) := by
  simp only [V, hostOps0, List.flatten_cons, List.flatten_nil, List.append_nil, List.cons_append, List.nil_append]
  after_reads_simp
  show cat2 _ _ = cat2 _ _
  refine congr (congrArg cat2 ?_) ?_
  · show StableHlo.upto _ _ _ (Proc.tc.devRef main_v4) = _
    after_reads_simp
  · show StableHlo.upto _ _ _ (Proc.tc.devRef main_v6) = _
    after_reads_simp

theorem V_tiled (c : Dev nD) : V m c main_v9 = truncf (F := Ideal) .bf16 (tiled (argU m c)) bitsLt_bf16_f32 := by
  have h9 : V m c main_v9 = truncf (F := Ideal) .bf16 (shapeCast S1024x5632 (V m c main_v7) shapeCasts_S1024x2x2816_S1024x5632) bitsLt_bf16_f32 := by
    simp only [V, hostOps0, List.flatten_cons, List.flatten_nil, List.append_nil, List.cons_append, List.nil_append]
    after_reads_simp
    rfl
  have h4 : V m c main_v4 = shapeCast S1024x2x1408 (extractStridedSlice S1024x2816 ![0, 0] (argU m c) slices_S1024x5632_S1024x2816_0_0)
      shapeCasts_S1024x2816_S1024x2x1408 := by
    entry_read; rfl
  have h6 : V m c main_v6 = shapeCast S1024x2x1408 (extractStridedSlice S1024x2816 ![0, 2816] (argU m c) slices_S1024x5632_S1024x2816_0_2816)
      shapeCasts_S1024x2816_S1024x2x1408 := by
    entry_read; rfl
  rw [h9, V_v7, h4, h6]
  rfl

theorem V_mix (c : Dev nD) : V m c main_v0 = shapeCast S32768x1024 (argO m c) shapeCasts_S16x2048x1024_S32768x1024 := by
  entry_read; rfl

theorem V_str (c : Dev nD) : V m c main_v1 = shapeCast S32768x1024 (argX m c) shapeCasts_S16x2048x1024_S32768x1024 := by
  entry_read; rfl

theorem V_w (c : Dev nD) : V m c main_v2 = truncf (F := Ideal) .bf16 (argW m c) bitsLt_bf16_f32 := by
  entry_read; rfl

theorem V_d (c : Dev nD) : V m c main_v10 = truncf (F := Ideal) .bf16 (argD m c) bitsLt_bf16_f32 := by
  entry_read; rfl

theorem V_g (c : Dev nD) : V m c main_v11 = shapeCast S1x1024 (argG m c) shapeCasts_S1024_S1x1024 := by
  entry_read; rfl

theorem V_f (c : Dev nD) : V m c main_v12 = shapeCast S1x1024 (argF m c) shapeCasts_S1024_S1x1024 := by
  entry_read; rfl

theorem tiled_gate (u : Vec Ideal S1024x5632 .f32) (k : Fin 1024) (s : Fin 2) (a : Fin 1408) :
    tiled u (ix2 k ⟨s.val * 2816 + a.val, by omega⟩) = u (ix2 k ⟨s.val * 1408 + a.val, by omega⟩) := by
  pointwise [tiled, cat2]
  rw [dif_pos (by omega)]
  exact congrArg (fun x => u (ix2 k x)) (Fin.ext (by simp only []; omega))

theorem tiled_value (u : Vec Ideal S1024x5632 .f32) (k : Fin 1024) (s : Fin 2) (a : Fin 1408) :
    tiled u (ix2 k ⟨s.val * 2816 + (1408 + a.val), by omega⟩) = u (ix2 k ⟨2816 + (s.val * 1408 + a.val), by omega⟩) := by
  pointwise [tiled, cat2]
  rw [dif_neg (by omega)]
  exact congrArg (fun x => u (ix2 k x)) (Fin.ext (by simp only []; omega))

/-- A row of the stream. -/
def rowX (c : Dev nD) (n : Fin 32768) (j : Fin 1024) : EReal := (shapeCast S32768x1024 (argX m c) shapeCasts_S16x2048x1024_S32768x1024) (ix2 n j)
/-- A row of the mixer. -/
def rowO (c : Dev nD) (n : Fin 32768) (j : Fin 1024) : EReal := (shapeCast S32768x1024 (argO m c) shapeCasts_S16x2048x1024_S32768x1024) (ix2 n j)

theorem o_at (c : Dev nD) (t : Fin cfg0.N) (b : Fin 512) (j : Fin 1024) (n : Fin 32768) (hn : n.val = t.val / 2 * 512 + b.val) :
    (show Vec Ideal S512x1024 .bf16 from iblk m c 0 t) (ix2 b j) = rowO m c n j := by
  refine Eq.trans ?_ (congrFun (V_mix m c) (ix2 n j))
  blk_ext [iblk, idx t]

theorem x_at (c : Dev nD) (t : Fin cfg0.N) (b : Fin 512) (j : Fin 1024) (n : Fin 32768) (hn : n.val = t.val / 2 * 512 + b.val) :
    (show Vec Ideal S512x1024 .f32 from iblk m c 1 t) (ix2 b j) = rowX m c n j := by
  refine Eq.trans ?_ (congrFun (V_str m c) (ix2 n j))
  blk_ext [iblk, idx t]

theorem w_at (c : Dev nD) (t : Fin cfg0.N) (k j : Fin 1024) :
    (show Vec Ideal S1024x1024 .bf16 from iblk m c 2 t) (ix2 k j) = argW m c (ix2 k j) := by
  refine Eq.trans ?_ (congrFun (V_w m c) (ix2 k j))
  blk_ext [iblk, idx t]

theorem g_at (c : Dev nD) (t : Fin cfg0.N) (j : Fin 1024) :
    (show Vec Ideal S1x1024 .f32 from iblk m c 3 t) (ix2 0 j) = argG m c (ix1 j) := by
  refine Eq.trans ?_ ((congrFun (V_g m c) (ix2 0 j)).trans (by pointwise))
  blk_ext [iblk, idx t]

theorem f_at (c : Dev nD) (t : Fin cfg0.N) (j : Fin 1024) :
    (show Vec Ideal S1x1024 .f32 from iblk m c 6 t) (ix2 0 j) = argF m c (ix1 j) := by
  refine Eq.trans ?_ ((congrFun (V_f m c) (ix2 0 j)).trans (by pointwise))
  blk_ext [iblk, idx t]

theorem gate_at (c : Dev nD) (t : Fin cfg0.N) (s : Fin 2) (hs : s.val = t.val % 2) (k : Fin 1024) (a : Fin 1408) :
    (show Vec Ideal S1024x2816 .bf16 from iblk m c 4 t) (ix2 k ⟨a.val, by omega⟩) = argU m c (ix2 k ⟨s.val * 1408 + a.val, by omega⟩) := by
  refine Eq.trans ?_ ((congrFun (V_tiled m c) (ix2 k ⟨s.val * 2816 + a.val, by omega⟩)).trans (tiled_gate _ k s a))
  blk_ext [iblk, idx t]

theorem value_at (c : Dev nD) (t : Fin cfg0.N) (s : Fin 2) (hs : s.val = t.val % 2) (k : Fin 1024) (a : Fin 1408) :
    (show Vec Ideal S1024x2816 .bf16 from iblk m c 4 t) (ix2 k ⟨1408 + a.val, by omega⟩) = argU m c (ix2 k ⟨2816 + (s.val * 1408 + a.val), by omega⟩) := by
  refine Eq.trans ?_ ((congrFun (V_tiled m c) (ix2 k ⟨s.val * 2816 + (1408 + a.val), by omega⟩)).trans (tiled_value _ k s a))
  blk_ext [iblk, idx t]

theorem d_at (c : Dev nD) (t : Fin cfg0.N) (s : Fin 2) (hs : s.val = t.val % 2) (a : Fin 1408) (j : Fin 1024) :
    (show Vec Ideal S1408x1024 .bf16 from iblk m c 5 t) (ix2 a j) = argD m c (ix2 ⟨s.val * 1408 + a.val, by omega⟩ j) := by
  refine Eq.trans ?_ (congrFun (V_d m c) (ix2 ⟨s.val * 1408 + a.val, by omega⟩ j))
  blk_ext [iblk, idx t]

end Cert.OutFfn
-- ==== Proof.Rows.lean ====
module

public import proofs.«01_k».proof.Proof.Scalar

@[expose] public section

noncomputable section

namespace Cert.Rows

open Idealize.ShloMosaic

/-- A row normed by its root mean square and scaled by the gain. -/
def norm (x g : Fin 1024 → EReal) (j : Fin 1024) : EReal :=
  x j * Ideal.rsqrt (Ideal.div (∑ k, x k * x k) (Ideal.ofBits .f32 0x44800000#32) + Ideal.ofBits .f32 0x358637BD#32) * g j

/-- A normed row against a column of weights. -/
def dot (x g w : Fin 1024 → EReal) : EReal := ∑ k, norm x g k * w k

theorem dot_zero (x g : Fin 1024 → EReal) : dot x g (fun _ => 0) = 0 := by
  simp [dot]

theorem intZero : (((0#32 : BitVec 32).toInt : ℝ) : EReal) = 0 := by
  simp

/-- A row of the stream after the mixer's output projection. -/
def mixed (r o : Fin 1024 → EReal) (w : Fin 1024 → Fin 1024 → EReal) (j : Fin 1024) : EReal := r j + ∑ k, o k * w k j

/-- The same with the mixer's row in two halves, each against its own rows of the weights. -/
def mixed2 (r : Fin 1024 → EReal) (a b : Fin 512 → EReal) (w : Fin 1024 → Fin 1024 → EReal) (j : Fin 1024) : EReal :=
  r j + (∑ k : Fin 512, a k * w ⟨k.val, by omega⟩ j) + ∑ k : Fin 512, b k * w ⟨512 + k.val, by omega⟩ j

theorem mixed_halves (r o : Fin 1024 → EReal) (w : Fin 1024 → Fin 1024 → EReal) (j : Fin 1024) :
    mixed r o w j = mixed2 r (fun k => o ⟨k.val, by omega⟩) (fun k => o ⟨512 + k.val, by omega⟩) w j := by
  unfold mixed mixed2
  rw [add_assoc]
  exact congrArg (r j + ·) (Fin.sum_univ_add (a := 512) (b := 512) (fun k : Fin (512 + 512) => o k * w k j))

/-- The network's gated unit. -/
def unit (u v : EReal) : EReal := u * Ideal.logistic u * v

theorem unit_eq (u v : EReal) :
    u * (Ideal.ofBits .f32 0x3F000000#32 * Ideal.tanh (Ideal.ofBits .f32 0x3F000000#32 * u) + Ideal.ofBits .f32 0x3F000000#32) * v = unit u v := by
  rw [Scalar.sigmoid_eq]; rfl

/-- The units `o … o + 1407` of the network at a row. -/
def tile (h : Fin 1024 → EReal) (w13 : Fin 1024 → Fin 5632 → EReal) (w2 : Fin 2816 → Fin 1024 → EReal) (o : ℕ) (ho : o ≤ 1408) (j : Fin 1024) : EReal :=
  ∑ a : Fin 1408, unit (∑ k, h k * w13 k ⟨o + a.val, by omega⟩) (∑ k, h k * w13 k ⟨2816 + (o + a.val), by omega⟩) * w2 ⟨o + a.val, by omega⟩ j

/-- The network at a row. -/
def net (h : Fin 1024 → EReal) (w13 : Fin 1024 → Fin 5632 → EReal) (w2 : Fin 2816 → Fin 1024 → EReal) (j : Fin 1024) : EReal :=
  ∑ a : Fin 2816, unit (∑ k, h k * w13 k ⟨a.val, by omega⟩) (∑ k, h k * w13 k ⟨2816 + a.val, by omega⟩) * w2 a j

/-- The network's units taken in two tiles. -/
theorem net_tiles (h : Fin 1024 → EReal) (w13 : Fin 1024 → Fin 5632 → EReal) (w2 : Fin 2816 → Fin 1024 → EReal) (j : Fin 1024) :
    0 + tile h w13 w2 0 (by omega) j + tile h w13 w2 1408 (by omega) j = net h w13 w2 j := by
  unfold net tile
  rw [zero_add]
  refine ((Fin.sum_univ_add (a := 1408) (b := 1408) (fun a : Fin (1408 + 1408) => unit (∑ k, h k * w13 k ⟨a.val, by omega⟩)
    (∑ k, h k * w13 k ⟨2816 + a.val, by omega⟩) * w2 a j)).trans ?_).symm
  refine congr (congrArg _ (Finset.sum_congr rfl fun a _ => ?_)) (Finset.sum_congr rfl fun a _ => ?_)
  · have e : (Fin.castAdd 1408 a : Fin 2816) = ⟨0 + a.val, by omega⟩ := Fin.ext (by simp)
    rw [e]
  · have e : (Fin.natAdd 1408 a : Fin 2816) = ⟨1408 + a.val, by omega⟩ := Fin.ext (by simp [Nat.add_comm])
    rw [e]

/-- A row through the layer's second half: the mixer's output added to the stream, then the network, then the closing norm. -/
def layer (r o : Fin 1024 → EReal) (w : Fin 1024 → Fin 1024 → EReal) (g : Fin 1024 → EReal) (w13 : Fin 1024 → Fin 5632 → EReal)
    (w2 : Fin 2816 → Fin 1024 → EReal) (gf : Fin 1024 → EReal) : Fin 1024 → EReal :=
  norm (fun j => mixed r o w j + net (norm (mixed r o w) g) w13 w2 j) gf

end Cert.Rows
-- ==== Proof.FfnArr.lean ====
module

public import proofs.«01_k».proof.Proof.FfnBlock
public import proofs.«01_k».proof.Proof.FfnRead
public import proofs.«01_k».proof.Proof.Rows

@[expose] public section

set_option maxRecDepth 16384

noncomputable section

namespace Cert.OutFfn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem pay1_at (x : Vec Ideal S512x1024 .f32) (o : Vec Ideal S512x1024 .bf16) (w : Vec Ideal S1024x1024 .bf16) (b : Fin 512) (j : Fin 1024) :
    k0_pay1 (F := Ideal) x o w (ix2 b j) = Rows.mixed (fun j => x (ix2 b j)) (fun k => o (ix2 b k)) (fun k j => w (ix2 k j)) j := by
  unfold Rows.mixed
  pointwise [k0_pay1]

theorem pay2_at (x : Vec Ideal S512x1024 .f32) (o : Vec Ideal S512x1024 .bf16) (w : Vec Ideal S1024x1024 .bf16) (b : Fin 512) (j : Fin 1024) :
    k0_pay2 (F := Ideal) x o w (ix2 b j) = Rows.mixed (fun j => x (ix2 b j)) (fun k => o (ix2 b k)) (fun k j => w (ix2 k j)) j := by
  pointwise [k0_pay2, pay1_at]

theorem pay3_at (x : Vec Ideal S512x1024 .f32) (o : Vec Ideal S512x1024 .bf16) (w : Vec Ideal S1024x1024 .bf16) (g : Vec Ideal S1x1024 .f32) (b : Fin 512)
    (j : Fin 1024) :
    k0_pay3 (F := Ideal) x o w g (ix2 b j)
      = Rows.norm (Rows.mixed (fun j => x (ix2 b j)) (fun k => o (ix2 b k)) (fun k j => w (ix2 k j))) (fun j => g (ix2 0 j)) j := by
  unfold Rows.norm
  pointwise [k0_pay3, pay1_at]

theorem pay5_at (h : Vec Ideal S512x1024 .bf16) (u : Vec Ideal S1024x2816 .bf16) (a : Vec Ideal S512x1024 .f32) (d : Vec Ideal S1408x1024 .bf16)
    (b : Fin 512) (j : Fin 1024) :
    k0_pay5 (F := Ideal) h u a d (ix2 b j)
      = a (ix2 b j) + ∑ i : Fin 1408, Rows.unit (∑ k, h (ix2 b k) * u (ix2 k ⟨i.val, by omega⟩)) (∑ k, h (ix2 b k) * u (ix2 k ⟨1408 + i.val, by omega⟩))
          * d (ix2 i j) := by
  simp only [← Rows.unit_eq]
  pointwise [k0_pay5]

theorem pay6_at (x a : Vec Ideal S512x1024 .f32) (g : Vec Ideal S1x1024 .f32) (b : Fin 512) (j : Fin 1024) :
    k0_pay6 (F := Ideal) x a g (ix2 b j) = Rows.norm (fun j => x (ix2 b j) + a (ix2 b j)) (fun j => g (ix2 0 j)) j := by
  unfold Rows.norm
  pointwise [k0_pay6]

theorem pay4_at (b : Fin 512) (j : Fin 1024) : k0_pay4 (F := Ideal) (ix2 b j) = 0 := by
  pointwise [k0_pay4]

/-- The stream's row after the mixer. -/
def mid (c : Dev nD) (n : Fin 32768) : Fin 1024 → EReal := Rows.mixed (rowX m c n) (rowO m c n) (fun k j => argW m c (ix2 k j))

/-- The row the network reads. -/
def hid (c : Dev nD) (n : Fin 32768) : Fin 1024 → EReal := Rows.norm (mid m c n) (fun j => argG m c (ix1 j))

theorem mid_at (c : Dev nD) (t : Fin cfg0.N) (b : Fin 512) (n : Fin 32768) (hn : n.val = t.val / 2 * 512 + b.val) :
    Rows.mixed (fun j => (show Vec Ideal S512x1024 .f32 from iblk m c 1 t) (ix2 b j)) (fun k => (show Vec Ideal S512x1024 .bf16 from iblk m c 0 t) (ix2 b k))
      (fun k j => (show Vec Ideal S1024x1024 .bf16 from iblk m c 2 t) (ix2 k j)) = mid m c n := by
  unfold mid
  exact congr (congr (congrArg Rows.mixed (funext fun j => x_at m c t b j n hn)) (funext fun j => o_at m c t b j n hn))
    (funext fun k => funext fun j => w_at m c t k j)

theorem hid_at (c : Dev nD) (t : Fin cfg0.N) (b : Fin 512) (n : Fin 32768) (hn : n.val = t.val / 2 * 512 + b.val) (j : Fin 1024) :
    k0_pay3 (F := Ideal) (iblk m c 1 t) (iblk m c 0 t) (iblk m c 2 t) (iblk m c 3 t) (ix2 b j) = hid m c n j := by
  refine (pay3_at _ _ _ _ b j).trans ?_
  unfold hid
  exact congrFun (congr (congrArg Rows.norm (mid_at m c t b n hn)) (funext fun j => g_at m c t j)) j

/-- One tile's part of the network, added to what the tiles before it left. -/
theorem tile_at (c : Dev nD) (t : Fin cfg0.N) (o : ℕ) (ho : o ≤ 1408) (s : Fin 2) (hs : s.val = t.val % 2) (hso : o = s.val * 1408)
    (h : Vec Ideal S512x1024 .bf16) (a : Vec Ideal S512x1024 .f32) (b : Fin 512) (j : Fin 1024) (r : Fin 1024 → EReal) (hr : ∀ k, h (ix2 b k) = r k) :
    k0_pay5 (F := Ideal) h (iblk m c 4 t) a (iblk m c 5 t) (ix2 b j)
      = a (ix2 b j) + Rows.tile r (fun k i => argU m c (ix2 k i)) (fun i j => argD m c (ix2 i j)) o ho j := by
  subst hso
  refine (pay5_at h _ a _ b j).trans (congrArg (a (ix2 b j) + ·) ?_)
  unfold Rows.tile
  refine Finset.sum_congr rfl fun i _ => congr (congrArg HMul.hMul (congr (congrArg Rows.unit ?_) ?_)) (d_at m c t s hs i j)
  · exact Finset.sum_congr rfl fun k _ => congr (congrArg HMul.hMul (hr k)) (gate_at m c t s hs k i)
  · exact Finset.sum_congr rfl fun k _ => congr (congrArg HMul.hMul (hr k)) (value_at m c t s hs k i)

/-- The layer's second half, as an array. -/
def outG (c : Dev nD) : Vec Ideal S32768x1024 .f32 := fun y =>
  Rows.layer (rowX m c (y 0)) (rowO m c (y 0)) (fun k j => argW m c (ix2 k j)) (fun j => argG m c (ix1 j)) (fun k i => argU m c (ix2 k i))
    (fun i j => argD m c (ix2 i j)) (fun j => argF m c (ix1 j)) (y 1)

theorem out_pt (c : Dev nD) (t : Fin cfg0.N) (h1 : t.val % 2 = 1) (b : Fin 512) (j : Fin 1024) (n : Fin 32768) (hn : n.val = t.val / 2 * 512 + b.val) :
    (outsAt0 m c t.val t.isLt).1 (ix2 b j) = outG m c (ix2 n j) := by
  have hp : t.val - 1 < cfg0.N := lt_of_le_of_lt (Nat.sub_le _ _) t.isLt
  have hn' : n.val = (⟨t.val - 1, hp⟩ : Fin cfg0.N).val / 2 * 512 + b.val := by
    rw [hn, show t.val / 2 = (t.val - 1) / 2 by omega]
  rw [last_point m c t h1 hp, first_point m c ⟨t.val - 1, hp⟩ (show (t.val - 1) % 2 = 0 by omega)]
  refine (pay6_at _ _ _ b j).trans ?_
  show _ = Rows.norm (fun j => mid m c n j + Rows.net (hid m c n) (fun k i => argU m c (ix2 k i)) (fun i j => argD m c (ix2 i j)) j)
    (fun j => argF m c (ix1 j)) j
  refine congrFun (congr (congrArg Rows.norm (funext fun j => ?_)) (funext fun j => f_at m c t j)) j
  refine congr (congrArg HAdd.hAdd ((pay2_at _ _ _ b j).trans (congrFun (mid_at m c _ b n hn') j))) ?_
  refine (tile_at m c t 1408 (by omega) 1 (by simp [h1]) (by simp) _ _ b j (hid m c n) (fun k => hid_at m c _ b n hn' k)).trans ?_
  refine (congrArg (· + _) (tile_at m c ⟨t.val - 1, hp⟩ 0 (by omega) 0 (show 0 = (t.val - 1) % 2 by omega) (by simp) _ _ b j (hid m c n)
    (fun k => hid_at m c _ b n hn' k))).trans ?_
  rw [pay4_at]
  exact Rows.net_tiles _ _ _ j

theorem emb7 (G : Vec Ideal S32768x1024 .f32) (t : Fin cfg0.N) (b : Fin 512) (j : Fin 1024) (n : Fin 32768) (hn : n.val = t.val / 2 * 512 + b.val) :
    G ((win0_7.blk t).view.emb (ix2 b j)) = G (ix2 n j) := by
  blk_ext [idx t]

theorem out_arr (c : Dev nD) : (dats m 0 c).arrAt 7 cfg0.N = outG m c := by
  refine (dats m 0 c).arrAt_eq_of_covers 7 _ (by decide +kernel) fun t hf y => ?_
  have ht := (idx t).1
  have h1 := (flush0_7 t).mp hf
  blk_simp
  rw [after0_7]
  have key : ∀ y : S512x1024.Idx, (outsAt0 m c t.val t.isLt).1 y = outG m c ((win0_7.blk t).view.emb y) := by
    intro y
    obtain ⟨b, j, rfl⟩ : ∃ b j, y = ix2 b j := ⟨y 0, y 1, by funext a; fin_cases a <;> rfl⟩
    have hl : t.val / 2 * 512 + b.val < 32768 := by have := b.isLt; omega
    exact (out_pt m c t h1 b j ⟨_, hl⟩ rfl).trans (emb7 _ t b j ⟨_, hl⟩ rfl).symm
  exact key y

end Cert.OutFfn
-- ==== Proof.FfnRef.lean ====
module

public import proofs.«01_k».proof.Proof.Gen.Reference2Ideal.Run
public import proofs.«01_k».proof.Proof.Gen.Reference2Ideal.Read
public import proofs.«01_k».proof.Proof.FfnArr

@[expose] public section

set_option maxRecDepth 16384

noncomputable section

namespace Cert.OutFfn

open Cert.Reference2Ideal Cert.Reference2Ideal.Gen Cert.Reference2Ideal.Read Idealize.ShloMosaic Idealize.ShloMosaic.TcCoe Idealize.SL.Sem

variable (o : Vec Ideal S16x2048x1024 .bf16) (x : Vec Ideal S16x2048x1024 .f32) (w : Vec Ideal S1024x1024 .f32) (g : Vec Ideal S1024 .f32)
variable (u : Vec Ideal S1024x5632 .f32) (d : Vec Ideal S2816x1024 .f32) (f : Vec Ideal S1024 .f32)

/-- The stream's row after the mixer, as the reference computes it. -/
def refMid (n : Fin 32768) : Fin 1024 → EReal :=
  Rows.mixed (fun j => val_main_v0 (F := Ideal) x (ix2 n j)) (fun k => val_main_v1 (F := Ideal) o (ix2 n k)) (fun k j => w (ix2 k j))

theorem ref_mid (n : Fin 32768) (j : Fin 1024) : val_main_v4 (F := Ideal) o x w (ix2 n j) = refMid o x w n j := by
  unfold refMid Rows.mixed
  pointwise [val_main_v4, val_main_v3, val_main_v2]

theorem ref_norm (n : Fin 32768) (j : Fin 1024) :
    val_main_v17 (F := Ideal) o x w g (ix2 n j) = Rows.norm (refMid o x w n) (fun j => g (ix1 j)) j := by
  unfold Rows.norm
  pointwise [val_main_v17, val_main_v16, val_main_v15, val_main_v14, val_main_v13, val_main_v12, val_main_v11, val_main_v10, val_main_v9, val_main_v8, val_main_v7, val_main_v6, val_main_v5, val_main_cst, val_main_cst_0, val_main_cst_1, ref_mid]

theorem ref_up (n : Fin 32768) (i : Fin 5632) :
    val_main_v18 (F := Ideal) o x w g u (ix2 n i) = ∑ k, Rows.norm (refMid o x w n) (fun j => g (ix1 j)) k * u (ix2 k i) := by
  pointwise [val_main_v18, ref_norm]

theorem ref_unit (n : Fin 32768) (a : Fin 2816) :
    val_main_v22 (F := Ideal) o x w g u (ix2 n a)
      = Rows.unit (∑ k, Rows.norm (refMid o x w n) (fun j => g (ix1 j)) k * u (ix2 k ⟨a.val, by omega⟩))
          (∑ k, Rows.norm (refMid o x w n) (fun j => g (ix1 j)) k * u (ix2 k ⟨2816 + a.val, by omega⟩)) := by
  unfold Rows.unit Ideal.logistic
  pointwise [val_main_v22, val_main_v21, val_main_v20, val_main_v19, val_main_call0_v5, val_main_call0_v4, val_main_call0_v3, val_main_call0_v2, val_main_call0_v1,
    val_main_call0_v0, val_main_call0_cst, val_main_call0_cst_0, ref_up]

theorem ref_net (n : Fin 32768) (j : Fin 1024) :
    val_main_v24 (F := Ideal) o x w g u d (ix2 n j)
      = refMid o x w n j + Rows.net (Rows.norm (refMid o x w n) (fun j => g (ix1 j))) (fun k i => u (ix2 k i)) (fun a j => d (ix2 a j)) j := by
  unfold Rows.net
  pointwise [val_main_v24, val_main_v23, ref_mid, ref_unit]

theorem ref_out (n : Fin 32768) (j : Fin 1024) :
    val_main_v37 (F := Ideal) o x w g u d f (ix2 n j)
      = Rows.layer (fun j => val_main_v0 (F := Ideal) x (ix2 n j)) (fun k => val_main_v1 (F := Ideal) o (ix2 n k)) (fun k j => w (ix2 k j))
          (fun j => g (ix1 j)) (fun k i => u (ix2 k i)) (fun a j => d (ix2 a j)) (fun j => f (ix1 j)) j := by
  show _ = Rows.norm (fun j => refMid o x w n j + Rows.net (Rows.norm (refMid o x w n) (fun j => g (ix1 j))) (fun k i => u (ix2 k i))
    (fun a j => d (ix2 a j)) j) (fun j => f (ix1 j)) j
  unfold Rows.norm
  pointwise [val_main_v37, val_main_v36, val_main_v35, val_main_v34, val_main_v33, val_main_v32, val_main_v31, val_main_v30, val_main_v29, val_main_v28, val_main_v27, val_main_v26, val_main_v25, val_main_cst_2, val_main_cst_3, val_main_cst_4, ref_net]
  rfl

theorem ref_outG (m : (ℓ : Loc Cert.Kernel2Ideal.nD Cert.Kernel2Ideal.τ Cert.Kernel2Ideal.sig) → Buf (Elt Ideal) ℓ) (c : Dev Cert.Kernel2Ideal.nD) :
    val_main_v37 (F := Ideal) (argO m c) (argX m c) (argW m c) (argG m c) (argU m c) (argD m c) (argF m c) = outG m c := by
  funext y
  obtain ⟨n, j, rfl⟩ : ∃ n j, y = ix2 n j := ⟨y 0, y 1, by funext a; fin_cases a <;> rfl⟩
  exact ref_out _ _ _ _ _ _ _ n j

end Cert.OutFfn
-- ==== Proof.FfnClaim.lean ====
module

public import proofs.«01_k».proof.Defs
public import proofs.«01_k».proof.Proof.Gen.Kernel2Ideal.Frame
public import proofs.«01_k».proof.Proof.Gen.Reference2Ideal
public import proofs.«01_k».proof.Proof.FfnRef
public import Idealize.ShloMosaic.Lib.Claim

@[expose] public section

set_option maxRecDepth 16384

noncomputable section

namespace Cert.OutFfn

open Cert.Kernel2Ideal Cert.Kernel2Ideal.Gen Idealize.ShloMosaic Idealize.ShloMosaic.TcCoe Idealize.SL.Sem

theorem algebraic : Cert.algebraic_Kernel2Ideal_Reference2Ideal := by
  pair_intro
  · run_from Cert.Kernel2Ideal.Gen.run_main m g
    all_goals first
      | exact Cert.Kernel2Ideal.Gen.V_main_arg0 m c
      | exact Cert.Kernel2Ideal.Gen.V_main_arg1 m c
      | exact Cert.Kernel2Ideal.Gen.V_main_arg2 m c
      | exact Cert.Kernel2Ideal.Gen.V_main_arg3 m c
      | exact Cert.Kernel2Ideal.Gen.V_main_arg4 m c
      | exact Cert.Kernel2Ideal.Gen.V_main_arg5 m c
      | exact Cert.Kernel2Ideal.Gen.V_main_arg6 m c
  · run_from Cert.Reference2Ideal.Value.run m' g'
    · rw [Cert.Reference2Ideal.Read.val_main_v37_eq, (hagree c).1, (hagree c).2.1, (hagree c).2.2.1, (hagree c).2.2.2.1, (hagree c).2.2.2.2.1,
        (hagree c).2.2.2.2.2.1, (hagree c).2.2.2.2.2.2]
      exact (ref_outG m c).trans (out_arr m c).symm

end Cert.OutFfn
-- ==== Proof.ProjTArr.lean ====
module

public import proofs.«01_k».proof.Proof.Gen.Kernel3Ideal.Value
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.Rows

@[expose] public section

set_option maxRecDepth 16384

noncomputable section

namespace Cert.NormProjT

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The stream. -/
abbrev argX (c : Dev nD) : Vec Ideal S16x2048x1024 .f32 := m ((c : Thread nD τ).loc main_arg0)
/-- The norm's gain. -/
abbrev argG (c : Dev nD) : Vec Ideal S1024 .f32 := m ((c : Thread nD τ).loc main_arg1)
/-- The projection's weights. -/
abbrev argW (c : Dev nD) : Vec Ideal S1024x3352 .f32 := m ((c : Thread nD τ).loc main_arg2)

/-- The block every window reads or writes at a grid point. -/
theorem idx : ∀ t : Fin cfg0.N, t.val < 64 ∧ win0_0.index t = ![t.val, 0] ∧ win0_1.index t = ![0, 0] ∧ win0_2.index t = ![0, 0]
    ∧ win0_3.index t = ![0, 0] ∧ win0_4.index t = ![t.val, 0] ∧ win0_5.index t = ![t.val / 4, 0, t.val % 4] ∧ win0_6.index t = ![t.val / 4, 0, t.val % 4]
    ∧ win0_7.index t = ![t.val / 4, 0, t.val % 4] ∧ win0_8.index t = ![t.val / 4, 0, t.val % 4] :=
  (by decide +kernel : ∀ t : Fin grid0.N, _)

/-- Two runs of columns put side by side. -/
def cat2 (a : Vec Ideal S1024x2048 .f32) (b : Vec Ideal S1024x256 .f32) : Vec Ideal S1024x2304 .f32 :=
  concatenate S1024x2304 1 [⟨S1024x2048, a⟩, ⟨S1024x256, b⟩] concatenates_S1024x2048_S1024x256_S1024x2304_d1

/-- The weights of the columns written row by row. -/
def colsA (w : Vec Ideal S1024x3352 .f32) : Vec Ideal S1024x2304 .f32 :=
  cat2 (extractStridedSlice S1024x2048 ![0, 0] w slices_S1024x3352_S1024x2048_0_0)
    (extractStridedSlice S1024x256 ![0, 2560] w slices_S1024x3352_S1024x256_0_2560)

theorem V_v2 (c : Dev nD) : V m c main_v2 = cat2 (V m c main_v0) (V m c main_v1) := by
  simp only [V, hostOps0, hostOps0_1, hostOps0_2, List.flatten_cons, List.flatten_nil, List.append_nil, List.cons_append, List.nil_append]
  after_reads_simp
  show cat2 _ _ = cat2 _ _
  refine congr (congrArg cat2 ?_) ?_
  · show StableHlo.upto _ _ _ (Proc.tc.devRef main_v0) = _
    after_reads_simp
  · show StableHlo.upto _ _ _ (Proc.tc.devRef main_v1) = _
    after_reads_simp

theorem V_colsA (c : Dev nD) : V m c main_v3 = truncf (F := Ideal) .bf16 (colsA (argW m c)) bitsLt_bf16_f32 := by
  have h3 : V m c main_v3 = truncf (F := Ideal) .bf16 (V m c main_v2) bitsLt_bf16_f32 := by
    simp only [V, hostOps0, hostOps0_1, hostOps0_2, List.flatten_cons, List.flatten_nil, List.append_nil, List.cons_append, List.nil_append]
    after_reads_simp
  have h0 : V m c main_v0 = extractStridedSlice S1024x2048 ![0, 0] (argW m c) slices_S1024x3352_S1024x2048_0_0 := by
    entry_read; rfl
  have h1 : V m c main_v1 = extractStridedSlice S1024x256 ![0, 2560] (argW m c) slices_S1024x3352_S1024x256_0_2560 := by
    entry_read; rfl
  rw [h3, V_v2, h0, h1]
  rfl

/-- The weights of the columns written transposed, zero rows below them. -/
def colsT (w : Vec Ideal S1024x3352 .f32) : Vec Ideal S1312x1024 .f32 :=
  pad S1312x1024 ![0, 0] ![8, 0] ![0, 0]
    (transpose S1304x1024 [1, 0] (extractStridedSlice S1024x1304 ![0, 2048] w slices_S1024x3352_S1024x1304_0_2048) transposes_S1024x1304_S1304x1024_1_0)
    (sitofp (F := Ideal) .f32 (constantI S_ 32 0#32)) pads_S1304x1024_S1312x1024_080_000 h_S_

theorem V_colsT (c : Dev nD) : V m c main_v7 = truncf (F := Ideal) .bf16 (colsT (argW m c)) bitsLt_bf16_f32 := by
  simp only [V, hostOps0, hostOps0_1, hostOps0_2, List.flatten_cons, List.flatten_nil, List.append_nil, List.cons_append, List.nil_append]
  after_reads_simp
  rfl

/-- A column written row by row. -/
def colA (w : Vec Ideal S1024x3352 .f32) (j : Fin 2304) (k : Fin 1024) : EReal :=
  if h : j.val < 2048 then w (ix2 k ⟨j.val, by omega⟩) else w (ix2 k ⟨j.val + 512, by omega⟩)

theorem colsA_eq (w : Vec Ideal S1024x3352 .f32) (k : Fin 1024) (j : Fin 2304) : colsA w (ix2 k j) = colA w j k := by
  unfold colA
  pointwise [colsA, cat2]
  by_cases h : j.val < 2048
  · rw [dif_pos h, dif_pos h]
  · rw [dif_neg h, dif_neg h]
    exact congrArg (fun x => w (ix2 k x)) (Fin.ext (by simp only []; omega))

/-- A column from 2048 on, zero past the last. -/
def colT (w : Vec Ideal S1024x3352 .f32) (j : ℕ) (k : Fin 1024) : EReal :=
  if h : j < 1304 then w (ix2 k ⟨2048 + j, by omega⟩) else 0

theorem colsT_eq (w : Vec Ideal S1024x3352 .f32) (j : Fin 1312) (k : Fin 1024) : colsT w (ix2 j k) = colT w j.val k := by
  unfold colT
  pointwise [colsT]
  by_cases h : j.val < 1304
  · rw [dif_pos (by omega), dif_pos h]
  · rw [dif_neg (by omega), dif_neg h]
    exact Rows.intZero

theorem V_x (c : Dev nD) : V m c main_v8 = shapeCast S32768x1024 (argX m c) shapeCasts_S16x2048x1024_S32768x1024 := by
  simp only [V, hostOps0, hostOps0_1, hostOps0_2, List.flatten_cons, List.flatten_nil, List.append_nil, List.cons_append, List.nil_append]
  after_reads_simp
  rfl

theorem V_g (c : Dev nD) : V m c main_v9 = shapeCast S1x1024 (argG m c) shapeCasts_S1024_S1x1024 := by
  simp only [V, hostOps0, hostOps0_1, hostOps0_2, List.flatten_cons, List.flatten_nil, List.append_nil, List.cons_append, List.nil_append]
  after_reads_simp
  rfl

theorem x_at (c : Dev nD) (t : Fin cfg0.N) (r : Fin 512) (j : Fin 1024) (b : Fin 16) (s : Fin 2048) (hb : b.val = t.val / 4)
    (hs : s.val = t.val % 4 * 512 + r.val) :
    (show Vec Ideal S512x1024 .f32 from iblk m c 0 t) (ix2 r j) = argX m c (ix3 b s j) := by
  have h : (shapeCast S32768x1024 (argX m c) shapeCasts_S16x2048x1024_S32768x1024) (ix2 (⟨b.val * 2048 + s.val, by omega⟩ : Fin 32768) j) = argX m c (ix3 b s j) := by
    pointwise []
  refine Eq.trans ?_ ((congrFun (V_x m c) (ix2 ⟨b.val * 2048 + s.val, by omega⟩ j)).trans h)
  blk_ext [iblk, idx t]

theorem g_at (c : Dev nD) (t : Fin cfg0.N) (j : Fin 1024) :
    (show Vec Ideal S1x1024 .f32 from iblk m c 1 t) (ix2 0 j) = argG m c (ix1 j) := by
  refine Eq.trans ?_ ((congrFun (V_g m c) (ix2 0 j)).trans (by pointwise))
  blk_ext [iblk, idx t]

theorem wA_at (c : Dev nD) (t : Fin cfg0.N) (k : Fin 1024) (j : Fin 2304) :
    (show Vec Ideal S1024x2304 .bf16 from iblk m c 2 t) (ix2 k j) = colA (argW m c) j k := by
  refine Eq.trans ?_ ((congrFun (V_colsA m c) (ix2 k j)).trans (colsA_eq _ k j))
  blk_ext [iblk, idx t]

theorem wT_at (c : Dev nD) (t : Fin cfg0.N) (j : Fin 1312) (k : Fin 1024) :
    (show Vec Ideal S1312x1024 .bf16 from iblk m c 3 t) (ix2 j k) = colT (argW m c) j.val k := by
  refine Eq.trans ?_ ((congrFun (V_colsT m c) (ix2 j k)).trans (colsT_eq _ j k))
  blk_ext [iblk, idx t]

theorem pay3_at (x : Vec Ideal S512x1024 .f32) (g : Vec Ideal S1x1024 .f32) (b : Fin 512) (j : Fin 1024) :
    k0_pay3 (F := Ideal) x g (ix2 b j) = Rows.norm (fun j => x (ix2 b j)) (fun j => g (ix2 0 j)) j := by
  unfold Rows.norm
  pointwise [k0_pay3]

theorem pay4_at (x : Vec Ideal S512x1024 .f32) (g : Vec Ideal S1x1024 .f32) (w : Vec Ideal S1024x2304 .bf16) (b : Fin 512) (j : Fin 2304) :
    k0_pay4 (F := Ideal) x g w (ix2 b j) = Rows.dot (fun j => x (ix2 b j)) (fun j => g (ix2 0 j)) (fun k => w (ix2 k j)) := by
  unfold Rows.dot
  pointwise [k0_pay4, pay3_at]

theorem pay5_at (x : Vec Ideal S512x1024 .f32) (g : Vec Ideal S1x1024 .f32) (w : Vec Ideal S1312x1024 .bf16) (j : Fin 1312) (b : Fin 512) :
    k0_pay5 (F := Ideal) x g w (ix2 j b) = Rows.dot (fun j => x (ix2 b j)) (fun j => g (ix2 0 j)) (fun k => w (ix2 j k)) := by
  unfold Rows.dot
  pointwise [k0_pay5, pay3_at]
  exact Finset.sum_congr rfl fun k _ => mul_comm _ _

/-- The normed row of a batch and position against a column. -/
def rowDot (x : Vec Ideal S16x2048x1024 .f32) (g : Vec Ideal S1024 .f32) (w : Fin 1024 → EReal) (b : Fin 16) (s : Fin 2048) : EReal :=
  Rows.dot (fun j => x (ix3 b s j)) (fun j => g (ix1 j)) w

/-- The columns written row by row. -/
def mainG (x : Vec Ideal S16x2048x1024 .f32) (g : Vec Ideal S1024 .f32) (w : Vec Ideal S1024x3352 .f32) : Vec Ideal S32768x2304 .f32 := fun y =>
  rowDot x g (colA w (y 1)) ⟨(y 0).val / 2048, by have : (y 0).val < 32768 := (y 0).isLt; omega⟩ ⟨(y 0).val % 2048, by omega⟩

/-- `n` columns from `2048 + o` on, transposed. -/
def transG (o : ℕ) (x : Vec Ideal S16x2048x1024 .f32) (g : Vec Ideal S1024 .f32) (w : Vec Ideal S1024x3352 .f32) (n : ℕ) (b : Fin 16) (j : Fin n)
    (s : Fin 2048) : EReal := rowDot x g (colT w (o + j.val)) b s

theorem main_pt (c : Dev nD) (t : Fin cfg0.N) (r : Fin 512) (j : Fin 2304) (n : Fin 32768) (hn : n.val = t.val * 512 + r.val) :
    k0_pay4 (F := Ideal) (iblk m c 0 t) (iblk m c 1 t) (iblk m c 2 t) (ix2 r j) = mainG (argX m c) (argG m c) (argW m c) (ix2 n j) := by
  refine (pay4_at _ _ _ r j).trans ?_
  unfold mainG rowDot
  refine congr (congr (congrArg Rows.dot (funext fun i => x_at m c t r i _ _ ?_ ?_)) (funext fun i => g_at m c t i)) (funext fun k => wA_at m c t k j)
  · show n.val / 2048 = t.val / 4; omega
  · show n.val % 2048 = t.val % 4 * 512 + r.val; omega

theorem trans_pt (c : Dev nD) (t : Fin cfg0.N) (i : Fin 1312) (r : Fin 512) (b : Fin 16) (s : Fin 2048) (hb : b.val = t.val / 4)
    (hs : s.val = t.val % 4 * 512 + r.val) :
    k0_pay5 (F := Ideal) (iblk m c 0 t) (iblk m c 1 t) (iblk m c 3 t) (ix2 i r) = rowDot (argX m c) (argG m c) (colT (argW m c) i.val) b s := by
  refine (pay5_at _ _ _ i r).trans ?_
  unfold rowDot
  exact congr (congr (congrArg Rows.dot (funext fun i => x_at m c t r i b s hb hs)) (funext fun i => g_at m c t i)) (funext fun k => wT_at m c t i k)

theorem main_arr (c : Dev nD) : (dats m 0 c).arrAt 4 cfg0.N = mainG (argX m c) (argG m c) (argW m c) := by
  refine (dats m 0 c).arrAt_eq_of_covers 4 _ (by decide +kernel) fun t hf y => ?_
  have ht := (idx t).1
  blk_simp
  rw [after0_4]
  have key : ∀ y : S512x2304.Idx, out0_4 (F := Ideal) (iblk m c 0 t) (iblk m c 1 t) (iblk m c 2 t) (iblk m c 3 t) y
      = mainG (argX m c) (argG m c) (argW m c) ((win0_4.blk t).view.emb y) := by
    intro y
    obtain ⟨r, j, rfl⟩ : ∃ r j, y = ix2 r j := ⟨y 0, y 1, by funext a; fin_cases a <;> rfl⟩
    have hl : t.val * 512 + r.val < 32768 := by have := r.isLt; omega
    have hp : out0_4 (F := Ideal) (iblk m c 0 t) (iblk m c 1 t) (iblk m c 2 t) (iblk m c 3 t)
        = k0_pay4 (F := Ideal) (iblk m c 0 t) (iblk m c 1 t) (iblk m c 2 t) := by frame_out
    rw [hp]
    refine (main_pt m c t r j ⟨_, hl⟩ rfl).trans ?_
    generalize mainG (argX m c) (argG m c) (argW m c) = G
    exact (show G ((win0_4.blk t).view.emb (ix2 r j)) = G (ix2 ⟨_, hl⟩ j) by blk_ext [idx t]).symm
  exact key y

/-- Result 1 as an array. -/
def qG (x : Vec Ideal S16x2048x1024 .f32) (g : Vec Ideal S1024 .f32) (w : Vec Ideal S1024x3352 .f32) : Vec Ideal S16x512x2048 .f32 := fun y =>
  transG 0 x g w 512 (y 0) (y 1) (y 2)

theorem q_arr (c : Dev nD) : (dats m 0 c).arrAt 5 cfg0.N = qG (argX m c) (argG m c) (argW m c) := by
  refine (dats m 0 c).arrAt_eq_of_covers 5 _ (by decide +kernel) fun t hf y => ?_
  have ht := (idx t).1
  blk_simp
  rw [after0_5]
  have key : ∀ y : S1x512x512.Idx, out0_5 (F := Ideal) (iblk m c 0 t) (iblk m c 1 t) (iblk m c 2 t) (iblk m c 3 t) y
      = qG (argX m c) (argG m c) (argW m c) ((win0_5.blk t).view.emb y) := by
    intro y
    obtain ⟨z, j, r, rfl⟩ : ∃ z j r, y = ix3 z j r := ⟨y 0, y 1, y 2, by funext a; fin_cases a <;> rfl⟩
    obtain rfl : z = 0 := Subsingleton.elim _ _
    have hp : out0_5 (F := Ideal) (iblk m c 0 t) (iblk m c 1 t) (iblk m c 2 t) (iblk m c 3 t) (ix3 0 j r)
        = k0_pay5 (F := Ideal) (iblk m c 0 t) (iblk m c 1 t) (iblk m c 3 t) (ix2 ⟨0 + j.val, by omega⟩ r) := by
      frame_out; pointwise [k0_pay6]
    have hl : t.val % 4 * 512 + r.val < 2048 := by have := r.isLt; omega
    rw [hp]
    refine (trans_pt m c t _ r ⟨t.val / 4, by omega⟩ ⟨_, hl⟩ rfl rfl).trans ?_
    show qG (argX m c) (argG m c) (argW m c) (ix3 ⟨t.val / 4, by omega⟩ j ⟨_, hl⟩) = _
    generalize qG (argX m c) (argG m c) (argW m c) = G
    exact (show G ((win0_5.blk t).view.emb (ix3 0 j r)) = G (ix3 ⟨t.val / 4, by omega⟩ j ⟨_, hl⟩) by blk_ext [idx t]).symm
  exact key y

/-- Result 2 as an array. -/
def rowsG (x : Vec Ideal S16x2048x1024 .f32) (g : Vec Ideal S1024 .f32) (w : Vec Ideal S1024x3352 .f32) : Vec Ideal S16x512x2048 .f32 := fun y =>
  transG 512 x g w 512 (y 0) (y 1) (y 2)

theorem rows_arr (c : Dev nD) : (dats m 0 c).arrAt 6 cfg0.N = rowsG (argX m c) (argG m c) (argW m c) := by
  refine (dats m 0 c).arrAt_eq_of_covers 6 _ (by decide +kernel) fun t hf y => ?_
  have ht := (idx t).1
  blk_simp
  rw [after0_6]
  have key : ∀ y : S1x512x512.Idx, out0_6 (F := Ideal) (iblk m c 0 t) (iblk m c 1 t) (iblk m c 2 t) (iblk m c 3 t) y
      = rowsG (argX m c) (argG m c) (argW m c) ((win0_6.blk t).view.emb y) := by
    intro y
    obtain ⟨z, j, r, rfl⟩ : ∃ z j r, y = ix3 z j r := ⟨y 0, y 1, y 2, by funext a; fin_cases a <;> rfl⟩
    obtain rfl : z = 0 := Subsingleton.elim _ _
    have hp : out0_6 (F := Ideal) (iblk m c 0 t) (iblk m c 1 t) (iblk m c 2 t) (iblk m c 3 t) (ix3 0 j r)
        = k0_pay5 (F := Ideal) (iblk m c 0 t) (iblk m c 1 t) (iblk m c 3 t) (ix2 ⟨512 + j.val, by omega⟩ r) := by
      frame_out; pointwise [k0_pay7]
    have hl : t.val % 4 * 512 + r.val < 2048 := by have := r.isLt; omega
    rw [hp]
    refine (trans_pt m c t _ r ⟨t.val / 4, by omega⟩ ⟨_, hl⟩ rfl rfl).trans ?_
    show rowsG (argX m c) (argG m c) (argW m c) (ix3 ⟨t.val / 4, by omega⟩ j ⟨_, hl⟩) = _
    generalize rowsG (argX m c) (argG m c) (argW m c) = G
    exact (show G ((win0_6.blk t).view.emb (ix3 0 j r)) = G (ix3 ⟨t.val / 4, by omega⟩ j ⟨_, hl⟩) by blk_ext [idx t]).symm
  exact key y

/-- Result 3 as an array. -/
def winG (x : Vec Ideal S16x2048x1024 .f32) (g : Vec Ideal S1024 .f32) (w : Vec Ideal S1024x3352 .f32) : Vec Ideal S16x256x2048 .f32 := fun y =>
  transG 1024 x g w 256 (y 0) (y 1) (y 2)

theorem win_arr (c : Dev nD) : (dats m 0 c).arrAt 7 cfg0.N = winG (argX m c) (argG m c) (argW m c) := by
  refine (dats m 0 c).arrAt_eq_of_covers 7 _ (by decide +kernel) fun t hf y => ?_
  have ht := (idx t).1
  blk_simp
  rw [after0_7]
  have key : ∀ y : S1x256x512.Idx, out0_7 (F := Ideal) (iblk m c 0 t) (iblk m c 1 t) (iblk m c 2 t) (iblk m c 3 t) y
      = winG (argX m c) (argG m c) (argW m c) ((win0_7.blk t).view.emb y) := by
    intro y
    obtain ⟨z, j, r, rfl⟩ : ∃ z j r, y = ix3 z j r := ⟨y 0, y 1, y 2, by funext a; fin_cases a <;> rfl⟩
    obtain rfl : z = 0 := Subsingleton.elim _ _
    have hp : out0_7 (F := Ideal) (iblk m c 0 t) (iblk m c 1 t) (iblk m c 2 t) (iblk m c 3 t) (ix3 0 j r)
        = k0_pay5 (F := Ideal) (iblk m c 0 t) (iblk m c 1 t) (iblk m c 3 t) (ix2 ⟨1024 + j.val, by omega⟩ r) := by
      frame_out; pointwise [k0_pay1, k0_pay8]
    have hl : t.val % 4 * 512 + r.val < 2048 := by have := r.isLt; omega
    rw [hp]
    refine (trans_pt m c t _ r ⟨t.val / 4, by omega⟩ ⟨_, hl⟩ rfl rfl).trans ?_
    show winG (argX m c) (argG m c) (argW m c) (ix3 ⟨t.val / 4, by omega⟩ j ⟨_, hl⟩) = _
    generalize winG (argX m c) (argG m c) (argW m c) = G
    exact (show G ((win0_7.blk t).view.emb (ix3 0 j r)) = G (ix3 ⟨t.val / 4, by omega⟩ j ⟨_, hl⟩) by blk_ext [idx t]).symm
  exact key y

/-- Result 4 as an array. -/
def gatesG (x : Vec Ideal S16x2048x1024 .f32) (g : Vec Ideal S1024 .f32) (w : Vec Ideal S1024x3352 .f32) : Vec Ideal S16x32x2048 .f32 := fun y =>
  transG 1280 x g w 32 (y 0) (y 1) (y 2)

theorem gates_arr (c : Dev nD) : (dats m 0 c).arrAt 8 cfg0.N = gatesG (argX m c) (argG m c) (argW m c) := by
  refine (dats m 0 c).arrAt_eq_of_covers 8 _ (by decide +kernel) fun t hf y => ?_
  have ht := (idx t).1
  blk_simp
  rw [after0_8]
  have key : ∀ y : S1x32x512.Idx, out0_8 (F := Ideal) (iblk m c 0 t) (iblk m c 1 t) (iblk m c 2 t) (iblk m c 3 t) y
      = gatesG (argX m c) (argG m c) (argW m c) ((win0_8.blk t).view.emb y) := by
    intro y
    obtain ⟨z, j, r, rfl⟩ : ∃ z j r, y = ix3 z j r := ⟨y 0, y 1, y 2, by funext a; fin_cases a <;> rfl⟩
    obtain rfl : z = 0 := Subsingleton.elim _ _
    have hp : out0_8 (F := Ideal) (iblk m c 0 t) (iblk m c 1 t) (iblk m c 2 t) (iblk m c 3 t) (ix3 0 j r)
        = k0_pay5 (F := Ideal) (iblk m c 0 t) (iblk m c 1 t) (iblk m c 3 t) (ix2 ⟨1280 + j.val, by omega⟩ r) := by
      frame_out; pointwise [k0_pay2]
    have hl : t.val % 4 * 512 + r.val < 2048 := by have := r.isLt; omega
    rw [hp]
    refine (trans_pt m c t _ r ⟨t.val / 4, by omega⟩ ⟨_, hl⟩ rfl rfl).trans ?_
    show gatesG (argX m c) (argG m c) (argW m c) (ix3 ⟨t.val / 4, by omega⟩ j ⟨_, hl⟩) = _
    generalize gatesG (argX m c) (argG m c) (argW m c) = G
    exact (show G ((win0_8.blk t).view.emb (ix3 0 j r)) = G (ix3 ⟨t.val / 4, by omega⟩ j ⟨_, hl⟩) by blk_ext [idx t]).symm
  exact key y

end Cert.NormProjT
-- ==== Proof.ProjTRef.lean ====
module

public import proofs.«01_k».proof.Proof.Gen.Reference3Ideal.Run
public import proofs.«01_k».proof.Proof.Gen.Reference3Ideal.Read
public import proofs.«01_k».proof.Proof.ProjTArr

@[expose] public section

set_option maxRecDepth 16384

noncomputable section

namespace Cert.NormProjT

open Cert.Reference3Ideal Cert.Reference3Ideal.Gen Cert.Reference3Ideal.Read Idealize.ShloMosaic Idealize.ShloMosaic.TcCoe Idealize.SL.Sem

variable (x : Vec Ideal S16x2048x1024 .f32) (g : Vec Ideal S1024 .f32) (w : Vec Ideal S1024x3352 .f32)

theorem ref_norm (b : Fin 16) (s : Fin 2048) (j : Fin 1024) :
    val_main_v12 (F := Ideal) x g (ix3 b s j) = Rows.norm (fun j => x (ix3 b s j)) (fun j => g (ix1 j)) j := by
  unfold Rows.norm
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem ref_dot (b : Fin 16) (s : Fin 2048) (i : Fin 3352) :
    val_main_v13 (F := Ideal) x g w (ix3 b s i) = Rows.dot (fun j => x (ix3 b s j)) (fun j => g (ix1 j)) (fun k => w (ix2 k i)) := by
  unfold Rows.dot
  pointwise [val_main_v13, ref_norm]

theorem ref_col (b : Fin 16) (s : Fin 2048) (i : Fin 3352) (v : Fin 1024 → EReal) (h : ∀ k, v k = w (ix2 k i)) :
    val_main_v13 (F := Ideal) x g w (ix3 b s i) = rowDot x g v b s :=
  (ref_dot x g w b s i).trans (congrArg (Rows.dot _ _) (funext fun k => (h k).symm))

theorem colT_of (o : ℕ) (i : Fin 3352) (k : Fin 1024) (hi : i.val = 2048 + o) : colT w o k = w (ix2 k i) := by
  unfold colT
  rw [dif_pos (by omega)]
  exact congrArg (fun z => w (ix2 k z)) (Fin.ext hi.symm)

theorem ref_mainG : val_main_v17 (F := Ideal) x g w = mainG x g w := by
  funext y
  obtain ⟨n, j, rfl⟩ : ∃ n j, y = ix2 n j := ⟨y 0, y 1, by funext a; fin_cases a <;> rfl⟩
  show _ = rowDot x g (colA w j) ⟨n.val / 2048, by omega⟩ ⟨n.val % 2048, by omega⟩
  pointwise [val_main_v17, val_main_v16, val_main_v15, val_main_v14]
  by_cases h : j.val < 2048
  · rw [dif_pos (by omega)]
    exact ref_col x g w _ _ _ _ fun k => by unfold colA; rw [dif_pos h]
  · rw [dif_neg (by omega)]
    exact ref_col x g w _ _ _ _ fun k => by
      unfold colA; rw [dif_neg h]; exact congrArg (fun z => w (ix2 k z)) (Fin.ext (by simp only []; omega))

theorem ref_qG : val_main_v19 (F := Ideal) x g w = qG x g w := by
  funext y
  obtain ⟨b, j, s, rfl⟩ : ∃ b j s, y = ix3 b j s := ⟨y 0, y 1, y 2, by funext a; fin_cases a <;> rfl⟩
  show _ = rowDot x g (colT w (0 + j.val)) b s
  pointwise [val_main_v19, val_main_v18]
  exact ref_col x g w _ _ _ _ fun k => colT_of w _ _ k (by first | rfl | (simp only []; omega))

theorem ref_rowsG : val_main_v21 (F := Ideal) x g w = rowsG x g w := by
  funext y
  obtain ⟨b, j, s, rfl⟩ : ∃ b j s, y = ix3 b j s := ⟨y 0, y 1, y 2, by funext a; fin_cases a <;> rfl⟩
  show _ = rowDot x g (colT w (512 + j.val)) b s
  pointwise [val_main_v21, val_main_v20]
  exact ref_col x g w _ _ _ _ fun k => colT_of w _ _ k (by first | rfl | (simp only []; omega))

theorem ref_winG : val_main_v23 (F := Ideal) x g w = winG x g w := by
  funext y
  obtain ⟨b, j, s, rfl⟩ : ∃ b j s, y = ix3 b j s := ⟨y 0, y 1, y 2, by funext a; fin_cases a <;> rfl⟩
  show _ = rowDot x g (colT w (1024 + j.val)) b s
  pointwise [val_main_v23, val_main_v22]
  exact ref_col x g w _ _ _ _ fun k => colT_of w _ _ k (by first | rfl | (simp only []; omega))

theorem ref_gatesG : val_main_v26 (F := Ideal) x g w = gatesG x g w := by
  funext y
  obtain ⟨b, j, s, rfl⟩ : ∃ b j s, y = ix3 b j s := ⟨y 0, y 1, y 2, by funext a; fin_cases a <;> rfl⟩
  show _ = rowDot x g (colT w (1280 + j.val)) b s
  pointwise [val_main_v26, val_main_v25, val_main_v24, val_main_call0_v0, val_main_c]
  by_cases h : j.val < 24
  · rw [dif_pos (by omega)]
    exact ref_col x g w _ _ _ _ fun k => colT_of w _ _ k (by first | rfl | (simp only []; omega))
  · rw [dif_neg (by omega)]
    refine Rows.intZero.trans ((congrArg (Rows.dot _ _) (funext fun k => ?_)).trans (Rows.dot_zero _ _)).symm
    unfold colT; rw [dif_neg (by omega)]

end Cert.NormProjT
-- ==== Proof.ProjTClaim.lean ====
module

public import proofs.«01_k».proof.Defs
public import proofs.«01_k».proof.Proof.Gen.Kernel3Ideal.Frame
public import proofs.«01_k».proof.Proof.Gen.Reference3Ideal
public import proofs.«01_k».proof.Proof.ProjTRef
public import Idealize.ShloMosaic.Lib.Claim

@[expose] public section

set_option maxRecDepth 16384

noncomputable section

namespace Cert.NormProjT

open Cert.Kernel3Ideal Cert.Kernel3Ideal.Gen Idealize.ShloMosaic Idealize.ShloMosaic.TcCoe Idealize.SL.Sem

theorem algebraic : Cert.algebraic_Kernel3Ideal_Reference3Ideal := by
  pair_intro
  · run_from Cert.Kernel3Ideal.Gen.run_main m g
    all_goals first
      | exact Cert.Kernel3Ideal.Gen.V_main_arg0 m c
      | exact Cert.Kernel3Ideal.Gen.V_main_arg1 m c
      | exact Cert.Kernel3Ideal.Gen.V_main_arg2 m c
  · run_from Cert.Reference3Ideal.Value.run m' g'
    · rw [Cert.Reference3Ideal.Read.val_main_v17_eq]
      try rw [(hagree c).2.2]
      exact (ref_mainG _ _ _).trans (main_arr m c).symm
    · rw [Cert.Reference3Ideal.Read.val_main_v19_eq]
      try rw [(hagree c).2.2]
      exact (ref_qG _ _ _).trans (q_arr m c).symm
    · rw [Cert.Reference3Ideal.Read.val_main_v21_eq]
      try rw [(hagree c).2.2]
      exact (ref_rowsG _ _ _).trans (rows_arr m c).symm
    · rw [Cert.Reference3Ideal.Read.val_main_v23_eq]
      try rw [(hagree c).2.2]
      exact (ref_winG _ _ _).trans (win_arr m c).symm
    · rw [Cert.Reference3Ideal.Read.val_main_v26_eq]
      try rw [(hagree c).2.2]
      exact (ref_gatesG _ _ _).trans (gates_arr m c).symm

end Cert.NormProjT
-- ==== Proof.ProjOArr.lean ====
module

public import proofs.«01_k».proof.Proof.Gen.Kernel4Ideal.Value
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.Rows

@[expose] public section

set_option maxRecDepth 16384

noncomputable section

namespace Cert.NormProjOdd

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The stream. -/
abbrev argX (c : Dev nD) : Vec Ideal S16x2048x1024 .f32 := m ((c : Thread nD τ).loc main_arg0)
/-- The norm's gain. -/
abbrev argG (c : Dev nD) : Vec Ideal S1024 .f32 := m ((c : Thread nD τ).loc main_arg1)
/-- The projection's weights. -/
abbrev argW (c : Dev nD) : Vec Ideal S1024x3088 .f32 := m ((c : Thread nD τ).loc main_arg2)

/-- The block every window reads or writes at a grid point. -/
theorem idx : ∀ t : Fin cfg0.N, t.val < 64 ∧ win0_0.index t = ![t.val, 0] ∧ win0_1.index t = ![0, 0] ∧ win0_2.index t = ![0, 0]
    ∧ win0_3.index t = ![t.val, 0] :=
  (by decide +kernel : ∀ t : Fin grid0.N, _)

/-- Three runs of columns put side by side. -/
def cat3 (a : Vec Ideal S1024x2048 .f32) (b : Vec Ideal S1024x1024 .f32) (d : Vec Ideal S1024x16 .f32) : Vec Ideal S1024x3088 .f32 :=
  concatenate S1024x3088 1 [⟨S1024x2048, a⟩, ⟨S1024x1024, b⟩, ⟨S1024x16, d⟩] concatenates_S1024x2048_S1024x1024_S1024x16_S1024x3088_d1

/-- The weights in the kernel's order: the low-rank gate's columns moved last, zeros up to the next block. -/
def cols (w : Vec Ideal S1024x3088 .f32) : Vec Ideal S1024x3200 .f32 :=
  pad S1024x3200 ![0, 0] ![0, 112] ![0, 0]
    (cat3 (extractStridedSlice S1024x2048 ![0, 0] w slices_S1024x3088_S1024x2048_0_0)
      (extractStridedSlice S1024x1024 ![0, 2064] w slices_S1024x3088_S1024x1024_0_2064)
      (extractStridedSlice S1024x16 ![0, 2048] w slices_S1024x3088_S1024x16_0_2048))
    (sitofp (F := Ideal) .f32 (constantI S_ 32 0#32)) pads_S1024x3088_S1024x3200_000_01120 h_S_

theorem V_v3 (c : Dev nD) : V m c main_v3 = cat3 (V m c main_v0) (V m c main_v1) (V m c main_v2) := by
  simp only [V, hostOps0, hostOps0_1, hostOps0_2, List.flatten_cons, List.flatten_nil, List.append_nil, List.cons_append, List.nil_append]
  after_reads_simp
  show cat3 _ _ _ = cat3 _ _ _
  refine congr (congr (congrArg cat3 ?_) ?_) ?_
  · show StableHlo.upto _ _ _ (Proc.tc.devRef main_v0) = _
    after_reads_simp
  · show StableHlo.upto _ _ _ (Proc.tc.devRef main_v1) = _
    after_reads_simp
  · show StableHlo.upto _ _ _ (Proc.tc.devRef main_v2) = _
    after_reads_simp

theorem V_cols (c : Dev nD) : V m c main_v5 = truncf (F := Ideal) .bf16 (cols (argW m c)) bitsLt_bf16_f32 := by
  have h5 : V m c main_v5 = truncf (F := Ideal) .bf16 (pad S1024x3200 ![0, 0] ![0, 112] ![0, 0] (V m c main_v3)
      (sitofp (F := Ideal) .f32 (constantI S_ 32 0#32)) pads_S1024x3088_S1024x3200_000_01120 h_S_) bitsLt_bf16_f32 := by
    simp only [V, hostOps0, hostOps0_1, hostOps0_2, List.flatten_cons, List.flatten_nil, List.append_nil, List.cons_append, List.nil_append]
    after_reads_simp
    rfl
  have h0 : V m c main_v0 = extractStridedSlice S1024x2048 ![0, 0] (argW m c) slices_S1024x3088_S1024x2048_0_0 := by
    entry_read; rfl
  have h1 : V m c main_v1 = extractStridedSlice S1024x1024 ![0, 2064] (argW m c) slices_S1024x3088_S1024x1024_0_2064 := by
    entry_read; rfl
  have h2 : V m c main_v2 = extractStridedSlice S1024x16 ![0, 2048] (argW m c) slices_S1024x3088_S1024x16_0_2048 := by
    entry_read; rfl
  rw [h5, V_v3, h0, h1, h2]
  rfl

/-- A column of the weights in the kernel's order. -/
def col (w : Vec Ideal S1024x3088 .f32) (j : Fin 3200) (k : Fin 1024) : EReal :=
  if h : j.val < 2048 then w (ix2 k ⟨j.val, by omega⟩)
  else if h : j.val < 3072 then w (ix2 k ⟨j.val + 16, by omega⟩)
  else if h : j.val < 3088 then w (ix2 k ⟨j.val - 1024, by omega⟩)
  else 0

theorem cols_eq (w : Vec Ideal S1024x3088 .f32) (k : Fin 1024) (j : Fin 3200) : cols w (ix2 k j) = col w j k := by
  unfold col
  pointwise [cols, cat3]
  by_cases h1 : j.val < 2048
  · rw [dif_pos (by omega), dif_pos h1, dif_pos h1]
  by_cases h2 : j.val < 3072
  · rw [dif_pos (by omega), dif_neg h1, dif_pos (by omega), dif_neg h1, dif_pos h2]
    exact congrArg (fun x => w (ix2 k x)) (Fin.ext (by simp only []; omega))
  by_cases h3 : j.val < 3088
  · rw [dif_pos (by omega), dif_neg h1, dif_neg (by omega), dif_neg h1, dif_neg h2, dif_pos h3]
    exact congrArg (fun x => w (ix2 k x)) (Fin.ext (by simp only []; omega))
  · rw [dif_neg (by omega), dif_neg h1, dif_neg h2, dif_neg h3]
    exact Rows.intZero

theorem V_x (c : Dev nD) : V m c main_v6 = shapeCast S32768x1024 (argX m c) shapeCasts_S16x2048x1024_S32768x1024 := by
  simp only [V, hostOps0, hostOps0_1, hostOps0_2, List.flatten_cons, List.flatten_nil, List.append_nil, List.cons_append, List.nil_append]
  after_reads_simp
  rfl

theorem V_g (c : Dev nD) : V m c main_v7 = shapeCast S1x1024 (argG m c) shapeCasts_S1024_S1x1024 := by
  simp only [V, hostOps0, hostOps0_1, hostOps0_2, List.flatten_cons, List.flatten_nil, List.append_nil, List.cons_append, List.nil_append]
  after_reads_simp
  rfl

/-- A row of the stream. -/
def rowX (x : Vec Ideal S16x2048x1024 .f32) (n : Fin 32768) (j : Fin 1024) : EReal := x (ix3 ⟨n.val / 2048, by omega⟩ ⟨n.val % 2048, by omega⟩ j)

theorem x_at (c : Dev nD) (t : Fin cfg0.N) (b : Fin 512) (j : Fin 1024) (n : Fin 32768) (hn : n.val = t.val * 512 + b.val) :
    (show Vec Ideal S512x1024 .f32 from iblk m c 0 t) (ix2 b j) = rowX (argX m c) n j := by
  refine Eq.trans ?_ ((congrFun (V_x m c) (ix2 n j)).trans (by unfold rowX; pointwise []))
  blk_ext [iblk, idx t]

theorem g_at (c : Dev nD) (t : Fin cfg0.N) (j : Fin 1024) :
    (show Vec Ideal S1x1024 .f32 from iblk m c 1 t) (ix2 0 j) = argG m c (ix1 j) := by
  refine Eq.trans ?_ ((congrFun (V_g m c) (ix2 0 j)).trans (by pointwise))
  blk_ext [iblk, idx t]

theorem w_at (c : Dev nD) (t : Fin cfg0.N) (k : Fin 1024) (j : Fin 3200) :
    (show Vec Ideal S1024x3200 .bf16 from iblk m c 2 t) (ix2 k j) = col (argW m c) j k := by
  refine Eq.trans ?_ ((congrFun (V_cols m c) (ix2 k j)).trans (cols_eq _ k j))
  blk_ext [iblk, idx t]

theorem point (c : Dev nD) (t : Fin cfg0.N) :
    outsAt0 m c t = k0_pay2 (F := Ideal) (k0_pay1 (F := Ideal) (iblk m c 0 t) (iblk m c 1 t)) (iblk m c 2 t) := by
  unfold outsAt0
  frame_out

theorem pay1_at (x : Vec Ideal S512x1024 .f32) (g : Vec Ideal S1x1024 .f32) (b : Fin 512) (j : Fin 1024) :
    k0_pay1 (F := Ideal) x g (ix2 b j) = Rows.norm (fun j => x (ix2 b j)) (fun j => g (ix2 0 j)) j := by
  unfold Rows.norm
  pointwise [k0_pay1]

theorem pay2_at (h : Vec Ideal S512x1024 .bf16) (w : Vec Ideal S1024x3200 .bf16) (b : Fin 512) (j : Fin 3200) :
    k0_pay2 (F := Ideal) h w (ix2 b j) = ∑ k : Fin 1024, h (ix2 b k) * w (ix2 k j) := by
  pointwise [k0_pay2]

/-- The normed rows against the weights' columns. -/
def outG (x : Vec Ideal S16x2048x1024 .f32) (g : Vec Ideal S1024 .f32) (w : Vec Ideal S1024x3088 .f32) : Vec Ideal S32768x3200 .f32 := fun y =>
  Rows.dot (rowX x (y 0)) (fun j => g (ix1 j)) (col w (y 1))

theorem out_pt (c : Dev nD) (t : Fin cfg0.N) (b : Fin 512) (j : Fin 3200) (n : Fin 32768) (hn : n.val = t.val * 512 + b.val) :
    outsAt0 m c t (ix2 b j) = outG (argX m c) (argG m c) (argW m c) (ix2 n j) := by
  rw [point]
  refine (pay2_at _ _ b j).trans ?_
  show _ = ∑ k, Rows.norm (rowX (argX m c) n) (fun j => argG m c (ix1 j)) k * col (argW m c) j k
  refine Finset.sum_congr rfl fun k _ => congr (congrArg HMul.hMul ((pay1_at _ _ b k).trans ?_)) (w_at m c t k j)
  exact congrFun (congr (congrArg Rows.norm (funext fun j => x_at m c t b j n hn)) (funext fun j => g_at m c t j)) k

theorem emb3 (G : Vec Ideal S32768x3200 .f32) (t : Fin cfg0.N) (b : Fin 512) (j : Fin 3200) (n : Fin 32768) (hn : n.val = t.val * 512 + b.val) :
    G ((win0_3.blk t).view.emb (ix2 b j)) = G (ix2 n j) := by
  blk_ext [idx t]

theorem out_arr (c : Dev nD) : (dats m 0 c).arrAt 3 cfg0.N = outG (argX m c) (argG m c) (argW m c) := by
  refine (dats m 0 c).arrAt_eq_of_covers 3 _ (by decide +kernel) fun t hf y => ?_
  have ht := (idx t).1
  blk_simp
  rw [after0_3]
  have key : ∀ y : S512x3200.Idx, outsAt0 m c t y = outG (argX m c) (argG m c) (argW m c) ((win0_3.blk t).view.emb y) := by
    intro y
    obtain ⟨b, j, rfl⟩ : ∃ b j, y = ix2 b j := ⟨y 0, y 1, by funext a; fin_cases a <;> rfl⟩
    have hl : t.val * 512 + b.val < 32768 := by have := b.isLt; omega
    exact (out_pt m c t b j ⟨_, hl⟩ rfl).trans (emb3 _ t b j ⟨_, hl⟩ rfl).symm
  exact key y

end Cert.NormProjOdd
-- ==== Proof.ProjORef.lean ====
module

public import proofs.«01_k».proof.Proof.Gen.Reference4Ideal.Run
public import proofs.«01_k».proof.Proof.Gen.Reference4Ideal.Read
public import proofs.«01_k».proof.Proof.ProjOArr

@[expose] public section

set_option maxRecDepth 16384

noncomputable section

namespace Cert.NormProjOdd

open Cert.Reference4Ideal Cert.Reference4Ideal.Gen Cert.Reference4Ideal.Read Idealize.ShloMosaic Idealize.ShloMosaic.TcCoe Idealize.SL.Sem

variable (x : Vec Ideal S16x2048x1024 .f32) (g : Vec Ideal S1024 .f32) (w : Vec Ideal S1024x3088 .f32)

theorem ref_norm (b : Fin 16) (s : Fin 2048) (j : Fin 1024) :
    val_main_v12 (F := Ideal) x g (ix3 b s j) = Rows.norm (fun j => x (ix3 b s j)) (fun j => g (ix1 j)) j := by
  unfold Rows.norm
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem ref_dot (b : Fin 16) (s : Fin 2048) (i : Fin 3088) :
    val_main_v13 (F := Ideal) x g w (ix3 b s i) = Rows.dot (fun j => x (ix3 b s j)) (fun j => g (ix1 j)) (fun k => w (ix2 k i)) := by
  unfold Rows.dot
  pointwise [val_main_v13, ref_norm]

theorem ref_row (n : Fin 32768) (i : Fin 3088) :
    val_main_v14 (F := Ideal) x g w (ix2 n i) = Rows.dot (rowX x n) (fun j => g (ix1 j)) (fun k => w (ix2 k i)) := by
  unfold rowX
  pointwise [val_main_v14, ref_dot]

theorem ref_out (n : Fin 32768) (j : Fin 3200) :
    val_main_v19 (F := Ideal) x g w (ix2 n j) = Rows.dot (rowX x n) (fun j => g (ix1 j)) (col w j) := by
  have hc : ∀ (i : Fin 3088), (∀ k, col w j k = w (ix2 k i)) → val_main_v14 (F := Ideal) x g w (ix2 n i) = Rows.dot (rowX x n) (fun j => g (ix1 j)) (col w j) :=
    fun i h => (ref_row x g w n i).trans (congrArg (Rows.dot _ _) (funext fun k => (h k).symm))
  pointwise [val_main_v19, val_main_v18, val_main_v17, val_main_v16, val_main_v15, val_main_call0_v0, val_main_c]
  by_cases h1 : j.val < 2048
  · rw [dif_pos (by omega), dif_pos h1]
    exact hc _ fun k => by unfold col; rw [dif_pos h1]
  by_cases h2 : j.val < 3072
  · rw [dif_pos (by omega), dif_neg h1, dif_pos (by omega)]
    exact hc _ fun k => by unfold col; rw [dif_neg h1, dif_pos h2]; exact congrArg (fun x => w (ix2 k x)) (Fin.ext (by simp only []; omega))
  by_cases h3 : j.val < 3088
  · rw [dif_pos (by omega), dif_neg h1, dif_neg (by omega)]
    exact hc _ fun k => by
      unfold col; rw [dif_neg h1, dif_neg h2, dif_pos h3]; exact congrArg (fun x => w (ix2 k x)) (Fin.ext (by simp only []; omega))
  · rw [dif_neg (by omega)]
    refine Rows.intZero.trans ((congrArg (Rows.dot _ _) (funext fun k => ?_)).trans (Rows.dot_zero _ _)).symm
    unfold col; rw [dif_neg h1, dif_neg h2, dif_neg h3]

theorem ref_outG : val_main_v19 (F := Ideal) x g w = outG x g w := by
  funext y
  obtain ⟨n, j, rfl⟩ : ∃ n j, y = ix2 n j := ⟨y 0, y 1, by funext a; fin_cases a <;> rfl⟩
  exact ref_out x g w n j

end Cert.NormProjOdd
-- ==== Proof.ProjOClaim.lean ====
module

public import proofs.«01_k».proof.Defs
public import proofs.«01_k».proof.Proof.Gen.Kernel4Ideal.Frame
public import proofs.«01_k».proof.Proof.Gen.Reference4Ideal
public import proofs.«01_k».proof.Proof.ProjORef
public import Idealize.ShloMosaic.Lib.Claim

@[expose] public section

set_option maxRecDepth 16384

noncomputable section

namespace Cert.NormProjOdd

open Cert.Kernel4Ideal Cert.Kernel4Ideal.Gen Idealize.ShloMosaic Idealize.ShloMosaic.TcCoe Idealize.SL.Sem

theorem algebraic : Cert.algebraic_Kernel4Ideal_Reference4Ideal := by
  pair_intro
  · run_from Cert.Kernel4Ideal.Gen.run_main m g
    all_goals first
      | exact Cert.Kernel4Ideal.Gen.V_main_arg0 m c
      | exact Cert.Kernel4Ideal.Gen.V_main_arg1 m c
      | exact Cert.Kernel4Ideal.Gen.V_main_arg2 m c
  · run_from Cert.Reference4Ideal.Value.run m' g'
    · rw [Cert.Reference4Ideal.Read.val_main_v19_eq]
      try rw [(hagree c).1]
      try rw [(hagree c).2.1]
      try rw [(hagree c).2.2]
      exact (ref_outG _ _ _).trans (out_arr m c).symm

end Cert.NormProjOdd
-- ==== Proof.HgrnBlock.lean ====
module

public import proofs.«01_k».proof.Proof.Gen.Kernel5Ideal.Value
public import Idealize.ShloMosaic.Lib.Pipeline.ValueKit
public import Idealize.ShloMosaic.Lib.Pointwise
public import Idealize.ShloMosaic.Lib.Claim

@[expose] public section

set_option maxRecDepth 16384

noncomputable section

namespace Cert.HgrnDecode

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The blocks a head's step reads: the gate, the query, the key and the value of every row. -/
abbrev fB (c : Dev nD) (t : Fin cfg0.N) : Vec Ideal S32x128 .f32 := k0_pay2 (F := Ideal) (iblk m c 4 t) (iblk m c 1 t)
abbrev qB (c : Dev nD) (t : Fin cfg0.N) : Vec Ideal S32x128 .f32 := k0_pay3 (F := Ideal) (iblk m c 0 t)
abbrev kB (c : Dev nD) (t : Fin cfg0.N) : Vec Ideal S32x128 .f32 := k0_pay4 (F := Ideal) (iblk m c 4 t) (iblk m c 1 t)
abbrev vB (c : Dev nD) (t : Fin cfg0.N) : Vec Ideal S32x128 .f32 := k0_pay5 (F := Ideal) (iblk m c 2 t)

set_option maxHeartbeats 2000000 in
/-- A row's new state: the decayed old state plus the outer product of key and value. -/
theorem state_point (c : Dev nD) (t : Fin cfg0.N) (y : S32x1x128x128.Idx) :
    (outsAt0 m c t).2 y
      = Ideal.exp (Ideal.log (fB m c t (ix2 (y 0) (y 2)))) * (show Vec Ideal S32x1x128x128 .f32 from iblk m c 6 t) y
        + kB m c t (ix2 (y 0) (y 2)) * vB m c t (ix2 (y 0) (y 3)) := by
  simp only [fB, qB, kB, vB]
  unfold outsAt0
  frame_out
  generalize k0_pay2 (F := Ideal) (iblk m c 4 t) (iblk m c 1 t) = f
  generalize k0_pay4 (F := Ideal) (iblk m c 4 t) (iblk m c 1 t) = k
  generalize k0_pay5 (F := Ideal) (iblk m c 2 t) = v
  canon_tiles x h
  all_goals (open_payloads; pointwise; blk_point [])

/-- What the rows' outputs hold before the norm: the query against the new state. -/
def scr (q f k v : Vec Ideal S32x128 .f32) (s : Vec Ideal S32x1x128x128 .f32) : Vec Ideal S32x128 .f32 :=
  fun i => ∑ a : Fin 128, q (ix2 (i 0) a)
    * (Ideal.exp (Ideal.log (f (ix2 (i 0) a))) * s (ix4 (i 0) 0 a (i 1)) + k (ix2 (i 0) a) * v (ix2 (i 0) (i 1)))

set_option maxHeartbeats 2000000 in
theorem out_point (c : Dev nD) (t : Fin cfg0.N) (y : S32x128.Idx) :
    (outsAt0 m c t).1 y
      = (fun z => k0_pay1 (F := Ideal) z (iblk m c 5 t) (iblk m c 3 t) y) (scr (qB m c t) (fB m c t) (kB m c t) (vB m c t) (iblk m c 6 t)) := by
  simp only [fB, qB, kB, vB]
  unfold outsAt0
  frame_out
  generalize k0_pay2 (F := Ideal) (iblk m c 4 t) (iblk m c 1 t) = f
  generalize k0_pay3 (F := Ideal) (iblk m c 0 t) = q
  generalize k0_pay4 (F := Ideal) (iblk m c 4 t) (iblk m c 1 t) = k
  generalize k0_pay5 (F := Ideal) (iblk m c 2 t) = v
  refine congrArg (fun z => k0_pay1 (F := Ideal) z (iblk m c 5 t) (iblk m c 3 t) y) (funext fun j => ?_)
  rw [View.readCov_eq_canon']
  show View.ld (View.canon _) (Rect.unit (s := S32x128) ![0, 0] S32x128.size inb_S32x128_S32x128_0_0) j = _
  rw [View.ld_unit_zero (by funext a; fin_cases a <;> rfl)]
  canon_tiles x h
  all_goals (open_payloads; pointwise [scr]; blk_point [])

end Cert.HgrnDecode
-- ==== Proof.HgrnRead.lean ====
module

public import proofs.«01_k».proof.Proof.Gen.Kernel5Ideal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.HgrnDecode

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The projection. -/
abbrev argP (c : Dev nD) : Vec Ideal S32x1x3352 .f32 := m ((c : Thread nD τ).loc main_arg0)
/-- The lower bound's logits. -/
abbrev argL (c : Dev nD) : Vec Ideal S2x512 .f32 := m ((c : Thread nD τ).loc main_arg1)
/-- The norm's gain. -/
abbrev argG (c : Dev nD) : Vec Ideal S128 .f32 := m ((c : Thread nD τ).loc main_arg2)
/-- The state before the step. -/
abbrev argS (c : Dev nD) : Vec Ideal S32x4x128x128 .f32 := m ((c : Thread nD τ).loc main_arg3)

/-- The block every window reads or writes at a grid point. -/
theorem idx : ∀ t : Fin cfg0.N, t.val < 4 ∧ win0_0.index t = ![0, t.val] ∧ win0_1.index t = ![0, 4 + t.val] ∧ win0_2.index t = ![0, 8 + t.val]
    ∧ win0_3.index t = ![0, 12 + t.val] ∧ win0_4.index t = ![t.val, 0, 0] ∧ win0_5.index t = ![0, 0]
    ∧ win0_6.index t = ![0, t.val, 0, 0] ∧ win0_7.index t = ![0, t.val] ∧ win0_8.index t = ![0, t.val, 0, 0] :=
  (by decide +kernel : ∀ t : Fin grid0.N, _)

/-- The projection's columns, zeros up to the next block. -/
def cols (p : Vec Ideal S32x1x3352 .f32) : Vec Ideal S32x3584 .f32 :=
  pad S32x3584 ![0, 0] ![0, 232] ![0, 0] (shapeCast S32x3352 p shapeCasts_S32x1x3352_S32x3352) (sitofp (F := Ideal) .f32 (constantI S_ 32 0#32))
    pads_S32x3352_S32x3584_000_02320 h_S_

theorem V_cols (c : Dev nD) : V m c main_v1 = cols (argP m c) := by
  simp only [V, hostOps0, hostOps0_1, hostOps0_2, List.flatten_cons, List.flatten_nil, List.append_nil, List.cons_append, List.nil_append]
  after_reads_simp
  rfl

theorem cols_at (p : Vec Ideal S32x1x3352 .f32) (b : Fin 32) (j : Fin 3584) (i : Fin 3352) (hi : i.val = j) :
    cols p (ix2 b j) = p (ix3 b 0 i) := by
  pointwise [cols]
  rw [dif_pos (by omega)]
  exact congrArg (fun x => p (ix3 b 0 x)) (Fin.ext (by simp only []; omega))

theorem V_lb (c : Dev nD) : V m c main_v3 = transpose S4x2x128 [1, 0, 2] (shapeCast S2x4x128 (argL m c) shapeCasts_S2x512_S2x4x128)
    transposes_S2x4x128_S4x2x128_1_0_2 := by
  simp only [V, hostOps0, hostOps0_1, hostOps0_2, List.flatten_cons, List.flatten_nil, List.append_nil, List.cons_append, List.nil_append]
  after_reads_simp
  rfl

theorem V_gain (c : Dev nD) : V m c main_v4 = shapeCast S1x128 (argG m c) shapeCasts_S128_S1x128 := by
  simp only [V, hostOps0, hostOps0_1, hostOps0_2, List.flatten_cons, List.flatten_nil, List.append_nil, List.cons_append, List.nil_append]
  after_reads_simp
  rfl

theorem qc_at (c : Dev nD) (t : Fin cfg0.N) (b : Fin 32) (k : Fin 128) (i : Fin 3352) (hi : (i : ℕ) = 0 + t.val * 128 + k) :
    (show Vec Ideal S32x128 .f32 from iblk m c 0 t) (ix2 b k) = (argP m c) (ix3 b 0 i) := by
  have ht := (idx t).1
  refine Eq.trans ?_ ((congrFun (V_cols m c) (ix2 b ⟨0 + t.val * 128 + k, by omega⟩)).trans (cols_at _ b _ i (by simp only []; omega)))
  blk_ext [iblk, idx t]

theorem fc_at (c : Dev nD) (t : Fin cfg0.N) (b : Fin 32) (k : Fin 128) (i : Fin 3352) (hi : (i : ℕ) = 512 + t.val * 128 + k) :
    (show Vec Ideal S32x128 .f32 from iblk m c 1 t) (ix2 b k) = (argP m c) (ix3 b 0 i) := by
  have ht := (idx t).1
  refine Eq.trans ?_ ((congrFun (V_cols m c) (ix2 b ⟨512 + t.val * 128 + k, by omega⟩)).trans (cols_at _ b _ i (by simp only []; omega)))
  blk_ext [iblk, idx t]

theorem vc_at (c : Dev nD) (t : Fin cfg0.N) (b : Fin 32) (k : Fin 128) (i : Fin 3352) (hi : (i : ℕ) = 1024 + t.val * 128 + k) :
    (show Vec Ideal S32x128 .f32 from iblk m c 2 t) (ix2 b k) = (argP m c) (ix3 b 0 i) := by
  have ht := (idx t).1
  refine Eq.trans ?_ ((congrFun (V_cols m c) (ix2 b ⟨1024 + t.val * 128 + k, by omega⟩)).trans (cols_at _ b _ i (by simp only []; omega)))
  blk_ext [iblk, idx t]

theorem gc_at (c : Dev nD) (t : Fin cfg0.N) (b : Fin 32) (k : Fin 128) (i : Fin 3352) (hi : (i : ℕ) = 1536 + t.val * 128 + k) :
    (show Vec Ideal S32x128 .f32 from iblk m c 3 t) (ix2 b k) = (argP m c) (ix3 b 0 i) := by
  have ht := (idx t).1
  refine Eq.trans ?_ ((congrFun (V_cols m c) (ix2 b ⟨1536 + t.val * 128 + k, by omega⟩)).trans (cols_at _ b _ i (by simp only []; omega)))
  blk_ext [iblk, idx t]

theorem lb_at (c : Dev nD) (t : Fin cfg0.N) (x : Fin 2) (k : Fin 128) (j : Fin 512) (hj : (j : ℕ) = t.val * 128 + k) :
    (show Vec Ideal S1x2x128 .f32 from iblk m c 4 t) (ix3 0 x k) = (argL m c) (ix2 x j) := by
  have ht := (idx t).1
  have h : (show Vec Ideal S4x2x128 .f32 from V m c main_v3) (ix3 ⟨t.val, ht⟩ x k) = (argL m c) (ix2 x j) := by
    rw [V_lb]
    pointwise []
    exact congrArg (fun z => argL m c (ix2 x z)) (Fin.ext (by simp only []; omega))
  rw [← h]
  blk_ext [iblk, idx t]

theorem gain_at (c : Dev nD) (t : Fin cfg0.N) (n : Fin 128) :
    (show Vec Ideal S1x128 .f32 from iblk m c 5 t) (ix2 0 n) = (argG m c) (ix1 n) := by
  have ht := (idx t).1
  refine Eq.trans ?_ ((congrFun (V_gain m c) (ix2 0 n)).trans (by pointwise))
  blk_ext [iblk, idx t]

theorem s_at (c : Dev nD) (t : Fin cfg0.N) (b : Fin 32) (h : Fin 4) (k : Fin 128) (n : Fin 128) (hh : h.val = t.val) :
    (show Vec Ideal S32x1x128x128 .f32 from iblk m c 6 t) (ix4 b 0 k n) = (argS m c) (ix4 b h k n) := by
  have ht := (idx t).1
  show _ = (argS m c) (ix4 b h k n)
  refine Eq.trans ?_ (congrFun (V_main_arg3 m c) (ix4 b h k n))
  blk_ext [iblk, idx t]

end Cert.HgrnDecode
-- ==== Proof.HgrnArr.lean ====
module

public import proofs.«01_k».proof.Proof.HgrnBlock
public import proofs.«01_k».proof.Proof.HgrnRead
public import proofs.«01_k».proof.Proof.Scalar

@[expose] public section

set_option maxRecDepth 16384

noncomputable section

namespace Cert.HgrnDecode

open Cert.Kernel5Ideal Cert.Kernel5Ideal.Gen Idealize.ShloMosaic Idealize.ShloMosaic.TcCoe Idealize.SL.Sem
open Idealize.ShloMosaic.Pipeline (Dat)

variable (p : Vec Ideal S32x1x3352 .f32) (l : Vec Ideal S2x512 .f32) (g : Vec Ideal S128 .f32) (s : Vec Ideal S32x4x128x128 .f32)

/-- A channel of a head. -/
abbrev chan (h : Fin 4) (k : Fin 128) : Fin 512 := ⟨h.val * 128 + k.val, by omega⟩

/-- The logistic, written with the hyperbolic tangent. -/
def lgs (x : EReal) : EReal :=
  Ideal.ofBits .f32 0x3F000000#32 * Ideal.tanh (Ideal.ofBits .f32 0x3F000000#32 * x) + Ideal.ofBits .f32 0x3F000000#32

/-- A channel's larger logit. -/
def peak (l : Fin 2 → EReal) : EReal := Finset.fold max (Ideal.ofBits .f32 0xFF800000#32) l Finset.univ

/-- A channel's lower bound: the soft-max of its two logits, the first. -/
def bound (l : Fin 2 → EReal) : EReal := Ideal.div (Ideal.exp (l 0 - peak l)) (∑ x, Ideal.exp (l x - peak l))

/-- A channel's forget gate, between its lower bound and one. -/
def gate (b : Fin 32) (j : Fin 512) : EReal :=
  bound (fun x => l (ix2 x j)) + (1 - bound (fun x => l (ix2 x j))) * lgs (p (ix3 b 0 ⟨512 + j.val, by omega⟩))

/-- A channel's query. -/
def query (b : Fin 32) (j : Fin 512) : EReal := p (ix3 b 0 ⟨j.val, by omega⟩) * lgs (p (ix3 b 0 ⟨j.val, by omega⟩))

/-- The state after the step. -/
def newS (b : Fin 32) (h : Fin 4) (k : Fin 128) (n : Fin 128) : EReal :=
  Ideal.exp (Ideal.log (gate p l b (chan h k))) * s (ix4 b h k n)
    + (1 - gate p l b (chan h k)) * p (ix3 b 0 ⟨1024 + (chan h n).val, by omega⟩)

/-- The query against the new state. -/
def raw (b : Fin 32) (h : Fin 4) (n : Fin 128) : EReal := ∑ k : Fin 128, query p b (chan h k) * newS p l s b h k n

/-- A head's output `z` normed over its values, scaled by the gain and gated by `r`. -/
def gated (z : Fin 128 → EReal) (g r : EReal) (n : Fin 128) : EReal :=
  z n * Ideal.rsqrt (Ideal.div (∑ x, z x * z x) (Ideal.ofBits .f32 0x43000000#32) + Ideal.ofBits .f32 0x358637BD#32) * g * lgs r

variable (m : (ℓ : Loc nD τ sig) → Buf (Elt Ideal) ℓ)

theorem f_pt (l : Vec Ideal S1x2x128 .f32) (f : Vec Ideal S32x128 .f32) (b : Fin 32) (k : Fin 128) :
    k0_pay2 (F := Ideal) l f (ix2 b k)
      = bound (fun x => l (ix3 0 x k)) + (1 - bound (fun x => l (ix3 0 x k))) * lgs (f (ix2 b k)) := by
  unfold bound peak lgs
  pointwise [k0_pay2]

theorem f_at (c : Dev nD) (t : Fin cfg0.N) (h : Fin 4) (hh : h.val = t.val) (b : Fin 32) (k : Fin 128) :
    fB m c t (ix2 b k) = gate (argP m c) (argL m c) b (chan h k) := by
  refine (f_pt _ _ b k).trans ?_
  unfold gate
  rw [show (fun x => (show Vec Ideal S1x2x128 .f32 from iblk m c 4 t) (ix3 0 x k)) = fun x => argL m c (ix2 x (chan h k)) from
    funext fun x => lb_at m c t x k (chan h k) (by rw [← hh])]
  generalize bound (fun x => argL m c (ix2 x (chan h k))) = β
  exact congrArg (fun z => β + (1 - β) * lgs z) (fc_at m c t b k _ (by simp only []; omega))

theorem q_pt (q : Vec Ideal S32x128 .f32) (b : Fin 32) (k : Fin 128) : k0_pay3 (F := Ideal) q (ix2 b k) = q (ix2 b k) * lgs (q (ix2 b k)) := by
  unfold lgs
  pointwise [k0_pay3]

theorem q_at (c : Dev nD) (t : Fin cfg0.N) (h : Fin 4) (hh : h.val = t.val) (b : Fin 32) (k : Fin 128) :
    qB m c t (ix2 b k) = query (argP m c) b (chan h k) := by
  refine (q_pt _ b k).trans ?_
  unfold query
  exact congrArg (fun z => z * lgs z) (qc_at m c t b k _ (by simp only []; omega))

theorem k_at (c : Dev nD) (t : Fin cfg0.N) (h : Fin 4) (hh : h.val = t.val) (b : Fin 32) (k : Fin 128) :
    kB m c t (ix2 b k) = 1 - gate (argP m c) (argL m c) b (chan h k) := by
  rw [← f_at m c t h hh b k]
  pointwise [kB, k0_pay4]

theorem v_at (c : Dev nD) (t : Fin cfg0.N) (h : Fin 4) (hh : h.val = t.val) (b : Fin 32) (n : Fin 128) :
    vB m c t (ix2 b n) = argP m c (ix3 b 0 ⟨1024 + (chan h n).val, by omega⟩) := by
  refine Eq.trans ?_ (vc_at m c t b n _ (by simp only []; omega))
  pointwise [vB, k0_pay5]

theorem newS_at (c : Dev nD) (t : Fin cfg0.N) (h : Fin 4) (hh : h.val = t.val) (b : Fin 32) (k : Fin 128) (n : Fin 128) :
    Ideal.exp (Ideal.log (fB m c t (ix2 b k))) * (show Vec Ideal S32x1x128x128 .f32 from iblk m c 6 t) (ix4 b 0 k n)
        + kB m c t (ix2 b k) * vB m c t (ix2 b n)
      = newS (argP m c) (argL m c) (argS m c) b h k n := by
  unfold newS
  rw [f_at m c t h hh, s_at m c t b h k n hh, k_at m c t h hh, v_at m c t h hh]

theorem raw_at (c : Dev nD) (t : Fin cfg0.N) (h : Fin 4) (hh : h.val = t.val) (b : Fin 32) (n : Fin 128) :
    scr (qB m c t) (fB m c t) (kB m c t) (vB m c t) (iblk m c 6 t) (ix2 b n) = raw (argP m c) (argL m c) (argS m c) b h n := by
  unfold scr raw
  refine Finset.sum_congr rfl fun k _ => ?_
  rw [← newS_at m c t h hh b k n, ← q_at m c t h hh b k]
  rfl

theorem pay1_at (z : Vec Ideal S32x128 .f32) (g : Vec Ideal S1x128 .f32) (r : Vec Ideal S32x128 .f32) (b : Fin 32) (n : Fin 128) :
    k0_pay1 (F := Ideal) z g r (ix2 b n) = gated (fun x => z (ix2 b x)) (g (ix2 0 n)) (r (ix2 b n)) n := by
  unfold gated lgs
  pointwise [k0_pay1]

/-- The step's output: every head's new state read by its query, normed and gated. -/
def outG : Vec Ideal S32x512 .f32 := fun y =>
  gated (raw p l s (y 0) ⟨(y 1).val / 128, by have := (y 1).isLt; simp only [Nat.div_lt_iff_lt_mul (by decide : 0 < 128)]; exact this⟩)
    (g (ix1 ⟨(y 1).val % 128, Nat.mod_lt _ (by decide)⟩))
    (p (ix3 (y 0) 0 ⟨1536 + (y 1).val, by have : (y 1).val < 512 := (y 1).isLt; omega⟩)) ⟨(y 1).val % 128, Nat.mod_lt _ (by decide)⟩

/-- The state after the step, as an array. -/
def stateG : Vec Ideal S32x4x128x128 .f32 := fun y => newS p l s (y 0) (y 1) (y 2) (y 3)

theorem emb8 (G : Vec Ideal S32x4x128x128 .f32) (t : Fin cfg0.N) (ht : t.val < 4) (b : Fin 32) (z : Fin 1) (k : Fin 128) (n : Fin 128) :
    G ((win0_8.blk t).view.emb (ix4 b z k n)) = G (ix4 b ⟨t.val, ht⟩ k n) := by
  blk_ext [idx t]

theorem emb7 (G : Vec Ideal S32x512 .f32) (t : Fin cfg0.N) (ht : t.val < 4) (b : Fin 32) (n : Fin 128) :
    G ((win0_7.blk t).view.emb (ix2 b n)) = G (ix2 b ⟨t.val * 128 + n.val, by omega⟩) := by
  blk_ext [idx t]

theorem state_pt (c : Dev nD) (t : Fin cfg0.N) (ht : t.val < 4) (b : Fin 32) (z : Fin 1) (k : Fin 128) (n : Fin 128) :
    (outsAt0 m c t).2 (ix4 b z k n) = stateG (argP m c) (argL m c) (argS m c) (ix4 b ⟨t.val, ht⟩ k n) := by
  obtain rfl : z = 0 := Subsingleton.elim _ _
  exact (state_point m c t (ix4 b 0 k n)).trans (newS_at m c t ⟨t.val, ht⟩ rfl b k n)

theorem out_pt (c : Dev nD) (t : Fin cfg0.N) (ht : t.val < 4) (b : Fin 32) (n : Fin 128) :
    (outsAt0 m c t).1 (ix2 b n) = outG (argP m c) (argL m c) (argG m c) (argS m c) (ix2 b ⟨t.val * 128 + n.val, by omega⟩) := by
  refine (out_point m c t (ix2 b n)).trans ?_
  refine (pay1_at _ _ _ b n).trans ?_
  refine (congrFun (congr (congr (congrArg gated (funext fun x => raw_at m c t ⟨t.val, ht⟩ rfl b x)) (gain_at m c t n))
    (gc_at m c t b n ⟨1536 + (t.val * 128 + n.val), by omega⟩ (by simp only []; omega))) n).trans ?_
  have hd : (⟨(t.val * 128 + n.val) / 128, by omega⟩ : Fin 4) = ⟨t.val, ht⟩ := Fin.ext (by simp only []; omega)
  have hm : (⟨(t.val * 128 + n.val) % 128, by omega⟩ : Fin 128) = n := Fin.ext (by simp only []; omega)
  show _ = gated (raw _ _ _ b ⟨(t.val * 128 + n.val) / 128, _⟩) (argG m c (ix1 ⟨(t.val * 128 + n.val) % 128, _⟩))
    (argP m c (ix3 b 0 ⟨1536 + (t.val * 128 + n.val), _⟩)) ⟨(t.val * 128 + n.val) % 128, _⟩
  rw [hd, hm]

theorem state_arr (c : Dev nD) : (dats m 0 c).arrAt 8 cfg0.N = stateG (argP m c) (argL m c) (argS m c) := by
  refine (dats m 0 c).arrAt_eq_of_covers 8 _ (by decide +kernel) fun t hf y => ?_
  have ht := (idx t).1
  blk_simp
  rw [after0_8]
  have key : ∀ y : S32x1x128x128.Idx, (outsAt0 m c t).2 y
      = stateG (argP m c) (argL m c) (argS m c) ((win0_8.blk t).view.emb y) := by
    intro y
    obtain ⟨b, z, k, n, rfl⟩ : ∃ b z k n, y = ix4 b z k n := ⟨y 0, y 1, y 2, y 3, by funext a; fin_cases a <;> rfl⟩
    exact (state_pt m c t ht b z k n).trans (emb8 _ t ht b z k n).symm
  exact key y

theorem out_arr (c : Dev nD) : (dats m 0 c).arrAt 7 cfg0.N = outG (argP m c) (argL m c) (argG m c) (argS m c) := by
  refine (dats m 0 c).arrAt_eq_of_covers 7 _ (by decide +kernel) fun t hf y => ?_
  have ht := (idx t).1
  blk_simp
  rw [after0_7]
  have key : ∀ y : S32x128.Idx, (outsAt0 m c t).1 y
      = outG (argP m c) (argL m c) (argG m c) (argS m c) ((win0_7.blk t).view.emb y) := by
    intro y
    obtain ⟨b, n, rfl⟩ : ∃ b n, y = ix2 b n := ⟨y 0, y 1, by funext a; fin_cases a <;> rfl⟩
    exact (out_pt m c t ht b n).trans (emb7 _ t ht b n).symm
  exact key y

end Cert.HgrnDecode
-- ==== Proof.HgrnRef.lean ====
module

public import proofs.«01_k».proof.Proof.Gen.Reference5Ideal.Run
public import proofs.«01_k».proof.Proof.Gen.Reference5Ideal.Read
public import proofs.«01_k».proof.Proof.HgrnArr
public import proofs.«01_k».proof.Proof.Scan
public import proofs.«01_k».proof.Proof.Scalar

@[expose] public section

set_option maxRecDepth 16384

noncomputable section

namespace Cert.HgrnDecode

open Cert.Reference5Ideal Cert.Reference5Ideal.Gen Cert.Reference5Ideal.Read Idealize.ShloMosaic Idealize.ShloMosaic.TcCoe Idealize.SL.Sem

variable (p : Vec Ideal S32x1x3352 .f32) (l : Vec Ideal S2x512 .f32) (g : Vec Ideal S128 .f32) (s : Vec Ideal S32x4x128x128 .f32)

theorem lgs_eq (x : EReal) : lgs x = Ideal.logistic x := Scalar.sigmoid_eq x

theorem ref_soft (x : Fin 2) (j : Fin 512) :
    val_main_v11 (F := Ideal) l (ix2 x j)
      = Ideal.div (Ideal.exp (l (ix2 x j) - peak fun x => l (ix2 x j))) (∑ y, Ideal.exp (l (ix2 y j) - peak fun x => l (ix2 x j))) := by
  have hb : ∀ z : EReal, max (Ideal.ofBits .f32 0xFF800000#32) z = z := fun z => by rw [Scalar.negInf_lit]; exact max_eq_right bot_le
  unfold peak
  pointwise [val_main_v11, val_main_v10, val_main_v9, val_main_v8, val_main_v7, val_main_v6, val_main_v5, val_main_v4, val_main_v3, val_main_v2,
    val_main_v1, val_main_cst, val_main_cst_0, val_main_cst_1]
  simp only [hb]

theorem ref_bound (j : Fin 512) : val_main_v14 (F := Ideal) l (ix1 j) = bound fun x => l (ix2 x j) := by
  have h : val_main_v12 (F := Ideal) l (ix2 0 j) = bound fun x => l (ix2 x j) := by
    unfold val_main_v12
    refine (Cert.Scan.window_first _ _ _ _ _).trans ?_
    rw [ref_soft]
    pointwise [val_main_call0_call0_v0, val_main_call0_call0_cst]
    rfl
  pointwise [val_main_v14, val_main_v13]
  exact h

theorem ref_gate (b : Fin 32) (z : Fin 1) (h : Fin 4) (k : Fin 128) :
    val_main_v33 (F := Ideal) p l (ix4 b z h k) = gate p l b (chan h k) := by
  unfold gate
  rw [lgs_eq]
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_cst_2, val_main_cst_3, val_main_cst_4, val_main_v0,
    ref_bound]
  rfl

theorem ref_query (b : Fin 32) (z : Fin 1) (h : Fin 4) (k : Fin 128) :
    val_main_v17 (F := Ideal) p (ix4 b z h k) = query p b (chan h k) := by
  unfold query
  rw [lgs_eq]
  pointwise [val_main_v17, val_main_v16, val_main_v15, val_main_call1_v0, val_main_call1_v1, val_main_call1_v2, val_main_call1_v3, val_main_call1_v4,
    val_main_call1_v5, val_main_call1_cst, val_main_call1_cst_0, val_main_v0]
  rfl

theorem ref_key (b : Fin 32) (z : Fin 1) (h : Fin 4) (k : Fin 128) :
    val_main_v39 (F := Ideal) p l (ix4 b z h k) = 1 - gate p l b (chan h k) := by
  pointwise [val_main_v39, val_main_v38, val_main_cst_5, ref_gate]

theorem ref_value (b : Fin 32) (z : Fin 1) (h : Fin 4) (n : Fin 128) :
    val_main_v35 (F := Ideal) p (ix4 b z h n) = p (ix3 b 0 ⟨1024 + (chan h n).val, by omega⟩) := by
  pointwise [val_main_v35, val_main_v34, val_main_v0]

theorem ref_og (b : Fin 32) (z : Fin 1) (h : Fin 4) (n : Fin 128) :
    val_main_v37 (F := Ideal) p (ix4 b z h n) = p (ix3 b 0 ⟨1536 + (h.val * 128 + n.val), by omega⟩) := by
  pointwise [val_main_v37, val_main_v36, val_main_v0]

theorem ref_cum (b : Fin 32) (z : Fin 1) (h : Fin 4) (k : Fin 128) :
    val_main_v44 (F := Ideal) p l (ix4 b z h k) = Ideal.log (gate p l b (chan h k)) := by
  unfold val_main_v44
  refine (Cert.Scan.window_one _ _ _ _ _).trans ?_
  pointwise [val_main_v40, ref_gate, val_main_call3_call0_v0, val_main_call3_call0_cst]

theorem ref_dec (b : Fin 32) (x y : Fin 1) (h : Fin 4) (k : Fin 128) :
    val_main_v49 (F := Ideal) p l (ix5 b x y h k) = Ideal.exp (Ideal.log (gate p l b (chan h k)) - Ideal.log (gate p l b (chan h k))) := by
  pointwise [val_main_v49, val_main_v48, val_main_v47, val_main_v46, val_main_v45, val_main_v43, val_main_v42, val_main_v41, val_main_c, val_main_call4_v0,
    val_main_call4_v1, val_main_call4_v2, val_main_cst_6, val_main_call2_v0, val_main_call2_v1, val_main_call2_v2, val_main_call2_v3, val_main_call2_v4,
    val_main_call2_v5, val_main_call2_c, val_main_call2_c_0, ref_cum]
  rw [show IntOp.cmpi CmpIPredicate.sge (IntOp.addi 0#32 0#32) 0#32 = 1#1 by decide]
  rfl

/-- The arguments the claim is about: no infinity among the queries, the values and the lower bound's logits. -/
structure Reals (p : Vec Ideal S32x1x3352 .f32) (l : Vec Ideal S2x512 .f32) : Prop where
  q : ∀ (b : Fin 32) (i : Fin 3352), i.val < 512 → Scalar.IsReal (p (ix3 b 0 i))
  v : ∀ (b : Fin 32) (i : Fin 3352), 1024 ≤ i.val → i.val < 1536 → Scalar.IsReal (p (ix3 b 0 i))
  l : ∀ i, Scalar.IsReal (l i)

variable {p l s}

theorem bound_real (r : Reals p l) (j : Fin 512) : ∃ x : ℝ, bound (fun x => l (ix2 x j)) = x ∧ 0 < x ∧ x ≤ 1 := by
  obtain ⟨a, ha⟩ := r.l (ix2 0 j)
  obtain ⟨b, hb⟩ := r.l (ix2 1 j)
  have hp : peak (fun x => l (ix2 x j)) = ((max a b : ℝ) : EReal) := by
    unfold peak
    rw [show (Finset.univ : Finset (Fin 2)) = {0, 1} from rfl, Finset.fold_insert (by decide), Finset.fold_singleton, ha, hb, Scalar.negInf_lit,
      max_eq_left bot_le, Scalar.coe_max]
  unfold bound
  rw [hp, Fin.sum_univ_two]
  simp only [ha, hb]
  exact Scalar.softmax_real a b _

theorem gate_real (r : Reals p l) (b : Fin 32) (j : Fin 512) : Scalar.IsReal (gate p l b j) ∧ Scalar.IsReal (Ideal.log (gate p l b j)) := by
  unfold gate
  rw [lgs_eq]
  exact Scalar.blend_real (bound_real r j) (Scalar.logistic_real _)

theorem query_real (r : Reals p l) (b : Fin 32) (j : Fin 512) : Scalar.IsReal (query p b j) := by
  unfold query
  rw [lgs_eq]
  obtain ⟨x, hx, _⟩ := Scalar.logistic_real (p (ix3 b 0 ⟨j.val, by omega⟩))
  exact (r.q _ _ (by simp only []; omega)).mul ⟨x, hx⟩

theorem ref_state (r : Reals p l) (b : Fin 32) (h : Fin 4) (k : Fin 128) (n : Fin 128) :
    val_main_v73 (F := Ideal) p l s (ix4 b h k n) = newS p l s b h k n := by
  pointwise [val_main_v73, val_main_v72, val_main_v71, val_main_v70, val_main_v69, val_main_v68, val_main_v67, val_main_v66, val_main_v65, val_main_v64,
    val_main_v63, ref_cum, ref_key, ref_value]
  rw [(gate_real r b (chan h k)).2.exp_sub_self, mul_one]
  simp [newS]

theorem ref_a (r : Reals p l) (b : Fin 32) (h : Fin 4) (x y : Fin 1) :
    val_main_v55 (F := Ideal) p l (ix4 b h x y) = ∑ k : Fin 128, query p b (chan h k) * (1 - gate p l b (chan h k)) := by
  pointwise [val_main_v55, val_main_v54, val_main_v53, val_main_v52, val_main_v51, val_main_v50, val_main_cst_7, ref_dec, ref_query, ref_key]
  exact Finset.sum_congr rfl fun k _ => by rw [(gate_real r b (chan h k)).2.exp_sub_self, mul_one]

theorem ref_raw (r : Reals p l) (b : Fin 32) (z : Fin 1) (h : Fin 4) (n : Fin 128) :
    val_main_v62 (F := Ideal) p l s (ix4 b z h n) = raw p l s b h n := by
  pointwise [val_main_v62, val_main_v61, val_main_v60, val_main_v59, val_main_v58, val_main_v57, val_main_v56, ref_cum, ref_query, ref_value]
  simp only [Fin.sum_univ_one, Finset.univ_unique, Finset.sum_singleton]
  rw [ref_a r]
  unfold raw newS
  exact (Scalar.read_sum _ _ _ _ _ (fun k => query_real r _ _) (fun k => (gate_real r _ _).1.one_sub)
    (r.v _ _ (by simp only []; omega) (by simp only []; omega))).symm

theorem ref_out (r : Reals p l) (b : Fin 32) (z : Fin 1) (h : Fin 4) (n : Fin 128) :
    val_main_v93 (F := Ideal) p l g s (ix4 b z h n)
      = gated (raw p l s b h) (g (ix1 n)) (p (ix3 b 0 ⟨1536 + (h.val * 128 + n.val), by omega⟩)) n := by
  pointwise [val_main_v93, val_main_v92, val_main_v91, val_main_v90, val_main_v89, val_main_v88, val_main_v87, val_main_v86, val_main_v85, val_main_v84,
    val_main_v83, val_main_v82, val_main_v81, val_main_v80, val_main_v79, val_main_v78, val_main_v77, val_main_v76, val_main_v75, val_main_v74,
    val_main_cst_8, val_main_cst_9, val_main_cst_10, val_main_cst_11, val_main_cst_12, ref_og]
  simp only [ref_raw r]
  unfold gated
  rw [lgs_eq]
  rfl

theorem ref_stateG (r : Reals p l) : val_main_v73 (F := Ideal) p l s = stateG p l s := by
  funext y
  obtain ⟨b, h, k, n, rfl⟩ : ∃ b h k n, y = ix4 b h k n := ⟨y 0, y 1, y 2, y 3, by funext a; fin_cases a <;> rfl⟩
  exact ref_state r b h k n

theorem ref_outG (r : Reals p l) : val_main_v94 (F := Ideal) p l g s = outG p l g s := by
  funext y
  obtain ⟨b, j, rfl⟩ : ∃ b j, y = ix2 b j := ⟨y 0, y 1, by funext a; fin_cases a <;> rfl⟩
  pointwise [val_main_v94]
  rw [ref_out g r]
  have hj : (⟨1536 + (j.val / 128 * 128 + j.val % 128), by omega⟩ : Fin 3352) = ⟨1536 + j.val, by omega⟩ := Fin.ext (by simp only []; omega)
  rw [hj]
  rfl

end Cert.HgrnDecode
-- ==== Proof.HgrnClaim.lean ====
module

public import proofs.«01_k».proof.Defs
public import proofs.«01_k».proof.Proof.Gen.Pre_hgrn_finite
public import proofs.«01_k».proof.Proof.Gen.Kernel5Ideal.Frame
public import proofs.«01_k».proof.Proof.Gen.Reference5Ideal
public import proofs.«01_k».proof.Proof.HgrnRef
public import proofs.«01_k».proof.Proof.Finite
public import Idealize.ShloMosaic.Lib.Claim

@[expose] public section

set_option maxRecDepth 16384

noncomputable section

namespace Cert.HgrnDecode

open Idealize.ShloMosaic Idealize.ShloMosaic.TcCoe Idealize.SL.Sem

variable (m : (ℓ : Loc Cert.Kernel5Ideal.nD Cert.Kernel5Ideal.τ Cert.Kernel5Ideal.sig) → Buf (Elt Ideal) ℓ)

instance : Subsingleton Cert.Pre_hgrn_finite.S_.Idx := ⟨fun a b => funext fun i => i.elim0⟩

/-- What the precondition says of the arguments. -/
theorem reals (hpre : Cert.Pre_Kernel5Ideal_hgrn_finite m) (c : Dev Cert.Kernel5Ideal.nD) : Reals (argP m c) (argL m c) := by
  have h0 := congrFun (hpre c) (fun i => i.elim0)
  obtain ⟨h1, hl⟩ := Scalar.and_one h0
  obtain ⟨hq, hv⟩ := Scalar.and_one h1
  refine ⟨fun b i hi => ?_, fun b i hi hi' => ?_, fun i => ?_⟩
  · have := Scalar.isReal_of_all _ _ _ _ _ _ _ hq (ix3 b 0 ⟨i.val, hi⟩)
    refine cast (congrArg Scalar.IsReal ?_) this
    pointwise []
  · have := Scalar.isReal_of_all _ _ _ _ _ _ _ hv (ix3 b 0 ⟨i.val - 1024, by omega⟩)
    refine cast (congrArg Scalar.IsReal ?_) this
    pointwise []
    exact congrArg (fun z => argP m c (ix3 b 0 z)) (Fin.ext (by simp only []; omega))
  · exact Scalar.isReal_of_all _ _ _ _ _ _ _ hl i

theorem algebraic : Cert.algebraic_Kernel5Ideal_Reference5Ideal_pre_hgrn_finite := by
  pair_intro
  · run_from Cert.Kernel5Ideal.Gen.run_main m g
    all_goals first
      | exact Cert.Kernel5Ideal.Gen.V_main_arg0 m c
      | exact Cert.Kernel5Ideal.Gen.V_main_arg1 m c
      | exact Cert.Kernel5Ideal.Gen.V_main_arg2 m c
      | exact Cert.Kernel5Ideal.Gen.V_main_arg3 m c
  · run_from Cert.Reference5Ideal.Value.run m' g'
    · rw [Cert.Reference5Ideal.Read.val_main_v94_eq, (hagree c).1, (hagree c).2.1, (hagree c).2.2.1, (hagree c).2.2.2]
      exact (ref_outG _ (reals m hpre c)).trans (out_arr m c).symm
    · rw [Cert.Reference5Ideal.Read.val_main_v73_eq, (hagree c).1, (hagree c).2.1, (hagree c).2.2.2]
      exact (ref_stateG (reals m hpre c)).trans (state_arr m c).symm

end Cert.HgrnDecode
-- ==== Proof.ProjEArr.lean ====
module

public import proofs.«01_k».proof.Proof.Gen.Kernel6Ideal.Value
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.Rows

@[expose] public section

set_option maxRecDepth 16384

noncomputable section

namespace Cert.NormProjEven

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The stream. -/
abbrev argX (c : Dev nD) : Vec Ideal S32x1x1024 .f32 := m ((c : Thread nD τ).loc main_arg0)
/-- The norm's gain. -/
abbrev argG (c : Dev nD) : Vec Ideal S1024 .f32 := m ((c : Thread nD τ).loc main_arg1)
/-- The projection's weights. -/
abbrev argW (c : Dev nD) : Vec Ideal S1024x3352 .f32 := m ((c : Thread nD τ).loc main_arg2)

/-- The block every window reads or writes at a grid point. -/
theorem idx : ∀ t : Fin cfg0.N, t.val < 2 ∧ win0_0.index t = ![0, 0] ∧ win0_1.index t = ![0, 0] ∧ win0_2.index t = ![0, t.val]
    ∧ win0_3.index t = ![0, t.val] :=
  (by decide +kernel : ∀ t : Fin grid0.N, _)

/-- The weights with zero columns up to the next block. -/
def cols (w : Vec Ideal S1024x3352 .f32) : Vec Ideal S1024x3584 .f32 :=
  pad S1024x3584 ![0, 0] ![0, 232] ![0, 0] w (sitofp (F := Ideal) .f32 (constantI S_ 32 0#32)) pads_S1024x3352_S1024x3584_000_02320 h_S_

theorem V_cols (c : Dev nD) : V m c main_v1 = truncf (F := Ideal) .bf16 (cols (argW m c)) bitsLt_bf16_f32 := by
  simp only [V, hostOps0, hostOps0_1, hostOps0_2, List.flatten_cons, List.flatten_nil, List.append_nil, List.cons_append, List.nil_append]
  after_reads_simp
  rfl

/-- A column of the weights, zero past the last. -/
def col (w : Vec Ideal S1024x3352 .f32) (j : Fin 3584) (k : Fin 1024) : EReal :=
  if h : j.val < 3352 then w (ix2 k ⟨j.val, h⟩) else 0

theorem cols_eq (w : Vec Ideal S1024x3352 .f32) (k : Fin 1024) (j : Fin 3584) : cols w (ix2 k j) = col w j k := by
  unfold col
  pointwise [cols]
  by_cases h : j.val < 3352
  · rw [dif_pos (by omega), dif_pos h]
  · rw [dif_neg (by omega), dif_neg h]
    exact Rows.intZero

theorem V_x (c : Dev nD) : V m c main_v2 = shapeCast S32x1024 (argX m c) shapeCasts_S32x1x1024_S32x1024 := by
  simp only [V, hostOps0, hostOps0_1, hostOps0_2, List.flatten_cons, List.flatten_nil, List.append_nil, List.cons_append, List.nil_append]
  after_reads_simp
  rfl

theorem V_g (c : Dev nD) : V m c main_v3 = shapeCast S1x1024 (argG m c) shapeCasts_S1024_S1x1024 := by
  simp only [V, hostOps0, hostOps0_1, hostOps0_2, List.flatten_cons, List.flatten_nil, List.append_nil, List.cons_append, List.nil_append]
  after_reads_simp
  rfl

theorem x_at (c : Dev nD) (t : Fin cfg0.N) (b : Fin 32) (j : Fin 1024) :
    (show Vec Ideal S32x1024 .f32 from iblk m c 0 t) (ix2 b j) = argX m c (ix3 b 0 j) := by
  refine Eq.trans ?_ ((congrFun (V_x m c) (ix2 b j)).trans (by pointwise []))
  blk_ext [iblk, idx t]

theorem g_at (c : Dev nD) (t : Fin cfg0.N) (j : Fin 1024) :
    (show Vec Ideal S1x1024 .f32 from iblk m c 1 t) (ix2 0 j) = argG m c (ix1 j) := by
  refine Eq.trans ?_ ((congrFun (V_g m c) (ix2 0 j)).trans (by pointwise))
  blk_ext [iblk, idx t]

theorem w_at (c : Dev nD) (t : Fin cfg0.N) (k : Fin 1024) (j : Fin 1792) (i : Fin 3584) (hi : i.val = t.val * 1792 + j.val) :
    (show Vec Ideal S1024x1792 .bf16 from iblk m c 2 t) (ix2 k j) = col (argW m c) i k := by
  refine Eq.trans ?_ ((congrFun (V_cols m c) (ix2 k i)).trans (cols_eq _ k i))
  blk_ext [iblk, idx t]

/-- The first block of columns, and the normed rows it leaves behind. -/
theorem first_point (c : Dev nD) (t : Fin cfg0.N) (h0 : t.val % 2 = 0) :
    outsAt0 m c t.val t.isLt
      = (k0_pay2 (F := Ideal) (k0_pay1 (F := Ideal) (iblk m c 0 t) (iblk m c 1 t)) (iblk m c 2 t), k0_pay1 (F := Ideal) (iblk m c 0 t) (iblk m c 1 t)) := by
  rw [outsAt0_A m c t h0]
  refine Prod.ext ?_ ?_
  · frame_out
  · frame_out

/-- The second block of columns, from the rows the first left behind. -/
theorem second_point (c : Dev nD) (t : Fin cfg0.N) (h0 : ¬t.val % 2 = 0) (hp : t.val - 1 < cfg0.N) :
    (outsAt0 m c t.val t.isLt).1 = k0_pay2 (F := Ideal) (outsAt0 m c (t.val - 1) hp).2 (iblk m c 2 t) := by
  rw [outsAt0_B m c t h0]
  generalize (outsAt0 m c (t.val - 1) _).2 = r
  frame_out
  simp only [read_unread_whole]

theorem pay1_at (x : Vec Ideal S32x1024 .f32) (g : Vec Ideal S1x1024 .f32) (b : Fin 32) (j : Fin 1024) :
    k0_pay1 (F := Ideal) x g (ix2 b j) = Rows.norm (fun j => x (ix2 b j)) (fun j => g (ix2 0 j)) j := by
  unfold Rows.norm
  pointwise [k0_pay1]

theorem pay2_at (h : Vec Ideal S32x1024 .bf16) (w : Vec Ideal S1024x1792 .bf16) (b : Fin 32) (j : Fin 1792) :
    k0_pay2 (F := Ideal) h w (ix2 b j) = ∑ k : Fin 1024, h (ix2 b k) * w (ix2 k j) := by
  pointwise [k0_pay2]

/-- The normed rows against the weights' columns. -/
def outG (x : Vec Ideal S32x1x1024 .f32) (g : Vec Ideal S1024 .f32) (w : Vec Ideal S1024x3352 .f32) : Vec Ideal S32x3584 .f32 := fun y =>
  Rows.dot (fun j => x (ix3 (y 0) 0 j)) (fun j => g (ix1 j)) (col w (y 1))

theorem block_at (c : Dev nD) (s t : Fin cfg0.N) (b : Fin 32) (j : Fin 1792) (i : Fin 3584) (hi : i.val = t.val * 1792 + j.val) :
    k0_pay2 (F := Ideal) (k0_pay1 (F := Ideal) (iblk m c 0 s) (iblk m c 1 s)) (iblk m c 2 t) (ix2 b j)
      = outG (argX m c) (argG m c) (argW m c) (ix2 b i) := by
  refine (pay2_at _ _ b j).trans ?_
  show _ = ∑ k, Rows.norm (fun j => argX m c (ix3 b 0 j)) (fun j => argG m c (ix1 j)) k * col (argW m c) i k
  refine Finset.sum_congr rfl fun k _ => congr (congrArg HMul.hMul ((pay1_at _ _ b k).trans ?_)) (w_at m c t k j i hi)
  exact congrFun (congr (congrArg Rows.norm (funext fun j => x_at m c s b j)) (funext fun j => g_at m c s j)) k

theorem out_pt (c : Dev nD) (t : Fin cfg0.N) (b : Fin 32) (j : Fin 1792) (i : Fin 3584) (hi : i.val = t.val * 1792 + j.val) :
    (outsAt0 m c t.val t.isLt).1 (ix2 b j) = outG (argX m c) (argG m c) (argW m c) (ix2 b i) := by
  by_cases h0 : t.val % 2 = 0
  · rw [first_point m c t h0]
    exact block_at m c t t b j i hi
  · have hp : t.val - 1 < cfg0.N := lt_of_le_of_lt (Nat.sub_le _ _) t.isLt
    rw [second_point m c t h0 hp, first_point m c ⟨t.val - 1, hp⟩ (show (t.val - 1) % 2 = 0 by omega)]
    exact block_at m c _ t b j i hi

theorem emb3 (G : Vec Ideal S32x3584 .f32) (t : Fin cfg0.N) (b : Fin 32) (j : Fin 1792) (i : Fin 3584) (hi : i.val = t.val * 1792 + j.val) :
    G ((win0_3.blk t).view.emb (ix2 b j)) = G (ix2 b i) := by
  blk_ext [idx t]

theorem out_arr (c : Dev nD) : (dats m 0 c).arrAt 3 cfg0.N = outG (argX m c) (argG m c) (argW m c) := by
  refine (dats m 0 c).arrAt_eq_of_covers 3 _ (by decide +kernel) fun t hf y => ?_
  have ht := (idx t).1
  blk_simp
  rw [after0_3]
  have key : ∀ y : S32x1792.Idx, (outsAt0 m c t.val t.isLt).1 y = outG (argX m c) (argG m c) (argW m c) ((win0_3.blk t).view.emb y) := by
    intro y
    obtain ⟨b, j, rfl⟩ : ∃ b j, y = ix2 b j := ⟨y 0, y 1, by funext a; fin_cases a <;> rfl⟩
    have hl : t.val * 1792 + j.val < 3584 := by have := j.isLt; omega
    exact (out_pt m c t b j ⟨_, hl⟩ rfl).trans (emb3 _ t b j ⟨_, hl⟩ rfl).symm
  exact key y

end Cert.NormProjEven
-- ==== Proof.ProjERef.lean ====
module

public import proofs.«01_k».proof.Proof.Gen.Reference6Ideal.Run
public import proofs.«01_k».proof.Proof.Gen.Reference6Ideal.Read
public import proofs.«01_k».proof.Proof.ProjEArr

@[expose] public section

set_option maxRecDepth 16384

noncomputable section

namespace Cert.NormProjEven

open Cert.Reference6Ideal Cert.Reference6Ideal.Gen Cert.Reference6Ideal.Read Idealize.ShloMosaic Idealize.ShloMosaic.TcCoe Idealize.SL.Sem

variable (x : Vec Ideal S32x1x1024 .f32) (g : Vec Ideal S1024 .f32) (w : Vec Ideal S1024x3352 .f32)

theorem ref_norm (b : Fin 32) (s : Fin 1) (j : Fin 1024) :
    val_main_v12 (F := Ideal) x g (ix3 b s j) = Rows.norm (fun j => x (ix3 b s j)) (fun j => g (ix1 j)) j := by
  obtain rfl : s = 0 := Subsingleton.elim _ _
  unfold Rows.norm
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem ref_dot (b : Fin 32) (s : Fin 1) (i : Fin 3352) :
    val_main_v13 (F := Ideal) x g w (ix3 b s i) = Rows.dot (fun j => x (ix3 b s j)) (fun j => g (ix1 j)) (fun k => w (ix2 k i)) := by
  unfold Rows.dot
  pointwise [val_main_v13, ref_norm]

theorem ref_row (n : Fin 32) (i : Fin 3352) :
    val_main_v14 (F := Ideal) x g w (ix2 n i) = Rows.dot (fun j => x (ix3 n 0 j)) (fun j => g (ix1 j)) (fun k => w (ix2 k i)) := by
  pointwise [val_main_v14, ref_dot]

theorem ref_out (n : Fin 32) (j : Fin 3584) :
    val_main_v15 (F := Ideal) x g w (ix2 n j) = Rows.dot (fun j => x (ix3 n 0 j)) (fun j => g (ix1 j)) (col w j) := by
  pointwise [val_main_v15, val_main_call0_v0, val_main_c]
  by_cases h : j.val < 3352
  · rw [dif_pos (by omega)]
    refine (ref_row x g w n _).trans (congrArg (Rows.dot _ _) (funext fun k => ?_))
    unfold col; rw [dif_pos h]
  · rw [dif_neg (by omega)]
    refine Rows.intZero.trans ((congrArg (Rows.dot _ _) (funext fun k => ?_)).trans (Rows.dot_zero _ _)).symm
    unfold col; rw [dif_neg h]

theorem ref_outG : val_main_v15 (F := Ideal) x g w = outG x g w := by
  funext y
  obtain ⟨n, j, rfl⟩ : ∃ n j, y = ix2 n j := ⟨y 0, y 1, by funext a; fin_cases a <;> rfl⟩
  exact ref_out x g w n j

end Cert.NormProjEven
-- ==== Proof.ProjEClaim.lean ====
module

public import proofs.«01_k».proof.Defs
public import proofs.«01_k».proof.Proof.Gen.Kernel6Ideal.Frame
public import proofs.«01_k».proof.Proof.Gen.Reference6Ideal
public import proofs.«01_k».proof.Proof.ProjERef
public import Idealize.ShloMosaic.Lib.Claim

@[expose] public section

set_option maxRecDepth 16384

noncomputable section

namespace Cert.NormProjEven

open Cert.Kernel6Ideal Cert.Kernel6Ideal.Gen Idealize.ShloMosaic Idealize.ShloMosaic.TcCoe Idealize.SL.Sem

theorem algebraic : Cert.algebraic_Kernel6Ideal_Reference6Ideal := by
  pair_intro
  · run_from Cert.Kernel6Ideal.Gen.run_main m g
    all_goals first
      | exact Cert.Kernel6Ideal.Gen.V_main_arg0 m c
      | exact Cert.Kernel6Ideal.Gen.V_main_arg1 m c
      | exact Cert.Kernel6Ideal.Gen.V_main_arg2 m c
  · run_from Cert.Reference6Ideal.Value.run m' g'
    · rw [Cert.Reference6Ideal.Read.val_main_v15_eq]
      try rw [(hagree c).1]
      try rw [(hagree c).2.1]
      try rw [(hagree c).2.2]
      exact (ref_outG _ _ _).trans (out_arr m c).symm

end Cert.NormProjEven
-- ==== Proof.Ffn1Block.lean ====
module

public import proofs.«01_k».proof.Proof.Gen.Kernel7Ideal.Value
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.OutFfn1

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- What the first tile of a block of rows leaves in the scratches: the stream after the mixer, its norm, and the first tile's part of the network. -/
theorem first_point (c : Dev nD) (t : Fin cfg0.N) (h0 : t.val % 2 = 0) :
    (outsAt0 m c t.val t.isLt).2
      = (k0_pay2 (F := Ideal) (iblk m c 1 t) (iblk m c 0 t) (iblk m c 2 t),
          k0_pay3 (F := Ideal) (iblk m c 1 t) (iblk m c 0 t) (iblk m c 2 t) (iblk m c 3 t),
          k0_pay5 (F := Ideal) (k0_pay3 (F := Ideal) (iblk m c 1 t) (iblk m c 0 t) (iblk m c 2 t) (iblk m c 3 t)) (iblk m c 4 t)
            (k0_pay4 (F := Ideal)) (iblk m c 5 t)) := by
  rw [outsAt0_A m c t h0 (by omega)]
  refine Prod.ext ?_ (Prod.ext ?_ ?_)
  · frame_out
  · frame_out
  · frame_out

/-- What the last tile writes out: the stream after the network, normed. -/
theorem last_point (c : Dev nD) (t : Fin cfg0.N) (h0 : t.val % 2 = 1) (hp : t.val - 1 < cfg0.N) :
    (outsAt0 m c t.val t.isLt).1
      = (fun r => k0_pay6 (F := Ideal) r.1 (k0_pay5 (F := Ideal) r.2.1 (iblk m c 4 t) r.2.2 (iblk m c 5 t)) (iblk m c 6 t))
          (outsAt0 m c (t.val - 1) hp).2 := by
  rw [outsAt0_B m c t (by omega) h0]
  generalize (outsAt0 m c (t.val - 1) _).2 = r
  frame_out
  simp only [read_unread_whole]

end Cert.OutFfn1
-- ==== Proof.Ffn1Read.lean ====
module

public import proofs.«01_k».proof.Proof.Gen.Kernel7Ideal.Value
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.OutFfn1

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The mixer's rows. -/
abbrev argO (c : Dev nD) : Vec Ideal S32x1x1024 .f32 := m ((c : Thread nD τ).loc main_arg0)
/-- The stream. -/
abbrev argX (c : Dev nD) : Vec Ideal S32x1x1024 .f32 := m ((c : Thread nD τ).loc main_arg1)
/-- The output projection. -/
abbrev argW (c : Dev nD) : Vec Ideal S1024x1024 .f32 := m ((c : Thread nD τ).loc main_arg2)
/-- The gain of the network's norm. -/
abbrev argG (c : Dev nD) : Vec Ideal S1024 .f32 := m ((c : Thread nD τ).loc main_arg3)
/-- The network's first factors. -/
abbrev argU (c : Dev nD) : Vec Ideal S1024x5632 .f32 := m ((c : Thread nD τ).loc main_arg4)
/-- The network's second factor. -/
abbrev argD (c : Dev nD) : Vec Ideal S2816x1024 .f32 := m ((c : Thread nD τ).loc main_arg5)
/-- The gain of the closing norm. -/
abbrev argF (c : Dev nD) : Vec Ideal S1024 .f32 := m ((c : Thread nD τ).loc main_arg6)

/-- The block every window reads or writes at a grid point. -/
theorem idx : ∀ t : Fin cfg0.N, t.val < 2 * 1 ∧ win0_0.index t = ![t.val / 2, 0] ∧ win0_1.index t = ![t.val / 2, 0] ∧ win0_2.index t = ![0, 0]
    ∧ win0_3.index t = ![0, 0] ∧ win0_4.index t = ![0, t.val % 2] ∧ win0_5.index t = ![t.val % 2, 0] ∧ win0_6.index t = ![0, 0]
    ∧ win0_7.index t = ![t.val / 2, 0] :=
  (by decide +kernel : ∀ t : Fin grid0.N, _)

/-- Two runs of columns put side by side in every tile. -/
def cat2 (a b : Vec Ideal S1024x2x1408 .f32) : Vec Ideal S1024x2x2816 .f32 :=
  concatenate S1024x2x2816 2 [⟨S1024x2x1408, a⟩, ⟨S1024x2x1408, b⟩] concatenates_S1024x2x1408_S1024x2x1408_S1024x2x2816_d2

/-- The network's first factors in the kernel's order: each tile's gates, then its values. -/
def tiled (u : Vec Ideal S1024x5632 .f32) : Vec Ideal S1024x5632 .f32 :=
  shapeCast S1024x5632
    (cat2 (shapeCast S1024x2x1408 (extractStridedSlice S1024x2816 ![0, 0] u slices_S1024x5632_S1024x2816_0_0) shapeCasts_S1024x2816_S1024x2x1408)
      (shapeCast S1024x2x1408 (extractStridedSlice S1024x2816 ![0, 2816] u slices_S1024x5632_S1024x2816_0_2816) shapeCasts_S1024x2816_S1024x2x1408))
    shapeCasts_S1024x2x2816_S1024x5632

theorem V_v7 (c : Dev nD) : V m c main_v7 = cat2 (V m c main_v4) (V m c main_v6) := by
  simp only [V, hostOps0, List.flatten_cons, List.flatten_nil, List.append_nil, List.cons_append, List.nil_append]
  after_reads_simp
  show cat2 _ _ = cat2 _ _
  refine congr (congrArg cat2 ?_) ?_
  · show StableHlo.upto _ _ _ (Proc.tc.devRef main_v4) = _
    after_reads_simp
  · show StableHlo.upto _ _ _ (Proc.tc.devRef main_v6) = _
    after_reads_simp

theorem V_tiled (c : Dev nD) : V m c main_v9 = truncf (F := Ideal) .bf16 (tiled (argU m c)) bitsLt_bf16_f32 := by
  have h9 : V m c main_v9 = truncf (F := Ideal) .bf16 (shapeCast S1024x5632 (V m c main_v7) shapeCasts_S1024x2x2816_S1024x5632) bitsLt_bf16_f32 := by
    simp only [V, hostOps0, List.flatten_cons, List.flatten_nil, List.append_nil, List.cons_append, List.nil_append]
    after_reads_simp
    rfl
  have h4 : V m c main_v4 = shapeCast S1024x2x1408 (extractStridedSlice S1024x2816 ![0, 0] (argU m c) slices_S1024x5632_S1024x2816_0_0)
      shapeCasts_S1024x2816_S1024x2x1408 := by
    entry_read; rfl
  have h6 : V m c main_v6 = shapeCast S1024x2x1408 (extractStridedSlice S1024x2816 ![0, 2816] (argU m c) slices_S1024x5632_S1024x2816_0_2816)
      shapeCasts_S1024x2816_S1024x2x1408 := by
    entry_read; rfl
  rw [h9, V_v7, h4, h6]
  rfl

theorem V_mix (c : Dev nD) : V m c main_v0 = shapeCast S32x1024 (argO m c) shapeCasts_S32x1x1024_S32x1024 := by
  entry_read; rfl

theorem V_str (c : Dev nD) : V m c main_v1 = shapeCast S32x1024 (argX m c) shapeCasts_S32x1x1024_S32x1024 := by
  entry_read; rfl

theorem V_w (c : Dev nD) : V m c main_v2 = truncf (F := Ideal) .bf16 (argW m c) bitsLt_bf16_f32 := by
  entry_read; rfl

theorem V_d (c : Dev nD) : V m c main_v10 = truncf (F := Ideal) .bf16 (argD m c) bitsLt_bf16_f32 := by
  entry_read; rfl

theorem V_g (c : Dev nD) : V m c main_v11 = shapeCast S1x1024 (argG m c) shapeCasts_S1024_S1x1024 := by
  entry_read; rfl

theorem V_f (c : Dev nD) : V m c main_v12 = shapeCast S1x1024 (argF m c) shapeCasts_S1024_S1x1024 := by
  entry_read; rfl

theorem tiled_gate (u : Vec Ideal S1024x5632 .f32) (k : Fin 1024) (s : Fin 2) (a : Fin 1408) :
    tiled u (ix2 k ⟨s.val * 2816 + a.val, by omega⟩) = u (ix2 k ⟨s.val * 1408 + a.val, by omega⟩) := by
  pointwise [tiled, cat2]
  rw [dif_pos (by omega)]
  exact congrArg (fun x => u (ix2 k x)) (Fin.ext (by simp only []; omega))

theorem tiled_value (u : Vec Ideal S1024x5632 .f32) (k : Fin 1024) (s : Fin 2) (a : Fin 1408) :
    tiled u (ix2 k ⟨s.val * 2816 + (1408 + a.val), by omega⟩) = u (ix2 k ⟨2816 + (s.val * 1408 + a.val), by omega⟩) := by
  pointwise [tiled, cat2]
  rw [dif_neg (by omega)]
  exact congrArg (fun x => u (ix2 k x)) (Fin.ext (by simp only []; omega))

/-- A row of the stream. -/
def rowX (c : Dev nD) (n : Fin 32) (j : Fin 1024) : EReal := (shapeCast S32x1024 (argX m c) shapeCasts_S32x1x1024_S32x1024) (ix2 n j)
/-- A row of the mixer. -/
def rowO (c : Dev nD) (n : Fin 32) (j : Fin 1024) : EReal := (shapeCast S32x1024 (argO m c) shapeCasts_S32x1x1024_S32x1024) (ix2 n j)

theorem o_at (c : Dev nD) (t : Fin cfg0.N) (b : Fin 32) (j : Fin 1024) (n : Fin 32) (hn : n.val = t.val / 2 * 32 + b.val) :
    (show Vec Ideal S32x1024 .f32 from iblk m c 0 t) (ix2 b j) = rowO m c n j := by
  refine Eq.trans ?_ (congrFun (V_mix m c) (ix2 n j))
  blk_ext [iblk, idx t]

theorem x_at (c : Dev nD) (t : Fin cfg0.N) (b : Fin 32) (j : Fin 1024) (n : Fin 32) (hn : n.val = t.val / 2 * 32 + b.val) :
    (show Vec Ideal S32x1024 .f32 from iblk m c 1 t) (ix2 b j) = rowX m c n j := by
  refine Eq.trans ?_ (congrFun (V_str m c) (ix2 n j))
  blk_ext [iblk, idx t]

theorem w_at (c : Dev nD) (t : Fin cfg0.N) (k j : Fin 1024) :
    (show Vec Ideal S1024x1024 .bf16 from iblk m c 2 t) (ix2 k j) = argW m c (ix2 k j) := by
  refine Eq.trans ?_ (congrFun (V_w m c) (ix2 k j))
  blk_ext [iblk, idx t]

theorem g_at (c : Dev nD) (t : Fin cfg0.N) (j : Fin 1024) :
    (show Vec Ideal S1x1024 .f32 from iblk m c 3 t) (ix2 0 j) = argG m c (ix1 j) := by
  refine Eq.trans ?_ ((congrFun (V_g m c) (ix2 0 j)).trans (by pointwise))
  blk_ext [iblk, idx t]

theorem f_at (c : Dev nD) (t : Fin cfg0.N) (j : Fin 1024) :
    (show Vec Ideal S1x1024 .f32 from iblk m c 6 t) (ix2 0 j) = argF m c (ix1 j) := by
  refine Eq.trans ?_ ((congrFun (V_f m c) (ix2 0 j)).trans (by pointwise))
  blk_ext [iblk, idx t]

theorem gate_at (c : Dev nD) (t : Fin cfg0.N) (s : Fin 2) (hs : s.val = t.val % 2) (k : Fin 1024) (a : Fin 1408) :
    (show Vec Ideal S1024x2816 .bf16 from iblk m c 4 t) (ix2 k ⟨a.val, by omega⟩) = argU m c (ix2 k ⟨s.val * 1408 + a.val, by omega⟩) := by
  refine Eq.trans ?_ ((congrFun (V_tiled m c) (ix2 k ⟨s.val * 2816 + a.val, by omega⟩)).trans (tiled_gate _ k s a))
  blk_ext [iblk, idx t]

theorem value_at (c : Dev nD) (t : Fin cfg0.N) (s : Fin 2) (hs : s.val = t.val % 2) (k : Fin 1024) (a : Fin 1408) :
    (show Vec Ideal S1024x2816 .bf16 from iblk m c 4 t) (ix2 k ⟨1408 + a.val, by omega⟩) = argU m c (ix2 k ⟨2816 + (s.val * 1408 + a.val), by omega⟩) := by
  refine Eq.trans ?_ ((congrFun (V_tiled m c) (ix2 k ⟨s.val * 2816 + (1408 + a.val), by omega⟩)).trans (tiled_value _ k s a))
  blk_ext [iblk, idx t]

theorem d_at (c : Dev nD) (t : Fin cfg0.N) (s : Fin 2) (hs : s.val = t.val % 2) (a : Fin 1408) (j : Fin 1024) :
    (show Vec Ideal S1408x1024 .bf16 from iblk m c 5 t) (ix2 a j) = argD m c (ix2 ⟨s.val * 1408 + a.val, by omega⟩ j) := by
  refine Eq.trans ?_ (congrFun (V_d m c) (ix2 ⟨s.val * 1408 + a.val, by omega⟩ j))
  blk_ext [iblk, idx t]

end Cert.OutFfn1
-- ==== Proof.Ffn1Arr.lean ====
module

public import proofs.«01_k».proof.Proof.Ffn1Block
public import proofs.«01_k».proof.Proof.Ffn1Read
public import proofs.«01_k».proof.Proof.Rows

@[expose] public section

set_option maxRecDepth 16384

noncomputable section

namespace Cert.OutFfn1

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

theorem pay1_at (x : Vec Ideal S32x1024 .f32) (o : Vec Ideal S32x1024 .f32) (w : Vec Ideal S1024x1024 .bf16) (b : Fin 32) (j : Fin 1024) :
    k0_pay1 (F := Ideal) x o w (ix2 b j) = Rows.mixed (fun j => x (ix2 b j)) (fun k => o (ix2 b k)) (fun k j => w (ix2 k j)) j := by
  unfold Rows.mixed
  pointwise [k0_pay1]

theorem pay2_at (x : Vec Ideal S32x1024 .f32) (o : Vec Ideal S32x1024 .f32) (w : Vec Ideal S1024x1024 .bf16) (b : Fin 32) (j : Fin 1024) :
    k0_pay2 (F := Ideal) x o w (ix2 b j) = Rows.mixed (fun j => x (ix2 b j)) (fun k => o (ix2 b k)) (fun k j => w (ix2 k j)) j := by
  pointwise [k0_pay2, pay1_at]

theorem pay3_at (x : Vec Ideal S32x1024 .f32) (o : Vec Ideal S32x1024 .f32) (w : Vec Ideal S1024x1024 .bf16) (g : Vec Ideal S1x1024 .f32) (b : Fin 32)
    (j : Fin 1024) :
    k0_pay3 (F := Ideal) x o w g (ix2 b j)
      = Rows.norm (Rows.mixed (fun j => x (ix2 b j)) (fun k => o (ix2 b k)) (fun k j => w (ix2 k j))) (fun j => g (ix2 0 j)) j := by
  unfold Rows.norm
  pointwise [k0_pay3, pay1_at]

theorem pay5_at (h : Vec Ideal S32x1024 .bf16) (u : Vec Ideal S1024x2816 .bf16) (a : Vec Ideal S32x1024 .f32) (d : Vec Ideal S1408x1024 .bf16)
    (b : Fin 32) (j : Fin 1024) :
    k0_pay5 (F := Ideal) h u a d (ix2 b j)
      = a (ix2 b j) + ∑ i : Fin 1408, Rows.unit (∑ k, h (ix2 b k) * u (ix2 k ⟨i.val, by omega⟩)) (∑ k, h (ix2 b k) * u (ix2 k ⟨1408 + i.val, by omega⟩))
          * d (ix2 i j) := by
  simp only [← Rows.unit_eq]
  pointwise [k0_pay5]

theorem pay6_at (x a : Vec Ideal S32x1024 .f32) (g : Vec Ideal S1x1024 .f32) (b : Fin 32) (j : Fin 1024) :
    k0_pay6 (F := Ideal) x a g (ix2 b j) = Rows.norm (fun j => x (ix2 b j) + a (ix2 b j)) (fun j => g (ix2 0 j)) j := by
  unfold Rows.norm
  pointwise [k0_pay6]

theorem pay4_at (b : Fin 32) (j : Fin 1024) : k0_pay4 (F := Ideal) (ix2 b j) = 0 := by
  pointwise [k0_pay4]

/-- The stream's row after the mixer. -/
def mid (c : Dev nD) (n : Fin 32) : Fin 1024 → EReal := Rows.mixed (rowX m c n) (rowO m c n) (fun k j => argW m c (ix2 k j))

/-- The row the network reads. -/
def hid (c : Dev nD) (n : Fin 32) : Fin 1024 → EReal := Rows.norm (mid m c n) (fun j => argG m c (ix1 j))

theorem mid_at (c : Dev nD) (t : Fin cfg0.N) (b : Fin 32) (n : Fin 32) (hn : n.val = t.val / 2 * 32 + b.val) :
    Rows.mixed (fun j => (show Vec Ideal S32x1024 .f32 from iblk m c 1 t) (ix2 b j)) (fun k => (show Vec Ideal S32x1024 .f32 from iblk m c 0 t) (ix2 b k))
      (fun k j => (show Vec Ideal S1024x1024 .bf16 from iblk m c 2 t) (ix2 k j)) = mid m c n := by
  unfold mid
  exact congr (congr (congrArg Rows.mixed (funext fun j => x_at m c t b j n hn)) (funext fun j => o_at m c t b j n hn))
    (funext fun k => funext fun j => w_at m c t k j)

theorem hid_at (c : Dev nD) (t : Fin cfg0.N) (b : Fin 32) (n : Fin 32) (hn : n.val = t.val / 2 * 32 + b.val) (j : Fin 1024) :
    k0_pay3 (F := Ideal) (iblk m c 1 t) (iblk m c 0 t) (iblk m c 2 t) (iblk m c 3 t) (ix2 b j) = hid m c n j := by
  refine (pay3_at _ _ _ _ b j).trans ?_
  unfold hid
  exact congrFun (congr (congrArg Rows.norm (mid_at m c t b n hn)) (funext fun j => g_at m c t j)) j

/-- One tile's part of the network, added to what the tiles before it left. -/
theorem tile_at (c : Dev nD) (t : Fin cfg0.N) (o : ℕ) (ho : o ≤ 1408) (s : Fin 2) (hs : s.val = t.val % 2) (hso : o = s.val * 1408)
    (h : Vec Ideal S32x1024 .bf16) (a : Vec Ideal S32x1024 .f32) (b : Fin 32) (j : Fin 1024) (r : Fin 1024 → EReal) (hr : ∀ k, h (ix2 b k) = r k) :
    k0_pay5 (F := Ideal) h (iblk m c 4 t) a (iblk m c 5 t) (ix2 b j)
      = a (ix2 b j) + Rows.tile r (fun k i => argU m c (ix2 k i)) (fun i j => argD m c (ix2 i j)) o ho j := by
  subst hso
  refine (pay5_at h _ a _ b j).trans (congrArg (a (ix2 b j) + ·) ?_)
  unfold Rows.tile
  refine Finset.sum_congr rfl fun i _ => congr (congrArg HMul.hMul (congr (congrArg Rows.unit ?_) ?_)) (d_at m c t s hs i j)
  · exact Finset.sum_congr rfl fun k _ => congr (congrArg HMul.hMul (hr k)) (gate_at m c t s hs k i)
  · exact Finset.sum_congr rfl fun k _ => congr (congrArg HMul.hMul (hr k)) (value_at m c t s hs k i)

/-- The layer's second half, as an array. -/
def outG (c : Dev nD) : Vec Ideal S32x1024 .f32 := fun y =>
  Rows.layer (rowX m c (y 0)) (rowO m c (y 0)) (fun k j => argW m c (ix2 k j)) (fun j => argG m c (ix1 j)) (fun k i => argU m c (ix2 k i))
    (fun i j => argD m c (ix2 i j)) (fun j => argF m c (ix1 j)) (y 1)

theorem out_pt (c : Dev nD) (t : Fin cfg0.N) (h1 : t.val % 2 = 1) (b : Fin 32) (j : Fin 1024) (n : Fin 32) (hn : n.val = t.val / 2 * 32 + b.val) :
    (outsAt0 m c t.val t.isLt).1 (ix2 b j) = outG m c (ix2 n j) := by
  have hp : t.val - 1 < cfg0.N := lt_of_le_of_lt (Nat.sub_le _ _) t.isLt
  have hn' : n.val = (⟨t.val - 1, hp⟩ : Fin cfg0.N).val / 2 * 32 + b.val := by
    rw [hn, show t.val / 2 = (t.val - 1) / 2 by omega]
  rw [last_point m c t h1 hp, first_point m c ⟨t.val - 1, hp⟩ (show (t.val - 1) % 2 = 0 by omega)]
  refine (pay6_at _ _ _ b j).trans ?_
  show _ = Rows.norm (fun j => mid m c n j + Rows.net (hid m c n) (fun k i => argU m c (ix2 k i)) (fun i j => argD m c (ix2 i j)) j)
    (fun j => argF m c (ix1 j)) j
  refine congrFun (congr (congrArg Rows.norm (funext fun j => ?_)) (funext fun j => f_at m c t j)) j
  refine congr (congrArg HAdd.hAdd ((pay2_at _ _ _ b j).trans (congrFun (mid_at m c _ b n hn') j))) ?_
  refine (tile_at m c t 1408 (by omega) 1 (by simp [h1]) (by simp) _ _ b j (hid m c n) (fun k => hid_at m c _ b n hn' k)).trans ?_
  refine (congrArg (· + _) (tile_at m c ⟨t.val - 1, hp⟩ 0 (by omega) 0 (show 0 = (t.val - 1) % 2 by omega) (by simp) _ _ b j (hid m c n)
    (fun k => hid_at m c _ b n hn' k))).trans ?_
  rw [pay4_at]
  exact Rows.net_tiles _ _ _ j

theorem emb7 (G : Vec Ideal S32x1024 .f32) (t : Fin cfg0.N) (b : Fin 32) (j : Fin 1024) (n : Fin 32) (hn : n.val = t.val / 2 * 32 + b.val) :
    G ((win0_7.blk t).view.emb (ix2 b j)) = G (ix2 n j) := by
  blk_ext [idx t]

theorem out_arr (c : Dev nD) : (dats m 0 c).arrAt 7 cfg0.N = outG m c := by
  refine (dats m 0 c).arrAt_eq_of_covers 7 _ (by decide +kernel) fun t hf y => ?_
  have ht := (idx t).1
  have h1 := (flush0_7 t).mp hf
  blk_simp
  rw [after0_7]
  have key : ∀ y : S32x1024.Idx, (outsAt0 m c t.val t.isLt).1 y = outG m c ((win0_7.blk t).view.emb y) := by
    intro y
    obtain ⟨b, j, rfl⟩ : ∃ b j, y = ix2 b j := ⟨y 0, y 1, by funext a; fin_cases a <;> rfl⟩
    have hl : t.val / 2 * 32 + b.val < 32 := by have := b.isLt; omega
    exact (out_pt m c t h1 b j ⟨_, hl⟩ rfl).trans (emb7 _ t b j ⟨_, hl⟩ rfl).symm
  exact key y

end Cert.OutFfn1
-- ==== Proof.Ffn1Ref.lean ====
module

public import proofs.«01_k».proof.Proof.Gen.Reference7Ideal.Run
public import proofs.«01_k».proof.Proof.Gen.Reference7Ideal.Read
public import proofs.«01_k».proof.Proof.Ffn1Arr

@[expose] public section

set_option maxRecDepth 16384

noncomputable section

namespace Cert.OutFfn1

open Cert.Reference7Ideal Cert.Reference7Ideal.Gen Cert.Reference7Ideal.Read Idealize.ShloMosaic Idealize.ShloMosaic.TcCoe Idealize.SL.Sem

variable (o : Vec Ideal S32x1x1024 .f32) (x : Vec Ideal S32x1x1024 .f32) (w : Vec Ideal S1024x1024 .f32) (g : Vec Ideal S1024 .f32)
variable (u : Vec Ideal S1024x5632 .f32) (d : Vec Ideal S2816x1024 .f32) (f : Vec Ideal S1024 .f32)

/-- The stream's row after the mixer, as the reference computes it. -/
def refMid (n : Fin 32) : Fin 1024 → EReal :=
  Rows.mixed (fun j => val_main_v0 (F := Ideal) x (ix2 n j)) (fun k => val_main_v1 (F := Ideal) o (ix2 n k)) (fun k j => w (ix2 k j))

theorem ref_mid (n : Fin 32) (j : Fin 1024) : val_main_v3 (F := Ideal) o x w (ix2 n j) = refMid o x w n j := by
  unfold refMid Rows.mixed
  pointwise [val_main_v3, val_main_v2]

theorem ref_norm (n : Fin 32) (j : Fin 1024) :
    val_main_v16 (F := Ideal) o x w g (ix2 n j) = Rows.norm (refMid o x w n) (fun j => g (ix1 j)) j := by
  unfold Rows.norm
  pointwise [val_main_v16, val_main_v15, val_main_v14, val_main_v13, val_main_v12, val_main_v11, val_main_v10, val_main_v9, val_main_v8, val_main_v7, val_main_v6, val_main_v5, val_main_v4, val_main_cst, val_main_cst_0, val_main_cst_1, ref_mid]

theorem ref_up (n : Fin 32) (i : Fin 5632) :
    val_main_v17 (F := Ideal) o x w g u (ix2 n i) = ∑ k, Rows.norm (refMid o x w n) (fun j => g (ix1 j)) k * u (ix2 k i) := by
  pointwise [val_main_v17, ref_norm]

theorem ref_unit (n : Fin 32) (a : Fin 2816) :
    val_main_v21 (F := Ideal) o x w g u (ix2 n a)
      = Rows.unit (∑ k, Rows.norm (refMid o x w n) (fun j => g (ix1 j)) k * u (ix2 k ⟨a.val, by omega⟩))
          (∑ k, Rows.norm (refMid o x w n) (fun j => g (ix1 j)) k * u (ix2 k ⟨2816 + a.val, by omega⟩)) := by
  unfold Rows.unit Ideal.logistic
  pointwise [val_main_v21, val_main_v20, val_main_v19, val_main_v18, val_main_call0_v5, val_main_call0_v4, val_main_call0_v3, val_main_call0_v2, val_main_call0_v1,
    val_main_call0_v0, val_main_call0_cst, val_main_call0_cst_0, ref_up]

theorem ref_net (n : Fin 32) (j : Fin 1024) :
    val_main_v23 (F := Ideal) o x w g u d (ix2 n j)
      = refMid o x w n j + Rows.net (Rows.norm (refMid o x w n) (fun j => g (ix1 j))) (fun k i => u (ix2 k i)) (fun a j => d (ix2 a j)) j := by
  unfold Rows.net
  pointwise [val_main_v23, val_main_v22, ref_mid, ref_unit]

theorem ref_out (n : Fin 32) (j : Fin 1024) :
    val_main_v36 (F := Ideal) o x w g u d f (ix2 n j)
      = Rows.layer (fun j => val_main_v0 (F := Ideal) x (ix2 n j)) (fun k => val_main_v1 (F := Ideal) o (ix2 n k)) (fun k j => w (ix2 k j))
          (fun j => g (ix1 j)) (fun k i => u (ix2 k i)) (fun a j => d (ix2 a j)) (fun j => f (ix1 j)) j := by
  show _ = Rows.norm (fun j => refMid o x w n j + Rows.net (Rows.norm (refMid o x w n) (fun j => g (ix1 j))) (fun k i => u (ix2 k i))
    (fun a j => d (ix2 a j)) j) (fun j => f (ix1 j)) j
  unfold Rows.norm
  pointwise [val_main_v36, val_main_v35, val_main_v34, val_main_v33, val_main_v32, val_main_v31, val_main_v30, val_main_v29, val_main_v28, val_main_v27, val_main_v26, val_main_v25, val_main_v24, val_main_cst_2, val_main_cst_3, val_main_cst_4, ref_net]
  rfl

theorem ref_outG (m : (ℓ : Loc Cert.Kernel7Ideal.nD Cert.Kernel7Ideal.τ Cert.Kernel7Ideal.sig) → Buf (Elt Ideal) ℓ) (c : Dev Cert.Kernel7Ideal.nD) :
    val_main_v36 (F := Ideal) (argO m c) (argX m c) (argW m c) (argG m c) (argU m c) (argD m c) (argF m c) = outG m c := by
  funext y
  obtain ⟨n, j, rfl⟩ : ∃ n j, y = ix2 n j := ⟨y 0, y 1, by funext a; fin_cases a <;> rfl⟩
  exact ref_out _ _ _ _ _ _ _ n j

end Cert.OutFfn1
-- ==== Proof.Ffn1Claim.lean ====
module

public import proofs.«01_k».proof.Defs
public import proofs.«01_k».proof.Proof.Gen.Kernel7Ideal.Frame
public import proofs.«01_k».proof.Proof.Gen.Reference7Ideal
public import proofs.«01_k».proof.Proof.Ffn1Ref
public import Idealize.ShloMosaic.Lib.Claim

@[expose] public section

set_option maxRecDepth 16384

noncomputable section

namespace Cert.OutFfn1

open Cert.Kernel7Ideal Cert.Kernel7Ideal.Gen Idealize.ShloMosaic Idealize.ShloMosaic.TcCoe Idealize.SL.Sem

theorem algebraic : Cert.algebraic_Kernel7Ideal_Reference7Ideal := by
  pair_intro
  · run_from Cert.Kernel7Ideal.Gen.run_main m g
    all_goals first
      | exact Cert.Kernel7Ideal.Gen.V_main_arg0 m c
      | exact Cert.Kernel7Ideal.Gen.V_main_arg1 m c
      | exact Cert.Kernel7Ideal.Gen.V_main_arg2 m c
      | exact Cert.Kernel7Ideal.Gen.V_main_arg3 m c
      | exact Cert.Kernel7Ideal.Gen.V_main_arg4 m c
      | exact Cert.Kernel7Ideal.Gen.V_main_arg5 m c
      | exact Cert.Kernel7Ideal.Gen.V_main_arg6 m c
  · run_from Cert.Reference7Ideal.Value.run m' g'
    · rw [Cert.Reference7Ideal.Read.val_main_v36_eq, (hagree c).1, (hagree c).2.1, (hagree c).2.2.1, (hagree c).2.2.2.1, (hagree c).2.2.2.2.1,
        (hagree c).2.2.2.2.2.1, (hagree c).2.2.2.2.2.2]
      exact (ref_outG m c).trans (out_arr m c).symm

end Cert.OutFfn1
-- ==== Proof.Ffn0Block.lean ====
module

public import proofs.«01_k».proof.Proof.Gen.Kernel8Ideal.Value
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.OutFfnEven

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- What the first tile of a block of rows leaves in the scratches: the stream after the mixers, its norm, and the first tile's part of the network. -/
theorem first_point (c : Dev nD) (t : Fin cfg0.N) (h0 : t.val % 2 = 0) :
    (outsAt0 m c t.val t.isLt).2
      = (k0_pay5 (F := Ideal) (iblk m c 2 t) (iblk m c 0 t) (iblk m c 3 t) (iblk m c 1 t) (iblk m c 4 t),
          k0_pay6 (F := Ideal) (iblk m c 2 t) (iblk m c 0 t) (iblk m c 3 t) (iblk m c 1 t) (iblk m c 4 t) (iblk m c 5 t),
          k0_pay2 (F := Ideal)
            (k0_pay6 (F := Ideal) (iblk m c 2 t) (iblk m c 0 t) (iblk m c 3 t) (iblk m c 1 t) (iblk m c 4 t) (iblk m c 5 t)) (iblk m c 6 t)
            (k0_pay1 (F := Ideal) (k0_pay7 (F := Ideal))) (iblk m c 7 t)) := by
  rw [outsAt0_A m c t h0 (by omega)]
  refine Prod.ext ?_ (Prod.ext ?_ ?_)
  · frame_out
  · frame_out
  · frame_out

/-- What the last tile writes out: the stream after the network. -/
theorem last_point (c : Dev nD) (t : Fin cfg0.N) (h0 : t.val % 2 = 1) (hp : t.val - 1 < cfg0.N) :
    (outsAt0 m c t.val t.isLt).1
      = (fun r => k0_pay3 (F := Ideal) r.1 (k0_pay2 (F := Ideal) r.2.1 (iblk m c 6 t) r.2.2 (iblk m c 7 t)))
          (outsAt0 m c (t.val - 1) hp).2 := by
  rw [outsAt0_B m c t (by omega) h0]
  generalize (outsAt0 m c (t.val - 1) _).2 = r
  frame_out
  simp only [read_unread_whole]

end Cert.OutFfnEven
-- ==== Proof.Ffn0Read.lean ====
module

public import proofs.«01_k».proof.Proof.Gen.Kernel8Ideal.Value
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.FfnRead

@[expose] public section

set_option maxRecDepth 16384

noncomputable section

namespace Cert.OutFfnEven

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The first mixer's rows. -/
abbrev argH (c : Dev nD) : Vec Ideal S16x2048x512 .bf16 := m ((c : Thread nD τ).loc main_arg0)
/-- The second mixer's rows. -/
abbrev argN (c : Dev nD) : Vec Ideal S16x2048x512 .bf16 := m ((c : Thread nD τ).loc main_arg1)
/-- The stream. -/
abbrev argX (c : Dev nD) : Vec Ideal S16x2048x1024 .f32 := m ((c : Thread nD τ).loc main_arg2)
/-- The output projection of both mixers. -/
abbrev argW (c : Dev nD) : Vec Ideal S1024x1024 .f32 := m ((c : Thread nD τ).loc main_arg3)
/-- The gain of the network's norm. -/
abbrev argG (c : Dev nD) : Vec Ideal S1024 .f32 := m ((c : Thread nD τ).loc main_arg4)
/-- The network's first factors. -/
abbrev argU (c : Dev nD) : Vec Ideal S1024x5632 .f32 := m ((c : Thread nD τ).loc main_arg5)
/-- The network's second factor. -/
abbrev argD (c : Dev nD) : Vec Ideal S2816x1024 .f32 := m ((c : Thread nD τ).loc main_arg6)

/-- The block every window reads or writes at a grid point. -/
theorem idx : ∀ t : Fin cfg0.N, t.val < 2 * 64 ∧ win0_0.index t = ![t.val / 2, 0] ∧ win0_1.index t = ![t.val / 2, 0] ∧ win0_2.index t = ![t.val / 2, 0]
    ∧ win0_3.index t = ![0, 0] ∧ win0_4.index t = ![0, 0] ∧ win0_5.index t = ![0, 0] ∧ win0_6.index t = ![0, t.val % 2] ∧ win0_7.index t = ![t.val % 2, 0]
    ∧ win0_8.index t = ![t.val / 2, 0] :=
  (by decide +kernel : ∀ t : Fin grid0.N, _)

theorem V_v11 (c : Dev nD) : V m c main_v11 = OutFfn.cat2 (V m c main_v8) (V m c main_v10) := by
  simp only [V, hostOps0, List.flatten_cons, List.flatten_nil, List.append_nil, List.cons_append, List.nil_append]
  after_reads_simp
  show OutFfn.cat2 _ _ = OutFfn.cat2 _ _
  refine congr (congrArg OutFfn.cat2 ?_) ?_
  · show StableHlo.upto _ _ _ (Proc.tc.devRef main_v8) = _
    after_reads_simp
  · show StableHlo.upto _ _ _ (Proc.tc.devRef main_v10) = _
    after_reads_simp

theorem V_tiled (c : Dev nD) : V m c main_v13 = truncf (F := Ideal) .bf16 (OutFfn.tiled (argU m c)) bitsLt_bf16_f32 := by
  have h13 : V m c main_v13 = truncf (F := Ideal) .bf16 (shapeCast S1024x5632 (V m c main_v11) shapeCasts_S1024x2x2816_S1024x5632) bitsLt_bf16_f32 := by
    simp only [V, hostOps0, List.flatten_cons, List.flatten_nil, List.append_nil, List.cons_append, List.nil_append]
    after_reads_simp
    rfl
  have h8 : V m c main_v8 = shapeCast S1024x2x1408 (extractStridedSlice S1024x2816 ![0, 0] (argU m c) slices_S1024x5632_S1024x2816_0_0)
      shapeCasts_S1024x2816_S1024x2x1408 := by
    entry_read; rfl
  have h10 : V m c main_v10 = shapeCast S1024x2x1408 (extractStridedSlice S1024x2816 ![0, 2816] (argU m c) slices_S1024x5632_S1024x2816_0_2816)
      shapeCasts_S1024x2816_S1024x2x1408 := by
    entry_read; rfl
  rw [h13, V_v11, h8, h10]
  rfl

theorem V_h (c : Dev nD) : V m c main_v4 = shapeCast S32768x512 (argH m c) shapeCasts_S16x2048x512_S32768x512 := by
  entry_read; rfl

theorem V_n (c : Dev nD) : V m c main_v5 = shapeCast S32768x512 (argN m c) shapeCasts_S16x2048x512_S32768x512 := by
  entry_read; rfl

theorem V_str (c : Dev nD) : V m c main_v6 = shapeCast S32768x1024 (argX m c) shapeCasts_S16x2048x1024_S32768x1024 := by
  entry_read; rfl

theorem V_wh (c : Dev nD) :
    V m c main_v1 = truncf (F := Ideal) .bf16 (extractStridedSlice S512x1024 ![0, 0] (argW m c) slices_S1024x1024_S512x1024_0_0) bitsLt_bf16_f32 := by
  entry_read; rfl

theorem V_wn (c : Dev nD) :
    V m c main_v3 = truncf (F := Ideal) .bf16 (extractStridedSlice S512x1024 ![512, 0] (argW m c) slices_S1024x1024_S512x1024_512_0) bitsLt_bf16_f32 := by
  entry_read; rfl

theorem V_d (c : Dev nD) : V m c main_v14 = truncf (F := Ideal) .bf16 (argD m c) bitsLt_bf16_f32 := by
  entry_read; rfl

theorem V_g (c : Dev nD) : V m c main_v15 = shapeCast S1x1024 (argG m c) shapeCasts_S1024_S1x1024 := by
  entry_read; rfl

/-- A row of the stream. -/
def rowX (c : Dev nD) (n : Fin 32768) (j : Fin 1024) : EReal := (shapeCast S32768x1024 (argX m c) shapeCasts_S16x2048x1024_S32768x1024) (ix2 n j)
/-- A row of the first mixer. -/
def rowH (c : Dev nD) (n : Fin 32768) (j : Fin 512) : EReal := (shapeCast S32768x512 (argH m c) shapeCasts_S16x2048x512_S32768x512) (ix2 n j)
/-- A row of the second mixer. -/
def rowN (c : Dev nD) (n : Fin 32768) (j : Fin 512) : EReal := (shapeCast S32768x512 (argN m c) shapeCasts_S16x2048x512_S32768x512) (ix2 n j)

theorem h_at (c : Dev nD) (t : Fin cfg0.N) (b : Fin 512) (j : Fin 512) (n : Fin 32768) (hn : n.val = t.val / 2 * 512 + b.val) :
    (show Vec Ideal S512x512 .bf16 from iblk m c 0 t) (ix2 b j) = rowH m c n j := by
  refine Eq.trans ?_ (congrFun (V_h m c) (ix2 n j))
  blk_ext [iblk, idx t]

theorem n_at (c : Dev nD) (t : Fin cfg0.N) (b : Fin 512) (j : Fin 512) (n : Fin 32768) (hn : n.val = t.val / 2 * 512 + b.val) :
    (show Vec Ideal S512x512 .bf16 from iblk m c 1 t) (ix2 b j) = rowN m c n j := by
  refine Eq.trans ?_ (congrFun (V_n m c) (ix2 n j))
  blk_ext [iblk, idx t]

theorem x_at (c : Dev nD) (t : Fin cfg0.N) (b : Fin 512) (j : Fin 1024) (n : Fin 32768) (hn : n.val = t.val / 2 * 512 + b.val) :
    (show Vec Ideal S512x1024 .f32 from iblk m c 2 t) (ix2 b j) = rowX m c n j := by
  refine Eq.trans ?_ (congrFun (V_str m c) (ix2 n j))
  blk_ext [iblk, idx t]

theorem wh_at (c : Dev nD) (t : Fin cfg0.N) (k : Fin 512) (j : Fin 1024) :
    (show Vec Ideal S512x1024 .bf16 from iblk m c 3 t) (ix2 k j) = argW m c (ix2 ⟨k.val, by omega⟩ j) := by
  refine Eq.trans ?_ ((congrFun (V_wh m c) (ix2 k j)).trans (by pointwise))
  blk_ext [iblk, idx t]

theorem wn_at (c : Dev nD) (t : Fin cfg0.N) (k : Fin 512) (j : Fin 1024) :
    (show Vec Ideal S512x1024 .bf16 from iblk m c 4 t) (ix2 k j) = argW m c (ix2 ⟨512 + k.val, by omega⟩ j) := by
  refine Eq.trans ?_ ((congrFun (V_wn m c) (ix2 k j)).trans (by pointwise))
  blk_ext [iblk, idx t]

theorem g_at (c : Dev nD) (t : Fin cfg0.N) (j : Fin 1024) :
    (show Vec Ideal S1x1024 .f32 from iblk m c 5 t) (ix2 0 j) = argG m c (ix1 j) := by
  refine Eq.trans ?_ ((congrFun (V_g m c) (ix2 0 j)).trans (by pointwise))
  blk_ext [iblk, idx t]

theorem gate_at (c : Dev nD) (t : Fin cfg0.N) (s : Fin 2) (hs : s.val = t.val % 2) (k : Fin 1024) (a : Fin 1408) :
    (show Vec Ideal S1024x2816 .bf16 from iblk m c 6 t) (ix2 k ⟨a.val, by omega⟩) = argU m c (ix2 k ⟨s.val * 1408 + a.val, by omega⟩) := by
  refine Eq.trans ?_ ((congrFun (V_tiled m c) (ix2 k ⟨s.val * 2816 + a.val, by omega⟩)).trans (OutFfn.tiled_gate _ k s a))
  blk_ext [iblk, idx t]

theorem value_at (c : Dev nD) (t : Fin cfg0.N) (s : Fin 2) (hs : s.val = t.val % 2) (k : Fin 1024) (a : Fin 1408) :
    (show Vec Ideal S1024x2816 .bf16 from iblk m c 6 t) (ix2 k ⟨1408 + a.val, by omega⟩) = argU m c (ix2 k ⟨2816 + (s.val * 1408 + a.val), by omega⟩) := by
  refine Eq.trans ?_ ((congrFun (V_tiled m c) (ix2 k ⟨s.val * 2816 + (1408 + a.val), by omega⟩)).trans (OutFfn.tiled_value _ k s a))
  blk_ext [iblk, idx t]

theorem d_at (c : Dev nD) (t : Fin cfg0.N) (s : Fin 2) (hs : s.val = t.val % 2) (a : Fin 1408) (j : Fin 1024) :
    (show Vec Ideal S1408x1024 .bf16 from iblk m c 7 t) (ix2 a j) = argD m c (ix2 ⟨s.val * 1408 + a.val, by omega⟩ j) := by
  refine Eq.trans ?_ (congrFun (V_d m c) (ix2 ⟨s.val * 1408 + a.val, by omega⟩ j))
  blk_ext [iblk, idx t]

end Cert.OutFfnEven
-- ==== Proof.Ffn0Arr.lean ====
module

public import proofs.«01_k».proof.Proof.Ffn0Block
public import proofs.«01_k».proof.Proof.Ffn0Read
public import proofs.«01_k».proof.Proof.Rows

@[expose] public section

set_option maxRecDepth 16384

noncomputable section

namespace Cert.OutFfnEven

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The stream's row after both mixers, from the blocks a grid point reads. -/
def mixAt (x : Vec Ideal S512x1024 .f32) (p : Vec Ideal S512x512 .bf16) (wp : Vec Ideal S512x1024 .bf16) (q : Vec Ideal S512x512 .bf16) (wq : Vec Ideal S512x1024 .bf16) (b : Fin 512) (j : Fin 1024) : EReal :=
  x (ix2 b j) + (∑ k : Fin 512, p (ix2 b k) * wp (ix2 k j)) + ∑ k : Fin 512, q (ix2 b k) * wq (ix2 k j)

theorem pay4_at (x : Vec Ideal S512x1024 .f32) (p : Vec Ideal S512x512 .bf16) (wp : Vec Ideal S512x1024 .bf16) (q : Vec Ideal S512x512 .bf16) (wq : Vec Ideal S512x1024 .bf16) (b : Fin 512) (j : Fin 1024) :
    k0_pay4 (F := Ideal) x p wp q wq (ix2 b j) = mixAt x p wp q wq b j := by
  unfold mixAt
  pointwise [k0_pay4]

theorem pay5_at (x : Vec Ideal S512x1024 .f32) (p : Vec Ideal S512x512 .bf16) (wp : Vec Ideal S512x1024 .bf16) (q : Vec Ideal S512x512 .bf16) (wq : Vec Ideal S512x1024 .bf16) (b : Fin 512) (j : Fin 1024) :
    k0_pay5 (F := Ideal) x p wp q wq (ix2 b j) = mixAt x p wp q wq b j := by
  pointwise [k0_pay5, pay4_at]

theorem pay6_at (x : Vec Ideal S512x1024 .f32) (p : Vec Ideal S512x512 .bf16) (wp : Vec Ideal S512x1024 .bf16) (q : Vec Ideal S512x512 .bf16) (wq : Vec Ideal S512x1024 .bf16) (g : Vec Ideal S1x1024 .f32) (b : Fin 512) (j : Fin 1024) :
    k0_pay6 (F := Ideal) x p wp q wq g (ix2 b j) = Rows.norm (mixAt x p wp q wq b) (fun j => g (ix2 0 j)) j := by
  unfold Rows.norm
  pointwise [k0_pay6, pay4_at]

theorem pay2_at (h : Vec Ideal S512x1024 .bf16) (u : Vec Ideal S1024x2816 .bf16) (a : Vec Ideal S512x1024 .f32) (d : Vec Ideal S1408x1024 .bf16)
    (b : Fin 512) (j : Fin 1024) :
    k0_pay2 (F := Ideal) h u a d (ix2 b j)
      = a (ix2 b j) + ∑ i : Fin 1408, Rows.unit (∑ k, h (ix2 b k) * u (ix2 k ⟨i.val, by omega⟩)) (∑ k, h (ix2 b k) * u (ix2 k ⟨1408 + i.val, by omega⟩))
          * d (ix2 i j) := by
  simp only [← Rows.unit_eq]
  pointwise [k0_pay2]

theorem pay3_at (x a : Vec Ideal S512x1024 .f32) (b : Fin 512) (j : Fin 1024) :
    k0_pay3 (F := Ideal) x a (ix2 b j) = x (ix2 b j) + a (ix2 b j) := by
  pointwise [k0_pay3]

theorem pay7_at (b : Fin 512) (j : Fin 1024) : k0_pay1 (F := Ideal) (k0_pay7 (F := Ideal)) (ix2 b j) = 0 := by
  pointwise [k0_pay1, k0_pay7]

/-- The stream's row after the mixers. -/
def mid (c : Dev nD) (n : Fin 32768) : Fin 1024 → EReal := Rows.mixed2 (rowX m c n) (rowH m c n) (rowN m c n) (fun k j => argW m c (ix2 k j))

/-- The row the network reads. -/
def hid (c : Dev nD) (n : Fin 32768) : Fin 1024 → EReal := Rows.norm (mid m c n) (fun j => argG m c (ix1 j))

theorem mid_at (c : Dev nD) (t : Fin cfg0.N) (b : Fin 512) (n : Fin 32768) (hn : n.val = t.val / 2 * 512 + b.val) :
    mixAt (iblk m c 2 t) (iblk m c 0 t) (iblk m c 3 t) (iblk m c 1 t) (iblk m c 4 t) b = mid m c n := by
  funext j
  unfold mid mixAt Rows.mixed2
  refine congr (congrArg HAdd.hAdd (congr (congrArg HAdd.hAdd (x_at m c t b j n hn)) ?_)) ?_
  · exact Finset.sum_congr rfl fun k _ => congr (congrArg HMul.hMul (h_at m c t b k n hn)) (wh_at m c t k j)
  · exact Finset.sum_congr rfl fun k _ => congr (congrArg HMul.hMul (n_at m c t b k n hn)) (wn_at m c t k j)

theorem hid_at (c : Dev nD) (t : Fin cfg0.N) (b : Fin 512) (n : Fin 32768) (hn : n.val = t.val / 2 * 512 + b.val) (j : Fin 1024) :
    k0_pay6 (F := Ideal) (iblk m c 2 t) (iblk m c 0 t) (iblk m c 3 t) (iblk m c 1 t) (iblk m c 4 t) (iblk m c 5 t) (ix2 b j) = hid m c n j := by
  refine (pay6_at _ _ _ _ _ _ b j).trans ?_
  unfold hid
  exact congrFun (congr (congrArg Rows.norm (mid_at m c t b n hn)) (funext fun j => g_at m c t j)) j

/-- One tile's part of the network, added to what the tiles before it left. -/
theorem tile_at (c : Dev nD) (t : Fin cfg0.N) (o : ℕ) (ho : o ≤ 1408) (s : Fin 2) (hs : s.val = t.val % 2) (hso : o = s.val * 1408)
    (h : Vec Ideal S512x1024 .bf16) (a : Vec Ideal S512x1024 .f32) (b : Fin 512) (j : Fin 1024) (r : Fin 1024 → EReal) (hr : ∀ k, h (ix2 b k) = r k) :
    k0_pay2 (F := Ideal) h (iblk m c 6 t) a (iblk m c 7 t) (ix2 b j)
      = a (ix2 b j) + Rows.tile r (fun k i => argU m c (ix2 k i)) (fun i j => argD m c (ix2 i j)) o ho j := by
  subst hso
  refine (pay2_at h _ a _ b j).trans (congrArg (a (ix2 b j) + ·) ?_)
  unfold Rows.tile
  refine Finset.sum_congr rfl fun i _ => congr (congrArg HMul.hMul (congr (congrArg Rows.unit ?_) ?_)) (d_at m c t s hs i j)
  · exact Finset.sum_congr rfl fun k _ => congr (congrArg HMul.hMul (hr k)) (gate_at m c t s hs k i)
  · exact Finset.sum_congr rfl fun k _ => congr (congrArg HMul.hMul (hr k)) (value_at m c t s hs k i)

/-- The layer's second half, as an array. -/
def outG (c : Dev nD) : Vec Ideal S32768x1024 .f32 := fun y =>
  mid m c (y 0) (y 1) + Rows.net (hid m c (y 0)) (fun k i => argU m c (ix2 k i)) (fun i j => argD m c (ix2 i j)) (y 1)

theorem out_pt (c : Dev nD) (t : Fin cfg0.N) (h1 : t.val % 2 = 1) (b : Fin 512) (j : Fin 1024) (n : Fin 32768) (hn : n.val = t.val / 2 * 512 + b.val) :
    (outsAt0 m c t.val t.isLt).1 (ix2 b j) = outG m c (ix2 n j) := by
  have hp : t.val - 1 < cfg0.N := lt_of_le_of_lt (Nat.sub_le _ _) t.isLt
  have hn' : n.val = (⟨t.val - 1, hp⟩ : Fin cfg0.N).val / 2 * 512 + b.val := by
    rw [hn, show t.val / 2 = (t.val - 1) / 2 by omega]
  rw [last_point m c t h1 hp, first_point m c ⟨t.val - 1, hp⟩ (show (t.val - 1) % 2 = 0 by omega)]
  refine (pay3_at _ _ b j).trans ?_
  show _ = mid m c n j + Rows.net (hid m c n) (fun k i => argU m c (ix2 k i)) (fun i j => argD m c (ix2 i j)) j
  refine congr (congrArg HAdd.hAdd ((pay5_at _ _ _ _ _ b j).trans (congrFun (mid_at m c _ b n hn') j))) ?_
  refine (tile_at m c t 1408 (by omega) 1 (by simp [h1]) (by simp) _ _ b j (hid m c n) (fun k => hid_at m c _ b n hn' k)).trans ?_
  refine (congrArg (· + _) (tile_at m c ⟨t.val - 1, hp⟩ 0 (by omega) 0 (show 0 = (t.val - 1) % 2 by omega) (by simp) _ _ b j (hid m c n)
    (fun k => hid_at m c _ b n hn' k))).trans ?_
  rw [pay7_at]
  exact Rows.net_tiles _ _ _ j

theorem emb8 (G : Vec Ideal S32768x1024 .f32) (t : Fin cfg0.N) (b : Fin 512) (j : Fin 1024) (n : Fin 32768) (hn : n.val = t.val / 2 * 512 + b.val) :
    G ((win0_8.blk t).view.emb (ix2 b j)) = G (ix2 n j) := by
  blk_ext [idx t]

theorem out_arr (c : Dev nD) : (dats m 0 c).arrAt 8 cfg0.N = outG m c := by
  refine (dats m 0 c).arrAt_eq_of_covers 8 _ (by decide +kernel) fun t hf y => ?_
  have ht := (idx t).1
  have h1 := (flush0_8 t).mp hf
  blk_simp
  rw [after0_8]
  have key : ∀ y : S512x1024.Idx, (outsAt0 m c t.val t.isLt).1 y = outG m c ((win0_8.blk t).view.emb y) := by
    intro y
    obtain ⟨b, j, rfl⟩ : ∃ b j, y = ix2 b j := ⟨y 0, y 1, by funext a; fin_cases a <;> rfl⟩
    have hl : t.val / 2 * 512 + b.val < 32768 := by have := b.isLt; omega
    exact (out_pt m c t h1 b j ⟨_, hl⟩ rfl).trans (emb8 _ t b j ⟨_, hl⟩ rfl).symm
  exact key y

end Cert.OutFfnEven
-- ==== Proof.Ffn0Ref.lean ====
module

public import proofs.«01_k».proof.Proof.Gen.Reference8Ideal.Run
public import proofs.«01_k».proof.Proof.Gen.Reference8Ideal.Read
public import proofs.«01_k».proof.Proof.Ffn0Arr

@[expose] public section

set_option maxRecDepth 16384

noncomputable section

namespace Cert.OutFfnEven

open Cert.Reference8Ideal Cert.Reference8Ideal.Gen Cert.Reference8Ideal.Read Idealize.ShloMosaic Idealize.ShloMosaic.TcCoe Idealize.SL.Sem

variable (p q : Vec Ideal S16x2048x512 .bf16) (x : Vec Ideal S16x2048x1024 .f32) (w : Vec Ideal S1024x1024 .f32) (g : Vec Ideal S1024 .f32)
variable (u : Vec Ideal S1024x5632 .f32) (d : Vec Ideal S2816x1024 .f32)

/-- The stream's row after the mixers, as the reference computes it. -/
def refMid (n : Fin 32768) : Fin 1024 → EReal :=
  Rows.mixed2 (fun j => val_main_v0 (F := Ideal) x (ix2 n j)) (fun k => val_main_v1 (F := Ideal) p (ix2 n k)) (fun k => val_main_v2 (F := Ideal) q (ix2 n k))
    (fun k j => w (ix2 k j))

theorem ref_fst (n : Fin 32768) (k : Fin 512) : val_main_v5 (F := Ideal) p q (ix2 n ⟨k.val, by omega⟩) = val_main_v1 (F := Ideal) p (ix2 n k) := by
  pointwise [val_main_v5, val_main_v3]

theorem ref_snd (n : Fin 32768) (k : Fin 512) : val_main_v5 (F := Ideal) p q (ix2 n ⟨512 + k.val, by omega⟩) = val_main_v2 (F := Ideal) q (ix2 n k) := by
  pointwise [val_main_v5, val_main_v4]

theorem ref_mid (n : Fin 32768) (j : Fin 1024) : val_main_v7 (F := Ideal) p q x w (ix2 n j) = refMid p q x w n j := by
  have h : val_main_v7 (F := Ideal) p q x w (ix2 n j)
      = Rows.mixed (fun j => val_main_v0 (F := Ideal) x (ix2 n j)) (fun k => val_main_v5 (F := Ideal) p q (ix2 n k)) (fun k j => w (ix2 k j)) j := by
    unfold Rows.mixed
    pointwise [val_main_v7, val_main_v6]
  rw [h, Rows.mixed_halves, refMid]
  exact congrFun (congrFun (congr (congrArg (Rows.mixed2 _) (funext fun k => ref_fst p q n k)) (funext fun k => ref_snd p q n k)) _) j

theorem ref_norm (n : Fin 32768) (j : Fin 1024) :
    val_main_v20 (F := Ideal) p q x w g (ix2 n j) = Rows.norm (refMid p q x w n) (fun j => g (ix1 j)) j := by
  unfold Rows.norm
  pointwise [val_main_v20, val_main_v19, val_main_v18, val_main_v17, val_main_v16, val_main_v15, val_main_v14, val_main_v13, val_main_v12, val_main_v11, val_main_v10, val_main_v9, val_main_v8, val_main_cst, val_main_cst_0, val_main_cst_1, ref_mid]

theorem ref_up (n : Fin 32768) (i : Fin 5632) :
    val_main_v21 (F := Ideal) p q x w g u (ix2 n i) = ∑ k, Rows.norm (refMid p q x w n) (fun j => g (ix1 j)) k * u (ix2 k i) := by
  pointwise [val_main_v21, ref_norm]

theorem ref_unit (n : Fin 32768) (a : Fin 2816) :
    val_main_v25 (F := Ideal) p q x w g u (ix2 n a)
      = Rows.unit (∑ k, Rows.norm (refMid p q x w n) (fun j => g (ix1 j)) k * u (ix2 k ⟨a.val, by omega⟩))
          (∑ k, Rows.norm (refMid p q x w n) (fun j => g (ix1 j)) k * u (ix2 k ⟨2816 + a.val, by omega⟩)) := by
  unfold Rows.unit Ideal.logistic
  pointwise [val_main_v25, val_main_v24, val_main_v23, val_main_v22, val_main_call0_v5, val_main_call0_v4, val_main_call0_v3, val_main_call0_v2, val_main_call0_v1,
    val_main_call0_v0, val_main_call0_cst, val_main_call0_cst_0, ref_up]

theorem ref_out (n : Fin 32768) (j : Fin 1024) :
    val_main_v27 (F := Ideal) p q x w g u d (ix2 n j)
      = refMid p q x w n j + Rows.net (Rows.norm (refMid p q x w n) (fun j => g (ix1 j))) (fun k i => u (ix2 k i)) (fun a j => d (ix2 a j)) j := by
  unfold Rows.net
  pointwise [val_main_v27, val_main_v26, ref_mid, ref_unit]

theorem ref_outG (m : (ℓ : Loc Cert.Kernel8Ideal.nD Cert.Kernel8Ideal.τ Cert.Kernel8Ideal.sig) → Buf (Elt Ideal) ℓ) (c : Dev Cert.Kernel8Ideal.nD) :
    val_main_v27 (F := Ideal) (argH m c) (argN m c) (argX m c) (argW m c) (argG m c) (argU m c) (argD m c) = outG m c := by
  funext y
  obtain ⟨n, j, rfl⟩ : ∃ n j, y = ix2 n j := ⟨y 0, y 1, by funext a; fin_cases a <;> rfl⟩
  exact ref_out _ _ _ _ _ _ _ n j

end Cert.OutFfnEven
-- ==== Proof.Ffn0Claim.lean ====
module

public import proofs.«01_k».proof.Defs
public import proofs.«01_k».proof.Proof.Gen.Kernel8Ideal.Frame
public import proofs.«01_k».proof.Proof.Gen.Reference8Ideal
public import proofs.«01_k».proof.Proof.Ffn0Ref
public import Idealize.ShloMosaic.Lib.Claim

@[expose] public section

set_option maxRecDepth 16384

noncomputable section

namespace Cert.OutFfnEven

open Cert.Kernel8Ideal Cert.Kernel8Ideal.Gen Idealize.ShloMosaic Idealize.ShloMosaic.TcCoe Idealize.SL.Sem

theorem algebraic : Cert.algebraic_Kernel8Ideal_Reference8Ideal := by
  pair_intro
  · run_from Cert.Kernel8Ideal.Gen.run_main m g
    all_goals first
      | exact Cert.Kernel8Ideal.Gen.V_main_arg0 m c
      | exact Cert.Kernel8Ideal.Gen.V_main_arg1 m c
      | exact Cert.Kernel8Ideal.Gen.V_main_arg2 m c
      | exact Cert.Kernel8Ideal.Gen.V_main_arg3 m c
      | exact Cert.Kernel8Ideal.Gen.V_main_arg4 m c
      | exact Cert.Kernel8Ideal.Gen.V_main_arg5 m c
      | exact Cert.Kernel8Ideal.Gen.V_main_arg6 m c
  · run_from Cert.Reference8Ideal.Value.run m' g'
    · rw [Cert.Reference8Ideal.Read.val_main_v27_eq, (hagree c).1, (hagree c).2.1, (hagree c).2.2.1, (hagree c).2.2.2.1, (hagree c).2.2.2.2.1,
        (hagree c).2.2.2.2.2.1, (hagree c).2.2.2.2.2.2]
      exact (ref_outG m c).trans (out_arr m c).symm

end Cert.OutFfnEven
-- ==== Proof.CmpBlock.lean ====
module

public import proofs.«01_k».proof.Proof.Gen.Kernel9Ideal.Value
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 65536

noncomputable section

namespace Cert.Compress

open Cert.Kernel9Ideal Cert.Kernel9Ideal.Gen Idealize.ShloMosaic Idealize.ShloMosaic.TcCoe Idealize.SL.Sem
open Idealize.ShloMosaic.Pipeline (Dat)

/-- Row `l` of every block of 64 rows. -/
def rowsRect (l : ℕ) (h : l < 64) : LoadRect S8192x128 :=
  ⟨![l, 0], S128x128.size, ![64, 1], fun a => by fin_cases a <;> simp <;> omega⟩

/-- Row `l` of the position table. -/
def peRect (l : ℕ) (h : l < 64) : Rect S64x256 :=
  Rect.unit ![l, 0] S1x256.size (fun a => by fin_cases a <;> simp; omega)

/-- Weight `l` of the table of weights. -/
def wRect (l : ℕ) (h : l < 64) : Rect S64x256x256 :=
  Rect.unit ![l, 0, 0] S1x256x256.size (fun a => by fin_cases a <;> simp; omega)

/-- The product of row `l` of every block, the position's row added, with weight `l`, added to what was summed before. -/
def step (xa xb : Vec Ideal S8192x128 .f32) (pe : Vec Ideal S64x256 .f32) (w : Vec Ideal S64x256x256 .bf16) (l : ℕ) (h : l < 64)
    (acc : Vec Ideal S128x256 .f32) : Vec Ideal S128x256 .f32 :=
  k0_pay3 (F := Ideal) (fun y => xa ((rowsRect l h).idx y)) (fun y => xb ((rowsRect l h).idx y)) (View.ld pe (peRect l h)) acc (View.ld w (wRect l h))

/-- The sum over the first `n` rows of every block. -/
def chain (xa xb : Vec Ideal S8192x128 .f32) (pe : Vec Ideal S64x256 .f32) (w : Vec Ideal S64x256x256 .bf16) :
    (n : ℕ) → n ≤ 64 → Vec Ideal S128x256 .f32
  | 0, _ => k0_pay2 (F := Ideal)
  | n + 1, h => step xa xb pe w n h (chain xa xb pe w n (Nat.le_of_succ_le h))

/-- A strided read of a whole buffer holding `f`. -/
theorem readAt_unread {s : Shape} {e : EltTy} {r : Memref sig .tc .vmem s e} (h : r.IsWhole) (f : Vec Ideal s e) (q : LoadRect s) :
    View.readAt (Elt Ideal) r.view q (h.unread f) = fun y => f (q.idx y) := by
  funext y
  exact congrFun (h.read_unread f) _

variable (m : (ℓ : Loc nD τ sig) → Buf (Elt Ideal) ℓ)

set_option maxHeartbeats 4000000 in
theorem point (c : Dev nD) (t : Fin cfg0.N) : outsAt0 m c t
    = k0_pay1 (F := Ideal) (chain (iblk m c 0 t) (iblk m c 1 t) (iblk m c 2 t) (iblk m c 3 t) 64 le_rfl)
        (FloatOps.ofBits FTy.f32 1056964608#32) (iblk m c 4 t) := by
  unfold outsAt0
  frame_out
  simp only [readAt_unread]
  rfl

end Cert.Compress
-- ==== Proof.CmpRead.lean ====
module

public import proofs.«01_k».proof.Proof.Gen.Kernel9Ideal.Value
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.Rows

@[expose] public section

set_option maxRecDepth 16384

noncomputable section

namespace Cert.Compress

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The projected rows. -/
abbrev argP (c : Dev nD) : Vec Ideal S16x2048x3352 .f32 := m ((c : Thread nD τ).loc main_arg0)
/-- The position tables. -/
abbrev argE (c : Dev nD) : Vec Ideal S2x64x64 .f32 := m ((c : Thread nD τ).loc main_arg1)
/-- The first weights. -/
abbrev argU (c : Dev nD) : Vec Ideal S2x4096x64 .f32 := m ((c : Thread nD τ).loc main_arg2)
/-- The second weights. -/
abbrev argD (c : Dev nD) : Vec Ideal S2x64x64 .f32 := m ((c : Thread nD τ).loc main_arg3)

/-- The block every window reads or writes at a grid point. -/
theorem idx : ∀ t : Fin cfg0.N, t.val < 4 ∧ win0_0.index t = ![t.val, 16] ∧ win0_1.index t = ![t.val, 17] ∧ win0_2.index t = ![0, 0]
    ∧ win0_3.index t = ![0, 0, 0] ∧ win0_4.index t = ![0, 0] ∧ win0_5.index t = ![t.val, 0] :=
  (by decide +kernel : ∀ t : Fin grid0.N, _)

/-- The zero a table is filled up with. -/
def fill : Vec Ideal S_ .f32 := sitofp (F := Ideal) .f32 (constantI S_ 32 0#32)

/-- Two runs of columns put side by side. -/
def cat2 (a : Vec Ideal S32768x2048 .f32) (b : Vec Ideal S32768x256 .f32) : Vec Ideal S32768x2304 .f32 :=
  concatenate S32768x2304 1 [⟨S32768x2048, a⟩, ⟨S32768x256, b⟩] concatenates_S32768x2048_S32768x256_S32768x2304_d1

/-- Four tables of weights, one below the other. -/
def catU (a b c d : Vec Ideal S64x64x256 .f32) : Vec Ideal S64x256x256 .f32 :=
  concatenate S64x256x256 1 [⟨S64x64x256, a⟩, ⟨S64x64x256, b⟩, ⟨S64x64x256, c⟩, ⟨S64x64x256, d⟩]
    concatenates_S64x64x256_S64x64x256_S64x64x256_S64x64x256_S64x256x256_d1

/-- Four tables of second weights, one below the other. -/
def catD (a b c d : Vec Ideal S64x256 .f32) : Vec Ideal S256x256 .f32 :=
  concatenate S256x256 0 [⟨S64x256, a⟩, ⟨S64x256, b⟩, ⟨S64x256, c⟩, ⟨S64x256, d⟩] concatenates_S64x256_S64x256_S64x256_S64x256_S256x256_d0

/-- Four position tables side by side. -/
def catE (a b c d : Vec Ideal S64x64 .f32) : Vec Ideal S64x256 .f32 :=
  concatenate S64x256 1 [⟨S64x64, a⟩, ⟨S64x64, b⟩, ⟨S64x64, c⟩, ⟨S64x64, d⟩] concatenates_S64x64_S64x64_S64x64_S64x64_S64x256_d1

/-- The first weights of one side, by row of a block. -/
def u0 (w : Vec Ideal S2x4096x64 .f32) : Vec Ideal S64x64x64 .f32 :=
  shapeCast S64x64x64 (extractStridedSlice S1x64x64x64 ![0, 0, 0, 0] (shapeCast S2x64x64x64 w shapeCasts_S2x4096x64_S2x64x64x64)
    slices_S2x64x64x64_S1x64x64x64_0_0_0_0) shapeCasts_S1x64x64x64_S64x64x64
/-- The first weights of the other side, by row of a block. -/
def u1 (w : Vec Ideal S2x4096x64 .f32) : Vec Ideal S64x64x64 .f32 :=
  shapeCast S64x64x64 (extractStridedSlice S1x64x64x64 ![1, 0, 0, 0] (shapeCast S2x64x64x64 w shapeCasts_S2x4096x64_S2x64x64x64)
    slices_S2x64x64x64_S1x64x64x64_1_0_0_0) shapeCasts_S1x64x64x64_S64x64x64
/-- One side of a pair of tables. -/
def d0 (w : Vec Ideal S2x64x64 .f32) : Vec Ideal S64x64 .f32 :=
  shapeCast S64x64 (extractStridedSlice S1x64x64 ![0, 0, 0] w slices_S2x64x64_S1x64x64_0_0_0) shapeCasts_S1x64x64_S64x64
/-- The other side of a pair of tables. -/
def d1 (w : Vec Ideal S2x64x64 .f32) : Vec Ideal S64x64 .f32 :=
  shapeCast S64x64 (extractStridedSlice S1x64x64 ![1, 0, 0] w slices_S2x64x64_S1x64x64_1_0_0) shapeCasts_S1x64x64_S64x64

/-- The first weights as the kernel takes them: the four tables on the diagonal. -/
def tblU (w : Vec Ideal S2x4096x64 .f32) : Vec Ideal S64x256x256 .f32 :=
  catU (pad S64x64x256 ![0, 0, 0] ![0, 0, 192] ![0, 0, 0] (u0 w) fill pads_S64x64x64_S64x64x256_000_000_01920 h_S_)
    (pad S64x64x256 ![0, 0, 64] ![0, 0, 128] ![0, 0, 0] (u0 w) fill pads_S64x64x64_S64x64x256_000_000_641280 h_S_)
    (pad S64x64x256 ![0, 0, 128] ![0, 0, 64] ![0, 0, 0] (u1 w) fill pads_S64x64x64_S64x64x256_000_000_128640 h_S_)
    (pad S64x64x256 ![0, 0, 192] ![0, 0, 0] ![0, 0, 0] (u1 w) fill pads_S64x64x64_S64x64x256_000_000_19200 h_S_)

/-- The second weights as the kernel takes them: the four tables on the diagonal. -/
def tblD (w : Vec Ideal S2x64x64 .f32) : Vec Ideal S256x256 .f32 :=
  catD (pad S64x256 ![0, 0] ![0, 192] ![0, 0] (d0 w) fill pads_S64x64_S64x256_000_01920 h_S_)
    (pad S64x256 ![0, 64] ![0, 128] ![0, 0] (d0 w) fill pads_S64x64_S64x256_000_641280 h_S_)
    (pad S64x256 ![0, 128] ![0, 64] ![0, 0] (d1 w) fill pads_S64x64_S64x256_000_128640 h_S_)
    (pad S64x256 ![0, 192] ![0, 0] ![0, 0] (d1 w) fill pads_S64x64_S64x256_000_19200 h_S_)

theorem V_p (c : Dev nD) : V m c main_v3
    = cat2 (extractStridedSlice S32768x2048 ![0, 0] (shapeCast S32768x3352 (argP m c) shapeCasts_S16x2048x3352_S32768x3352) slices_S32768x3352_S32768x2048_0_0)
        (extractStridedSlice S32768x256 ![0, 2560] (shapeCast S32768x3352 (argP m c) shapeCasts_S16x2048x3352_S32768x3352) slices_S32768x3352_S32768x256_0_2560) := by
  entry_read; rfl

set_option maxHeartbeats 2000000 in
theorem V_u (c : Dev nD) : V m c main_v40 = truncf (F := Ideal) .bf16 (tblU (argU m c)) bitsLt_bf16_f32 := by
  entry_read; rfl

set_option maxHeartbeats 2000000 in
theorem V_d (c : Dev nD) : V m c main_v41 = truncf (F := Ideal) .bf16 (tblD (argD m c)) bitsLt_bf16_f32 := by
  entry_read; rfl

set_option maxHeartbeats 2000000 in
theorem V_e (c : Dev nD) : V m c main_v39 = catE (d0 (argE m c)) (d0 (argE m c)) (d1 (argE m c)) (d1 (argE m c)) := by
  entry_read; rfl

/-- The side a group of columns belongs to. -/
def side (i : Fin 4) : Fin 2 := ⟨i.val / 2, by omega⟩

/-- Column `d` of group `i`. -/
def col (i : Fin 4) (d : Fin 64) : Fin 256 := ⟨i.val * 64 + d.val, by omega⟩

theorem tblU_eq (w : Vec Ideal S2x4096x64 .f32) (l : Fin 64) (i j : Fin 4) (d h : Fin 64) (k : Fin 4096) (hk : k.val = l.val * 64 + d.val) :
    tblU w (ix3 l (col i d) (col j h)) = if i = j then w (ix3 (side i) k h) else 0 := by
  obtain ⟨x, hx⟩ : ∃ x : Fin 256, x = col i d := ⟨_, rfl⟩
  obtain ⟨y, hy⟩ : ∃ y : Fin 256, y = col j h := ⟨_, rfl⟩
  rw [← hx, ← hy]
  have hx : x.val = i.val * 64 + d.val := congrArg Fin.val hx
  have hy : y.val = j.val * 64 + h.val := congrArg Fin.val hy
  have hw0 : ∀ (b : Fin 4096) (e : Fin 64), i.val / 2 = 0 → b.val = k.val → e.val = h.val → w (ix3 0 b e) = w (ix3 (side i) k h) := by
    intro b e ha hb he
    rw [show side i = 0 from Fin.ext ha, Fin.ext hb, Fin.ext he]
  have hw1 : ∀ (b : Fin 4096) (e : Fin 64), i.val / 2 = 1 → b.val = k.val → e.val = h.val → w (ix3 1 b e) = w (ix3 (side i) k h) := by
    intro b e ha hb he
    rw [show side i = 1 from Fin.ext ha, Fin.ext hb, Fin.ext he]
  pointwise [tblU, catU, u0, u1, fill]
  repeat' split
  all_goals first
    | (exfalso; omega)
    | exact Rows.intZero
    | exact hw0 _ _ (by omega) (by simp only []; omega) (by simp only []; omega)
    | exact hw1 _ _ (by omega) (by simp only []; omega) (by simp only []; omega)

theorem tblD_eq (w : Vec Ideal S2x64x64 .f32) (i j : Fin 4) (d h : Fin 64) :
    tblD w (ix2 (col i d) (col j h)) = if i = j then w (ix3 (side i) d h) else 0 := by
  obtain ⟨x, hx⟩ : ∃ x : Fin 256, x = col i d := ⟨_, rfl⟩
  obtain ⟨y, hy⟩ : ∃ y : Fin 256, y = col j h := ⟨_, rfl⟩
  rw [← hx, ← hy]
  have hx : x.val = i.val * 64 + d.val := congrArg Fin.val hx
  have hy : y.val = j.val * 64 + h.val := congrArg Fin.val hy
  have hw0 : ∀ (b e : Fin 64), i.val / 2 = 0 → b.val = d.val → e.val = h.val → w (ix3 0 b e) = w (ix3 (side i) d h) := by
    intro b e ha hb he
    rw [show side i = 0 from Fin.ext ha, Fin.ext hb, Fin.ext he]
  have hw1 : ∀ (b e : Fin 64), i.val / 2 = 1 → b.val = d.val → e.val = h.val → w (ix3 1 b e) = w (ix3 (side i) d h) := by
    intro b e ha hb he
    rw [show side i = 1 from Fin.ext ha, Fin.ext hb, Fin.ext he]
  pointwise [tblD, catD, d0, d1, fill]
  repeat' split
  all_goals first
    | (exfalso; omega)
    | exact Rows.intZero
    | exact hw0 _ _ (by omega) (by simp only []; omega) (by simp only []; omega)
    | exact hw1 _ _ (by omega) (by simp only []; omega) (by simp only []; omega)

theorem tblE_eq (w : Vec Ideal S2x64x64 .f32) (l : Fin 64) (i : Fin 4) (d : Fin 64) :
    catE (d0 w) (d0 w) (d1 w) (d1 w) (ix2 l (col i d)) = w (ix3 (side i) l d) := by
  obtain ⟨x, hx⟩ : ∃ x : Fin 256, x = col i d := ⟨_, rfl⟩
  rw [← hx]
  have hx : x.val = i.val * 64 + d.val := congrArg Fin.val hx
  have hw0 : ∀ (b e : Fin 64), i.val / 2 = 0 → b.val = l.val → e.val = d.val → w (ix3 0 b e) = w (ix3 (side i) l d) := by
    intro b e ha hb he
    rw [show side i = 0 from Fin.ext ha, Fin.ext hb, Fin.ext he]
  have hw1 : ∀ (b e : Fin 64), i.val / 2 = 1 → b.val = l.val → e.val = d.val → w (ix3 1 b e) = w (ix3 (side i) l d) := by
    intro b e ha hb he
    rw [show side i = 1 from Fin.ext ha, Fin.ext hb, Fin.ext he]
  pointwise [catE, d0, d1]
  repeat' split
  all_goals first
    | (exfalso; omega)
    | exact hw0 _ _ (by omega) (by simp only []) (by simp only []; omega)
    | exact hw1 _ _ (by omega) (by simp only []) (by simp only []; omega)

theorem a_at (c : Dev nD) (t : Fin cfg0.N) (r : Fin 8192) (x : Fin 128) (b : Fin 16) (s : Fin 2048) (hs : b.val * 2048 + s.val = t.val * 8192 + r.val) :
    (show Vec Ideal S8192x128 .f32 from iblk m c 0 t) (ix2 r x) = argP m c (ix3 b s ⟨2560 + x.val, by omega⟩) := by
  have ht := (idx t).1
  refine Eq.trans ?_ ((congrFun (V_p m c) (ix2 (⟨b.val * 2048 + s.val, by omega⟩ : Fin 32768) ⟨2048 + x.val, by omega⟩)).trans (by pointwise [cat2]))
  blk_ext [iblk, idx t]

theorem b_at (c : Dev nD) (t : Fin cfg0.N) (r : Fin 8192) (x : Fin 128) (b : Fin 16) (s : Fin 2048) (hs : b.val * 2048 + s.val = t.val * 8192 + r.val) :
    (show Vec Ideal S8192x128 .f32 from iblk m c 1 t) (ix2 r x) = argP m c (ix3 b s ⟨2560 + (128 + x.val), by omega⟩) := by
  have ht := (idx t).1
  refine Eq.trans ?_ ((congrFun (V_p m c) (ix2 (⟨b.val * 2048 + s.val, by omega⟩ : Fin 32768) ⟨2048 + (128 + x.val), by omega⟩)).trans (by pointwise [cat2]))
  blk_ext [iblk, idx t]

theorem e_at (c : Dev nD) (t : Fin cfg0.N) (l : Fin 64) (i : Fin 4) (d : Fin 64) :
    (show Vec Ideal S64x256 .f32 from iblk m c 2 t) (ix2 l (col i d)) = argE m c (ix3 (side i) l d) := by
  refine Eq.trans ?_ ((congrFun (V_e m c) (ix2 l (col i d))).trans (tblE_eq _ l i d))
  blk_ext [iblk, idx t]

theorem u_at (c : Dev nD) (t : Fin cfg0.N) (l : Fin 64) (i j : Fin 4) (d h : Fin 64) (k : Fin 4096) (hk : k.val = l.val * 64 + d.val) :
    (show Vec Ideal S64x256x256 .bf16 from iblk m c 3 t) (ix3 l (col i d) (col j h)) = if i = j then argU m c (ix3 (side i) k h) else 0 := by
  refine Eq.trans ?_ ((congrFun (V_u m c) (ix3 l (col i d) (col j h))).trans (tblU_eq _ l i j d h k hk))
  blk_ext [iblk, idx t]

theorem d_at (c : Dev nD) (t : Fin cfg0.N) (i j : Fin 4) (d h : Fin 64) :
    (show Vec Ideal S256x256 .bf16 from iblk m c 4 t) (ix2 (col i d) (col j h)) = if i = j then argD m c (ix3 (side i) d h) else 0 := by
  refine Eq.trans ?_ ((congrFun (V_d m c) (ix2 (col i d) (col j h))).trans (tblD_eq _ i j d h))
  blk_ext [iblk, idx t]

end Cert.Compress
-- ==== Proof.CmpArr.lean ====
module

public import proofs.«01_k».proof.Proof.CmpBlock
public import proofs.«01_k».proof.Proof.CmpRead
public import proofs.«01_k».proof.Proof.Scalar

@[expose] public section

set_option maxRecDepth 16384

noncomputable section

namespace Cert.Compress

open Cert.Kernel9Ideal Cert.Kernel9Ideal.Gen Idealize.ShloMosaic Idealize.ShloMosaic.TcCoe Idealize.SL.Sem
open Idealize.ShloMosaic.Pipeline (Dat)

/-- A sum over the columns, group by group. -/
theorem sum_col (f : Fin 256 → EReal) : ∑ x, f x = ∑ i : Fin 4, ∑ d : Fin 64, f (col i d) := by
  have h := (finProdFinEquiv (m := 4) (n := 64)).sum_comp (fun x => f x)
  rw [Fintype.sum_prod_type] at h
  refine h.symm.trans (Finset.sum_congr rfl fun i _ => Finset.sum_congr rfl fun d _ => congrArg f (Fin.ext ?_))
  simp only [finProdFinEquiv_apply_val, col]
  omega

/-- A sum over the rows of the first weights, row of a block by row of a block. -/
theorem sum_rows (f : Fin 4096 → EReal) : ∑ k, f k = ∑ l : Fin 64, ∑ d : Fin 64, f ⟨l.val * 64 + d.val, by omega⟩ := by
  have h := (finProdFinEquiv (m := 64) (n := 64)).sum_comp (fun x => f x)
  rw [Fintype.sum_prod_type] at h
  refine h.symm.trans (Finset.sum_congr rfl fun i _ => Finset.sum_congr rfl fun d _ => congrArg f (Fin.ext ?_))
  simp only [finProdFinEquiv_apply_val]
  omega

/-- Against a table on the diagonal only one group of columns counts. -/
theorem sum_diag (f : Fin 256 → EReal) (j : Fin 4) (w : Fin 4 → Fin 64 → EReal) (g : Fin 256 → EReal)
    (hg : ∀ i d, g (col i d) = if i = j then w i d else 0) :
    ∑ x, f x * g x = ∑ d : Fin 64, f (col j d) * w j d := by
  rw [sum_col]
  refine (Finset.sum_congr rfl fun i _ => (?_ : _ = if i = j then ∑ d : Fin 64, f (col j d) * w j d else 0)).trans (by simp)
  split
  · next h => subst h; exact Finset.sum_congr rfl fun d _ => by rw [hg, if_pos rfl]
  · next h => exact Finset.sum_eq_zero fun d _ => by rw [hg, if_neg h, mul_zero]

theorem pay3_at (A B : Vec Ideal S128x128 .f32) (E : Vec Ideal S1x256 .f32) (acc : Vec Ideal S128x256 .f32) (W : Vec Ideal S1x256x256 .bf16)
    (r : Fin 128) (y : Fin 256) :
    k0_pay3 (F := Ideal) A B E acc W (ix2 r y) = acc (ix2 r y)
      + ∑ x : Fin 256, ((if h : x.val < 128 then A (ix2 r ⟨x.val, h⟩) else B (ix2 r ⟨x.val - 128, by omega⟩)) + E (ix2 0 x)) * W (ix3 0 x y) := by
  pointwise [k0_pay3]

theorem pay2_at (r : Fin 128) (y : Fin 256) : k0_pay2 (F := Ideal) (ix2 r y) = 0 := by
  pointwise [k0_pay2]

/-- A value times its logistic. -/
def silu (x : EReal) : EReal := x * Ideal.logistic x

theorem pay1_at (v : Vec Ideal S128x256 .f32) (W : Vec Ideal S256x256 .bf16) (r : Fin 128) (y : Fin 256) :
    k0_pay1 (F := Ideal) v (FloatOps.ofBits FTy.f32 1056964608#32) W (ix2 r y) = ∑ x : Fin 256, silu (v (ix2 r x)) * W (ix2 x y) := by
  unfold silu
  simp only [← Scalar.sigmoid_eq]
  pointwise [k0_pay1]

theorem rows_at (x : Vec Ideal S8192x128 .f32) (l : ℕ) (h : l < 64) (r : Fin 128) (z : Fin 128) :
    x ((rowsRect l h).idx (ix2 r z)) = x (ix2 ⟨l + 64 * r.val, by omega⟩ z) := by
  refine congrArg x (funext fun a => Fin.ext ?_)
  fin_cases a <;> simp [rowsRect, ix2]

theorem pe_at (x : Vec Ideal S64x256 .f32) (l : ℕ) (h : l < 64) (z : Fin 256) :
    View.ld x (peRect l h) (ix2 0 z) = x (ix2 ⟨l, h⟩ z) := by
  refine congrArg x (funext fun a => Fin.ext ?_)
  fin_cases a <;> simp [peRect, ix2]

theorem w_at (x : Vec Ideal S64x256x256 .bf16) (l : ℕ) (h : l < 64) (z y : Fin 256) :
    View.ld x (wRect l h) (ix3 0 z y) = x (ix3 ⟨l, h⟩ z y) := by
  refine congrArg x (funext fun a => Fin.ext ?_)
  fin_cases a <;> simp [wRect, ix3]

/-- A row of a block with its position, times the first weights. -/
def term (p : Vec Ideal S16x2048x3352 .f32) (e : Vec Ideal S2x64x64 .f32) (u : Vec Ideal S2x4096x64 .f32) (b : Fin 16) (n : Fin 32) (i : Fin 4)
    (h : Fin 64) (l : Fin 64) : EReal :=
  ∑ d : Fin 64, (p (ix3 b ⟨n.val * 64 + l.val, by omega⟩ ⟨2560 + (i.val * 64 + d.val), by omega⟩) + e (ix3 (side i) l d))
    * u (ix3 (side i) ⟨l.val * 64 + d.val, by omega⟩ h)

/-- A block times the first weights. -/
def hid (p : Vec Ideal S16x2048x3352 .f32) (e : Vec Ideal S2x64x64 .f32) (u : Vec Ideal S2x4096x64 .f32) (b : Fin 16) (n : Fin 32) (i : Fin 4)
    (h : Fin 64) : EReal := ∑ l : Fin 64, term p e u b n i h l

/-- A block's summary. -/
def summ (p : Vec Ideal S16x2048x3352 .f32) (e : Vec Ideal S2x64x64 .f32) (u : Vec Ideal S2x4096x64 .f32) (w : Vec Ideal S2x64x64 .f32) (b : Fin 16)
    (n : Fin 32) (i : Fin 4) (o : Fin 64) : EReal := ∑ h : Fin 64, silu (hid p e u b n i h) * w (ix3 (side i) h o)

/-- The summaries as an array. -/
def outG (p : Vec Ideal S16x2048x3352 .f32) (e : Vec Ideal S2x64x64 .f32) (u : Vec Ideal S2x4096x64 .f32) (w : Vec Ideal S2x64x64 .f32) :
    Vec Ideal S512x256 .f32 := fun y =>
  summ p e u w ⟨(y 0).val / 32, by have : (y 0).val < 512 := (y 0).isLt; omega⟩ ⟨(y 0).val % 32, by omega⟩
    ⟨(y 1).val / 64, by have : (y 1).val < 256 := (y 1).isLt; omega⟩ ⟨(y 1).val % 64, by omega⟩

variable (m : (ℓ : Loc nD τ sig) → Buf (Elt Ideal) ℓ)

theorem step_at (c : Dev nD) (t : Fin cfg0.N) (acc : Vec Ideal S128x256 .f32) (l : ℕ) (hl : l < 64) (r : Fin 128) (b : Fin 16) (n : Fin 32)
    (hb : b.val * 32 + n.val = t.val * 128 + r.val) (j : Fin 4) (h : Fin 64) :
    step (iblk m c 0 t) (iblk m c 1 t) (iblk m c 2 t) (iblk m c 3 t) l hl acc (ix2 r (col j h))
      = acc (ix2 r (col j h)) + term (argP m c) (argE m c) (argU m c) b n j h ⟨l, hl⟩ := by
  unfold step
  refine (pay3_at _ _ _ acc _ r _).trans ?_
  refine congrArg (acc (ix2 r (col j h)) + ·) ?_
  refine (sum_diag _ j (fun i d => argU m c (ix3 (side i) ⟨l * 64 + d.val, by omega⟩ h)) _ ?_).trans ?_
  · intro i d
    exact (w_at _ l hl _ _).trans (u_at m c t ⟨l, hl⟩ i j d h _ rfl)
  · unfold term
    refine Finset.sum_congr rfl fun d _ => ?_
    refine congrArg (· * _) (congr (congrArg HAdd.hAdd ?_) ?_)
    · split
      · next hx =>
        refine (rows_at _ l hl _ _).trans ((a_at m c t _ _ b ⟨n.val * 64 + l, by omega⟩ ?_).trans ?_)
        · simp only []; omega
        · exact congrArg (fun x => argP m c (ix3 b _ x)) (Fin.ext (by simp only [col]))
      · next hx =>
        have hx' : ¬ j.val * 64 + d.val < 128 := hx
        refine (rows_at _ l hl _ _).trans ((b_at m c t _ _ b ⟨n.val * 64 + l, by omega⟩ ?_).trans ?_)
        · simp only []; omega
        · exact congrArg (fun x => argP m c (ix3 b _ x)) (Fin.ext (by simp only [col]; omega))
    · exact (pe_at _ l hl _).trans (e_at m c t ⟨l, hl⟩ j d)

theorem chain_at (c : Dev nD) (t : Fin cfg0.N) (r : Fin 128) (b : Fin 16) (n : Fin 32)
    (hb : b.val * 32 + n.val = t.val * 128 + r.val) (j : Fin 4) (h : Fin 64) : ∀ (k : ℕ) (hk : k ≤ 64),
    chain (iblk m c 0 t) (iblk m c 1 t) (iblk m c 2 t) (iblk m c 3 t) k hk (ix2 r (col j h))
      = ∑ l : Fin k, term (argP m c) (argE m c) (argU m c) b n j h ⟨l.val, by omega⟩
  | 0, _ => by
    rw [Fin.sum_univ_zero]
    exact pay2_at r _
  | k + 1, hk => by
    rw [Fin.sum_univ_castSucc]
    refine (step_at m c t _ k hk r b n hb j h).trans ?_
    rw [chain_at c t r b n hb j h k (by omega)]
    rfl

theorem out_pt (c : Dev nD) (t : Fin cfg0.N) (r : Fin 128) (b : Fin 16) (n : Fin 32) (hb : b.val * 32 + n.val = t.val * 128 + r.val)
    (j : Fin 4) (o : Fin 64) :
    outsAt0 m c t (ix2 r (col j o)) = summ (argP m c) (argE m c) (argU m c) (argD m c) b n j o := by
  rw [point]
  refine (pay1_at _ _ r _).trans ?_
  refine (sum_diag (fun x => silu _) j (fun i d => argD m c (ix3 (side i) d o)) _ ?_).trans ?_
  · intro i d
    exact d_at m c t i j d o
  · unfold summ hid
    refine Finset.sum_congr rfl fun d _ => ?_
    exact congrArg (fun z => silu z * _) (chain_at m c t r b n hb j d 64 le_rfl)

theorem out_arr (c : Dev nD) : (dats m 0 c).arrAt 5 cfg0.N = outG (argP m c) (argE m c) (argU m c) (argD m c) := by
  refine (dats m 0 c).arrAt_eq_of_covers 5 _ (by decide +kernel) fun t hf y => ?_
  have ht := (idx t).1
  blk_simp
  rw [after0_5]
  have key : ∀ y : S128x256.Idx, outsAt0 m c t y = outG (argP m c) (argE m c) (argU m c) (argD m c) ((win0_5.blk t).view.emb y) := by
    intro y
    obtain ⟨r, x, rfl⟩ : ∃ r x, y = ix2 r x := ⟨y 0, y 1, by funext a; fin_cases a <;> rfl⟩
    have hr : t.val * 128 + r.val < 512 := by have := r.isLt; omega
    have hx := x.isLt
    obtain ⟨j, o, rfl⟩ : ∃ j o, x = col j o := ⟨⟨x.val / 64, by omega⟩, ⟨x.val % 64, by omega⟩, Fin.ext (by simp only [col]; omega)⟩
    refine (out_pt m c t r ⟨(t.val * 128 + r.val) / 32, by omega⟩ ⟨(t.val * 128 + r.val) % 32, by omega⟩ (by simp only []; omega) j o).trans ?_
    have he : outG (argP m c) (argE m c) (argU m c) (argD m c) (ix2 ⟨t.val * 128 + r.val, hr⟩ (col j o))
        = summ (argP m c) (argE m c) (argU m c) (argD m c) ⟨(t.val * 128 + r.val) / 32, by omega⟩ ⟨(t.val * 128 + r.val) % 32, by omega⟩ j o := by
      refine congr (congrArg (summ _ _ _ _ _ _) (Fin.ext ?_)) (Fin.ext ?_)
      · show (j.val * 64 + o.val) / 64 = j.val; omega
      · show (j.val * 64 + o.val) % 64 = o.val; omega
    refine he.symm.trans ?_
    generalize outG (argP m c) (argE m c) (argU m c) (argD m c) = G
    exact (show G ((win0_5.blk t).view.emb (ix2 r (col j o))) = G (ix2 ⟨t.val * 128 + r.val, hr⟩ (col j o)) by blk_ext [idx t]).symm
  exact key y

end Cert.Compress
-- ==== Proof.CmpRef.lean ====
module

public import proofs.«01_k».proof.Proof.Gen.Reference9Ideal.Run
public import proofs.«01_k».proof.Proof.Gen.Reference9Ideal.Read
public import Idealize.ShloMosaic.Lib.ValueIdxRank6
public import proofs.«01_k».proof.Proof.CmpArr

@[expose] public section

set_option maxRecDepth 16384

noncomputable section

namespace Cert.Compress

open Cert.Reference9Ideal Cert.Reference9Ideal.Gen Cert.Reference9Ideal.Read Idealize.ShloMosaic Idealize.ShloMosaic.TcCoe Idealize.SL.Sem

variable (p : Vec Ideal S16x2048x3352 .f32) (e : Vec Ideal S2x64x64 .f32) (u : Vec Ideal S2x4096x64 .f32) (w : Vec Ideal S2x64x64 .f32)

theorem ref_rows (b : Fin 16) (s : Fin 2048) (k : Fin 4) (g : Fin 2) (d : Fin 64) :
    val_main_v3 (F := Ideal) p (ix5 b s k g d) = p (ix3 b s ⟨2560 + ((k.val * 2 + g.val) * 64 + d.val), by omega⟩) := by
  pointwise [val_main_v3, val_main_v2, val_main_v1, val_main_v0]
  exact congrArg (fun x => p (ix3 b s x)) (Fin.ext (by simp only []; omega))

theorem ref_blocks (b : Fin 16) (n : Fin 32) (l : Fin 64) (k : Fin 4) (g : Fin 2) (d : Fin 64) :
    val_main_v4 (F := Ideal) p (ix6 b n l k g d)
      = p (ix3 b ⟨n.val * 64 + l.val, by omega⟩ ⟨2560 + ((k.val * 2 + g.val) * 64 + d.val), by omega⟩) := by
  refine Eq.trans ?_ (ref_rows p b ⟨n.val * 64 + l.val, by omega⟩ k g d)
  unfold val_main_v4
  generalize val_main_v3 (F := Ideal) p = y
  refine shapeCast_apply y shapeCasts_S16x2048x4x2x64_S16x32x64x4x2x64 _ _ ?_
  rw [Shape.rowMajor_val_six, Shape.rowMajor_val_five]
  show ((((b.val * 2048 + (n.val * 64 + l.val)) * 4 + k.val) * 2 + g.val) * 64 + d.val)
    = (((((b.val * 32 + n.val) * 64 + l.val) * 4 + k.val) * 2 + g.val) * 64 + d.val)
  omega

theorem ref_k (b : Fin 16) (n : Fin 32) (l : Fin 64) (g : Fin 2) (d : Fin 64) :
    val_main_v6 (F := Ideal) p (ix5 b n l g d)
      = p (ix3 b ⟨n.val * 64 + l.val, by omega⟩ ⟨2560 + ((0 * 2 + g.val) * 64 + d.val), by omega⟩) := by
  refine Eq.trans ?_ (ref_blocks p b n l 0 g d)
  unfold val_main_v6
  refine (shapeCast_apply _ shapeCasts_S16x32x64x1x2x64_S16x32x64x2x64 _ (ix6 b n l 0 g d) ?_).trans ?_
  · rw [Shape.rowMajor_val_six, Shape.rowMajor_val_five]
    show (((((b.val * 32 + n.val) * 64 + l.val) * 1 + 0) * 2 + g.val) * 64 + d.val)
      = ((((b.val * 32 + n.val) * 64 + l.val) * 2 + g.val) * 64 + d.val)
    omega
  · rw [val_main_v5_apply]
    exact congrArg _ (funext fun a => by fin_cases a <;> rfl)

theorem ref_v (b : Fin 16) (n : Fin 32) (l : Fin 64) (g : Fin 2) (d : Fin 64) :
    val_main_v23 (F := Ideal) p (ix5 b n l g d)
      = p (ix3 b ⟨n.val * 64 + l.val, by omega⟩ ⟨2560 + ((1 * 2 + g.val) * 64 + d.val), by omega⟩) := by
  refine Eq.trans ?_ (ref_blocks p b n l 1 g d)
  unfold val_main_v23
  refine (shapeCast_apply _ shapeCasts_S16x32x64x1x2x64_S16x32x64x2x64 _ (ix6 b n l 0 g d) ?_).trans ?_
  · rw [Shape.rowMajor_val_six, Shape.rowMajor_val_five]
    show (((((b.val * 32 + n.val) * 64 + l.val) * 1 + 0) * 2 + g.val) * 64 + d.val)
      = ((((b.val * 32 + n.val) * 64 + l.val) * 2 + g.val) * 64 + d.val)
    omega
  · rw [val_main_v22_apply]
    exact congrArg _ (funext fun a => by fin_cases a <;> rfl)

/-- Block `n` of batch `b`. -/
def row (b : Fin 16) (n : Fin 32) : Fin 512 := ⟨b.val * 32 + n.val, by omega⟩

/-- The group of columns of side `s` and head group `g`. -/
def grp (s g : Fin 2) : Fin 4 := ⟨s.val * 2 + g.val, by omega⟩

theorem side_grp (s g : Fin 2) : side (grp s g) = s := Fin.ext (by simp only [side, grp]; omega)

theorem ref_hid_k (b : Fin 16) (n : Fin 32) (g : Fin 2) (h : Fin 64) :
    val_main_v19 (F := Ideal) p e u (ix4 b n g h) = hid p e u b n (grp 0 g) h := by
  unfold hid term
  pointwise [val_main_v19]
  rw [sum_rows]
  refine Finset.sum_congr rfl fun l _ => Finset.sum_congr rfl fun d _ => ?_
  rw [side_grp]
  refine congr (congrArg HMul.hMul ?_) ?_
  · pointwise [val_main_v18, val_main_v17, val_main_v16, val_main_v15, val_main_v14, val_main_v13, val_main_v8, val_main_v7, ref_k]
    exact congrArg (fun x => p (ix3 b _ x) + _) (Fin.ext (by simp [grp]))
  · pointwise [val_main_v10, val_main_v9]

theorem ref_hid_v (b : Fin 16) (n : Fin 32) (g : Fin 2) (h : Fin 64) :
    val_main_v36 (F := Ideal) p e u (ix4 b n g h) = hid p e u b n (grp 1 g) h := by
  unfold hid term
  pointwise [val_main_v36]
  rw [sum_rows]
  refine Finset.sum_congr rfl fun l _ => Finset.sum_congr rfl fun d _ => ?_
  rw [side_grp]
  refine congr (congrArg HMul.hMul ?_) ?_
  · pointwise [val_main_v35, val_main_v34, val_main_v33, val_main_v32, val_main_v31, val_main_v30, val_main_v25, val_main_v24, ref_v]
    exact congrArg (fun x => p (ix3 b _ x) + _) (Fin.ext (by simp [grp]))
  · pointwise [val_main_v27, val_main_v26]

theorem ref_sum_k (b : Fin 16) (n : Fin 32) (g : Fin 2) (o : Fin 64) :
    val_main_v21 (F := Ideal) p e u w (ix4 b n g o) = summ p e u w b n (grp 0 g) o := by
  unfold summ silu
  rw [side_grp]
  pointwise [val_main_v21, val_main_v20, val_main_call0_v5, val_main_call0_v4, val_main_call0_v3, val_main_call0_v2, val_main_call0_v1, val_main_call0_v0,
    val_main_call0_cst, val_main_call0_cst_0, ref_hid_k, val_main_v12, val_main_v11]
  rfl

theorem ref_sum_v (b : Fin 16) (n : Fin 32) (g : Fin 2) (o : Fin 64) :
    val_main_v38 (F := Ideal) p e u w (ix4 b n g o) = summ p e u w b n (grp 1 g) o := by
  unfold summ silu
  rw [side_grp]
  pointwise [val_main_v38, val_main_v37, val_main_call1_v5, val_main_call1_v4, val_main_call1_v3, val_main_call1_v2, val_main_call1_v1, val_main_call1_v0,
    val_main_call1_cst, val_main_call1_cst_0, ref_hid_v, val_main_v29, val_main_v28]
  rfl

theorem ref_outG : val_main_v42 (F := Ideal) p e u w = outG p e u w := by
  funext y
  obtain ⟨r, x, rfl⟩ : ∃ r x, y = ix2 r x := ⟨y 0, y 1, by funext a; fin_cases a <;> rfl⟩
  have hr := r.isLt
  have hx := x.isLt
  obtain ⟨b, n, rfl⟩ : ∃ (b : Fin 16) (n : Fin 32), r = row b n := ⟨⟨r.val / 32, by omega⟩, ⟨r.val % 32, by omega⟩, Fin.ext (by simp only [row]; omega)⟩
  obtain ⟨s, g, o, rfl⟩ : ∃ s g o, x = col (grp s g) o :=
    ⟨⟨x.val / 128, by omega⟩, ⟨x.val / 64 % 2, by omega⟩, ⟨x.val % 64, by omega⟩, Fin.ext (by simp only [col, grp]; omega)⟩
  have ho : outG p e u w (ix2 (row b n) (col (grp s g) o)) = summ p e u w b n (grp s g) o := by
    refine congr (congr (congr (congrArg (summ _ _ _ _) (Fin.ext ?_)) (Fin.ext ?_)) (Fin.ext ?_)) (Fin.ext ?_)
    · show (b.val * 32 + n.val) / 32 = b.val; omega
    · show (b.val * 32 + n.val) % 32 = n.val; omega
    · show ((grp s g).val * 64 + o.val) / 64 = (grp s g).val; omega
    · show ((grp s g).val * 64 + o.val) % 64 = o.val; omega
  rw [ho]
  have h42 : val_main_v42 (F := Ideal) p e u w (ix2 (row b n) (col (grp s g) o)) = val_main_v41 (F := Ideal) p e u w (ix5 b n s g o) := by
    rw [val_main_v42_apply]
    refine congrArg _ (funext fun a => Fin.ext ?_)
    fin_cases a
    · show ((b.val * 32 + n.val) * 256 + ((s.val * 2 + g.val) * 64 + o.val)) / 8192 = b.val; omega
    · show ((b.val * 32 + n.val) * 256 + ((s.val * 2 + g.val) * 64 + o.val)) / 256 % 32 = n.val; omega
    · show ((b.val * 32 + n.val) * 256 + ((s.val * 2 + g.val) * 64 + o.val)) / 128 % 2 = s.val; omega
    · show ((b.val * 32 + n.val) * 256 + ((s.val * 2 + g.val) * 64 + o.val)) / 64 % 2 = g.val; omega
    · show ((b.val * 32 + n.val) * 256 + ((s.val * 2 + g.val) * 64 + o.val)) % 64 = o.val; omega
  rw [h42]
  pointwise [val_main_v41]
  fin_cases s
  · rw [dif_pos (by simp)]
    pointwise [val_main_v39, ref_sum_k]
  · rw [dif_neg (by simp)]
    pointwise [val_main_v40, ref_sum_v]

end Cert.Compress
-- ==== Proof.CmpClaim.lean ====
module

public import proofs.«01_k».proof.Defs
public import proofs.«01_k».proof.Proof.Gen.Kernel9Ideal.Frame
public import proofs.«01_k».proof.Proof.Gen.Reference9Ideal
public import proofs.«01_k».proof.Proof.CmpRef
public import Idealize.ShloMosaic.Lib.Claim

@[expose] public section

set_option maxRecDepth 16384

noncomputable section

namespace Cert.Compress

open Cert.Kernel9Ideal Cert.Kernel9Ideal.Gen Idealize.ShloMosaic Idealize.ShloMosaic.TcCoe Idealize.SL.Sem

set_option maxHeartbeats 4000000 in
theorem algebraic : Cert.algebraic_Kernel9Ideal_Reference9Ideal := by
  pair_intro
  · run_from Cert.Kernel9Ideal.Gen.run_main m g
    all_goals first
      | exact Cert.Kernel9Ideal.Gen.V_main_arg0 m c
      | exact Cert.Kernel9Ideal.Gen.V_main_arg1 m c
      | exact Cert.Kernel9Ideal.Gen.V_main_arg2 m c
      | exact Cert.Kernel9Ideal.Gen.V_main_arg3 m c
  · run_from Cert.Reference9Ideal.Value.run m' g'
    · rw [Cert.Reference9Ideal.Read.val_main_v42_eq]
      try rw [(hagree c).1]
      try rw [(hagree c).2.1]
      try rw [(hagree c).2.2.1]
      try rw [(hagree c).2.2.2]
      exact (ref_outG _ _ _ _).trans (out_arr m c).symm

end Cert.Compress
-- ==== Proof.GlpPieces.lean ====
module

public import proofs.«01_k».proof.Proof.Gen.Kernel10Ideal.Loops

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

/-- What one trip stores does not depend on the old contents of the attention result's block. -/
theorem trip_free (k : Fin k0_t1_loop.trips) (f f' : BufTy.Contents (Elt F) arg10.view.ty) (g : BufTy.Contents (Elt F) arg12.view.ty) :
    tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 k f g = tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 k f' g := by
  unfold tripL_k0_t1 trip_k0_t1
  rfl

/-- Nor do the pieces of the trips so far. -/
theorem pb_free (f f' : BufTy.Contents (Elt F) arg10.view.ty) (g : BufTy.Contents (Elt F) arg12.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 f g n = pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 f' g n := by
  induction n with
  | zero => rfl
  | succ n ih =>
    rw [pb_k0_t1.eq_2, pb_k0_t1.eq_2, ih]
    unfold pb_k0_t1Step
    split
    · rw [trip_free (F := F) (f' := arg10.view.writes (Elt F) f' (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 f' g n).1)]
    · rfl

end Cert.Kernel10Ideal.Gen

end
-- ==== Proof.GlpStep.lean ====
module

public import proofs.«01_k».proof.Proof.GlpPieces
public import proofs.«01_k».proof.Proof.Scalar
public import Idealize.ShloMosaic.Lib.Pointwise
public import Idealize.ShloMosaic.Lib.Claim

@[expose] public section

set_option maxRecDepth 16384

noncomputable section

namespace Cert.GlaPrompt

open Cert.Kernel10Ideal Cert.Kernel10Ideal.Gen Idealize.ShloMosaic Idealize.ShloMosaic.TcCoe Idealize.SL.Sem

theorem step_at (k : Vec Ideal S128x128 .f32) (v : Vec Ideal S128x256 .f32) (s : Vec Ideal S256x128 .f32) (b : Vec Ideal S128x128 .f32)
    (j : Fin 256) (d : Fin 128) :
    k0_pay277 (F := Ideal) k v s b (ix3 0 j d)
      = s (ix2 j d) * Ideal.exp (b (ix2 127 d)) + ∑ t : Fin 128, v (ix2 t j) * (k (ix2 t d) * Ideal.exp (b (ix2 127 d) - b (ix2 t d))) := by
  pointwise [k0_pay277]

theorem lf_at (A : Vec Ideal S128x128 .f32) (W : Vec Ideal S128x512 .bf16) (B : Vec Ideal S1x512 .f32) (t : Fin 128) (c : Fin 512) :
    k0_pay6 (F := Ideal) A W B (ix2 t c)
      = Scalar.logsig (∑ x : Fin 128, A (ix2 t x) * W (ix2 x c) + B (ix2 0 c)) * Ideal.ofBits .f32 0x3D800000#32 := by
  pointwise [k0_pay6]
  rfl

theorem tri_bits : ∀ t x : Fin 128, BitVec.setWidth 32 (IntOp.cmpi CmpIPredicate.sge (BitVec.ofNat 32 t.val) (BitVec.ofNat 32 x.val))
    = if x ≤ t then 1#32 else 0#32 := by decide +kernel

theorem tri_at (t x : Fin 128) :
    (FloatOps.sitofp .f32 (BitVec.setWidth 32 (IntOp.cmpi CmpIPredicate.sge (BitVec.ofNat 32 t.val) (BitVec.ofNat 32 x.val))) : Ideal .f32)
      = if x ≤ t then (1 : EReal) else 0 := by
  rw [tri_bits]
  show (((if x ≤ t then 1#32 else 0#32 : BitVec 32).toInt : ℝ) : EReal) = _
  split <;> simp

/-- The running sums of real gates over a chunk: the parts that rounding leaves over are zero. -/
theorem pre_at (g : Vec Ideal S128x128 .f32) (t d : Fin 128) (γ : Fin 128 → ℝ) (hg : ∀ x, g (ix2 x d) = (γ x : EReal)) :
    k0_pay12 (F := Ideal) g (iota .tc S128x128 32 [0] iota_S128x128_d0_w32) (iota .tc S128x128 32 [1] iota_S128x128_d1_w32) (ix2 t d)
      = ((∑ x : Fin 128, if x ≤ t then γ x else 0 : ℝ) : EReal) := by
  pointwise [k0_pay12]
  simp only [tri_at, hg, ← EReal.coe_sub, sub_self, EReal.coe_zero, sub_zero, mul_zero, Finset.sum_const_zero, add_zero]
  refine Eq.trans (Finset.sum_congr rfl fun x _ => ?_) (Scalar.coe_sum Finset.univ fun x : Fin 128 => if x ≤ t then γ x else 0)
  split
  · rw [one_mul]
  · rw [zero_mul, EReal.coe_zero]

/-- A head's chunk: the old state decayed by the chunk's gates, and every token's key and value decayed by the later ones'. -/
theorem head_at (k : Vec Ideal S128x128 .f32) (v : Vec Ideal S128x256 .f32) (s : Vec Ideal S1x256x128 .f32) (g : Vec Ideal S128x128 .f32)
    (j : Fin 256) (d : Fin 128) (γ : Fin 128 → ℝ) (hg : ∀ x, g (ix2 x d) = (γ x : EReal)) :
    k0_pay277 (F := Ideal) (k0_pay8 k) (k0_pay9 v) (k0_pay11 s)
        (k0_pay12 g (iota .tc S128x128 32 [0] iota_S128x128_d0_w32) (iota .tc S128x128 32 [1] iota_S128x128_d1_w32)) (ix3 0 j d)
      = s (ix3 0 j d) * Ideal.exp ((∑ x : Fin 128, if x ≤ 127 then γ x else 0 : ℝ) : EReal)
        + ∑ t : Fin 128, v (ix2 t j) * (k (ix2 t d)
          * Ideal.exp (((∑ x : Fin 128, if x ≤ 127 then γ x else 0) - (∑ x : Fin 128, if x ≤ t then γ x else 0) : ℝ) : EReal)) := by
  rw [step_at]
  simp only [pre_at g _ d γ hg, ← EReal.coe_sub]
  have e8 : k0_pay8 (F := Ideal) k = k := by unfold k0_pay8; exact shapeCast_self _ _
  have e9 : k0_pay9 (F := Ideal) v = v := by unfold k0_pay9; exact shapeCast_self _ _
  have e11 : k0_pay11 (F := Ideal) s (ix2 j d) = s (ix3 0 j d) := by pointwise [k0_pay11]
  rw [e8, e9, e11]

end Cert.GlaPrompt
-- ==== Proof.GlpTrip.lean ====
module

public import proofs.«01_k».proof.Proof.GlpStep
public import Idealize.ShloMosaic.Lib.WritesUnit
public import Idealize.ShloMosaic.Lib.VecWindow

@[expose] public section

set_option maxRecDepth 16384

noncomputable section

namespace Cert.GlaPrompt

open Cert.Kernel10Ideal Cert.Kernel10Ideal.Gen Idealize.ShloMosaic Idealize.ShloMosaic.TcCoe Idealize.SL.Sem

theorem trip_lt (k : Fin k0_t1_loop.trips) : k.val < 4 := lt_of_lt_of_eq k.isLt (by decide +kernel)

/-- The chunk of a block that a trip reads starts at its own multiple of 128 rows. -/
theorem offs : ∀ k : Fin k0_t1_loop.trips, k0_off1 k = ![128 * k.val, 0] ∧ k0_off2 k = ![128 * k.val, 0] ∧ k0_off3 k = ![128 * k.val, 0]
    ∧ k0_off4 k = ![128 * k.val, 128] ∧ k0_off5 k = ![128 * k.val, 256] ∧ k0_off6 k = ![128 * k.val, 256] ∧ k0_off7 k = ![128 * k.val, 512]
    ∧ k0_off8 k = ![128 * k.val, 384] ∧ k0_off9 k = ![128 * k.val, 768] := by decide +kernel

theorem read_rows {R C r w : ℕ} {e' : EltTy} (v : View sig .tc .vmem ⟨2, ![R, C]⟩ e') (X : v.ty.Contents (Elt Ideal)) (off : Fin 2 → ℕ) (inb)
    (n b : ℕ) (e : off = ![n, b]) (x : Fin r) (y : Fin w) (X' : Fin R) (Y' : Fin C) (hx : X'.val = n + x.val) (hy : Y'.val = b + y.val) :
    v.readAt (Elt Ideal) (Rect.unit (s := ⟨2, ![R, C]⟩) off ![r, w] inb).toLoadRect X (ix2 x y) = v.read (Elt Ideal) X (ix2 X' Y') := by
  subst e
  refine congrArg (v.read (Elt Ideal) X) (funext fun a => Fin.ext ?_)
  fin_cases a
  · show n + 1 * x.val = X'.val; omega
  · show b + 1 * y.val = Y'.val; omega

theorem read_head (v : View sig .tc .vmem S4x256x128 .f32) (X : v.ty.Contents (Elt Ideal)) (off : Fin 3 → ℕ) (inb)
    (h : Fin 4) (e : off = ![h.val, 0, 0]) (j : Fin 256) (d : Fin 128) :
    v.readAt (Elt Ideal) (Rect.unit (s := S4x256x128) off S1x256x128.size inb).toLoadRect X (ix3 0 j d) = v.read (Elt Ideal) X (ix3 h j d) := by
  subst e
  refine congrArg (v.read (Elt Ideal) X) (funext fun a => Fin.ext ?_)
  fin_cases a
  · show h.val + 1 * 0 = h.val; omega
  · show 0 + 1 * j.val = j.val; omega
  · show 0 + 1 * d.val = d.val; omega

variable (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)

/-- The log gates of a trip's chunk. -/
def lf (k : Fin k0_t1_loop.trips) : Vec Ideal S128x512 .f32 :=
  k0_pay6 (F := Ideal) (arg6.view.readAt (Elt Ideal) (Rect.unit (s := S512x128) (k0_off1 k) S128x128.size (k0_off1_inb k)).toLoadRect X_arg6)
    (arg7.view.readAt (Elt Ideal) (Rect.unit (s := S128x512) ![0, 0] S128x512.size inb_S128x512_S128x512_0_0).toLoadRect X_arg7)
    (arg8.view.readAt (Elt Ideal) (Rect.unit (s := S1x512) ![0, 0] S1x512.size inb_S1x512_S1x512_0_0).toLoadRect X_arg8)

/-- What a head's state is after a trip, of the state `s` before it. -/
def headval (k : Fin k0_t1_loop.trips) (γ : Fin 128 → ℝ) (h : Fin 4) (j : Fin 256) (d : Fin 128) (s : EReal) : EReal :=
  s * Ideal.exp ((∑ x : Fin 128, if x ≤ 127 then γ x else 0 : ℝ) : EReal)
    + ∑ t : Fin 128, arg4.view.read (Elt Ideal) X_arg4 (ix2 ⟨128 * k.val + t.val, by have := trip_lt k; omega⟩ ⟨256 * h.val + j.val, by omega⟩)
      * (arg3.view.read (Elt Ideal) X_arg3 (ix2 ⟨128 * k.val + t.val, by have := trip_lt k; omega⟩ ⟨128 * h.val + d.val, by omega⟩)
        * Ideal.exp (((∑ x : Fin 128, if x ≤ 127 then γ x else 0) - (∑ x : Fin 128, if x ≤ t then γ x else 0) : ℝ) : EReal))

theorem head_load (k : Fin k0_t1_loop.trips) (g : BufTy.Contents (Elt Ideal) arg12.view.ty) (h : Fin 4) (j : Fin 256) (d : Fin 128) (γ : Fin 128 → ℝ)
    (hγ : ∀ x, lf arg6 arg7 arg8 X_arg6 X_arg7 X_arg8 k (ix2 x ⟨128 * h.val + d.val, by omega⟩) = (γ x : EReal))
    (o3 o4 os : Fin 2 → ℕ) (o12 : Fin 3 → ℕ) (i3 i4 i12) (sl : S128x512.Slices os S128x128)
    (e3 : o3 = ![128 * k.val, 128 * h.val]) (e4 : o4 = ![128 * k.val, 256 * h.val]) (e12 : o12 = ![h.val, 0, 0]) (es : os = ![0, 128 * h.val]) :
    k0_pay277 (F := Ideal) (k0_pay8 (arg3.view.readAt (Elt Ideal) (Rect.unit (s := S512x512) o3 S128x128.size i3).toLoadRect X_arg3))
        (k0_pay9 (arg4.view.readAt (Elt Ideal) (Rect.unit (s := S512x1024) o4 S128x256.size i4).toLoadRect X_arg4))
        (k0_pay11 (arg12.view.readAt (Elt Ideal) (Rect.unit (s := S4x256x128) o12 S1x256x128.size i12).toLoadRect g))
        (k0_pay12 (extractStridedSlice S128x128 os (lf arg6 arg7 arg8 X_arg6 X_arg7 X_arg8 k) sl) (iota .tc S128x128 32 [0] iota_S128x128_d0_w32) (iota .tc S128x128 32 [1] iota_S128x128_d1_w32))
        (ix3 0 j d)
      = headval arg3 arg4 X_arg3 X_arg4 k γ h j d (arg12.view.read (Elt Ideal) g (ix3 h j d)) := by
  have hk := trip_lt k
  refine (head_at _ _ _ _ j d γ fun x => ?_).trans ?_
  · subst es
    refine Eq.trans (congrArg (lf arg6 arg7 arg8 X_arg6 X_arg7 X_arg8 k) (funext fun a => Fin.ext ?_)) (hγ x)
    fin_cases a
    · show 0 + x.val = x.val; omega
    · rfl
  · unfold headval
    rw [read_head arg12.view g o12 i12 h e12 j d]
    refine congrArg _ (Finset.sum_congr rfl fun t _ => ?_)
    rw [read_rows arg4.view X_arg4 o4 i4 _ _ e4 t j ⟨128 * k.val + t.val, by omega⟩ ⟨256 * h.val + j.val, by omega⟩ rfl rfl,
      read_rows arg3.view X_arg3 o3 i3 _ _ e3 t d ⟨128 * k.val + t.val, by omega⟩ ⟨128 * h.val + d.val, by omega⟩ rfl rfl]

/-- A head's state after a trip, as stored. -/
def stored (k : Fin k0_t1_loop.trips) (g : BufTy.Contents (Elt Ideal) arg12.view.ty) (o3 o4 os : Fin 2 → ℕ) (o12 : Fin 3 → ℕ)
    (i3 : ∀ a, o3 a + S128x128.size a ≤ S512x512.size a) (i4 : ∀ a, o4 a + S128x256.size a ≤ S512x1024.size a)
    (i12 : ∀ a, o12 a + S1x256x128.size a ≤ S4x256x128.size a) (sl : S128x512.Slices os S128x128) : Vec Ideal S1x256x128 .f32 :=
  k0_pay277 (F := Ideal) (k0_pay8 (arg3.view.readAt (Elt Ideal) (Rect.unit (s := S512x512) o3 S128x128.size i3).toLoadRect X_arg3))
    (k0_pay9 (arg4.view.readAt (Elt Ideal) (Rect.unit (s := S512x1024) o4 S128x256.size i4).toLoadRect X_arg4))
    (k0_pay11 (arg12.view.readAt (Elt Ideal) (Rect.unit (s := S4x256x128) o12 S1x256x128.size i12).toLoadRect g))
    (k0_pay12 (extractStridedSlice S128x128 os (lf arg6 arg7 arg8 X_arg6 X_arg7 X_arg8 k) sl) (iota .tc S128x128 32 [0] iota_S128x128_d0_w32) (iota .tc S128x128 32 [1] iota_S128x128_d1_w32))

set_option maxHeartbeats 2000000 in
theorem trip_pieces (k : Fin k0_t1_loop.trips) (f : BufTy.Contents (Elt Ideal) arg10.view.ty) (g : BufTy.Contents (Elt Ideal) arg12.view.ty) :
    (tripL_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 k f g).2 = [
      ⟨Rect.unit (s := S4x256x128) ![3, 0, 0] S1x256x128.size inb_S4x256x128_S1x256x128_3_0_0, stored arg3 arg4 arg6 arg7 arg8 arg12 X_arg3 X_arg4 X_arg6 X_arg7 X_arg8 k g (k0_off8 k) (k0_off9 k) ![0, 384] ![3, 0, 0] (k0_off8_inb k) (k0_off9_inb k) inb_S4x256x128_S1x256x128_3_0_0 slices_S128x512_o0_384_S128x128⟩,
      ⟨Rect.unit (s := S4x256x128) ![2, 0, 0] S1x256x128.size inb_S4x256x128_S1x256x128_2_0_0, stored arg3 arg4 arg6 arg7 arg8 arg12 X_arg3 X_arg4 X_arg6 X_arg7 X_arg8 k g (k0_off6 k) (k0_off7 k) ![0, 256] ![2, 0, 0] (k0_off6_inb k) (k0_off7_inb k) inb_S4x256x128_S1x256x128_2_0_0 slices_S128x512_o0_256_S128x128⟩,
      ⟨Rect.unit (s := S4x256x128) ![1, 0, 0] S1x256x128.size inb_S4x256x128_S1x256x128_1_0_0, stored arg3 arg4 arg6 arg7 arg8 arg12 X_arg3 X_arg4 X_arg6 X_arg7 X_arg8 k g (k0_off4 k) (k0_off5 k) ![0, 128] ![1, 0, 0] (k0_off4_inb k) (k0_off5_inb k) inb_S4x256x128_S1x256x128_1_0_0 slices_S128x512_o0_128_S128x128⟩,
      ⟨Rect.unit (s := S4x256x128) ![0, 0, 0] S1x256x128.size inb_S4x256x128_S1x256x128_0_0_0, stored arg3 arg4 arg6 arg7 arg8 arg12 X_arg3 X_arg4 X_arg6 X_arg7 X_arg8 k g (k0_off2 k) (k0_off3 k) ![0, 0] ![0, 0, 0] (k0_off2_inb k) (k0_off3_inb k) inb_S4x256x128_S1x256x128_0_0_0 slices_S128x512_o0_0_S128x128⟩] := by
  unfold tripL_k0_t1 trip_k0_t1
  rfl

/-- Reading a head back from the four heads' stores. -/
theorem read_heads (v : View sig .tc .vmem S4x256x128 .f32) (f' : v.ty.Contents (Elt Ideal)) (w3 w2 w1 w0 : Vec Ideal S1x256x128 .f32)
    (L : List (View.Piece (Elt Ideal) S4x256x128 .f32)) (h : Fin 4) (j : Fin 256) (d : Fin 128) :
    v.read (Elt Ideal) (v.writes (Elt Ideal) f' ([
      ⟨Rect.unit (s := S4x256x128) ![3, 0, 0] S1x256x128.size inb_S4x256x128_S1x256x128_3_0_0, w3⟩,
      ⟨Rect.unit (s := S4x256x128) ![2, 0, 0] S1x256x128.size inb_S4x256x128_S1x256x128_2_0_0, w2⟩,
      ⟨Rect.unit (s := S4x256x128) ![1, 0, 0] S1x256x128.size inb_S4x256x128_S1x256x128_1_0_0, w1⟩,
      ⟨Rect.unit (s := S4x256x128) ![0, 0, 0] S1x256x128.size inb_S4x256x128_S1x256x128_0_0_0, w0⟩] ++ L)) (ix3 h j d)
      = (![w0, w1, w2, w3] h) (ix3 0 j d) := by
  have mem : ∀ (h' : Fin 4) (a : Fin 3), ((ix3 h' j d : S4x256x128.Idx) a).val = (![h'.val, 0, 0] : Fin 3 → ℕ) a + ((ix3 0 j d : S1x256x128.Idx) a).val := by
    intro h' a
    fin_cases a
    · rfl
    · exact (Nat.zero_add _).symm
    · exact (Nat.zero_add _).symm
  have not3 := fun (h : Fin 4) (hh : h.val < 3) w L => View.read_writes_cons_unit_of_not_mem v f' inb_S4x256x128_S1x256x128_3_0_0 w L (ix3 h j d) rfl 0 (Or.inl hh)
  have not2 := fun (h : Fin 4) (hh : h.val < 2) w L => View.read_writes_cons_unit_of_not_mem v f' inb_S4x256x128_S1x256x128_2_0_0 w L (ix3 h j d) rfl 0 (Or.inl hh)
  have not1 := fun (h : Fin 4) (hh : h.val < 1) w L => View.read_writes_cons_unit_of_not_mem v f' inb_S4x256x128_S1x256x128_1_0_0 w L (ix3 h j d) rfl 0 (Or.inl hh)
  have hc : h = 0 ∨ h = 1 ∨ h = 2 ∨ h = 3 := by omega
  rcases hc with rfl | rfl | rfl | rfl
  · exact (not3 0 (by decide) _ _).trans ((not2 0 (by decide) _ _).trans ((not1 0 (by decide) _ _).trans
      (View.read_writes_cons_unit_of_mem v f' inb_S4x256x128_S1x256x128_0_0_0 _ _ (ix3 0 j d) (ix3 0 j d) rfl (mem 0))))
  · exact (not3 1 (by decide) _ _).trans ((not2 1 (by decide) _ _).trans
      (View.read_writes_cons_unit_of_mem v f' inb_S4x256x128_S1x256x128_1_0_0 _ _ (ix3 1 j d) (ix3 0 j d) rfl (mem 1)))
  · exact (not3 2 (by decide) _ _).trans
      (View.read_writes_cons_unit_of_mem v f' inb_S4x256x128_S1x256x128_2_0_0 _ _ (ix3 2 j d) (ix3 0 j d) rfl (mem 2))
  · exact View.read_writes_cons_unit_of_mem v f' inb_S4x256x128_S1x256x128_3_0_0 _ _ (ix3 3 j d) (ix3 0 j d) rfl (mem 3)

/-- The state that a trip leaves, over whatever was stored before. -/
theorem trip_read (k : Fin k0_t1_loop.trips) (f : BufTy.Contents (Elt Ideal) arg10.view.ty) (g f' : BufTy.Contents (Elt Ideal) arg12.view.ty)
    (L : List (View.Piece (Elt Ideal) S4x256x128 .f32)) (h : Fin 4) (j : Fin 256) (d : Fin 128) (γ : Fin 128 → ℝ)
    (hγ : ∀ x, lf arg6 arg7 arg8 X_arg6 X_arg7 X_arg8 k (ix2 x ⟨128 * h.val + d.val, by omega⟩) = (γ x : EReal)) :
    arg12.view.read (Elt Ideal) (arg12.view.writes (Elt Ideal) f' ((tripL_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 k f g).2 ++ L)) (ix3 h j d)
      = headval arg3 arg4 X_arg3 X_arg4 k γ h j d (arg12.view.read (Elt Ideal) g (ix3 h j d)) := by
  obtain ⟨o1, o2, o3, o4, o5, o6, o7, o8, o9⟩ := offs k
  rw [trip_pieces, read_heads]
  have hc : h = 0 ∨ h = 1 ∨ h = 2 ∨ h = 3 := by omega
  rcases hc with rfl | rfl | rfl | rfl
  · exact head_load arg3 arg4 arg6 arg7 arg8 arg12 X_arg3 X_arg4 X_arg6 X_arg7 X_arg8 k g 0 j d γ hγ _ _ _ _ _ _ _ _ o2 o3 rfl rfl
  · exact head_load arg3 arg4 arg6 arg7 arg8 arg12 X_arg3 X_arg4 X_arg6 X_arg7 X_arg8 k g 1 j d γ hγ _ _ _ _ _ _ _ _ o4 o5 rfl rfl
  · exact head_load arg3 arg4 arg6 arg7 arg8 arg12 X_arg3 X_arg4 X_arg6 X_arg7 X_arg8 k g 2 j d γ hγ _ _ _ _ _ _ _ _ o6 o7 rfl rfl
  · exact head_load arg3 arg4 arg6 arg7 arg8 arg12 X_arg3 X_arg4 X_arg6 X_arg7 X_arg8 k g 3 j d γ hγ _ _ _ _ _ _ _ _ o8 o9 rfl rfl

end Cert.GlaPrompt
-- ==== Proof.GlpSum.lean ====
module

public import proofs.«01_k».proof.Proof.Scalar

@[expose] public section

noncomputable section

namespace Cert.GlaPrompt

open Idealize.ShloMosaic

/-- The sum of the first `n` of a sequence. -/
def upto (γ : ℕ → ℝ) (n : ℕ) : ℝ := ∑ i ∈ Finset.range n, γ i

/-- The state after `n` tokens: every token's key and value, decayed by what the later tokens' gates add up to. -/
def closed (γ : ℕ → ℝ) (κ ν : ℕ → EReal) (n : ℕ) : EReal :=
  ∑ i ∈ Finset.range n, ν i * (κ i * Ideal.exp ((upto γ n - upto γ (i + 1) : ℝ) : EReal))

theorem sum_mul_real {ι : Type} (t : Finset ι) (f : ι → EReal) (r : ℝ) (hr : 0 ≤ r) : (∑ i ∈ t, f i) * (r : EReal) = ∑ i ∈ t, f i * (r : EReal) := by
  classical
  induction t using Finset.induction_on with
  | empty => simp
  | insert a t ha ih =>
    rw [Finset.sum_insert ha, Finset.sum_insert ha, mul_comm,
      EReal.left_distrib_of_nonneg_of_ne_top (by exact_mod_cast hr) (EReal.coe_ne_top r), mul_comm _ (f a), mul_comm _ (∑ i ∈ t, f i), ih]

theorem closed_zero (γ : ℕ → ℝ) (κ ν : ℕ → EReal) : closed γ κ ν 0 = 0 := by simp [closed]

theorem upto_add (γ : ℕ → ℝ) (n l : ℕ) : upto γ (n + l) = upto γ n + ∑ x ∈ Finset.range l, γ (n + x) := by
  unfold upto; rw [Finset.sum_range_add]

/-- The state `l` tokens on, from the state at `n`. -/
theorem closed_add (γ : ℕ → ℝ) (κ ν : ℕ → EReal) (n l : ℕ) :
    closed γ κ ν (n + l) = closed γ κ ν n * Ideal.exp ((upto γ (n + l) - upto γ n : ℝ) : EReal)
      + ∑ t : Fin l, ν (n + t.val) * (κ (n + t.val) * Ideal.exp ((upto γ (n + l) - upto γ (n + t.val + 1) : ℝ) : EReal)) := by
  unfold closed
  rw [Finset.sum_range_add, ← Finset.sum_range (fun t => ν (n + t) * (κ (n + t) * Ideal.exp ((upto γ (n + l) - upto γ (n + t + 1) : ℝ) : EReal)))]
  congr 1
  rw [Ideal.exp_coe, sum_mul_real _ _ _ (Real.exp_pos _).le]
  refine Finset.sum_congr rfl fun i _ => ?_
  rw [mul_assoc, mul_assoc, Ideal.exp_coe, Ideal.exp_coe, ← EReal.coe_mul, ← Real.exp_add]
  congr 5
  ring

/-- The sum of the gates of a chunk up to and with its token `t`. -/
theorem upto_chunk (γ : ℕ → ℝ) (n l : ℕ) (t : Fin l) :
    (∑ x : Fin l, if x ≤ t then γ (n + x.val) else 0) = upto γ (n + t.val + 1) - upto γ n := by
  rw [add_assoc, upto_add, add_sub_cancel_left]
  show (∑ x : Fin l, if x.val ≤ t.val then γ (n + x.val) else 0) = _
  rw [← Finset.sum_range (fun x => if x ≤ t.val then γ (n + x) else 0), ← Finset.sum_filter]
  refine Finset.sum_congr (Finset.ext fun x => ?_) fun _ _ => rfl
  simp only [Finset.mem_filter, Finset.mem_range]
  have := t.isLt
  omega

end Cert.GlaPrompt
-- ==== Proof.GlpLoop.lean ====
module

public import proofs.«01_k».proof.Proof.GlpTrip
public import proofs.«01_k».proof.Proof.GlpSum

@[expose] public section

set_option maxRecDepth 16384

noncomputable section

namespace Cert.GlaPrompt

open Cert.Kernel10Ideal Cert.Kernel10Ideal.Gen Idealize.ShloMosaic Idealize.ShloMosaic.TcCoe Idealize.SL.Sem

variable (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)

/-- A trip's log gates, of the blocks' contents. -/
theorem lf_read (k : Fin k0_t1_loop.trips) (x : Fin 128) (c : Fin 512) :
    lf arg6 arg7 arg8 X_arg6 X_arg7 X_arg8 k (ix2 x c)
      = Scalar.logsig (∑ y : Fin 128, arg6.view.read (Elt Ideal) X_arg6 (ix2 ⟨128 * k.val + x.val, by have := trip_lt k; omega⟩ y) * arg7.view.read (Elt Ideal) X_arg7 (ix2 y c)
          + arg8.view.read (Elt Ideal) X_arg8 (ix2 0 c)) * Ideal.ofBits .f32 0x3D800000#32 := by
  have hk := trip_lt k
  unfold lf
  rw [lf_at, read_rows arg8.view X_arg8 ![0, 0] _ 0 0 rfl 0 c 0 c rfl (Nat.zero_add _).symm]
  refine congrArg (fun z : EReal => Scalar.logsig (z + _) * _) (Finset.sum_congr rfl fun y _ => ?_)
  rw [read_rows arg6.view X_arg6 (k0_off1 k) _ _ 0 (offs k).1 x y ⟨128 * k.val + x.val, by omega⟩ y rfl (Nat.zero_add _).symm,
    read_rows arg7.view X_arg7 ![0, 0] _ 0 0 rfl y c y c (Nat.zero_add _).symm (Nat.zero_add _).symm]

/-- A trip takes the state after its chunk's first token's predecessors to the state after its last token. -/
theorem headval_closed (k : Fin k0_t1_loop.trips) (h : Fin 4) (j : Fin 256) (d : Fin 128) (γ : ℕ → ℝ) (κ ν : ℕ → EReal) (n₀ : ℕ)
    (hκ : ∀ t : Fin 512, arg3.view.read (Elt Ideal) X_arg3 (ix2 t ⟨128 * h.val + d.val, by omega⟩) = κ (n₀ + t.val))
    (hν : ∀ t : Fin 512, arg4.view.read (Elt Ideal) X_arg4 (ix2 t ⟨256 * h.val + j.val, by omega⟩) = ν (n₀ + t.val)) :
    headval arg3 arg4 X_arg3 X_arg4 k (fun x => γ (n₀ + 128 * k.val + x.val)) h j d (closed γ κ ν (n₀ + 128 * k.val))
      = closed γ κ ν (n₀ + 128 * (k.val + 1)) := by
  rw [show n₀ + 128 * (k.val + 1) = n₀ + 128 * k.val + 128 by ring, closed_add γ κ ν (n₀ + 128 * k.val) 128]
  unfold headval
  have e : ∀ t : Fin 128, (∑ x : Fin 128, if x ≤ t then γ (n₀ + 128 * k.val + x.val) else 0)
      = upto γ (n₀ + 128 * k.val + t.val + 1) - upto γ (n₀ + 128 * k.val) := fun t => upto_chunk γ (n₀ + 128 * k.val) 128 t
  have el := e 127
  rw [show n₀ + 128 * k.val + (127 : Fin 128).val + 1 = n₀ + 128 * k.val + 128 from rfl] at el
  rw [el]
  refine congrArg₂ (· + ·) rfl (Finset.sum_congr rfl fun t _ => ?_)
  beta_reduce
  rw [hν, hκ, e t, sub_sub_sub_cancel_right, Nat.add_assoc n₀ (128 * k.val) t.val]

/-- The state after `n` trips. -/
theorem trips_read (h : Fin 4) (j : Fin 256) (d : Fin 128) (γ : ℕ → ℝ) (κ ν : ℕ → EReal) (n₀ : ℕ)
    (hκ : ∀ t : Fin 512, arg3.view.read (Elt Ideal) X_arg3 (ix2 t ⟨128 * h.val + d.val, by omega⟩) = κ (n₀ + t.val))
    (hν : ∀ t : Fin 512, arg4.view.read (Elt Ideal) X_arg4 (ix2 t ⟨256 * h.val + j.val, by omega⟩) = ν (n₀ + t.val))
    (hγ : ∀ (k : Fin k0_t1_loop.trips) (x : Fin 128), lf arg6 arg7 arg8 X_arg6 X_arg7 X_arg8 k (ix2 x ⟨128 * h.val + d.val, by omega⟩) = (γ (n₀ + 128 * k.val + x.val) : EReal))
    (f : BufTy.Contents (Elt Ideal) arg10.view.ty) (G : BufTy.Contents (Elt Ideal) arg12.view.ty)
    (hG : arg12.view.read (Elt Ideal) G (ix3 h j d) = closed γ κ ν n₀) (n : ℕ) (hn : n ≤ k0_t1_loop.trips) :
    arg12.view.read (Elt Ideal) (arg12.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 f G n).2) (ix3 h j d) = closed γ κ ν (n₀ + 128 * n) := by
  induction n with
  | zero => exact hG
  | succ n ih =>
    have ih := ih (Nat.le_of_succ_le hn)
    have es := congrArg Prod.snd (pb_k0_t1_succ (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 f G ⟨n, hn⟩)
    refine (congrArg (fun L => arg12.view.read (Elt Ideal) (arg12.view.writes (Elt Ideal) G L) (ix3 h j d)) es).trans ?_
    refine (trip_read 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 ⟨n, hn⟩ _ _ _ _ h j d (fun x => γ (n₀ + 128 * n + x.val)) (fun x => hγ ⟨n, hn⟩ x)).trans ?_
    refine (congrArg (headval arg3 arg4 X_arg3 X_arg4 ⟨n, hn⟩ _ h j d) ih).trans ?_
    exact headval_closed arg3 arg4 X_arg3 X_arg4 ⟨n, hn⟩ h j d γ κ ν n₀ hκ hν

/-- The state after the loop, over whatever was stored before. -/
theorem loop_read (h : Fin 4) (j : Fin 256) (d : Fin 128) (γ : ℕ → ℝ) (κ ν : ℕ → EReal) (n₀ : ℕ)
    (hκ : ∀ t : Fin 512, arg3.view.read (Elt Ideal) X_arg3 (ix2 t ⟨128 * h.val + d.val, by omega⟩) = κ (n₀ + t.val))
    (hν : ∀ t : Fin 512, arg4.view.read (Elt Ideal) X_arg4 (ix2 t ⟨256 * h.val + j.val, by omega⟩) = ν (n₀ + t.val))
    (hγ : ∀ (k : Fin k0_t1_loop.trips) (x : Fin 128), lf arg6 arg7 arg8 X_arg6 X_arg7 X_arg8 k (ix2 x ⟨128 * h.val + d.val, by omega⟩) = (γ (n₀ + 128 * k.val + x.val) : EReal))
    (f : BufTy.Contents (Elt Ideal) arg10.view.ty) (G f' : BufTy.Contents (Elt Ideal) arg12.view.ty)
    (L : List (View.Piece (Elt Ideal) S4x256x128 .f32))
    (hG : arg12.view.read (Elt Ideal) G (ix3 h j d) = closed γ κ ν n₀) :
    arg12.view.read (Elt Ideal) (arg12.view.writes (Elt Ideal) f' ((pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 f G k0_t1_loop.trips).2 ++ L)) (ix3 h j d) = closed γ κ ν (n₀ + 512) := by
  have h3 : 3 < k0_t1_loop.trips := by decide +kernel
  have e4 : k0_t1_loop.trips = 3 + 1 := by decide +kernel
  have ih := trips_read 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 h j d γ κ ν n₀ hκ hν hγ f G hG 3 h3.le
  have es := congrArg Prod.snd (pb_k0_t1_succ (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 f G ⟨3, h3⟩)
  have es' : (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 f G k0_t1_loop.trips).2 = _ := (congrArg (fun n => (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 f G n).2) e4).trans es
  rw [es', List.append_assoc]
  refine (trip_read 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 ⟨3, h3⟩ _ _ _ _ h j d (fun x => γ (n₀ + 128 * 3 + x.val)) (fun x => hγ ⟨3, h3⟩ x)).trans ?_
  refine (congrArg (headval arg3 arg4 X_arg3 X_arg4 ⟨3, h3⟩ _ h j d) ih).trans ?_
  exact headval_closed arg3 arg4 X_arg3 X_arg4 ⟨3, h3⟩ h j d γ κ ν n₀ hκ hν

end Cert.GlaPrompt
-- ==== Proof.GlpRunA.lean ====
module

public import proofs.«01_k».proof.Proof.Gen.Kernel10Ideal.Frame.Runs
public import proofs.«01_k».proof.Proof.GlpPieces

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body in its case A (first step of a row: the state starts at zero): the pieces it stores, with its run. The piece lists are
    stated over arbitrary old contents of the attention block, on which they do not depend. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) :
    Σ' (L8 : List (View.Piece (Elt F) S512x1024 .bf16)), Σ' (L9 : List (View.Piece (Elt F) S1x4x128x256 .f32)), { LS0 : List (View.Piece (Elt F) S4x256x128 .f32) //
      ∀ (xi9 : Vec F S1x4x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_gla_chunk i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0_gla_chunk_eq_skeleton]; unfold cc0_gla_chunk_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    rw [pb_free (F := F) (f := f8) (f' := arg10.view.junk)]
    isplitl [H8]; · iexists _; iexact H8
    isplitl [H9]
    · iexists _; isplitr; · ipureintro; exact harg11.read_unread _
      iexact H9
    iexists _; iexact HS0

end Cert.Kernel10Ideal.Gen

end
-- ==== Proof.GlpRunB.lean ====
module

public import proofs.«01_k».proof.Proof.GlpRunA

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body in its case B (middle step of a row): the pieces it stores, with its run. The piece lists are
    stated over arbitrary old contents of the attention block, on which they do not depend. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) :
    Σ' (L8 : List (View.Piece (Elt F) S512x1024 .bf16)), Σ' (L9 : List (View.Piece (Elt F) S1x4x128x256 .f32)), { LS0 : List (View.Piece (Elt F) S4x256x128 .f32) //
      ∀ (xi9 : Vec F S1x4x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_gla_chunk i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0_gla_chunk_eq_skeleton]; unfold cc0_gla_chunk_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    rw [pb_free (F := F) (f := f8) (f' := arg10.view.junk)]
    isplitl [H8]; · iexists _; iexact H8
    isplitl [H9]
    · iexists _; isplitr; · ipureintro; exact harg11.read_unread _
      iexact H9
    iexists _; iexact HS0

end Cert.Kernel10Ideal.Gen

end
-- ==== Proof.GlpRunC.lean ====
module

public import proofs.«01_k».proof.Proof.GlpRunB

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body in its case C (last step of a row: the state is also written out): the pieces it stores, with its run. The piece lists are
    stated over arbitrary old contents of the attention block, on which they do not depend. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) :
    Σ' (L8 : List (View.Piece (Elt F) S512x1024 .bf16)), Σ' (L9 : List (View.Piece (Elt F) S1x4x128x256 .f32)), { LS0 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_gla_chunk i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_gla_chunk_eq_skeleton]; unfold cc0_gla_chunk_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    unfold kernelRun0_C.sl.v7 kernelRun0_C.sl.v13 kernelRun0_C.sl.v19 kernelRun0_C.sl.v25
    rw [pb_free (F := F) (f := f8) (f' := arg10.view.junk)]
    isplitl [H8]; · iexists _; iexact H8
    isplitl [H9]; · iexists _; iexact H9
    iexists _; iexact HS0

end Cert.Kernel10Ideal.Gen

end
-- ==== Proof.GlpFrame.lean ====
module

public import proofs.«01_k».proof.Proof.GlpRunC
public import Idealize.ShloMosaic.Lib.Claim

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_8 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1 S128x256.size (by sl_kernel_rfl) y

def out0_A_8 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) : Vec F S512x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

def out0_A_9 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) : Vec F S1x4x128x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (y : S4x256x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 (by sl_whole_mem) y

def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) : Vec F S4x256x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

theorem cover0_B_8 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S128x256.size (by sl_kernel_rfl) y

def out0_B_8 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) : Vec F S512x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

def out0_B_9 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) : Vec F S1x4x128x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) (y : S4x256x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S1x256x128.size (by sl_kernel_rfl) y

def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : ¬cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) : Vec F S4x256x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

theorem cover0_C_8 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S128x256.size (by sl_kernel_rfl) y

def out0_C_8 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) : Vec F S512x1024 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

theorem cover0_C_9 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) (y : S1x4x128x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1 S1x1x128x256.size (by sl_kernel_rfl) y

def out0_C_9 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) : Vec F S1x4x128x256 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) (y : S4x256x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S1x256x128.size (by sl_kernel_rfl) y

def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (arg12 : Memref sig .tc .vmem S4x256x128 .f32) (harg12 : arg12.IsWhole) (hc0 : ¬cond0_0 i) (hc1 : cond0_1 i)
    (x0 : Vec F S512x512 .f32) (x1 : Vec F S512x512 .f32) (x2 : Vec F S512x1024 .f32) (x3 : Vec F S512x1024 .f32) (x4 : Vec F S512x128 .f32) (x5 : Vec F S128x512 .bf16) (x6 : Vec F S1x512 .f32) (x7 : Vec F S1x256 .f32) (xs0 : Vec F S4x256x128 .f32) : Vec F S4x256x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

def outsAt0 (c : Dev nD) : (n : ℕ) → n < cfg0.N → Vec F S512x1024 .bf16 × Vec F S1x4x128x256 .f32 × Vec F S4x256x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (X0_0 m c ⟨0, hn⟩) (X0_1 m c ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      if h1 : (n + 1) % 4 = 3 then
        False.elim (by have hN : n + 1 < 64 := lt_of_lt_of_eq hn (show cfg0.N = 64 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 4 = 3 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (X0_0 m c ⟨n + 1, hn⟩) (X0_1 m c ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (X0_0 m c t) (X0_1 m c t) (X0_2 m c t) (X0_3 m c t) (iblk m c 4 t) (iblk m c 5 t) (iblk m c 6 t) (iblk m c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_8 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (X0_0 m c t) (X0_1 m c t) (X0_2 m c t) (X0_3 m c t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
      · rw [PhiS_castSucc m c t, PhiS_pos m c _ _ hz]
        rw [outsAt0_A m c t h0 h1]
        unfold out0_A_8 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (X0_0 m c t) (X0_1 m c t) (X0_2 m c t) (X0_3 m c t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexists _; iexact HS0
        iintro ⟨H0, H1, H2, H3, H4, H5, H6, H7, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_8 out0_C_9 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (X0_0 m c t) (X0_1 m c t) (X0_2 m c t) (X0_3 m c t) (iblk m c 4 t) (iblk m c 5 t) (iblk m c 6 t) (iblk m c 7 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        iintro ⟨H0, H1, H2, H3, H4, H5, H6, H7, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_8 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (X0_0 m c t) (X0_1 m c t) (X0_2 m c t) (X0_3 m c t) (iblk m c 4 t) (iblk m c 5 t) (iblk m c 6 t) (iblk m c 7 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _)
        iexists _; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel10Ideal.Gen

end
-- ==== Proof.GlpPoint.lean ====
module

public import proofs.«01_k».proof.Proof.GlpLoop
public import proofs.«01_k».proof.Proof.GlpFrame

@[expose] public section

set_option maxRecDepth 16384

noncomputable section

namespace Cert.GlaPrompt

open Cert.Kernel10Ideal Cert.Kernel10Ideal.Gen Idealize.ShloMosaic Idealize.ShloMosaic.TcCoe Idealize.SL.Sem

/-- The state after a prompt's first 512 tokens. -/
theorem sout_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (hc0 : cond0_0 i) (hc1 : ¬cond0_1 i)
    (x0 : Vec Ideal S512x512 .f32) (x1 : Vec Ideal S512x512 .f32) (x2 : Vec Ideal S512x1024 .f32) (x3 : Vec Ideal S512x1024 .f32) (x4 : Vec Ideal S512x128 .f32) (x5 : Vec Ideal S128x512 .bf16) (x6 : Vec Ideal S1x512 .f32) (x7 : Vec Ideal S1x256 .f32)
    (h : Fin 4) (j : Fin 256) (d : Fin 128) (γ : ℕ → ℝ) (κ ν : ℕ → EReal) (n₀ : ℕ)
    (hκ : ∀ t : Fin 512, x1 (ix2 t ⟨128 * h.val + d.val, by omega⟩) = κ (n₀ + t.val))
    (hν : ∀ t : Fin 512, x2 (ix2 t ⟨256 * h.val + j.val, by omega⟩) = ν (n₀ + t.val))
    (hγ : ∀ t : Fin 512, Scalar.logsig (∑ y : Fin 128, x4 (ix2 t y) * x5 (ix2 y ⟨128 * h.val + d.val, by omega⟩)
      + x6 (ix2 0 ⟨128 * h.val + d.val, by omega⟩)) * Ideal.ofBits .f32 0x3D800000#32 = (γ (n₀ + t.val) : EReal)) (hn : n₀ = 0) :
    sout0_A_0 (F := Ideal) c i arg2 harg2 arg3 harg3 arg4 harg4 arg5 harg5 arg6 harg6 arg7 harg7 arg8 harg8 arg9 harg9 arg10 harg10 arg11 harg11 scM0_0 (Memref.isWhole_whole _) hc0 hc1 x0 x1 x2 x3 x4 x5 x6 x7 (ix3 h j d) = closed γ κ ν (n₀ + 512) := by
  unfold sout0_A_0 kernelRun0_A
  refine loop_read Variants.none c none i arg2 harg2 arg3 harg3 arg4 harg4 arg5 harg5 arg6 harg6 arg7 harg7 arg8 harg8 arg9 harg9 arg10 harg10 arg11 harg11 scM0_0 (Memref.isWhole_whole _) _ _ _ _ _ _ _ _ h j d γ κ ν n₀ (fun t => by rw [harg3.read_unread]; exact hκ t)
    (fun t => by rw [harg4.read_unread]; exact hν t)
    (fun k x => by
      have hk := trip_lt k
      rw [lf_read, harg6.read_unread, harg7.read_unread, harg8.read_unread]
      refine (hγ ⟨128 * k.val + x.val, by omega⟩).trans ?_
      rw [Nat.add_assoc]) _ _ _ _ ?_
  subst hn
  rw [closed_zero]
  refine (View.read_writes_cons_unit_of_mem scM0_0.view _ inb_S4x256x128_S4x256x128_0_0_0 _ _ (ix3 h j d) (ix3 h j d) rfl fun a => (by fin_cases a <;> exact (Nat.zero_add _).symm)).trans ?_
  pointwise [k0_pay1]

/-- The state 512 tokens further. -/
theorem sout_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (hc0 : ¬cond0_0 i) (hc1 : ¬cond0_1 i)
    (x0 : Vec Ideal S512x512 .f32) (x1 : Vec Ideal S512x512 .f32) (x2 : Vec Ideal S512x1024 .f32) (x3 : Vec Ideal S512x1024 .f32) (x4 : Vec Ideal S512x128 .f32) (x5 : Vec Ideal S128x512 .bf16) (x6 : Vec Ideal S1x512 .f32) (x7 : Vec Ideal S1x256 .f32) (xs0 : Vec Ideal S4x256x128 .f32)
    (h : Fin 4) (j : Fin 256) (d : Fin 128) (γ : ℕ → ℝ) (κ ν : ℕ → EReal) (n₀ : ℕ)
    (hκ : ∀ t : Fin 512, x1 (ix2 t ⟨128 * h.val + d.val, by omega⟩) = κ (n₀ + t.val))
    (hν : ∀ t : Fin 512, x2 (ix2 t ⟨256 * h.val + j.val, by omega⟩) = ν (n₀ + t.val))
    (hγ : ∀ t : Fin 512, Scalar.logsig (∑ y : Fin 128, x4 (ix2 t y) * x5 (ix2 y ⟨128 * h.val + d.val, by omega⟩)
      + x6 (ix2 0 ⟨128 * h.val + d.val, by omega⟩)) * Ideal.ofBits .f32 0x3D800000#32 = (γ (n₀ + t.val) : EReal))
    (hs : xs0 (ix3 h j d) = closed γ κ ν n₀) :
    sout0_B_0 (F := Ideal) c i arg2 harg2 arg3 harg3 arg4 harg4 arg5 harg5 arg6 harg6 arg7 harg7 arg8 harg8 arg9 harg9 arg10 harg10 arg11 harg11 scM0_0 (Memref.isWhole_whole _) hc0 hc1 x0 x1 x2 x3 x4 x5 x6 x7 xs0 (ix3 h j d) = closed γ κ ν (n₀ + 512) := by
  unfold sout0_B_0 kernelRun0_B
  refine Eq.trans (congrArg (fun L => scM0_0.view.read (Elt Ideal) (scM0_0.view.writes (Elt Ideal) scM0_0.view.junk L) (ix3 h j d)) (List.append_nil _).symm) (loop_read Variants.none c none i arg2 harg2 arg3 harg3 arg4 harg4 arg5 harg5 arg6 harg6 arg7 harg7 arg8 harg8 arg9 harg9 arg10 harg10 arg11 harg11 scM0_0 (Memref.isWhole_whole _) _ _ _ _ _ _ _ _ h j d γ κ ν n₀ (fun t => by rw [harg3.read_unread]; exact hκ t)
    (fun t => by rw [harg4.read_unread]; exact hν t)
    (fun k x => by
      have hk := trip_lt k
      rw [lf_read, harg6.read_unread, harg7.read_unread, harg8.read_unread]
      refine (hγ ⟨128 * k.val + x.val, by omega⟩).trans ?_
      rw [Nat.add_assoc]) arg10.view.junk ((Memref.isWhole_whole cc0_scratch0).unread xs0) scM0_0.view.junk [] ?_)
  exact (congrFun ((Memref.isWhole_whole cc0_scratch0).read_unread xs0) _).trans hs

/-- The state a prompt's last 512 tokens. -/
theorem sout_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (hc0 : ¬cond0_0 i) (hc1 : cond0_1 i)
    (x0 : Vec Ideal S512x512 .f32) (x1 : Vec Ideal S512x512 .f32) (x2 : Vec Ideal S512x1024 .f32) (x3 : Vec Ideal S512x1024 .f32) (x4 : Vec Ideal S512x128 .f32) (x5 : Vec Ideal S128x512 .bf16) (x6 : Vec Ideal S1x512 .f32) (x7 : Vec Ideal S1x256 .f32) (xs0 : Vec Ideal S4x256x128 .f32)
    (h : Fin 4) (j : Fin 256) (d : Fin 128) (γ : ℕ → ℝ) (κ ν : ℕ → EReal) (n₀ : ℕ)
    (hκ : ∀ t : Fin 512, x1 (ix2 t ⟨128 * h.val + d.val, by omega⟩) = κ (n₀ + t.val))
    (hν : ∀ t : Fin 512, x2 (ix2 t ⟨256 * h.val + j.val, by omega⟩) = ν (n₀ + t.val))
    (hγ : ∀ t : Fin 512, Scalar.logsig (∑ y : Fin 128, x4 (ix2 t y) * x5 (ix2 y ⟨128 * h.val + d.val, by omega⟩)
      + x6 (ix2 0 ⟨128 * h.val + d.val, by omega⟩)) * Ideal.ofBits .f32 0x3D800000#32 = (γ (n₀ + t.val) : EReal))
    (hs : xs0 (ix3 h j d) = closed γ κ ν n₀) :
    sout0_C_0 (F := Ideal) c i arg2 harg2 arg3 harg3 arg4 harg4 arg5 harg5 arg6 harg6 arg7 harg7 arg8 harg8 arg9 harg9 arg10 harg10 arg11 harg11 scM0_0 (Memref.isWhole_whole _) hc0 hc1 x0 x1 x2 x3 x4 x5 x6 x7 xs0 (ix3 h j d) = closed γ κ ν (n₀ + 512) := by
  unfold sout0_C_0 kernelRun0_C
  refine Eq.trans (congrArg (fun L => scM0_0.view.read (Elt Ideal) (scM0_0.view.writes (Elt Ideal) scM0_0.view.junk L) (ix3 h j d)) (List.append_nil _).symm) (loop_read Variants.none c none i arg2 harg2 arg3 harg3 arg4 harg4 arg5 harg5 arg6 harg6 arg7 harg7 arg8 harg8 arg9 harg9 arg10 harg10 arg11 harg11 scM0_0 (Memref.isWhole_whole _) _ _ _ _ _ _ _ _ h j d γ κ ν n₀ (fun t => by rw [harg3.read_unread]; exact hκ t)
    (fun t => by rw [harg4.read_unread]; exact hν t)
    (fun k x => by
      have hk := trip_lt k
      rw [lf_read, harg6.read_unread, harg7.read_unread, harg8.read_unread]
      refine (hγ ⟨128 * k.val + x.val, by omega⟩).trans ?_
      rw [Nat.add_assoc]) arg10.view.junk ((Memref.isWhole_whole cc0_scratch0).unread xs0) scM0_0.view.junk [] ?_)
  exact (congrFun ((Memref.isWhole_whole cc0_scratch0).read_unread xs0) _).trans hs

/-- Reading a head back from the four heads' stores into the result's block. -/
theorem read_out (v : View sig .tc .vmem S1x4x128x256 .f32) (f' : v.ty.Contents (Elt Ideal)) (w3 w2 w1 w0 : Vec Ideal S1x1x128x256 .f32)
    (h : Fin 4) (d : Fin 128) (j : Fin 256) :
    v.read (Elt Ideal) (v.writes (Elt Ideal) f' [
      ⟨Rect.unit (s := S1x4x128x256) ![0, 3, 0, 0] S1x1x128x256.size inb_S1x4x128x256_S1x1x128x256_0_3_0_0, w3⟩,
      ⟨Rect.unit (s := S1x4x128x256) ![0, 2, 0, 0] S1x1x128x256.size inb_S1x4x128x256_S1x1x128x256_0_2_0_0, w2⟩,
      ⟨Rect.unit (s := S1x4x128x256) ![0, 1, 0, 0] S1x1x128x256.size inb_S1x4x128x256_S1x1x128x256_0_1_0_0, w1⟩,
      ⟨Rect.unit (s := S1x4x128x256) ![0, 0, 0, 0] S1x1x128x256.size inb_S1x4x128x256_S1x1x128x256_0_0_0_0, w0⟩]) (ix4 0 h d j)
      = (![w0, w1, w2, w3] h) (ix4 0 0 d j) := by
  have mem : ∀ (h' : Fin 4) (a : Fin 4), ((ix4 0 h' d j : S1x4x128x256.Idx) a).val = (![0, h'.val, 0, 0] : Fin 4 → ℕ) a + ((ix4 0 0 d j : S1x1x128x256.Idx) a).val := by
    intro h' a
    fin_cases a
    · rfl
    · rfl
    · exact (Nat.zero_add _).symm
    · exact (Nat.zero_add _).symm
  have not3 := fun (h : Fin 4) (hh : h.val < 3) w L => View.read_writes_cons_unit_of_not_mem v f' inb_S1x4x128x256_S1x1x128x256_0_3_0_0 w L (ix4 0 h d j) rfl 1 (Or.inl hh)
  have not2 := fun (h : Fin 4) (hh : h.val < 2) w L => View.read_writes_cons_unit_of_not_mem v f' inb_S1x4x128x256_S1x1x128x256_0_2_0_0 w L (ix4 0 h d j) rfl 1 (Or.inl hh)
  have not1 := fun (h : Fin 4) (hh : h.val < 1) w L => View.read_writes_cons_unit_of_not_mem v f' inb_S1x4x128x256_S1x1x128x256_0_1_0_0 w L (ix4 0 h d j) rfl 1 (Or.inl hh)
  have hc : h = 0 ∨ h = 1 ∨ h = 2 ∨ h = 3 := by omega
  rcases hc with rfl | rfl | rfl | rfl
  · exact (not3 0 (by decide) _ _).trans ((not2 0 (by decide) _ _).trans ((not1 0 (by decide) _ _).trans
      (View.read_writes_cons_unit_of_mem v f' inb_S1x4x128x256_S1x1x128x256_0_0_0_0 _ _ (ix4 0 0 d j) (ix4 0 0 d j) rfl (mem 0))))
  · exact (not3 1 (by decide) _ _).trans ((not2 1 (by decide) _ _).trans
      (View.read_writes_cons_unit_of_mem v f' inb_S1x4x128x256_S1x1x128x256_0_1_0_0 _ _ (ix4 0 1 d j) (ix4 0 0 d j) rfl (mem 1)))
  · exact (not3 2 (by decide) _ _).trans
      (View.read_writes_cons_unit_of_mem v f' inb_S1x4x128x256_S1x1x128x256_0_2_0_0 _ _ (ix4 0 2 d j) (ix4 0 0 d j) rfl (mem 2))
  · exact View.read_writes_cons_unit_of_mem v f' inb_S1x4x128x256_S1x1x128x256_0_3_0_0 _ _ (ix4 0 3 d j) (ix4 0 0 d j) rfl (mem 3)

theorem pay_out (w3 w2 w1 w0 : Vec Ideal S1x256x128 .f32) (h : Fin 4) (d : Fin 128) (j : Fin 256) :
    (![k0_pay2 (F := Ideal) w0, k0_pay3 w1, k0_pay4 w2, k0_pay5 w3] h) (ix4 0 0 d j) = (![w0, w1, w2, w3] h) (ix3 0 j d) := by
  have hc : h = 0 ∨ h = 1 ∨ h = 2 ∨ h = 3 := by omega
  rcases hc with rfl | rfl | rfl | rfl
  · show k0_pay2 (F := Ideal) w0 _ = w0 _; pointwise [k0_pay2]
  · show k0_pay3 (F := Ideal) w1 _ = w1 _; pointwise [k0_pay3]
  · show k0_pay4 (F := Ideal) w2 _ = w2 _; pointwise [k0_pay4]
  · show k0_pay5 (F := Ideal) w3 _ = w3 _; pointwise [k0_pay5]

theorem heads_read (v : View sig .tc .vmem S4x256x128 .f32) (X : v.ty.Contents (Elt Ideal)) (h : Fin 4) (j : Fin 256) (d : Fin 128) :
    (![v.readAt (Elt Ideal) (Rect.unit (s := S4x256x128) ![0, 0, 0] S1x256x128.size inb_S4x256x128_S1x256x128_0_0_0).toLoadRect X,
      v.readAt (Elt Ideal) (Rect.unit (s := S4x256x128) ![1, 0, 0] S1x256x128.size inb_S4x256x128_S1x256x128_1_0_0).toLoadRect X,
      v.readAt (Elt Ideal) (Rect.unit (s := S4x256x128) ![2, 0, 0] S1x256x128.size inb_S4x256x128_S1x256x128_2_0_0).toLoadRect X,
      v.readAt (Elt Ideal) (Rect.unit (s := S4x256x128) ![3, 0, 0] S1x256x128.size inb_S4x256x128_S1x256x128_3_0_0).toLoadRect X] h) (ix3 0 j d)
      = v.read (Elt Ideal) X (ix3 h j d) := by
  have hc : h = 0 ∨ h = 1 ∨ h = 2 ∨ h = 3 := by omega
  rcases hc with rfl | rfl | rfl | rfl
  · exact read_head v X _ _ 0 rfl j d
  · exact read_head v X _ _ 1 rfl j d
  · exact read_head v X _ _ 2 rfl j d
  · exact read_head v X _ _ 3 rfl j d

/-- The state result's block after a prompt's last tokens: the state, keys before values. -/
theorem out_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S512x1024 .bf16) (harg10 : arg10.IsWhole) (arg11 : Memref sig .tc .vmem S1x4x128x256 .f32) (harg11 : arg11.IsWhole) (hc0 : ¬cond0_0 i) (hc1 : cond0_1 i)
    (x0 : Vec Ideal S512x512 .f32) (x1 : Vec Ideal S512x512 .f32) (x2 : Vec Ideal S512x1024 .f32) (x3 : Vec Ideal S512x1024 .f32) (x4 : Vec Ideal S512x128 .f32) (x5 : Vec Ideal S128x512 .bf16) (x6 : Vec Ideal S1x512 .f32) (x7 : Vec Ideal S1x256 .f32) (xs0 : Vec Ideal S4x256x128 .f32)
    (h : Fin 4) (j : Fin 256) (d : Fin 128) (γ : ℕ → ℝ) (κ ν : ℕ → EReal) (n₀ : ℕ)
    (hκ : ∀ t : Fin 512, x1 (ix2 t ⟨128 * h.val + d.val, by omega⟩) = κ (n₀ + t.val))
    (hν : ∀ t : Fin 512, x2 (ix2 t ⟨256 * h.val + j.val, by omega⟩) = ν (n₀ + t.val))
    (hγ : ∀ t : Fin 512, Scalar.logsig (∑ y : Fin 128, x4 (ix2 t y) * x5 (ix2 y ⟨128 * h.val + d.val, by omega⟩)
      + x6 (ix2 0 ⟨128 * h.val + d.val, by omega⟩)) * Ideal.ofBits .f32 0x3D800000#32 = (γ (n₀ + t.val) : EReal))
    (hs : xs0 (ix3 h j d) = closed γ κ ν n₀) :
    out0_C_9 (F := Ideal) c i arg2 harg2 arg3 harg3 arg4 harg4 arg5 harg5 arg6 harg6 arg7 harg7 arg8 harg8 arg9 harg9 arg10 harg10 arg11 harg11 scM0_0 (Memref.isWhole_whole _) hc0 hc1 x0 x1 x2 x3 x4 x5 x6 x7 xs0 (ix4 0 h d j) = closed γ κ ν (n₀ + 512) := by
  unfold out0_C_9 kernelRun0_C
  refine (read_out _ _ _ _ _ _ h d j).trans ?_
  refine (pay_out _ _ _ _ h d j).trans ?_
  refine (heads_read scM0_0.view _ h j d).trans ?_
  refine Eq.trans (congrArg (fun L => scM0_0.view.read (Elt Ideal) (scM0_0.view.writes (Elt Ideal) ((Memref.isWhole_whole cc0_scratch0).unread xs0) L) (ix3 h j d)) (List.append_nil _).symm) (loop_read Variants.none c none i arg2 harg2 arg3 harg3 arg4 harg4 arg5 harg5 arg6 harg6 arg7 harg7 arg8 harg8 arg9 harg9 arg10 harg10 arg11 harg11 scM0_0 (Memref.isWhole_whole _) _ _ _ _ _ _ _ _ h j d γ κ ν n₀ (fun t => by rw [harg3.read_unread]; exact hκ t)
    (fun t => by rw [harg4.read_unread]; exact hν t)
    (fun k x => by
      have hk := trip_lt k
      rw [lf_read, harg6.read_unread, harg7.read_unread, harg8.read_unread]
      refine (hγ ⟨128 * k.val + x.val, by omega⟩).trans ?_
      rw [Nat.add_assoc]) arg10.view.junk ((Memref.isWhole_whole cc0_scratch0).unread xs0) ((Memref.isWhole_whole cc0_scratch0).unread xs0) [] ?_)
  exact (congrFun ((Memref.isWhole_whole cc0_scratch0).read_unread xs0) _).trans hs

end Cert.GlaPrompt
-- ==== Proof.GlpRead.lean ====
module

public import proofs.«01_k».proof.Proof.GlpFrame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.GlaPrompt

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The projection. -/
abbrev argP (c : Dev nD) : Vec Ideal S16x2048x3088 .f32 := m ((c : Thread nD τ).loc main_arg0)
/-- The gate's second factor. -/
abbrev argW (c : Dev nD) : Vec Ideal S16x512 .f32 := m ((c : Thread nD τ).loc main_arg1)
/-- The gate's bias. -/
abbrev argB (c : Dev nD) : Vec Ideal S512 .f32 := m ((c : Thread nD τ).loc main_arg2)

/-- The block that every window of the state's computation reads or writes at a grid point. -/
theorem idx : ∀ t : Fin cfg0.N, t.val < 64 ∧ win0_1.index t = ![t.val, 1] ∧ win0_2.index t = ![t.val, 1]
    ∧ win0_4.index t = ![t.val, 24] ∧ win0_5.index t = ![0, 0] ∧ win0_6.index t = ![0, 0] ∧ win0_9.index t = ![t.val / 4, 0, 0, 0] :=
  (by decide +kernel : ∀ t : Fin grid0.N, _)

/-- Three runs of columns put side by side. -/
def cat3 (a : Vec Ideal S32768x2048 .f32) (b : Vec Ideal S32768x1024 .f32) (d : Vec Ideal S32768x16 .f32) : Vec Ideal S32768x3088 .f32 :=
  concatenate S32768x3088 1 [⟨S32768x2048, a⟩, ⟨S32768x1024, b⟩, ⟨S32768x16, d⟩] concatenates_S32768x2048_S32768x1024_S32768x16_S32768x3088_d1

/-- The projection's columns in the kernel's order: the low-rank gate's columns moved last, zeros up to the next block. -/
def cols (p : Vec Ideal S16x2048x3088 .f32) : Vec Ideal S32768x3200 .f32 :=
  pad S32768x3200 ![0, 0] ![0, 112] ![0, 0]
    (cat3 (extractStridedSlice S32768x2048 ![0, 0] (shapeCast S32768x3088 p shapeCasts_S16x2048x3088_S32768x3088) slices_S32768x3088_S32768x2048_0_0)
      (extractStridedSlice S32768x1024 ![0, 2064] (shapeCast S32768x3088 p shapeCasts_S16x2048x3088_S32768x3088) slices_S32768x3088_S32768x1024_0_2064)
      (extractStridedSlice S32768x16 ![0, 2048] (shapeCast S32768x3088 p shapeCasts_S16x2048x3088_S32768x3088) slices_S32768x3088_S32768x16_0_2048))
    (sitofp (F := Ideal) .f32 (constantI S_ 32 0#32)) pads_S32768x3088_S32768x3200_000_01120 h_S_

theorem V_v4 (c : Dev nD) : V m c main_v4 = cat3 (V m c main_v1) (V m c main_v2) (V m c main_v3) := by
  simp only [V, hostOps0, hostOps0_1, hostOps0_2, hostOps0_3, hostOps0_4, List.flatten_cons, List.flatten_nil, List.append_nil, List.cons_append,
      List.nil_append]
  after_reads_simp
  show cat3 _ _ _ = cat3 _ _ _
  refine congr (congr (congrArg cat3 ?_) ?_) ?_
  · show StableHlo.upto _ _ _ (Proc.tc.devRef main_v1) = _
    after_reads_simp
  · show StableHlo.upto _ _ _ (Proc.tc.devRef main_v2) = _
    after_reads_simp
  · show StableHlo.upto _ _ _ (Proc.tc.devRef main_v3) = _
    after_reads_simp

theorem V_cols (c : Dev nD) : V m c main_v5 = cols (argP m c) := by
  have h5 : V m c main_v5 = pad S32768x3200 ![0, 0] ![0, 112] ![0, 0] (V m c main_v4)
      (sitofp (F := Ideal) .f32 (constantI S_ 32 0#32)) pads_S32768x3088_S32768x3200_000_01120 h_S_ := by
    simp only [V, hostOps0, hostOps0_1, hostOps0_2, hostOps0_3, hostOps0_4, List.flatten_cons, List.flatten_nil, List.append_nil, List.cons_append,
      List.nil_append]
    after_reads_simp
    rfl
  have h1 : V m c main_v1 = extractStridedSlice S32768x2048 ![0, 0] (shapeCast S32768x3088 (argP m c) shapeCasts_S16x2048x3088_S32768x3088)
      slices_S32768x3088_S32768x2048_0_0 := by
    entry_read; rfl
  have h2 : V m c main_v2 = extractStridedSlice S32768x1024 ![0, 2064] (shapeCast S32768x3088 (argP m c) shapeCasts_S16x2048x3088_S32768x3088)
      slices_S32768x3088_S32768x1024_0_2064 := by
    entry_read; rfl
  have h3 : V m c main_v3 = extractStridedSlice S32768x16 ![0, 2048] (shapeCast S32768x3088 (argP m c) shapeCasts_S16x2048x3088_S32768x3088)
      slices_S32768x3088_S32768x16_0_2048 := by
    entry_read; rfl
  rw [h5, V_v4, h1, h2, h3]
  rfl

/-- A row of the projection with its prompts' tokens in one run. -/
theorem flat (p : Vec Ideal S16x2048x3088 .f32) (R : Fin 32768) (j : Fin 3088) (b : Fin 16) (τ : Fin 2048) (hR : R.val = 2048 * b.val + τ.val) :
    shapeCast S32768x3088 p shapeCasts_S16x2048x3088_S32768x3088 (ix2 R j) = p (ix3 b τ j) := by
  pointwise
  have h1 : (⟨R.val / 2048, by omega⟩ : Fin 16) = b := Fin.ext (by simp only []; omega)
  have h2 : (⟨R.val % 2048, by omega⟩ : Fin 2048) = τ := Fin.ext (by simp only []; omega)
  rw [h1, h2]

theorem cols_lo (p : Vec Ideal S16x2048x3088 .f32) (R : Fin 32768) (b : Fin 16) (τ : Fin 2048) (hR : R.val = 2048 * b.val + τ.val) (j : Fin 3200) (i : Fin 3088)
    (hj : j.val < 2048) (hi : i.val = j) :
    cols p (ix2 R j) = p (ix3 b τ i) := by
  unfold cols cat3
  generalize hf : shapeCast S32768x3088 p shapeCasts_S16x2048x3088_S32768x3088 = f
  rw [← flat p R i b τ hR, hf]
  pointwise
  rw [dif_pos (by omega), dif_pos hj]
  exact congrArg (fun x => f (ix2 R x)) (Fin.ext (by simp only []; omega))

theorem cols_low (p : Vec Ideal S16x2048x3088 .f32) (R : Fin 32768) (b : Fin 16) (τ : Fin 2048) (hR : R.val = 2048 * b.val + τ.val) (j : Fin 3200) (i : Fin 3088)
    (h0 : 3072 ≤ j.val) (hj : j.val < 3088) (hi : i.val + 1024 = j) :
    cols p (ix2 R j) = p (ix3 b τ i) := by
  unfold cols cat3
  generalize hf : shapeCast S32768x3088 p shapeCasts_S16x2048x3088_S32768x3088 = f
  rw [← flat p R i b τ hR, hf]
  pointwise
  rw [dif_pos (by omega), dif_neg (by omega), dif_neg (by omega)]
  exact congrArg (fun x => f (ix2 R x)) (Fin.ext (by simp only []; omega))

theorem cols_pad (p : Vec Ideal S16x2048x3088 .f32) (R : Fin 32768) (j : Fin 3200) (hj : 3088 ≤ j.val) :
    cols p (ix2 R j) = 0 := by
  pointwise [cols, cat3]
  rw [dif_neg (by omega)]
  show ((((0#32 : BitVec 32).toInt : ℝ)) : EReal) = 0
  simp

/-- The gate's second factor with zero rows below it. -/
def wpad (w : Vec Ideal S16x512 .f32) : Vec Ideal S128x512 .f32 :=
  pad S128x512 ![0, 0] ![112, 0] ![0, 0] w (sitofp (F := Ideal) .f32 (constantI S_ 32 0#32)) pads_S16x512_S128x512_01120_000 h_S_

theorem V_wa (c : Dev nD) : V m c main_v7 = truncf (F := Ideal) .bf16 (wpad (argW m c)) bitsLt_bf16_f32 := by
  simp only [V, hostOps0, hostOps0_1, hostOps0_2, hostOps0_3, hostOps0_4, List.flatten_cons, List.flatten_nil, List.append_nil, List.cons_append,
      List.nil_append]
  after_reads_simp
  rfl

theorem V_ba (c : Dev nD) : V m c main_v8 = shapeCast S1x512 (argB m c) shapeCasts_S512_S1x512 := by
  simp only [V, hostOps0, hostOps0_1, hostOps0_2, hostOps0_3, hostOps0_4, List.flatten_cons, List.flatten_nil, List.append_nil, List.cons_append,
      List.nil_append]
  after_reads_simp
  rfl

theorem k_at (c : Dev nD) (t : Fin cfg0.N) (b : Fin 16) (x : Fin 512) (τ : Fin 2048) (hτ : 2048 * b.val + τ.val = 512 * t.val + x.val) (k : Fin 512) (i : Fin 3088) (hi : (i : ℕ) = 512 + k) :
    (show Vec Ideal S512x512 .f32 from X0_1 m c t) (ix2 x k) = (argP m c) (ix3 b τ i) := by
  have ht := (idx t).1
  refine Eq.trans ?_ ((congrFun (V_cols m c) (ix2 ⟨512 * t.val + x.val, by omega⟩ ⟨512 + k, by omega⟩)).trans
    (cols_lo _ _ b τ (by simp only []; omega) _ i (by simp only []; omega) (by simp only []; omega)))
  show X0_1 m c t (ix2 x k) = _
  unfold X0_1 Pipeline.Window.fill
  rw [dif_pos (moved0_1 t _)]
  blk_ext [iblk, idx t]

theorem v_at (c : Dev nD) (t : Fin cfg0.N) (b : Fin 16) (x : Fin 512) (τ : Fin 2048) (hτ : 2048 * b.val + τ.val = 512 * t.val + x.val) (n : Fin 1024) (i : Fin 3088) (hi : (i : ℕ) = 1024 + n) :
    (show Vec Ideal S512x1024 .f32 from X0_2 m c t) (ix2 x n) = (argP m c) (ix3 b τ i) := by
  have ht := (idx t).1
  refine Eq.trans ?_ ((congrFun (V_cols m c) (ix2 ⟨512 * t.val + x.val, by omega⟩ ⟨1024 + n, by omega⟩)).trans
    (cols_lo _ _ b τ (by simp only []; omega) _ i (by simp only []; omega) (by simp only []; omega)))
  show X0_2 m c t (ix2 x n) = _
  unfold X0_2 Pipeline.Window.fill
  rw [dif_pos (moved0_2 t _)]
  blk_ext [iblk, idx t]

theorem a_at (c : Dev nD) (t : Fin cfg0.N) (b : Fin 16) (x : Fin 512) (τ : Fin 2048) (hτ : 2048 * b.val + τ.val = 512 * t.val + x.val) (y : Fin 128) (i : Fin 3088)
    (hy : y.val < 16) (hi : (i : ℕ) = 2048 + y) :
    (show Vec Ideal S512x128 .f32 from iblk m c 4 t) (ix2 x y) = (argP m c) (ix3 b τ i) := by
  have ht := (idx t).1
  refine Eq.trans ?_ ((congrFun (V_cols m c) (ix2 ⟨512 * t.val + x.val, by omega⟩ ⟨3072 + y, by omega⟩)).trans
    (cols_low _ _ b τ (by simp only []; omega) _ i (by simp only []; omega) (by simp only []; omega) (by simp only []; omega)))
  blk_ext [iblk, idx t]

theorem a_pad (c : Dev nD) (t : Fin cfg0.N) (x : Fin 512) (y : Fin 128) (hy : 16 ≤ y.val) :
    (show Vec Ideal S512x128 .f32 from iblk m c 4 t) (ix2 x y) = 0 := by
  have ht := (idx t).1
  refine Eq.trans ?_ ((congrFun (V_cols m c) (ix2 ⟨512 * t.val + x.val, by omega⟩ ⟨3072 + y, by omega⟩)).trans (cols_pad _ _ _ (by simp only []; omega)))
  blk_ext [iblk, idx t]

theorem wa_at (c : Dev nD) (t : Fin cfg0.N) (r : Fin 128) (i : Fin 16) (j : Fin 512) (hi : (i : ℕ) = r) :
    (show Vec Ideal S128x512 .bf16 from iblk m c 5 t) (ix2 r j) = (argW m c) (ix2 i j) := by
  have h : (show Vec Ideal S128x512 .bf16 from V m c main_v7) (ix2 r j) = (argW m c) (ix2 i j) := by
    rw [V_wa]
    pointwise [wpad]
    rw [dif_pos (by omega)]
    exact congrArg (fun x => (argW m c) (ix2 x j)) (Fin.ext (by simp only []; omega))
  rw [← h]
  blk_ext [iblk, idx t]

theorem ba_at (c : Dev nD) (t : Fin cfg0.N) (j : Fin 512) :
    (show Vec Ideal S1x512 .f32 from iblk m c 6 t) (ix2 0 j) = (argB m c) (ix1 j) := by
  have h : (show Vec Ideal S1x512 .f32 from V m c main_v8) (ix2 0 j) = (argB m c) (ix1 j) := by
    rw [V_ba]
    pointwise
  rw [← h]
  blk_ext [iblk, idx t]

end Cert.GlaPrompt
-- ==== Proof.GlpArr.lean ====
module

public import proofs.«01_k».proof.Proof.GlpPoint
public import proofs.«01_k».proof.Proof.GlpRead
public import proofs.«01_k».proof.Proof.Scalar

@[expose] public section

set_option maxRecDepth 16384

noncomputable section

namespace Cert.GlaPrompt

open Cert.Kernel10Ideal Cert.Kernel10Ideal.Gen Idealize.ShloMosaic Idealize.ShloMosaic.TcCoe Idealize.SL.Sem
open Idealize.ShloMosaic.Pipeline (Dat)

/-- A head's key channel among all heads'. -/
abbrev chan (h : Fin 4) (d : Fin 128) : Fin 512 := ⟨128 * h.val + d.val, by omega⟩
/-- A head's value column among all heads'. -/
abbrev vcol (h : Fin 4) (j : Fin 256) : Fin 1024 := ⟨256 * h.val + j.val, by omega⟩

variable (p : Vec Ideal S16x2048x3088 .f32) (w : Vec Ideal S16x512 .f32) (d : Vec Ideal S512 .f32)

/-- The gate before its log-logistic. -/
def gate (b : Fin 16) (τ : Fin 2048) (i : Fin 512) : EReal :=
  ∑ r : Fin 16, p (ix3 b τ ⟨2048 + r.val, by omega⟩) * w (ix2 r i) + d (ix1 i)

/-- The logarithm of a token's decay. -/
def logdec (b : Fin 16) (τ : Fin 2048) (i : Fin 512) : EReal := Scalar.logsig (gate p w d b τ i) * Ideal.ofBits .f32 0x3D800000#32

/-- The logarithms of a prompt's decays, as real numbers. -/
def decays (b : Fin 16) (i : Fin 512) (n : ℕ) : ℝ := if h : n < 2048 then (logdec p w d b ⟨n, h⟩ i).toReal else 0

/-- A prompt's keys in one channel. -/
def keys (b : Fin 16) (i : Fin 512) (n : ℕ) : EReal := if h : n < 2048 then p (ix3 b ⟨n, h⟩ ⟨512 + i.val, by omega⟩) else 0

/-- A prompt's values in one column. -/
def vals (b : Fin 16) (j : Fin 1024) (n : ℕ) : EReal := if h : n < 2048 then p (ix3 b ⟨n, h⟩ ⟨1024 + j.val, by omega⟩) else 0

/-- The state after `n` tokens of a prompt. -/
def stateAt (b : Fin 16) (h : Fin 4) (k : Fin 128) (j : Fin 256) (n : ℕ) : EReal :=
  closed (decays p w d b (chan h k)) (keys p b (chan h k)) (vals p b (vcol h j)) n

/-- The state after the whole prompt. -/
def stateG : Vec Ideal S16x4x128x256 .f32 := fun y => stateAt p w d (y 0) (y 1) (y 2) (y 3) 2048

/-- The arguments the claim is about: every gate is a real number. -/
structure Reals : Prop where
  p : ∀ (b : Fin 16) (τ : Fin 2048) (r : Fin 16), Scalar.IsReal (p (ix3 b τ ⟨2048 + r.val, by omega⟩))
  w : ∀ i, Scalar.IsReal (w i)
  d : ∀ i, Scalar.IsReal (d i)

variable {p w d}

theorem Reals.isReal (r : Reals p w d) (b : Fin 16) (τ : Fin 2048) (i : Fin 512) : Scalar.IsReal (logdec p w d b τ i) :=
  (((Scalar.IsReal.sum _ fun _ => (r.p _ _ _).mul (r.w _)).add (r.d _)).logsig).mul ⟨_, Scalar.sixteenth_lit⟩

theorem Reals.coe (r : Reals p w d) (b : Fin 16) (i : Fin 512) (τ : Fin 2048) : logdec p w d b τ i = (decays p w d b i τ.val : EReal) := by
  obtain ⟨x, hx⟩ := r.isReal b τ i
  unfold decays
  rw [dif_pos τ.isLt]
  show _ = (((logdec p w d b τ i).toReal : ℝ) : EReal)
  rw [hx, EReal.toReal_coe]

/-- Only the first sixteen of the gate's 128 products are not zero. -/
theorem sum_first {f : Fin 128 → EReal} {e : Fin 16 → EReal} (h : ∀ (k : Fin 128) (r : Fin 16), r.val = k → f k = e r)
    (h0 : ∀ k : Fin 128, 16 ≤ k.val → f k = 0) : ∑ k, f k = ∑ r, e r := by
  rw [show (∑ k, f k) = ∑ k : Fin (16 + 112), f k from rfl, Fin.sum_univ_add,
    Finset.sum_eq_zero (f := fun i : Fin 112 => f (Fin.natAdd 16 i)) (fun i _ => h0 _ (by simp)), add_zero]
  exact Finset.sum_congr rfl fun r _ => h _ r rfl

variable (m : (ℓ : Loc nD τ sig) → Buf (Elt Ideal) ℓ)

theorem pt_keys (c : Dev nD) (t : Fin cfg0.N) (b : Fin 16) (q : ℕ) (hq : q < 4) (ht : t.val = 4 * b.val + q) (x : Fin 512) (i : Fin 512) :
    (show Vec Ideal S512x512 .f32 from X0_1 m c t) (ix2 x i) = keys (argP m c) b i (512 * q + x.val) := by
  unfold keys
  rw [dif_pos (by omega)]
  exact k_at m c t b x _ (by simp only []; omega) i _ rfl

theorem pt_vals (c : Dev nD) (t : Fin cfg0.N) (b : Fin 16) (q : ℕ) (hq : q < 4) (ht : t.val = 4 * b.val + q) (x : Fin 512) (i : Fin 1024) :
    (show Vec Ideal S512x1024 .f32 from X0_2 m c t) (ix2 x i) = vals (argP m c) b i (512 * q + x.val) := by
  unfold vals
  rw [dif_pos (by omega)]
  exact v_at m c t b x _ (by simp only []; omega) i _ rfl

theorem pt_decays (c : Dev nD) (r : Reals (argP m c) (argW m c) (argB m c)) (t : Fin cfg0.N) (b : Fin 16) (q : ℕ) (hq : q < 4) (ht : t.val = 4 * b.val + q)
    (x : Fin 512) (i : Fin 512) :
    Scalar.logsig (∑ y : Fin 128, (show Vec Ideal S512x128 .f32 from iblk m c 4 t) (ix2 x y) * (show Vec Ideal S128x512 .bf16 from iblk m c 5 t) (ix2 y i)
      + (show Vec Ideal S1x512 .f32 from iblk m c 6 t) (ix2 0 i)) * Ideal.ofBits .f32 0x3D800000#32
      = (decays (argP m c) (argW m c) (argB m c) b i (512 * q + x.val) : EReal) := by
  refine Eq.trans ?_ (r.coe b i ⟨512 * q + x.val, by omega⟩)
  unfold logdec gate
  refine congrArg (fun z => Scalar.logsig z * _) (congrArg₂ (· + ·) (sum_first (fun y r hr => ?_) fun y hy => ?_) (ba_at m c t i))
  · rw [a_at m c t b x ⟨512 * q + x.val, by omega⟩ (by simp only []; omega) y ⟨2048 + r.val, by omega⟩ (by omega) (by simp only []; omega),
      wa_at m c t y r i hr]
  · rw [a_pad m c t x y hy, zero_mul]

/-- The scratch holds the state after the grid point's tokens. -/
theorem scratch_at (c : Dev nD) (r : Reals (argP m c) (argW m c) (argB m c)) (b : Fin 16) (h : Fin 4) (k : Fin 128) (j : Fin 256) (q : ℕ) (hq : q < 4) :
    ∀ (n : ℕ) (hn : n < cfg0.N), n = 4 * b.val + q →
      (outsAt0 m c n hn).2.2 (ix3 h j k) = stateAt (argP m c) (argW m c) (argB m c) b h k j (512 * q + 512) := by
  induction q with
  | zero =>
    intro n hn e
    refine (congrArg (fun z => z.2.2 (ix3 h j k)) (outsAt0_A m c ⟨n, hn⟩ (by simp only []; omega) (by simp only []; omega))).trans ?_
    exact sout_A _ _ _ _ _ _ _ _ _ _ _ _ _ _ _ _ _ _ _ _ _ _ _ _ _ _ _ _ _ _ _ _ h j k _ _ _ (512 * 0)
      (fun x => pt_keys m c ⟨n, hn⟩ b 0 hq e x (chan h k)) (fun x => pt_vals m c ⟨n, hn⟩ b 0 hq e x (vcol h j))
      (fun x => pt_decays m c r ⟨n, hn⟩ b 0 hq e x (chan h k)) rfl
  | succ q ih =>
    intro n hn e
    have hp := ih (by omega) (n - 1) (Nat.lt_of_le_of_lt (Nat.sub_le _ _) hn) (by omega)
    by_cases h3 : q + 1 = 3
    · refine (congrArg (fun z => z.2.2 (ix3 h j k)) (outsAt0_C m c ⟨n, hn⟩ (by simp only []; omega) (by simp only []; omega))).trans ?_
      exact sout_C _ _ _ _ _ _ _ _ _ _ _ _ _ _ _ _ _ _ _ _ _ _ _ _ _ _ _ _ _ _ _ _ _ h j k _ _ _ (512 * (q + 1))
        (fun x => pt_keys m c ⟨n, hn⟩ b (q + 1) hq e x (chan h k)) (fun x => pt_vals m c ⟨n, hn⟩ b (q + 1) hq e x (vcol h j))
        (fun x => pt_decays m c r ⟨n, hn⟩ b (q + 1) hq e x (chan h k)) hp
    · refine (congrArg (fun z => z.2.2 (ix3 h j k)) (outsAt0_B m c ⟨n, hn⟩ (by simp only []; omega) (by simp only []; omega))).trans ?_
      exact sout_B _ _ _ _ _ _ _ _ _ _ _ _ _ _ _ _ _ _ _ _ _ _ _ _ _ _ _ _ _ _ _ _ _ h j k _ _ _ (512 * (q + 1))
        (fun x => pt_keys m c ⟨n, hn⟩ b (q + 1) hq e x (chan h k)) (fun x => pt_vals m c ⟨n, hn⟩ b (q + 1) hq e x (vcol h j))
        (fun x => pt_decays m c r ⟨n, hn⟩ b (q + 1) hq e x (chan h k)) hp

/-- A prompt's last grid point writes its state out. -/
theorem state_at (c : Dev nD) (r : Reals (argP m c) (argW m c) (argB m c)) (b : Fin 16) (h : Fin 4) (k : Fin 128) (j : Fin 256)
    (t : Fin cfg0.N) (e : t.val = 4 * b.val + 3) :
    (outsAt0 m c t.val t.isLt).2.1 (ix4 0 h k j) = stateAt (argP m c) (argW m c) (argB m c) b h k j 2048 := by
  have hp := scratch_at m c r b h k j 2 (by omega) (t.val - 1) (Nat.lt_of_le_of_lt (Nat.sub_le _ _) t.isLt) (by omega)
  have e1 := congrArg (fun z => z.2.1) (outsAt0_C m c t (by omega) (by omega))
  dsimp only at e1
  rw [e1]
  exact out_C _ _ _ _ _ _ _ _ _ _ _ _ _ _ _ _ _ _ _ _ _ _ _ _ _ _ _ _ _ _ _ _ _ h j k _ _ _ (512 * 3)
    (fun x => pt_keys m c t b 3 (by omega) e x (chan h k)) (fun x => pt_vals m c t b 3 (by omega) e x (vcol h j))
    (fun x => pt_decays m c r t b 3 (by omega) e x (chan h k)) hp

theorem emb9 (G : Vec Ideal S16x4x128x256 .f32) (t : Fin cfg0.N) (b : Fin 16) (e : b.val = t.val / 4) (z : Fin 1) (h : Fin 4) (k : Fin 128) (j : Fin 256) :
    G ((win0_9.blk t).view.emb (ix4 z h k j)) = G (ix4 b h k j) := by
  blk_ext [idx t]

theorem state_arr (c : Dev nD) (r : Reals (argP m c) (argW m c) (argB m c)) :
    (dats m 0 c).arrAt 9 cfg0.N = stateG (argP m c) (argW m c) (argB m c) := by
  refine (dats m 0 c).arrAt_eq_of_covers 9 _ (by decide +kernel) fun t hf y => ?_
  have ht := (idx t).1
  have h3 : t.val % 4 = 3 := (by decide +kernel : ∀ t : Fin cfg0.N, (cfg0.win 9).flush t = true → t.val % 4 = 3) t hf
  blk_simp
  rw [after0_9]
  have key : ∀ y : S1x4x128x256.Idx, (outsAt0 m c t.val t.isLt).2.1 y
      = stateG (argP m c) (argW m c) (argB m c) ((win0_9.blk t).view.emb y) := by
    intro y
    obtain ⟨z, h, k, j, rfl⟩ : ∃ z h k j, y = ix4 z h k j := ⟨y 0, y 1, y 2, y 3, by funext a; fin_cases a <;> rfl⟩
    obtain rfl : z = 0 := Subsingleton.elim _ _
    exact (state_at m c r ⟨t.val / 4, by omega⟩ h k j t (by simp only []; omega)).trans (emb9 (stateG (argP m c) (argW m c) (argB m c)) t ⟨t.val / 4, by omega⟩ rfl 0 h k j).symm
  exact key y

end Cert.GlaPrompt
-- ==== Proof.RunSum.lean ====
module

public import Idealize.ShloMosaic.Lib.Pointwise
public import Idealize.ShloMosaic.Lib.Claim

@[expose] public section

set_option maxRecDepth 16384

noncomputable section

namespace Cert.RunSum

open Idealize.ShloMosaic

theorem foldl_sum {α : Type} (g : α → EReal) (l : List α) (v : EReal) : l.foldl (fun r i => r + g i) v = v + (l.map g).sum := by
  induction l generalizing v with
  | nil => simp
  | cons a l ih => rw [List.foldl_cons, ih, List.map_cons, List.sum_cons, add_assoc]

/-- The places of a window along the second of four axes. -/
def places (N : ℕ) : Fin N ≃ (⟨4, ![1, N, 1, 1]⟩ : Shape).Idx where
  toFun n := ix4 (0 : Fin 1) n (0 : Fin 1) (0 : Fin 1)
  invFun i := i 1
  left_inv _ := rfl
  right_inv i := by
    funext a
    fin_cases a
    · exact Subsingleton.elim (α := Fin 1) _ _
    · rfl
    · exact Subsingleton.elim (α := Fin 1) _ _
    · exact Subsingleton.elim (α := Fin 1) _ _

theorem places_val (N : ℕ) (n : Fin N) (i : Fin 4) : ((places N n) i).val = ![0, n.val, 0, 0] i := by
  fin_cases i <;> rfl

/-- A sum over a window as long as the second axis, padded in front, is its initial value plus what the window holds. -/
theorem window_sum {n0 L n2 n3 : ℕ} (x : FVec Ideal ⟨4, ![n0, L + 1, n2, n3]⟩ .f32) (init : FVec Ideal ⟨0, ![]⟩ .f32) (h) (hu)
    (a : Fin n0) (τ : Fin (L + 1)) (b : Fin n2) (e : Fin n3) :
    Host.reduceWindowAdd (s := ⟨4, ![n0, L + 1, n2, n3]⟩) (t := ⟨4, ![n0, L + 1, n2, n3]⟩) ![1, L + 1, 1, 1] ![1, 1, 1, 1] ![0, L, 0, 0] ![0, 0, 0, 0]
        x init h hu (ix4 a τ b e)
      = init (Shape.Idx.first hu) + ∑ n : Fin (L + 1), if hn : L ≤ τ.val + n.val then x (ix4 a ⟨τ.val + n.val - L, by omega⟩ b e) else init (Shape.Idx.first hu) := by
  show Host.reduceWindow (s := ⟨4, ![n0, L + 1, n2, n3]⟩) (t := ⟨4, ![n0, L + 1, n2, n3]⟩) (u := ⟨0, ![]⟩) (fun a b : EReal => a + b) ![1, L + 1, 1, 1] ![1, 1, 1, 1]
    ![0, L, 0, 0] ![0, 0, 0, 0] x (fun _ => init (Shape.Idx.first hu)) h hu (ix4 a τ b e) = _
  unfold Host.reduceWindow
  refine (foldl_sum _ _ _).trans ?_
  rw [← Fin.sum_univ_def]
  refine congrArg _ ?_
  refine ((Fintype.sum_equiv ((places (L + 1)).trans (⟨4, ![1, L + 1, 1, 1]⟩ : Shape).rowMajor) _ _ fun n => ?_).symm)
  simp only [Equiv.trans_apply, Equiv.symm_apply_apply]
  by_cases hn : L ≤ τ.val + n.val
  · rw [dif_pos hn, dif_pos]
    · refine congrArg x (funext fun i => Fin.ext ?_)
      fin_cases i <;> simp [places_val, ix4]
    · intro i
      have h0 := a.isLt; have h1 := τ.isLt; have h2 := b.isLt; have h3 := e.isLt; have h4 := n.isLt
      fin_cases i <;> simp [places_val, ix4] <;> omega
  · rw [dif_neg hn, dif_neg]
    intro hi
    have := (hi 1).1
    simp [places_val, ix4] at this
    omega

/-- A running sum of real numbers. -/
theorem sum_run (L : ℕ) (γ : ℕ → ℝ) (τ : Fin (L + 1)) :
    (∑ n : Fin (L + 1), if L ≤ τ.val + n.val then γ (τ.val + n.val - L) else 0) = ∑ i ∈ Finset.range (τ.val + 1), γ i := by
  obtain ⟨τ, ht⟩ := τ
  dsimp only
  rw [← Finset.sum_range (fun n => if L ≤ τ + n then γ (τ + n - L) else 0), show L + 1 = (L - τ) + (τ + 1) by omega, Finset.sum_range_add,
    Finset.sum_eq_zero, zero_add]
  · refine Finset.sum_congr rfl fun i _ => ?_
    rw [if_pos (by omega)]
    congr 1
    omega
  · intro i hi
    have := Finset.mem_range.mp hi
    rw [if_neg (by omega)]

end Cert.RunSum
-- ==== Proof.GlpRef.lean ====
module

public import proofs.«01_k».proof.Proof.Gen.Reference10Ideal.Run
public import proofs.«01_k».proof.Proof.Gen.Reference10Ideal.Read
public import proofs.«01_k».proof.Proof.GlpArr
public import proofs.«01_k».proof.Proof.RunSum
public import proofs.«01_k».proof.Proof.Scalar

@[expose] public section

set_option maxRecDepth 16384

noncomputable section

namespace Cert.GlaPrompt

open Cert.Reference10Ideal Cert.Reference10Ideal.Gen Cert.Reference10Ideal.Read Idealize.ShloMosaic Idealize.ShloMosaic.TcCoe Idealize.SL.Sem

variable (p : Vec Ideal S16x2048x3088 .f32) (w : Vec Ideal S16x512 .f32) (d : Vec Ideal S512 .f32)

theorem ref_gate (b : Fin 16) (τ : Fin 2048) (i : Fin 512) : val_main_v8 (F := Ideal) p w d (ix3 b τ i) = gate p w d b τ i := by
  unfold gate
  pointwise [val_main_v8, val_main_v7, val_main_v6, val_main_v5, val_main_v4]

theorem ref_log (b : Fin 16) (τ : Fin 2048) (h : Fin 4) (k : Fin 128) :
    val_main_v12 (F := Ideal) p w d (ix4 b τ h k) = logdec p w d b τ (chan h k) := by
  pointwise [val_main_v12, val_main_v11, val_main_v10, val_main_v9, val_main_call0_v1, val_main_call0_call0_v11, val_main_call0_call0_v10,
    val_main_call0_call0_v9, val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_v0, val_main_call0_call0_cst,
    val_main_cst, ref_gate]
  rw [if_neg (by simp)]
  refine (Scalar.logsig_eq _).trans ?_
  unfold logdec
  exact congrArg (fun i => Scalar.logsig (gate p w d b τ i) * Ideal.ofBits .f32 0x3D800000#32) (Fin.ext (by simp only []; omega))

theorem ref_k (b : Fin 16) (τ : Fin 2048) (h : Fin 4) (k : Fin 128) :
    val_main_v1 (F := Ideal) p (ix4 b τ h k) = keys p b (chan h k) τ.val := by
  unfold keys
  rw [dif_pos τ.isLt]
  pointwise [val_main_v1, val_main_v0]
  exact congrArg (fun i => p (ix3 b τ i)) (Fin.ext (by simp only []; omega))

theorem ref_v (b : Fin 16) (τ : Fin 2048) (h : Fin 4) (j : Fin 256) :
    val_main_v3 (F := Ideal) p (ix4 b τ h j) = vals p b (vcol h j) τ.val := by
  unfold vals
  rw [dif_pos τ.isLt]
  pointwise [val_main_v3, val_main_v2]
  exact congrArg (fun i => p (ix3 b τ i)) (Fin.ext (by simp only []; omega))

variable {p w d}

theorem cum_zero : val_main_call1_call0_v0 (F := Ideal) (Shape.Idx.first h_S_) = ((0 : ℝ) : EReal) := by
  pointwise [val_main_call1_call0_v0, val_main_call1_call0_cst]
  rw [EReal.coe_zero]

/-- The running sum of real numbers over a prompt. -/
theorem cum_real (x : FVec Ideal S16x2048x4x128 .f32) (init : FVec Ideal S_ .f32) (hr) (hu) (γ : ℕ → ℝ) (b : Fin 16) (h : Fin 4) (k : Fin 128)
    (hz : init (Shape.Idx.first hu) = ((0 : ℝ) : EReal)) (hx : ∀ τ : Fin (2047 + 1), x (ix4 b τ h k) = (γ τ.val : EReal)) (τ : Fin (2047 + 1)) :
    Host.reduceWindowAdd (s := S16x2048x4x128) (t := S16x2048x4x128) ![1, 2048, 1, 1] ![1, 1, 1, 1] ![0, 2047, 0, 0] ![0, 0, 0, 0] x init hr hu (ix4 b τ h k)
      = ((upto γ (τ.val + 1) : ℝ) : EReal) := by
  refine (Cert.RunSum.window_sum (n0 := 16) (L := 2047) (n2 := 4) (n3 := 128) x init hr hu b τ h k).trans ?_
  rw [hz, EReal.coe_zero, zero_add]
  unfold upto
  rw [← Cert.RunSum.sum_run 2047 γ τ, ← Scalar.coe_sum]
  refine Finset.sum_congr rfl fun n _ => ?_
  by_cases hn : 2047 ≤ τ.val + n.val
  · rw [dif_pos hn, if_pos hn]
    exact hx ⟨τ.val + n.val - 2047, by omega⟩
  · rw [dif_neg hn, if_neg hn, EReal.coe_zero]

/-- The running sum of a prompt's decays. -/
theorem ref_cum (r : Reals p w d) (b : Fin 16) (τ : Fin 2048) (h : Fin 4) (k : Fin 128) :
    val_main_v13 (F := Ideal) p w d (ix4 b τ h k) = ((upto (decays p w d b (chan h k)) (τ.val + 1) : ℝ) : EReal) := by
  unfold val_main_v13
  exact cum_real _ _ _ _ (decays p w d b (chan h k)) b h k cum_zero (fun τ => (ref_log p w d b τ h k).trans (r.coe b (chan h k) τ)) τ

theorem ref_term (r : Reals p w d) (b : Fin 16) (τ : Fin 2048) (h : Fin 4) (k : Fin 128) :
    val_main_v20 (F := Ideal) p w d (ix4 b τ h k) = keys p b (chan h k) τ.val
      * Ideal.exp ((upto (decays p w d b (chan h k)) 2048 - upto (decays p w d b (chan h k)) (τ.val + 1) : ℝ) : EReal) := by
  pointwise [val_main_v20, val_main_v19, val_main_v18, val_main_v17, val_main_v16, val_main_v15, val_main_v14, ref_k]
  rw [ref_cum r, ref_cum r, ← EReal.coe_sub]
  rfl

theorem ref_state (r : Reals p w d) : val_main_v21 (F := Ideal) p w d = stateG p w d := by
  funext y
  obtain ⟨b, h, k, j, rfl⟩ : ∃ b h k j, y = ix4 b h k j := ⟨y 0, y 1, y 2, y 3, by funext a; fin_cases a <;> rfl⟩
  show _ = stateAt p w d b h k j 2048
  unfold stateAt closed
  rw [← Fin.sum_univ_eq_sum_range (fun i => vals p b (vcol h j) i * (keys p b (chan h k) i
    * Ideal.exp ((upto (decays p w d b (chan h k)) 2048 - upto (decays p w d b (chan h k)) (i + 1) : ℝ) : EReal)))]
  pointwise [val_main_v21]
  refine Finset.sum_congr rfl fun τ _ => ?_
  rw [ref_term r, ref_v, mul_comm]

end Cert.GlaPrompt
-- ==== Proof.GlpClaim.lean ====
module

public import proofs.«01_k».proof.Defs
public import proofs.«01_k».proof.Proof.Gen.Pre_gla_gate_finite
public import proofs.«01_k».proof.Proof.Gen.Reference10Ideal
public import proofs.«01_k».proof.Proof.GlpRef
public import proofs.«01_k».proof.Proof.Finite
public import Idealize.ShloMosaic.Lib.Claim

@[expose] public section

set_option maxRecDepth 16384

noncomputable section

namespace Cert.GlaPrompt

open Idealize.ShloMosaic Idealize.ShloMosaic.TcCoe Idealize.SL.Sem

variable (m : (ℓ : Loc Cert.Kernel10Ideal.nD Cert.Kernel10Ideal.τ Cert.Kernel10Ideal.sig) → Buf (Elt Ideal) ℓ)

instance : Subsingleton Cert.Pre_gla_gate_finite.S_.Idx := ⟨fun a b => funext fun i => i.elim0⟩

/-- What the precondition says of the arguments. -/
theorem reals (hpre : Cert.Pre_Kernel10Ideal_gla_gate_finite m) (c : Dev Cert.Kernel10Ideal.nD) : Reals (argP m c) (argW m c) (argB m c) := by
  have h0 := congrFun (hpre c) (fun i => i.elim0)
  obtain ⟨h1, hd⟩ := Scalar.and_one h0
  obtain ⟨hp, hw⟩ := Scalar.and_one h1
  refine ⟨fun b τ r => ?_, fun i => ?_, fun i => ?_⟩
  · have := Scalar.isReal_of_all _ _ _ _ _ _ _ hp (ix3 b τ r)
    refine cast (congrArg Scalar.IsReal ?_) this
    pointwise []
  · exact Scalar.isReal_of_all _ _ _ _ _ _ _ hw i
  · exact Scalar.isReal_of_all _ _ _ _ _ _ _ hd i

theorem algebraic : Cert.algebraic_Kernel10Ideal_Reference10Ideal_pre_gla_gate_finite := by
  pair_intro
  · run_from Cert.Kernel10Ideal.Gen.run_main m g
    · exact Cert.Kernel10Ideal.Gen.V_main_arg0 m c
    · exact Cert.Kernel10Ideal.Gen.V_main_arg1 m c
    · exact Cert.Kernel10Ideal.Gen.V_main_arg2 m c
    · exact Cert.Kernel10Ideal.Gen.V_main_arg3 m c
  · refine θ_run_mono (Cert.Reference10Ideal.Value.run m' g') fun r h c => ⟨(h c).1.trans ?_, (h c).2⟩
    refine (Cert.Reference10Ideal.Read.val_main_v21_eq (F := Ideal) m' c).trans ?_
    rw [(hagree c).1, (hagree c).2.1, (hagree c).2.2.1]
    exact (ref_state (reals m hpre c)).trans (state_arr m c (reals m hpre c)).symm

end Cert.GlaPrompt
-- ==== Proof.GlpBits.lean ====
module

public import proofs.«01_k».proof.Defs
public import proofs.«01_k».proof.Proof.Gen.Kernel10
public import proofs.«01_k».proof.Proof.GlpFrame
public import Idealize.ShloMosaic.Lib.Claim

@[expose] public section

set_option maxRecDepth 16384

noncomputable section

namespace Cert.GlaPrompt

open Idealize.ShloMosaic Idealize.ShloMosaic.TcCoe Idealize.SL.Sem

/-- The two programs' kernel has one text. -/
theorem kernel_eq : Cert.Kernel10.cc0_gla_chunk (F := Bits) = Cert.Kernel10Ideal.cc0_gla_chunk (F := Bits) := rfl

theorem bodies_eq : Cert.Kernel10.defs₀ (F := Bits) = Cert.Kernel10Ideal.defs₀ (F := Bits) := by
  refine congrArg Defs.onTc (funext fun l => funext fun a => ?_)
  obtain rfl : l = 0 := Subsingleton.elim (α := Fin 1) _ _
  obtain ⟨t, s⟩ := a
  rfl

theorem table_eq : Cert.Kernel10.defs (F := Bits) = Cert.Kernel10Ideal.defs (F := Bits) :=
  congrArg (fun D => Pipeline.defs (Cert.Kernel10Ideal.pcfgs (F := Bits)) D) bodies_eq

/-- The kernel's frame is its ideal program's run over the machine's floats. -/
theorem frame_kernel10 : Cert.quiescent_Kernel10 := fun m ρ _ =>
  (congrArg (fun D => θ_run D _ _ _) table_eq).mpr (Cert.Kernel10Ideal.Gen.frame (F := Bits) m ρ)

end Cert.GlaPrompt
-- ==== Proof.HgpPieces.lean ====
module

public import proofs.«01_k».proof.Proof.Gen.Kernel11Ideal.Loops

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)

/-- What one trip stores does not depend on the old contents of the result's block. -/
theorem trip_free (k : Fin k0_t1_loop.trips) (f f' : BufTy.Contents (Elt F) arg8.view.ty) (g : BufTy.Contents (Elt F) arg10.view.ty) :
    tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 k f g = tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 k f' g := by
  unfold tripL_k0_t1 trip_k0_t1
  rfl

/-- Nor do the pieces of the trips so far. -/
theorem pb_free (f f' : BufTy.Contents (Elt F) arg8.view.ty) (g : BufTy.Contents (Elt F) arg10.view.ty) (n : ℕ) :
    pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 f g n = pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 f' g n := by
  induction n with
  | zero => rfl
  | succ n ih =>
    rw [pb_k0_t1.eq_2, pb_k0_t1.eq_2, ih]
    unfold pb_k0_t1Step
    split
    · rw [trip_free (F := F) (f' := arg8.view.writes (Elt F) f' (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 f' g n).1)]
    · rfl

end Cert.Kernel11Ideal.Gen

end
-- ==== Proof.HgpStep.lean ====
module

public import proofs.«01_k».proof.Proof.HgpPieces
public import proofs.«01_k».proof.Proof.GlpStep
public import proofs.«01_k».proof.Proof.GlpSum
public import proofs.«01_k».proof.Proof.HgrnArr
public import Idealize.ShloMosaic.Lib.Pointwise
public import Idealize.ShloMosaic.Lib.Claim

@[expose] public section

set_option maxRecDepth 16384

noncomputable section

namespace Cert.HgrnPrompt

open Cert.Kernel11Ideal Cert.Kernel11Ideal.Gen Idealize.ShloMosaic Idealize.ShloMosaic.TcCoe Idealize.SL.Sem
open Cert.GlaPrompt (closed upto)
open Cert.HgrnDecode (lgs peak bound)

/-- A forget gate `x` between its lower bound, of the logits `l`, and one. -/
def forget (l : Fin 2 → EReal) (x : EReal) : EReal := bound l + (1 - bound l) * lgs x

theorem step_at (k v s b : Vec Ideal S128x128 .f32) (j d : Fin 128) :
    k0_pay275 (F := Ideal) k v s b (ix3 0 j d)
      = s (ix2 j d) * Ideal.exp (b (ix2 127 d)) + ∑ t : Fin 128, v (ix2 t j) * (k (ix2 t d) * Ideal.exp (b (ix2 127 d) - b (ix2 t d))) := by
  pointwise [k0_pay275]

theorem forget_at (l : Vec Ideal S2x128 .f32) (f : Vec Ideal S128x128 .f32) (t d : Fin 128) :
    k0_pay8 (F := Ideal) l f (ix2 t d) = forget (fun x => l (ix2 x d)) (f (ix2 t d)) := by
  unfold forget bound peak lgs
  pointwise [k0_pay8]

/-- The running sums of real log gates over a chunk: the parts that rounding leaves over are zero. -/
theorem pre_at (g : Vec Ideal S128x128 .f32) (t d : Fin 128) (γ : Fin 128 → ℝ) (hg : ∀ x, Ideal.log (g (ix2 x d)) = (γ x : EReal)) :
    k0_pay12 (F := Ideal) g (ix2 t d) = ((∑ x : Fin 128, if x ≤ t then γ x else 0 : ℝ) : EReal) := by
  pointwise [k0_pay12]
  simp only [Cert.GlaPrompt.tri_at, hg, ← EReal.coe_sub, sub_self, EReal.coe_zero, sub_zero, mul_zero, Finset.sum_const_zero, add_zero]
  refine Eq.trans (Finset.sum_congr rfl fun x _ => ?_) (Scalar.coe_sum Finset.univ fun x : Fin 128 => if x ≤ t then γ x else 0)
  split
  · rw [one_mul]
  · rw [zero_mul, EReal.coe_zero]

/-- A head's chunk: the old state decayed by the chunk's gates, and every token's key and value decayed by the later ones'. -/
theorem head_at (l : Vec Ideal S2x128 .f32) (f v : Vec Ideal S128x128 .f32) (s : Vec Ideal S1x128x128 .f32)
    (j d : Fin 128) (γ : Fin 128 → ℝ) (hg : ∀ x, Ideal.log (forget (fun y => l (ix2 y d)) (f (ix2 x d))) = (γ x : EReal)) :
    k0_pay275 (F := Ideal) (k0_pay9 l f) (k0_pay10 v) (k0_pay11 s) (k0_pay12 (k0_pay8 l f)) (ix3 0 j d)
      = s (ix3 0 j d) * Ideal.exp ((∑ x : Fin 128, if x ≤ 127 then γ x else 0 : ℝ) : EReal)
        + ∑ t : Fin 128, v (ix2 t j) * ((1 - forget (fun y => l (ix2 y d)) (f (ix2 t d)))
          * Ideal.exp (((∑ x : Fin 128, if x ≤ 127 then γ x else 0) - (∑ x : Fin 128, if x ≤ t then γ x else 0) : ℝ) : EReal)) := by
  have hg' : ∀ x, Ideal.log (k0_pay8 (F := Ideal) l f (ix2 x d)) = (γ x : EReal) := fun x => by rw [forget_at]; exact hg x
  rw [step_at]
  simp only [pre_at _ _ d γ hg', ← EReal.coe_sub]
  have e9 : ∀ t, k0_pay9 (F := Ideal) l f (ix2 t d) = 1 - forget (fun y => l (ix2 y d)) (f (ix2 t d)) := fun t => by
    rw [← forget_at]
    generalize hz : k0_pay8 (F := Ideal) l f = z
    unfold k0_pay9
    rw [hz]
    pointwise
  have e10 : k0_pay10 (F := Ideal) v = v := by unfold k0_pay10; exact shapeCast_self _ _
  have e11 : k0_pay11 (F := Ideal) s (ix2 j d) = s (ix3 0 j d) := by pointwise [k0_pay11]
  simp only [e9, e10, e11]

end Cert.HgrnPrompt
-- ==== Proof.HgpTrip.lean ====
module

public import proofs.«01_k».proof.Proof.HgpStep
public import Idealize.ShloMosaic.Lib.WritesUnit
public import Idealize.ShloMosaic.Lib.VecWindow

@[expose] public section

set_option maxRecDepth 16384

noncomputable section

namespace Cert.HgrnPrompt

open Cert.Kernel11Ideal Cert.Kernel11Ideal.Gen Idealize.ShloMosaic Idealize.ShloMosaic.TcCoe Idealize.SL.Sem
open Cert.GlaPrompt (closed upto)
open Cert.HgrnDecode (lgs peak bound)

theorem trip_lt (k : Fin k0_t1_loop.trips) : k.val < 4 := lt_of_lt_of_eq k.isLt (by decide +kernel)

/-- The chunk of a head's columns that a trip reads starts at its own multiple of 128 rows. -/
theorem offs : ∀ k : Fin k0_t1_loop.trips, k0_off1 k = ![128 * k.val, 0] ∧ k0_off2 k = ![128 * k.val, 128] ∧ k0_off3 k = ![128 * k.val, 256]
    ∧ k0_off4 k = ![128 * k.val, 384] := by decide +kernel

theorem read_rows {R C r w : ℕ} {e' : EltTy} (v : View sig .tc .vmem ⟨2, ![R, C]⟩ e') (X : v.ty.Contents (Elt Ideal)) (off : Fin 2 → ℕ) (inb)
    (n b : ℕ) (e : off = ![n, b]) (x : Fin r) (y : Fin w) (X' : Fin R) (Y' : Fin C) (hx : X'.val = n + x.val) (hy : Y'.val = b + y.val) :
    v.readAt (Elt Ideal) (Rect.unit (s := ⟨2, ![R, C]⟩) off ![r, w] inb).toLoadRect X (ix2 x y) = v.read (Elt Ideal) X (ix2 X' Y') := by
  subst e
  refine congrArg (v.read (Elt Ideal) X) (funext fun a => Fin.ext ?_)
  fin_cases a
  · show n + 1 * x.val = X'.val; omega
  · show b + 1 * y.val = Y'.val; omega

theorem read_head (v : View sig .tc .vmem S4x128x128 .f32) (X : v.ty.Contents (Elt Ideal)) (off : Fin 3 → ℕ) (inb)
    (h : Fin 4) (e : off = ![h.val, 0, 0]) (j : Fin 128) (d : Fin 128) :
    v.readAt (Elt Ideal) (Rect.unit (s := S4x128x128) off S1x128x128.size inb).toLoadRect X (ix3 0 j d) = v.read (Elt Ideal) X (ix3 h j d) := by
  subst e
  refine congrArg (v.read (Elt Ideal) X) (funext fun a => Fin.ext ?_)
  fin_cases a
  · show h.val + 1 * 0 = h.val; omega
  · show 0 + 1 * j.val = j.val; omega
  · show 0 + 1 * d.val = d.val; omega

variable (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty)

/-- A token's forget gate in one channel, of the blocks' contents. -/
def fgt (h : Fin 4) (d : Fin 128) (t : Fin 512) : EReal :=
  forget (fun x => arg6.view.read (Elt Ideal) X_arg6 (ix2 x ⟨128 * h.val + d.val, by omega⟩)) (arg3.view.read (Elt Ideal) X_arg3 (ix2 t ⟨128 * h.val + d.val, by omega⟩))

/-- A token of a trip's chunk. -/
abbrev tok (k : Fin k0_t1_loop.trips) (t : Fin 128) : Fin 512 := ⟨128 * k.val + t.val, by have := trip_lt k; omega⟩

/-- What a head's state is after a trip, of the state `s` before it. -/
def headval (k : Fin k0_t1_loop.trips) (γ : Fin 128 → ℝ) (h : Fin 4) (j : Fin 128) (d : Fin 128) (s : EReal) : EReal :=
  s * Ideal.exp ((∑ x : Fin 128, if x ≤ 127 then γ x else 0 : ℝ) : EReal)
    + ∑ t : Fin 128, arg4.view.read (Elt Ideal) X_arg4 (ix2 (tok k t) ⟨128 * h.val + j.val, by omega⟩)
      * ((1 - fgt arg3 arg6 X_arg3 X_arg6 h d (tok k t))
        * Ideal.exp (((∑ x : Fin 128, if x ≤ 127 then γ x else 0) - (∑ x : Fin 128, if x ≤ t then γ x else 0) : ℝ) : EReal))

/-- A head's state after a trip, as stored. -/
def stored (g : BufTy.Contents (Elt Ideal) arg10.view.ty) (o ol : Fin 2 → ℕ) (o10 : Fin 3 → ℕ)
    (i3 : ∀ a, o a + S128x128.size a ≤ S512x512.size a) (il : ∀ a, ol a + S2x128.size a ≤ S2x512.size a)
    (i10 : ∀ a, o10 a + S1x128x128.size a ≤ S4x128x128.size a) : Vec Ideal S1x128x128 .f32 :=
  k0_pay275 (F := Ideal)
    (k0_pay9 (arg6.view.readAt (Elt Ideal) (Rect.unit (s := S2x512) ol S2x128.size il).toLoadRect X_arg6)
      (arg3.view.readAt (Elt Ideal) (Rect.unit (s := S512x512) o S128x128.size i3).toLoadRect X_arg3))
    (k0_pay10 (arg4.view.readAt (Elt Ideal) (Rect.unit (s := S512x512) o S128x128.size i3).toLoadRect X_arg4))
    (k0_pay11 (arg10.view.readAt (Elt Ideal) (Rect.unit (s := S4x128x128) o10 S1x128x128.size i10).toLoadRect g))
    (k0_pay12 (k0_pay8 (arg6.view.readAt (Elt Ideal) (Rect.unit (s := S2x512) ol S2x128.size il).toLoadRect X_arg6)
      (arg3.view.readAt (Elt Ideal) (Rect.unit (s := S512x512) o S128x128.size i3).toLoadRect X_arg3)))

theorem stored_at (k : Fin k0_t1_loop.trips) (g : BufTy.Contents (Elt Ideal) arg10.view.ty) (h : Fin 4) (j d : Fin 128) (γ : Fin 128 → ℝ)
    (hγ : ∀ x, Ideal.log (fgt arg3 arg6 X_arg3 X_arg6 h d (tok k x)) = (γ x : EReal))
    (o ol : Fin 2 → ℕ) (o10 : Fin 3 → ℕ) (i3 il i10) (e : o = ![128 * k.val, 128 * h.val]) (el : ol = ![0, 128 * h.val]) (e10 : o10 = ![h.val, 0, 0]) :
    stored arg3 arg4 arg6 arg10 X_arg3 X_arg4 X_arg6 g o ol o10 i3 il i10 (ix3 0 j d) = headval arg3 arg4 arg6 X_arg3 X_arg4 X_arg6 k γ h j d (arg10.view.read (Elt Ideal) g (ix3 h j d)) := by
  have hk := trip_lt k
  have hl : (fun y => arg6.view.readAt (Elt Ideal) (Rect.unit (s := S2x512) ol S2x128.size il).toLoadRect X_arg6 (ix2 y d))
      = fun y => arg6.view.read (Elt Ideal) X_arg6 (ix2 y ⟨128 * h.val + d.val, by omega⟩) :=
    funext fun y => read_rows arg6.view X_arg6 ol il _ _ el y d y ⟨128 * h.val + d.val, by omega⟩ (Nat.zero_add _).symm rfl
  have hf : ∀ x, forget (fun y => arg6.view.readAt (Elt Ideal) (Rect.unit (s := S2x512) ol S2x128.size il).toLoadRect X_arg6 (ix2 y d))
      (arg3.view.readAt (Elt Ideal) (Rect.unit (s := S512x512) o S128x128.size i3).toLoadRect X_arg3 (ix2 x d)) = fgt arg3 arg6 X_arg3 X_arg6 h d (tok k x) := fun x => by
    rw [hl, read_rows arg3.view X_arg3 o i3 _ _ e x d (tok k x) ⟨128 * h.val + d.val, by omega⟩ rfl rfl]
    rfl
  unfold stored
  refine (head_at _ _ _ _ j d γ fun x => (congrArg Ideal.log (hf x)).trans (hγ x)).trans ?_
  unfold headval
  rw [read_head arg10.view g o10 i10 h e10 j d]
  refine congrArg _ (Finset.sum_congr rfl fun t _ => ?_)
  rw [hf, read_rows arg4.view X_arg4 o i3 _ _ e t j (tok k t) ⟨128 * h.val + j.val, by omega⟩ rfl rfl]

set_option maxHeartbeats 2000000 in
theorem trip_pieces (k : Fin k0_t1_loop.trips) (f : BufTy.Contents (Elt Ideal) arg8.view.ty) (g : BufTy.Contents (Elt Ideal) arg10.view.ty) :
    (tripL_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 k f g).2 = [
      ⟨Rect.unit (s := S4x128x128) ![3, 0, 0] S1x128x128.size inb_S4x128x128_S1x128x128_3_0_0, stored arg3 arg4 arg6 arg10 X_arg3 X_arg4 X_arg6 g (k0_off4 k) ![0, 384] ![3, 0, 0] (k0_off4_inb k) inb_S2x512_S2x128_0_384 inb_S4x128x128_S1x128x128_3_0_0⟩,
      ⟨Rect.unit (s := S4x128x128) ![2, 0, 0] S1x128x128.size inb_S4x128x128_S1x128x128_2_0_0, stored arg3 arg4 arg6 arg10 X_arg3 X_arg4 X_arg6 g (k0_off3 k) ![0, 256] ![2, 0, 0] (k0_off3_inb k) inb_S2x512_S2x128_0_256 inb_S4x128x128_S1x128x128_2_0_0⟩,
      ⟨Rect.unit (s := S4x128x128) ![1, 0, 0] S1x128x128.size inb_S4x128x128_S1x128x128_1_0_0, stored arg3 arg4 arg6 arg10 X_arg3 X_arg4 X_arg6 g (k0_off2 k) ![0, 128] ![1, 0, 0] (k0_off2_inb k) inb_S2x512_S2x128_0_128 inb_S4x128x128_S1x128x128_1_0_0⟩,
      ⟨Rect.unit (s := S4x128x128) ![0, 0, 0] S1x128x128.size inb_S4x128x128_S1x128x128_0_0_0, stored arg3 arg4 arg6 arg10 X_arg3 X_arg4 X_arg6 g (k0_off1 k) ![0, 0] ![0, 0, 0] (k0_off1_inb k) inb_S2x512_S2x128_0_0 inb_S4x128x128_S1x128x128_0_0_0⟩] := by
  unfold tripL_k0_t1 trip_k0_t1
  rfl

/-- Reading a head back from the four heads' stores. -/
theorem read_heads (v : View sig .tc .vmem S4x128x128 .f32) (f' : v.ty.Contents (Elt Ideal)) (w3 w2 w1 w0 : Vec Ideal S1x128x128 .f32)
    (L : List (View.Piece (Elt Ideal) S4x128x128 .f32)) (h : Fin 4) (j : Fin 128) (d : Fin 128) :
    v.read (Elt Ideal) (v.writes (Elt Ideal) f' ([
      ⟨Rect.unit (s := S4x128x128) ![3, 0, 0] S1x128x128.size inb_S4x128x128_S1x128x128_3_0_0, w3⟩,
      ⟨Rect.unit (s := S4x128x128) ![2, 0, 0] S1x128x128.size inb_S4x128x128_S1x128x128_2_0_0, w2⟩,
      ⟨Rect.unit (s := S4x128x128) ![1, 0, 0] S1x128x128.size inb_S4x128x128_S1x128x128_1_0_0, w1⟩,
      ⟨Rect.unit (s := S4x128x128) ![0, 0, 0] S1x128x128.size inb_S4x128x128_S1x128x128_0_0_0, w0⟩] ++ L)) (ix3 h j d)
      = (![w0, w1, w2, w3] h) (ix3 0 j d) := by
  have mem : ∀ (h' : Fin 4) (a : Fin 3), ((ix3 h' j d : S4x128x128.Idx) a).val = (![h'.val, 0, 0] : Fin 3 → ℕ) a + ((ix3 0 j d : S1x128x128.Idx) a).val := by
    intro h' a
    fin_cases a
    · rfl
    · exact (Nat.zero_add _).symm
    · exact (Nat.zero_add _).symm
  have not3 := fun (h : Fin 4) (hh : h.val < 3) w L => View.read_writes_cons_unit_of_not_mem v f' inb_S4x128x128_S1x128x128_3_0_0 w L (ix3 h j d) rfl 0 (Or.inl hh)
  have not2 := fun (h : Fin 4) (hh : h.val < 2) w L => View.read_writes_cons_unit_of_not_mem v f' inb_S4x128x128_S1x128x128_2_0_0 w L (ix3 h j d) rfl 0 (Or.inl hh)
  have not1 := fun (h : Fin 4) (hh : h.val < 1) w L => View.read_writes_cons_unit_of_not_mem v f' inb_S4x128x128_S1x128x128_1_0_0 w L (ix3 h j d) rfl 0 (Or.inl hh)
  have hc : h = 0 ∨ h = 1 ∨ h = 2 ∨ h = 3 := by omega
  rcases hc with rfl | rfl | rfl | rfl
  · exact (not3 0 (by decide) _ _).trans ((not2 0 (by decide) _ _).trans ((not1 0 (by decide) _ _).trans
      (View.read_writes_cons_unit_of_mem v f' inb_S4x128x128_S1x128x128_0_0_0 _ _ (ix3 0 j d) (ix3 0 j d) rfl (mem 0))))
  · exact (not3 1 (by decide) _ _).trans ((not2 1 (by decide) _ _).trans
      (View.read_writes_cons_unit_of_mem v f' inb_S4x128x128_S1x128x128_1_0_0 _ _ (ix3 1 j d) (ix3 0 j d) rfl (mem 1)))
  · exact (not3 2 (by decide) _ _).trans
      (View.read_writes_cons_unit_of_mem v f' inb_S4x128x128_S1x128x128_2_0_0 _ _ (ix3 2 j d) (ix3 0 j d) rfl (mem 2))
  · exact View.read_writes_cons_unit_of_mem v f' inb_S4x128x128_S1x128x128_3_0_0 _ _ (ix3 3 j d) (ix3 0 j d) rfl (mem 3)

/-- The state that a trip leaves, over whatever was stored before. -/
theorem trip_read (k : Fin k0_t1_loop.trips) (f : BufTy.Contents (Elt Ideal) arg8.view.ty) (g f' : BufTy.Contents (Elt Ideal) arg10.view.ty)
    (L : List (View.Piece (Elt Ideal) S4x128x128 .f32)) (h : Fin 4) (j : Fin 128) (d : Fin 128) (γ : Fin 128 → ℝ)
    (hγ : ∀ x, Ideal.log (fgt arg3 arg6 X_arg3 X_arg6 h d (tok k x)) = (γ x : EReal)) :
    arg10.view.read (Elt Ideal) (arg10.view.writes (Elt Ideal) f' ((tripL_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 k f g).2 ++ L)) (ix3 h j d)
      = headval arg3 arg4 arg6 X_arg3 X_arg4 X_arg6 k γ h j d (arg10.view.read (Elt Ideal) g (ix3 h j d)) := by
  obtain ⟨o1, o2, o3, o4⟩ := offs k
  rw [trip_pieces, read_heads]
  have hc : h = 0 ∨ h = 1 ∨ h = 2 ∨ h = 3 := by omega
  rcases hc with rfl | rfl | rfl | rfl
  · exact stored_at arg3 arg4 arg6 arg10 X_arg3 X_arg4 X_arg6 k g 0 j d γ hγ _ _ _ _ _ _ o1 rfl rfl
  · exact stored_at arg3 arg4 arg6 arg10 X_arg3 X_arg4 X_arg6 k g 1 j d γ hγ _ _ _ _ _ _ o2 rfl rfl
  · exact stored_at arg3 arg4 arg6 arg10 X_arg3 X_arg4 X_arg6 k g 2 j d γ hγ _ _ _ _ _ _ o3 rfl rfl
  · exact stored_at arg3 arg4 arg6 arg10 X_arg3 X_arg4 X_arg6 k g 3 j d γ hγ _ _ _ _ _ _ o4 rfl rfl

end Cert.HgrnPrompt
-- ==== Proof.HgpLoop.lean ====
module

public import proofs.«01_k».proof.Proof.HgpTrip

@[expose] public section

set_option maxRecDepth 16384

noncomputable section

namespace Cert.HgrnPrompt

open Cert.Kernel11Ideal Cert.Kernel11Ideal.Gen Idealize.ShloMosaic Idealize.ShloMosaic.TcCoe Idealize.SL.Sem
open Cert.GlaPrompt (closed upto)
open Cert.HgrnDecode (lgs peak bound)

variable (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty)

/-- A trip takes the state after the tokens before its chunk to the state after its chunk. -/
theorem headval_closed (k : Fin k0_t1_loop.trips) (h : Fin 4) (j : Fin 128) (d : Fin 128) (γ : ℕ → ℝ) (κ ν : ℕ → EReal) (n₀ : ℕ)
    (hκ : ∀ t : Fin 512, 1 - fgt arg3 arg6 X_arg3 X_arg6 h d t = κ (n₀ + t.val))
    (hν : ∀ t : Fin 512, arg4.view.read (Elt Ideal) X_arg4 (ix2 t ⟨128 * h.val + j.val, by omega⟩) = ν (n₀ + t.val)) :
    headval arg3 arg4 arg6 X_arg3 X_arg4 X_arg6 k (fun x => γ (n₀ + 128 * k.val + x.val)) h j d (closed γ κ ν (n₀ + 128 * k.val))
      = closed γ κ ν (n₀ + 128 * (k.val + 1)) := by
  rw [show n₀ + 128 * (k.val + 1) = n₀ + 128 * k.val + 128 by ring, Cert.GlaPrompt.closed_add γ κ ν (n₀ + 128 * k.val) 128]
  unfold headval
  have e : ∀ t : Fin 128, (∑ x : Fin 128, if x ≤ t then γ (n₀ + 128 * k.val + x.val) else 0)
      = upto γ (n₀ + 128 * k.val + t.val + 1) - upto γ (n₀ + 128 * k.val) := fun t => Cert.GlaPrompt.upto_chunk γ (n₀ + 128 * k.val) 128 t
  have el := e 127
  rw [show n₀ + 128 * k.val + (127 : Fin 128).val + 1 = n₀ + 128 * k.val + 128 from rfl] at el
  rw [el]
  refine congrArg₂ (· + ·) rfl (Finset.sum_congr rfl fun t _ => ?_)
  beta_reduce
  rw [hν, hκ, e t, sub_sub_sub_cancel_right, Nat.add_assoc n₀ (128 * k.val) t.val]

/-- The state after `n` trips. -/
theorem trips_read (h : Fin 4) (j : Fin 128) (d : Fin 128) (γ : ℕ → ℝ) (κ ν : ℕ → EReal) (n₀ : ℕ)
    (hκ : ∀ t : Fin 512, 1 - fgt arg3 arg6 X_arg3 X_arg6 h d t = κ (n₀ + t.val))
    (hν : ∀ t : Fin 512, arg4.view.read (Elt Ideal) X_arg4 (ix2 t ⟨128 * h.val + j.val, by omega⟩) = ν (n₀ + t.val))
    (hγ : ∀ t : Fin 512, Ideal.log (fgt arg3 arg6 X_arg3 X_arg6 h d t) = (γ (n₀ + t.val) : EReal))
    (f : BufTy.Contents (Elt Ideal) arg8.view.ty) (G : BufTy.Contents (Elt Ideal) arg10.view.ty)
    (hG : arg10.view.read (Elt Ideal) G (ix3 h j d) = closed γ κ ν n₀) (n : ℕ) (hn : n ≤ k0_t1_loop.trips) :
    arg10.view.read (Elt Ideal) (arg10.view.writes (Elt Ideal) G (pb_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 f G n).2) (ix3 h j d) = closed γ κ ν (n₀ + 128 * n) := by
  induction n with
  | zero => exact hG
  | succ n ih =>
    have ih := ih (Nat.le_of_succ_le hn)
    have es := congrArg Prod.snd (pb_k0_t1_succ (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 f G ⟨n, hn⟩)
    refine (congrArg (fun L => arg10.view.read (Elt Ideal) (arg10.view.writes (Elt Ideal) G L) (ix3 h j d)) es).trans ?_
    refine (trip_read 𝒱 c bd i arg2 harg2 arg3 harg3 arg4 harg4 arg5 harg5 arg6 harg6 arg7 harg7 arg8 harg8 arg9 harg9 arg10 harg10 X_arg2 X_arg3 X_arg4 X_arg5 X_arg6 X_arg7 ⟨n, hn⟩ _ _ _ _ h j d (fun x => γ (n₀ + 128 * n + x.val)) (fun x => (hγ (tok ⟨n, hn⟩ x)).trans (by rw [Nat.add_assoc]))).trans ?_
    refine (congrArg (headval arg3 arg4 arg6 X_arg3 X_arg4 X_arg6 ⟨n, hn⟩ _ h j d) ih).trans ?_
    exact headval_closed arg3 arg4 arg6 X_arg3 X_arg4 X_arg6 ⟨n, hn⟩ h j d γ κ ν n₀ hκ hν

/-- The state after the loop, over whatever was stored before. -/
theorem loop_read (h : Fin 4) (j : Fin 128) (d : Fin 128) (γ : ℕ → ℝ) (κ ν : ℕ → EReal) (n₀ : ℕ)
    (hκ : ∀ t : Fin 512, 1 - fgt arg3 arg6 X_arg3 X_arg6 h d t = κ (n₀ + t.val))
    (hν : ∀ t : Fin 512, arg4.view.read (Elt Ideal) X_arg4 (ix2 t ⟨128 * h.val + j.val, by omega⟩) = ν (n₀ + t.val))
    (hγ : ∀ t : Fin 512, Ideal.log (fgt arg3 arg6 X_arg3 X_arg6 h d t) = (γ (n₀ + t.val) : EReal))
    (f : BufTy.Contents (Elt Ideal) arg8.view.ty) (G f' : BufTy.Contents (Elt Ideal) arg10.view.ty)
    (L : List (View.Piece (Elt Ideal) S4x128x128 .f32))
    (hG : arg10.view.read (Elt Ideal) G (ix3 h j d) = closed γ κ ν n₀) :
    arg10.view.read (Elt Ideal) (arg10.view.writes (Elt Ideal) f' ((pb_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 f G k0_t1_loop.trips).2 ++ L)) (ix3 h j d) = closed γ κ ν (n₀ + 512) := by
  have h3 : 3 < k0_t1_loop.trips := by decide +kernel
  have e4 : k0_t1_loop.trips = 3 + 1 := by decide +kernel
  have ih := trips_read 𝒱 c bd i arg2 harg2 arg3 harg3 arg4 harg4 arg5 harg5 arg6 harg6 arg7 harg7 arg8 harg8 arg9 harg9 arg10 harg10 X_arg2 X_arg3 X_arg4 X_arg5 X_arg6 X_arg7 h j d γ κ ν n₀ hκ hν hγ f G hG 3 h3.le
  have es := congrArg Prod.snd (pb_k0_t1_succ (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 f G ⟨3, h3⟩)
  have es' : (pb_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 f G k0_t1_loop.trips).2 = _ := (congrArg (fun n => (pb_k0_t1 (F := Ideal) 𝒱 c bd i arg2 harg2 arg3 harg3 arg4 harg4 arg5 harg5 arg6 harg6 arg7 harg7 arg8 harg8 arg9 harg9 arg10 harg10 X_arg2 X_arg3 X_arg4 X_arg5 X_arg6 X_arg7 f G n).2) e4).trans es
  rw [es', List.append_assoc]
  refine (trip_read 𝒱 c bd i arg2 harg2 arg3 harg3 arg4 harg4 arg5 harg5 arg6 harg6 arg7 harg7 arg8 harg8 arg9 harg9 arg10 harg10 X_arg2 X_arg3 X_arg4 X_arg5 X_arg6 X_arg7 ⟨3, h3⟩ _ _ _ _ h j d (fun x => γ (n₀ + 128 * 3 + x.val)) (fun x => (hγ (tok ⟨3, h3⟩ x)).trans (by rw [Nat.add_assoc]))).trans ?_
  refine (congrArg (headval arg3 arg4 arg6 X_arg3 X_arg4 X_arg6 ⟨3, h3⟩ _ h j d) ih).trans ?_
  exact headval_closed arg3 arg4 arg6 X_arg3 X_arg4 X_arg6 ⟨3, h3⟩ h j d γ κ ν n₀ hκ hν

end Cert.HgrnPrompt
-- ==== Proof.HgpRunA.lean ====
module

public import proofs.«01_k».proof.Proof.Gen.Kernel11Ideal.Frame.Runs
public import proofs.«01_k».proof.Proof.HgpPieces

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body in its case A (first step of a row: the state starts at zero): the pieces it stores, with its run. The piece lists are
    stated over arbitrary old contents of the result's block, on which they do not depend. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) :
    Σ' (L6 : List (View.Piece (Elt F) S512x512 .bf16)), Σ' (L7 : List (View.Piece (Elt F) S1x4x128x128 .f32)), { LS0 : List (View.Piece (Elt F) S4x128x128 .f32) //
      ∀ (xi7 : Vec F S1x4x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0_hgrn_chunk i arg2 harg2 arg3 harg3 arg4 harg4 arg5 harg5 arg6 harg6 arg7 harg7 arg8 harg8 arg9 harg9 arg10 harg10) K } := by
  refine ⟨?_, [], ?_, fun xi7 E K => ?run⟩
  case run =>
    simp only [cc0_hgrn_chunk_eq_skeleton]; unfold cc0_hgrn_chunk_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [pb_free (F := F) (f := f6) (f' := arg8.view.junk)]
    isplitl [H6]; · iexists _; iexact H6
    isplitl [H7]
    · iexists _; isplitr; · ipureintro; exact harg9.read_unread _
      iexact H7
    iexists _; iexact HS0

end Cert.Kernel11Ideal.Gen

end
-- ==== Proof.HgpRunB.lean ====
module

public import proofs.«01_k».proof.Proof.HgpRunA

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body in its case B (middle step of a row): the pieces it stores, with its run. The piece lists are
    stated over arbitrary old contents of the result's block, on which they do not depend. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) :
    Σ' (L6 : List (View.Piece (Elt F) S512x512 .bf16)), Σ' (L7 : List (View.Piece (Elt F) S1x4x128x128 .f32)), { LS0 : List (View.Piece (Elt F) S4x128x128 .f32) //
      ∀ (xi7 : Vec F S1x4x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0_hgrn_chunk i arg2 harg2 arg3 harg3 arg4 harg4 arg5 harg5 arg6 harg6 arg7 harg7 arg8 harg8 arg9 harg9 arg10 harg10) K } := by
  refine ⟨?_, [], ?_, fun xi7 E K => ?run⟩
  case run =>
    simp only [cc0_hgrn_chunk_eq_skeleton]; unfold cc0_hgrn_chunk_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [pb_free (F := F) (f := f6) (f' := arg8.view.junk)]
    isplitl [H6]; · iexists _; iexact H6
    isplitl [H7]
    · iexists _; isplitr; · ipureintro; exact harg9.read_unread _
      iexact H7
    iexists _; iexact HS0

end Cert.Kernel11Ideal.Gen

end
-- ==== Proof.HgpRunC.lean ====
module

public import proofs.«01_k».proof.Proof.HgpRunB

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body in its case C (last step of a row: the state is also written out): the pieces it stores, with its run. The piece lists are
    stated over arbitrary old contents of the result's block, on which they do not depend. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) :
    Σ' (L6 : List (View.Piece (Elt F) S512x512 .bf16)), Σ' (L7 : List (View.Piece (Elt F) S1x4x128x128 .f32)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_hgrn_chunk i arg2 harg2 arg3 harg3 arg4 harg4 arg5 harg5 arg6 harg6 arg7 harg7 arg8 harg8 arg9 harg9 arg10 harg10) K } := by
  refine ⟨?_, ?_, ?_, fun E K => ?run⟩
  case run =>
    simp only [cc0_hgrn_chunk_eq_skeleton]; unfold cc0_hgrn_chunk_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    unfold kernelRun0_C.sl.v7 kernelRun0_C.sl.v13 kernelRun0_C.sl.v19 kernelRun0_C.sl.v25
    rw [pb_free (F := F) (f := f6) (f' := arg8.view.junk)]
    isplitl [H6]; · iexists _; iexact H6
    isplitl [H7]; · iexists _; iexact H7
    iexists _; iexact HS0

end Cert.Kernel11Ideal.Gen

end
-- ==== Proof.HgpFrame.lean ====
module

public import proofs.«01_k».proof.Proof.HgpRunC
public import Idealize.ShloMosaic.Lib.Claim

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) (y : S512x512.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S128x128.size (by sl_kernel_rfl) y

def out0_A_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) : Vec F S512x512 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

def out0_A_7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) : Vec F S1x4x128x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5).2.1)

theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) (y : S4x128x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_wholeMem (kernelRun0_A c i arg2 harg2 arg3 harg3 arg4 harg4 arg5 harg5 arg6 harg6 arg7 harg7 arg8 harg8 arg9 harg9 arg10 harg10 hc0 hc1 x0 x1 x2 x3 x4 x5).2.2.1 (by sl_whole_mem) y

def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) : Vec F S4x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.2.1)

theorem cover0_B_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) (y : S512x512.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).1 S128x128.size (by sl_kernel_rfl) y

def out0_B_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) : Vec F S512x512 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0).1)

def out0_B_7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) : Vec F S1x4x128x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 xs0).2.1)

theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) (y : S4x128x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).2.2.1 S1x128x128.size (by sl_kernel_rfl) y

def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : ¬cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) : Vec F S4x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0).2.2.1)

theorem cover0_C_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) (y : S512x512.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).1 S128x128.size (by sl_kernel_rfl) y

def out0_C_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) : Vec F S512x512 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0).1)

theorem cover0_C_7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) (y : S1x4x128x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.1 S1x1x128x128.size (by sl_kernel_rfl) y

def out0_C_7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) : Vec F S1x4x128x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs0).2.1)

theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) (y : S4x128x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.2.1 S1x128x128.size (by sl_kernel_rfl) y

def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (arg10 : Memref sig .tc .vmem S4x128x128 .f32) (harg10 : arg10.IsWhole) (hc0 : ¬cond0_0 i) (hc1 : cond0_1 i)
    (x0 : Vec F S512x512 .f32) (x1 : Vec F S512x512 .f32) (x2 : Vec F S512x512 .f32) (x3 : Vec F S512x512 .f32) (x4 : Vec F S2x512 .f32) (x5 : Vec F S1x128 .f32) (xs0 : Vec F S4x128x128 .f32) : Vec F S4x128x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0).2.2.1)

def outsAt0 (c : Dev nD) : (n : ℕ) → n < cfg0.N → Vec F S512x512 .bf16 × Vec F S1x4x128x128 .f32 × Vec F S4x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      if h1 : (n + 1) % 4 = 3 then
        False.elim (by have hN : n + 1 < 64 := lt_of_lt_of_eq hn (show cfg0.N = 64 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
      · rw [PhiS_castSucc m c t, PhiS_pos m c _ _ hz]
        rw [outsAt0_A m c t h0 h1]
        unfold out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexists _; iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_6 out0_C_7 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_6 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _)
        iexists _; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel11Ideal.Gen

end
-- ==== Proof.HgpPoint.lean ====
module

public import proofs.«01_k».proof.Proof.HgpLoop
public import proofs.«01_k».proof.Proof.HgpFrame

@[expose] public section

set_option maxRecDepth 16384

noncomputable section

namespace Cert.HgrnPrompt

open Cert.Kernel11Ideal Cert.Kernel11Ideal.Gen Idealize.ShloMosaic Idealize.ShloMosaic.TcCoe Idealize.SL.Sem
open Cert.GlaPrompt (closed upto)
open Cert.HgrnDecode (lgs peak bound)

/-- The state after a prompt's first 512 tokens. -/
theorem sout_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (hc0 : cond0_0 i) (hc1 : ¬cond0_1 i)
    (x0 : Vec Ideal S512x512 .f32) (x1 : Vec Ideal S512x512 .f32) (x2 : Vec Ideal S512x512 .f32) (x3 : Vec Ideal S512x512 .f32) (x4 : Vec Ideal S2x512 .f32) (x5 : Vec Ideal S1x128 .f32)
    (h : Fin 4) (j : Fin 128) (d : Fin 128) (γ : ℕ → ℝ) (κ ν : ℕ → EReal) (n₀ : ℕ)
    (hκ : ∀ t : Fin 512, 1 - forget (fun y => x4 (ix2 y ⟨128 * h.val + d.val, by omega⟩)) (x1 (ix2 t ⟨128 * h.val + d.val, by omega⟩)) = κ (n₀ + t.val))
    (hν : ∀ t : Fin 512, x2 (ix2 t ⟨128 * h.val + j.val, by omega⟩) = ν (n₀ + t.val))
    (hγ : ∀ t : Fin 512, Ideal.log (forget (fun y => x4 (ix2 y ⟨128 * h.val + d.val, by omega⟩)) (x1 (ix2 t ⟨128 * h.val + d.val, by omega⟩))) = (γ (n₀ + t.val) : EReal)) (hn : n₀ = 0) :
    sout0_A_0 (F := Ideal) c i arg2 harg2 arg3 harg3 arg4 harg4 arg5 harg5 arg6 harg6 arg7 harg7 arg8 harg8 arg9 harg9 scM0_0 (Memref.isWhole_whole _) hc0 hc1 x0 x1 x2 x3 x4 x5 (ix3 h j d) = closed γ κ ν (n₀ + 512) := by
  unfold sout0_A_0 kernelRun0_A
  refine loop_read Variants.none c none i arg2 harg2 arg3 harg3 arg4 harg4 arg5 harg5 arg6 harg6 arg7 harg7 arg8 harg8 arg9 harg9 scM0_0 (Memref.isWhole_whole _) _ _ _ _ _ _ h j d γ κ ν n₀ (fun t => by unfold fgt; rw [harg6.read_unread, harg3.read_unread]; exact hκ t)
    (fun t => by rw [harg4.read_unread]; exact hν t)
    (fun t => by unfold fgt; rw [harg6.read_unread, harg3.read_unread]; exact hγ t) _ _ _ _ ?_
  subst hn
  rw [Cert.GlaPrompt.closed_zero]
  refine (View.read_writes_cons_unit_of_mem scM0_0.view _ inb_S4x128x128_S4x128x128_0_0_0 _ _ (ix3 h j d) (ix3 h j d) rfl fun a => (by fin_cases a <;> exact (Nat.zero_add _).symm)).trans ?_
  pointwise [k0_pay1]

/-- The state 512 tokens further. -/
theorem sout_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (hc0 : ¬cond0_0 i) (hc1 : ¬cond0_1 i)
    (x0 : Vec Ideal S512x512 .f32) (x1 : Vec Ideal S512x512 .f32) (x2 : Vec Ideal S512x512 .f32) (x3 : Vec Ideal S512x512 .f32) (x4 : Vec Ideal S2x512 .f32) (x5 : Vec Ideal S1x128 .f32) (xs0 : Vec Ideal S4x128x128 .f32)
    (h : Fin 4) (j : Fin 128) (d : Fin 128) (γ : ℕ → ℝ) (κ ν : ℕ → EReal) (n₀ : ℕ)
    (hκ : ∀ t : Fin 512, 1 - forget (fun y => x4 (ix2 y ⟨128 * h.val + d.val, by omega⟩)) (x1 (ix2 t ⟨128 * h.val + d.val, by omega⟩)) = κ (n₀ + t.val))
    (hν : ∀ t : Fin 512, x2 (ix2 t ⟨128 * h.val + j.val, by omega⟩) = ν (n₀ + t.val))
    (hγ : ∀ t : Fin 512, Ideal.log (forget (fun y => x4 (ix2 y ⟨128 * h.val + d.val, by omega⟩)) (x1 (ix2 t ⟨128 * h.val + d.val, by omega⟩))) = (γ (n₀ + t.val) : EReal))
    (hs : xs0 (ix3 h j d) = closed γ κ ν n₀) :
    sout0_B_0 (F := Ideal) c i arg2 harg2 arg3 harg3 arg4 harg4 arg5 harg5 arg6 harg6 arg7 harg7 arg8 harg8 arg9 harg9 scM0_0 (Memref.isWhole_whole _) hc0 hc1 x0 x1 x2 x3 x4 x5 xs0 (ix3 h j d) = closed γ κ ν (n₀ + 512) := by
  unfold sout0_B_0 kernelRun0_B
  refine Eq.trans (congrArg (fun L => scM0_0.view.read (Elt Ideal) (scM0_0.view.writes (Elt Ideal) scM0_0.view.junk L) (ix3 h j d)) (List.append_nil _).symm) (loop_read Variants.none c none i arg2 harg2 arg3 harg3 arg4 harg4 arg5 harg5 arg6 harg6 arg7 harg7 arg8 harg8 arg9 harg9 scM0_0 (Memref.isWhole_whole _) _ _ _ _ _ _ h j d γ κ ν n₀ (fun t => by unfold fgt; rw [harg6.read_unread, harg3.read_unread]; exact hκ t)
    (fun t => by rw [harg4.read_unread]; exact hν t)
    (fun t => by unfold fgt; rw [harg6.read_unread, harg3.read_unread]; exact hγ t) arg8.view.junk ((Memref.isWhole_whole cc0_scratch0).unread xs0) scM0_0.view.junk [] ?_)
  exact (congrFun ((Memref.isWhole_whole cc0_scratch0).read_unread xs0) _).trans hs

/-- The state a prompt's last 512 tokens. -/
theorem sout_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (hc0 : ¬cond0_0 i) (hc1 : cond0_1 i)
    (x0 : Vec Ideal S512x512 .f32) (x1 : Vec Ideal S512x512 .f32) (x2 : Vec Ideal S512x512 .f32) (x3 : Vec Ideal S512x512 .f32) (x4 : Vec Ideal S2x512 .f32) (x5 : Vec Ideal S1x128 .f32) (xs0 : Vec Ideal S4x128x128 .f32)
    (h : Fin 4) (j : Fin 128) (d : Fin 128) (γ : ℕ → ℝ) (κ ν : ℕ → EReal) (n₀ : ℕ)
    (hκ : ∀ t : Fin 512, 1 - forget (fun y => x4 (ix2 y ⟨128 * h.val + d.val, by omega⟩)) (x1 (ix2 t ⟨128 * h.val + d.val, by omega⟩)) = κ (n₀ + t.val))
    (hν : ∀ t : Fin 512, x2 (ix2 t ⟨128 * h.val + j.val, by omega⟩) = ν (n₀ + t.val))
    (hγ : ∀ t : Fin 512, Ideal.log (forget (fun y => x4 (ix2 y ⟨128 * h.val + d.val, by omega⟩)) (x1 (ix2 t ⟨128 * h.val + d.val, by omega⟩))) = (γ (n₀ + t.val) : EReal))
    (hs : xs0 (ix3 h j d) = closed γ κ ν n₀) :
    sout0_C_0 (F := Ideal) c i arg2 harg2 arg3 harg3 arg4 harg4 arg5 harg5 arg6 harg6 arg7 harg7 arg8 harg8 arg9 harg9 scM0_0 (Memref.isWhole_whole _) hc0 hc1 x0 x1 x2 x3 x4 x5 xs0 (ix3 h j d) = closed γ κ ν (n₀ + 512) := by
  unfold sout0_C_0 kernelRun0_C
  refine Eq.trans (congrArg (fun L => scM0_0.view.read (Elt Ideal) (scM0_0.view.writes (Elt Ideal) scM0_0.view.junk L) (ix3 h j d)) (List.append_nil _).symm) (loop_read Variants.none c none i arg2 harg2 arg3 harg3 arg4 harg4 arg5 harg5 arg6 harg6 arg7 harg7 arg8 harg8 arg9 harg9 scM0_0 (Memref.isWhole_whole _) _ _ _ _ _ _ h j d γ κ ν n₀ (fun t => by unfold fgt; rw [harg6.read_unread, harg3.read_unread]; exact hκ t)
    (fun t => by rw [harg4.read_unread]; exact hν t)
    (fun t => by unfold fgt; rw [harg6.read_unread, harg3.read_unread]; exact hγ t) arg8.view.junk ((Memref.isWhole_whole cc0_scratch0).unread xs0) scM0_0.view.junk [] ?_)
  exact (congrFun ((Memref.isWhole_whole cc0_scratch0).read_unread xs0) _).trans hs

/-- Reading a head back from the four heads' stores into the result's block. -/
theorem read_out (v : View sig .tc .vmem S1x4x128x128 .f32) (f' : v.ty.Contents (Elt Ideal)) (w3 w2 w1 w0 : Vec Ideal S1x1x128x128 .f32)
    (h : Fin 4) (d : Fin 128) (j : Fin 128) :
    v.read (Elt Ideal) (v.writes (Elt Ideal) f' [
      ⟨Rect.unit (s := S1x4x128x128) ![0, 3, 0, 0] S1x1x128x128.size inb_S1x4x128x128_S1x1x128x128_0_3_0_0, w3⟩,
      ⟨Rect.unit (s := S1x4x128x128) ![0, 2, 0, 0] S1x1x128x128.size inb_S1x4x128x128_S1x1x128x128_0_2_0_0, w2⟩,
      ⟨Rect.unit (s := S1x4x128x128) ![0, 1, 0, 0] S1x1x128x128.size inb_S1x4x128x128_S1x1x128x128_0_1_0_0, w1⟩,
      ⟨Rect.unit (s := S1x4x128x128) ![0, 0, 0, 0] S1x1x128x128.size inb_S1x4x128x128_S1x1x128x128_0_0_0_0, w0⟩]) (ix4 0 h d j)
      = (![w0, w1, w2, w3] h) (ix4 0 0 d j) := by
  have mem : ∀ (h' : Fin 4) (a : Fin 4), ((ix4 0 h' d j : S1x4x128x128.Idx) a).val = (![0, h'.val, 0, 0] : Fin 4 → ℕ) a + ((ix4 0 0 d j : S1x1x128x128.Idx) a).val := by
    intro h' a
    fin_cases a
    · rfl
    · rfl
    · exact (Nat.zero_add _).symm
    · exact (Nat.zero_add _).symm
  have not3 := fun (h : Fin 4) (hh : h.val < 3) w L => View.read_writes_cons_unit_of_not_mem v f' inb_S1x4x128x128_S1x1x128x128_0_3_0_0 w L (ix4 0 h d j) rfl 1 (Or.inl hh)
  have not2 := fun (h : Fin 4) (hh : h.val < 2) w L => View.read_writes_cons_unit_of_not_mem v f' inb_S1x4x128x128_S1x1x128x128_0_2_0_0 w L (ix4 0 h d j) rfl 1 (Or.inl hh)
  have not1 := fun (h : Fin 4) (hh : h.val < 1) w L => View.read_writes_cons_unit_of_not_mem v f' inb_S1x4x128x128_S1x1x128x128_0_1_0_0 w L (ix4 0 h d j) rfl 1 (Or.inl hh)
  have hc : h = 0 ∨ h = 1 ∨ h = 2 ∨ h = 3 := by omega
  rcases hc with rfl | rfl | rfl | rfl
  · exact (not3 0 (by decide) _ _).trans ((not2 0 (by decide) _ _).trans ((not1 0 (by decide) _ _).trans
      (View.read_writes_cons_unit_of_mem v f' inb_S1x4x128x128_S1x1x128x128_0_0_0_0 _ _ (ix4 0 0 d j) (ix4 0 0 d j) rfl (mem 0))))
  · exact (not3 1 (by decide) _ _).trans ((not2 1 (by decide) _ _).trans
      (View.read_writes_cons_unit_of_mem v f' inb_S1x4x128x128_S1x1x128x128_0_1_0_0 _ _ (ix4 0 1 d j) (ix4 0 0 d j) rfl (mem 1)))
  · exact (not3 2 (by decide) _ _).trans
      (View.read_writes_cons_unit_of_mem v f' inb_S1x4x128x128_S1x1x128x128_0_2_0_0 _ _ (ix4 0 2 d j) (ix4 0 0 d j) rfl (mem 2))
  · exact View.read_writes_cons_unit_of_mem v f' inb_S1x4x128x128_S1x1x128x128_0_3_0_0 _ _ (ix4 0 3 d j) (ix4 0 0 d j) rfl (mem 3)

theorem pay_out (w3 w2 w1 w0 : Vec Ideal S1x128x128 .f32) (h : Fin 4) (d : Fin 128) (j : Fin 128) :
    (![k0_pay3 (F := Ideal) w0, k0_pay4 w1, k0_pay5 w2, k0_pay6 w3] h) (ix4 0 0 d j) = (![w0, w1, w2, w3] h) (ix3 0 j d) := by
  have hc : h = 0 ∨ h = 1 ∨ h = 2 ∨ h = 3 := by omega
  rcases hc with rfl | rfl | rfl | rfl
  · show k0_pay3 (F := Ideal) w0 _ = w0 _; pointwise [k0_pay3]
  · show k0_pay4 (F := Ideal) w1 _ = w1 _; pointwise [k0_pay4]
  · show k0_pay5 (F := Ideal) w2 _ = w2 _; pointwise [k0_pay5]
  · show k0_pay6 (F := Ideal) w3 _ = w3 _; pointwise [k0_pay6]

theorem heads_read (v : View sig .tc .vmem S4x128x128 .f32) (X : v.ty.Contents (Elt Ideal)) (h : Fin 4) (j : Fin 128) (d : Fin 128) :
    (![v.readAt (Elt Ideal) (Rect.unit (s := S4x128x128) ![0, 0, 0] S1x128x128.size inb_S4x128x128_S1x128x128_0_0_0).toLoadRect X,
      v.readAt (Elt Ideal) (Rect.unit (s := S4x128x128) ![1, 0, 0] S1x128x128.size inb_S4x128x128_S1x128x128_1_0_0).toLoadRect X,
      v.readAt (Elt Ideal) (Rect.unit (s := S4x128x128) ![2, 0, 0] S1x128x128.size inb_S4x128x128_S1x128x128_2_0_0).toLoadRect X,
      v.readAt (Elt Ideal) (Rect.unit (s := S4x128x128) ![3, 0, 0] S1x128x128.size inb_S4x128x128_S1x128x128_3_0_0).toLoadRect X] h) (ix3 0 j d)
      = v.read (Elt Ideal) X (ix3 h j d) := by
  have hc : h = 0 ∨ h = 1 ∨ h = 2 ∨ h = 3 := by omega
  rcases hc with rfl | rfl | rfl | rfl
  · exact read_head v X _ _ 0 rfl j d
  · exact read_head v X _ _ 1 rfl j d
  · exact read_head v X _ _ 2 rfl j d
  · exact read_head v X _ _ 3 rfl j d

/-- The state result's block after a prompt's last tokens: the state, keys before values. -/
theorem out_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S1x4x128x128 .f32) (harg9 : arg9.IsWhole) (hc0 : ¬cond0_0 i) (hc1 : cond0_1 i)
    (x0 : Vec Ideal S512x512 .f32) (x1 : Vec Ideal S512x512 .f32) (x2 : Vec Ideal S512x512 .f32) (x3 : Vec Ideal S512x512 .f32) (x4 : Vec Ideal S2x512 .f32) (x5 : Vec Ideal S1x128 .f32) (xs0 : Vec Ideal S4x128x128 .f32)
    (h : Fin 4) (j : Fin 128) (d : Fin 128) (γ : ℕ → ℝ) (κ ν : ℕ → EReal) (n₀ : ℕ)
    (hκ : ∀ t : Fin 512, 1 - forget (fun y => x4 (ix2 y ⟨128 * h.val + d.val, by omega⟩)) (x1 (ix2 t ⟨128 * h.val + d.val, by omega⟩)) = κ (n₀ + t.val))
    (hν : ∀ t : Fin 512, x2 (ix2 t ⟨128 * h.val + j.val, by omega⟩) = ν (n₀ + t.val))
    (hγ : ∀ t : Fin 512, Ideal.log (forget (fun y => x4 (ix2 y ⟨128 * h.val + d.val, by omega⟩)) (x1 (ix2 t ⟨128 * h.val + d.val, by omega⟩))) = (γ (n₀ + t.val) : EReal))
    (hs : xs0 (ix3 h j d) = closed γ κ ν n₀) :
    out0_C_7 (F := Ideal) c i arg2 harg2 arg3 harg3 arg4 harg4 arg5 harg5 arg6 harg6 arg7 harg7 arg8 harg8 arg9 harg9 scM0_0 (Memref.isWhole_whole _) hc0 hc1 x0 x1 x2 x3 x4 x5 xs0 (ix4 0 h d j) = closed γ κ ν (n₀ + 512) := by
  unfold out0_C_7 kernelRun0_C
  refine (read_out _ _ _ _ _ _ h d j).trans ?_
  refine (pay_out _ _ _ _ h d j).trans ?_
  refine (heads_read scM0_0.view _ h j d).trans ?_
  refine Eq.trans (congrArg (fun L => scM0_0.view.read (Elt Ideal) (scM0_0.view.writes (Elt Ideal) ((Memref.isWhole_whole cc0_scratch0).unread xs0) L) (ix3 h j d)) (List.append_nil _).symm) (loop_read Variants.none c none i arg2 harg2 arg3 harg3 arg4 harg4 arg5 harg5 arg6 harg6 arg7 harg7 arg8 harg8 arg9 harg9 scM0_0 (Memref.isWhole_whole _) _ _ _ _ _ _ h j d γ κ ν n₀ (fun t => by unfold fgt; rw [harg6.read_unread, harg3.read_unread]; exact hκ t)
    (fun t => by rw [harg4.read_unread]; exact hν t)
    (fun t => by unfold fgt; rw [harg6.read_unread, harg3.read_unread]; exact hγ t) arg8.view.junk ((Memref.isWhole_whole cc0_scratch0).unread xs0) ((Memref.isWhole_whole cc0_scratch0).unread xs0) [] ?_)
  exact (congrFun ((Memref.isWhole_whole cc0_scratch0).read_unread xs0) _).trans hs

end Cert.HgrnPrompt
-- ==== Proof.HgpRead.lean ====
module

public import proofs.«01_k».proof.Proof.HgpFrame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.HgrnPrompt

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The projection. -/
abbrev argP (c : Dev nD) : Vec Ideal S16x2048x3352 .f32 := m ((c : Thread nD τ).loc main_arg0)
/-- The lower bound's logits. -/
abbrev argL (c : Dev nD) : Vec Ideal S2x512 .f32 := m ((c : Thread nD τ).loc main_arg1)

/-- The block that every window of the state's computation reads or writes at a grid point. -/
theorem idx : ∀ t : Fin cfg0.N, t.val < 64 ∧ win0_1.index t = ![t.val, 1] ∧ win0_2.index t = ![t.val, 2]
    ∧ win0_4.index t = ![0, 0] ∧ win0_7.index t = ![t.val / 4, 0, 0, 0] :=
  (by decide +kernel : ∀ t : Fin grid0.N, _)

/-- The projection's rows in one run, with zero columns up to a whole block. -/
def cols (p : Vec Ideal S16x2048x3352 .f32) : Vec Ideal S32768x3584 .f32 :=
  pad S32768x3584 ![0, 0] ![0, 232] ![0, 0] (shapeCast S32768x3352 p shapeCasts_S16x2048x3352_S32768x3352)
    (sitofp (F := Ideal) .f32 (constantI S_ 32 0#32)) pads_S32768x3352_S32768x3584_000_02320 h_S_

theorem V_cols (c : Dev nD) : V m c main_v1 = cols (argP m c) := by
  simp only [V, hostOps0, hostOps0_1, hostOps0_2, List.flatten_cons, List.flatten_nil, List.append_nil, List.cons_append, List.nil_append]
  after_reads_simp
  rfl

/-- A row of the projection with its prompts' tokens in one run. -/
theorem flat (p : Vec Ideal S16x2048x3352 .f32) (R : Fin 32768) (j : Fin 3352) (b : Fin 16) (τ : Fin 2048) (hR : R.val = 2048 * b.val + τ.val) :
    shapeCast S32768x3352 p shapeCasts_S16x2048x3352_S32768x3352 (ix2 R j) = p (ix3 b τ j) := by
  pointwise
  have h1 : (⟨R.val / 2048, by omega⟩ : Fin 16) = b := Fin.ext (by simp only []; omega)
  have h2 : (⟨R.val % 2048, by omega⟩ : Fin 2048) = τ := Fin.ext (by simp only []; omega)
  rw [h1, h2]

theorem cols_at (p : Vec Ideal S16x2048x3352 .f32) (R : Fin 32768) (b : Fin 16) (τ : Fin 2048) (hR : R.val = 2048 * b.val + τ.val) (j : Fin 3584) (i : Fin 3352)
    (hi : i.val = j) : cols p (ix2 R j) = p (ix3 b τ i) := by
  unfold cols
  generalize hf : shapeCast S32768x3352 p shapeCasts_S16x2048x3352_S32768x3352 = f
  rw [← flat p R i b τ hR, hf]
  pointwise
  rw [dif_pos (by omega)]
  exact congrArg (fun x => f (ix2 R x)) (Fin.ext (by simp only []; omega))

theorem f_at (c : Dev nD) (t : Fin cfg0.N) (b : Fin 16) (x : Fin 512) (τ : Fin 2048) (hτ : 2048 * b.val + τ.val = 512 * t.val + x.val) (k : Fin 512) (i : Fin 3352) (hi : (i : ℕ) = 512 + k) :
    (show Vec Ideal S512x512 .f32 from iblk m c 1 t) (ix2 x k) = (argP m c) (ix3 b τ i) := by
  have ht := (idx t).1
  refine Eq.trans ?_ ((congrFun (V_cols m c) (ix2 ⟨512 * t.val + x.val, by omega⟩ ⟨512 + k, by omega⟩)).trans
    (cols_at _ _ b τ (by simp only []; omega) _ i (by simp only []; omega)))
  blk_ext [iblk, idx t]

theorem v_at (c : Dev nD) (t : Fin cfg0.N) (b : Fin 16) (x : Fin 512) (τ : Fin 2048) (hτ : 2048 * b.val + τ.val = 512 * t.val + x.val) (n : Fin 512) (i : Fin 3352) (hi : (i : ℕ) = 1024 + n) :
    (show Vec Ideal S512x512 .f32 from iblk m c 2 t) (ix2 x n) = (argP m c) (ix3 b τ i) := by
  have ht := (idx t).1
  refine Eq.trans ?_ ((congrFun (V_cols m c) (ix2 ⟨512 * t.val + x.val, by omega⟩ ⟨1024 + n, by omega⟩)).trans
    (cols_at _ _ b τ (by simp only []; omega) _ i (by simp only []; omega)))
  blk_ext [iblk, idx t]

theorem l_at (c : Dev nD) (t : Fin cfg0.N) (y : Fin 2) (j : Fin 512) :
    (show Vec Ideal S2x512 .f32 from iblk m c 4 t) (ix2 y j) = (argL m c) (ix2 y j) := by
  refine Eq.trans ?_ (congrFun (V_main_arg1 m c) (ix2 y j))
  blk_ext [iblk, idx t]

end Cert.HgrnPrompt
-- ==== Proof.HgpArr.lean ====
module

public import proofs.«01_k».proof.Proof.HgpPoint
public import proofs.«01_k».proof.Proof.HgpRead
public import proofs.«01_k».proof.Proof.Scalar

@[expose] public section

set_option maxRecDepth 16384

noncomputable section

namespace Cert.HgrnPrompt

open Cert.Kernel11Ideal Cert.Kernel11Ideal.Gen Idealize.ShloMosaic Idealize.ShloMosaic.TcCoe Idealize.SL.Sem
open Idealize.ShloMosaic.Pipeline (Dat)
open Cert.GlaPrompt (closed upto)
open Cert.HgrnDecode (lgs peak bound)

/-- A head's channel or column among all heads'. -/
abbrev chan (h : Fin 4) (d : Fin 128) : Fin 512 := ⟨128 * h.val + d.val, by omega⟩

variable (p : Vec Ideal S16x2048x3352 .f32) (l : Vec Ideal S2x512 .f32)

/-- A token's forget gate. -/
def gate (b : Fin 16) (τ : Fin 2048) (i : Fin 512) : EReal := forget (fun y => l (ix2 y i)) (p (ix3 b τ ⟨512 + i.val, by omega⟩))

/-- The logarithms of a prompt's forget gates, as real numbers. -/
def decays (b : Fin 16) (i : Fin 512) (n : ℕ) : ℝ := if h : n < 2048 then (Ideal.log (gate p l b ⟨n, h⟩ i)).toReal else 0

/-- A prompt's keys in one channel. -/
def keys (b : Fin 16) (i : Fin 512) (n : ℕ) : EReal := if h : n < 2048 then 1 - gate p l b ⟨n, h⟩ i else 0

/-- A prompt's values in one column. -/
def vals (b : Fin 16) (j : Fin 512) (n : ℕ) : EReal := if h : n < 2048 then p (ix3 b ⟨n, h⟩ ⟨1024 + j.val, by omega⟩) else 0

/-- The state after `n` tokens of a prompt. -/
def stateAt (b : Fin 16) (h : Fin 4) (k : Fin 128) (j : Fin 128) (n : ℕ) : EReal :=
  closed (decays p l b (chan h k)) (keys p l b (chan h k)) (vals p b (chan h j)) n

/-- The state after the whole prompt. -/
def stateG : Vec Ideal S16x4x128x128 .f32 := fun y => stateAt p l (y 0) (y 1) (y 2) (y 3) 2048

variable {p l}

/-- Of real logits the lower bound is positive and at most one. -/
theorem bound_real (r : ∀ i, Scalar.IsReal (l i)) (j : Fin 512) : ∃ x : ℝ, bound (fun x => l (ix2 x j)) = x ∧ 0 < x ∧ x ≤ 1 := by
  obtain ⟨a, ha⟩ := r (ix2 0 j)
  obtain ⟨b, hb⟩ := r (ix2 1 j)
  have hp : peak (fun x => l (ix2 x j)) = ((max a b : ℝ) : EReal) := by
    unfold peak
    rw [show (Finset.univ : Finset (Fin 2)) = {0, 1} from rfl, Finset.fold_insert (by decide), Finset.fold_singleton, ha, hb, Scalar.negInf_lit,
      max_eq_left bot_le, Scalar.coe_max]
  unfold bound
  rw [hp, Fin.sum_univ_two]
  simp only [ha, hb]
  exact Scalar.softmax_real a b _

theorem log_real (r : ∀ i, Scalar.IsReal (l i)) (b : Fin 16) (τ : Fin 2048) (i : Fin 512) : Scalar.IsReal (Ideal.log (gate p l b τ i)) := by
  unfold gate forget lgs
  rw [Scalar.sigmoid_eq]
  exact (Scalar.blend_real (bound_real r i) (Scalar.logistic_real _)).2

theorem log_coe (r : ∀ i, Scalar.IsReal (l i)) (b : Fin 16) (i : Fin 512) (τ : Fin 2048) : Ideal.log (gate p l b τ i) = (decays p l b i τ.val : EReal) := by
  obtain ⟨x, hx⟩ := log_real (p := p) r b τ i
  unfold decays
  rw [dif_pos τ.isLt]
  show _ = (((Ideal.log (gate p l b τ i)).toReal : ℝ) : EReal)
  rw [hx, EReal.toReal_coe]

variable (m : (ℓ : Loc nD τ sig) → Buf (Elt Ideal) ℓ)

theorem pt_gate (c : Dev nD) (t : Fin cfg0.N) (b : Fin 16) (q : ℕ) (hq : q < 4) (ht : t.val = 4 * b.val + q) (x : Fin 512) (i : Fin 512) :
    forget (fun y => (show Vec Ideal S2x512 .f32 from iblk m c 4 t) (ix2 y i)) ((show Vec Ideal S512x512 .f32 from iblk m c 1 t) (ix2 x i))
      = gate (argP m c) (argL m c) b ⟨512 * q + x.val, by omega⟩ i := by
  unfold gate
  exact congrArg₂ forget (funext fun y => l_at m c t y i) (f_at m c t b x _ (by simp only []; omega) i _ rfl)

theorem pt_keys (c : Dev nD) (t : Fin cfg0.N) (b : Fin 16) (q : ℕ) (hq : q < 4) (ht : t.val = 4 * b.val + q) (x : Fin 512) (i : Fin 512) :
    1 - forget (fun y => (show Vec Ideal S2x512 .f32 from iblk m c 4 t) (ix2 y i)) ((show Vec Ideal S512x512 .f32 from iblk m c 1 t) (ix2 x i))
      = keys (argP m c) (argL m c) b i (512 * q + x.val) := by
  rw [pt_gate m c t b q hq ht]
  unfold keys
  rw [dif_pos (by omega)]

theorem pt_vals (c : Dev nD) (t : Fin cfg0.N) (b : Fin 16) (q : ℕ) (hq : q < 4) (ht : t.val = 4 * b.val + q) (x : Fin 512) (i : Fin 512) :
    (show Vec Ideal S512x512 .f32 from iblk m c 2 t) (ix2 x i) = vals (argP m c) b i (512 * q + x.val) := by
  unfold vals
  rw [dif_pos (by omega)]
  exact v_at m c t b x _ (by simp only []; omega) i _ rfl

theorem pt_decays (c : Dev nD) (r : ∀ i, Scalar.IsReal (argL m c i)) (t : Fin cfg0.N) (b : Fin 16) (q : ℕ) (hq : q < 4) (ht : t.val = 4 * b.val + q)
    (x : Fin 512) (i : Fin 512) :
    Ideal.log (forget (fun y => (show Vec Ideal S2x512 .f32 from iblk m c 4 t) (ix2 y i)) ((show Vec Ideal S512x512 .f32 from iblk m c 1 t) (ix2 x i)))
      = (decays (argP m c) (argL m c) b i (512 * q + x.val) : EReal) := by
  rw [pt_gate m c t b q hq ht]
  exact log_coe r b i ⟨512 * q + x.val, by omega⟩

/-- The scratch holds the state after the grid point's tokens. -/
theorem scratch_at (c : Dev nD) (r : ∀ i, Scalar.IsReal (argL m c i)) (b : Fin 16) (h : Fin 4) (k : Fin 128) (j : Fin 128) (q : ℕ) (hq : q < 4) :
    ∀ (n : ℕ) (hn : n < cfg0.N), n = 4 * b.val + q →
      (outsAt0 m c n hn).2.2 (ix3 h j k) = stateAt (argP m c) (argL m c) b h k j (512 * q + 512) := by
  induction q with
  | zero =>
    intro n hn e
    refine (congrArg (fun z => z.2.2 (ix3 h j k)) (outsAt0_A m c ⟨n, hn⟩ (by simp only []; omega) (by simp only []; omega))).trans ?_
    exact sout_A _ _ _ _ _ _ _ _ _ _ _ _ _ _ _ _ _ _ _ _ _ _ _ _ _ _ h j k _ _ _ (512 * 0)
      (fun x => pt_keys m c ⟨n, hn⟩ b 0 hq e x (chan h k)) (fun x => pt_vals m c ⟨n, hn⟩ b 0 hq e x (chan h j))
      (fun x => pt_decays m c r ⟨n, hn⟩ b 0 hq e x (chan h k)) rfl
  | succ q ih =>
    intro n hn e
    have hp := ih (by omega) (n - 1) (Nat.lt_of_le_of_lt (Nat.sub_le _ _) hn) (by omega)
    by_cases h3 : q + 1 = 3
    · refine (congrArg (fun z => z.2.2 (ix3 h j k)) (outsAt0_C m c ⟨n, hn⟩ (by simp only []; omega) (by simp only []; omega))).trans ?_
      exact sout_C _ _ _ _ _ _ _ _ _ _ _ _ _ _ _ _ _ _ _ _ _ _ _ _ _ _ _ h j k _ _ _ (512 * (q + 1))
        (fun x => pt_keys m c ⟨n, hn⟩ b (q + 1) hq e x (chan h k)) (fun x => pt_vals m c ⟨n, hn⟩ b (q + 1) hq e x (chan h j))
        (fun x => pt_decays m c r ⟨n, hn⟩ b (q + 1) hq e x (chan h k)) hp
    · refine (congrArg (fun z => z.2.2 (ix3 h j k)) (outsAt0_B m c ⟨n, hn⟩ (by simp only []; omega) (by simp only []; omega))).trans ?_
      exact sout_B _ _ _ _ _ _ _ _ _ _ _ _ _ _ _ _ _ _ _ _ _ _ _ _ _ _ _ h j k _ _ _ (512 * (q + 1))
        (fun x => pt_keys m c ⟨n, hn⟩ b (q + 1) hq e x (chan h k)) (fun x => pt_vals m c ⟨n, hn⟩ b (q + 1) hq e x (chan h j))
        (fun x => pt_decays m c r ⟨n, hn⟩ b (q + 1) hq e x (chan h k)) hp

/-- A prompt's last grid point writes its state out. -/
theorem state_at (c : Dev nD) (r : ∀ i, Scalar.IsReal (argL m c i)) (b : Fin 16) (h : Fin 4) (k : Fin 128) (j : Fin 128)
    (t : Fin cfg0.N) (e : t.val = 4 * b.val + 3) :
    (outsAt0 m c t.val t.isLt).2.1 (ix4 0 h k j) = stateAt (argP m c) (argL m c) b h k j 2048 := by
  have hp := scratch_at m c r b h k j 2 (by omega) (t.val - 1) (Nat.lt_of_le_of_lt (Nat.sub_le _ _) t.isLt) (by omega)
  have e1 := congrArg (fun z => z.2.1) (outsAt0_C m c t (by omega) (by omega))
  dsimp only at e1
  rw [e1]
  exact out_C _ _ _ _ _ _ _ _ _ _ _ _ _ _ _ _ _ _ _ _ _ _ _ _ _ _ _ h j k _ _ _ (512 * 3)
    (fun x => pt_keys m c t b 3 (by omega) e x (chan h k)) (fun x => pt_vals m c t b 3 (by omega) e x (chan h j))
    (fun x => pt_decays m c r t b 3 (by omega) e x (chan h k)) hp

theorem emb7 (G : Vec Ideal S16x4x128x128 .f32) (t : Fin cfg0.N) (b : Fin 16) (e : b.val = t.val / 4) (z : Fin 1) (h : Fin 4) (k : Fin 128) (j : Fin 128) :
    G ((win0_7.blk t).view.emb (ix4 z h k j)) = G (ix4 b h k j) := by
  blk_ext [idx t]

theorem state_arr (c : Dev nD) (r : ∀ i, Scalar.IsReal (argL m c i)) :
    (dats m 0 c).arrAt 7 cfg0.N = stateG (argP m c) (argL m c) := by
  refine (dats m 0 c).arrAt_eq_of_covers 7 _ (by decide +kernel) fun t hf y => ?_
  have ht := (idx t).1
  have h3 : t.val % 4 = 3 := (by decide +kernel : ∀ t : Fin cfg0.N, (cfg0.win 7).flush t = true → t.val % 4 = 3) t hf
  blk_simp
  rw [after0_7]
  have key : ∀ y : S1x4x128x128.Idx, (outsAt0 m c t.val t.isLt).2.1 y
      = stateG (argP m c) (argL m c) ((win0_7.blk t).view.emb y) := by
    intro y
    obtain ⟨z, h, k, j, rfl⟩ : ∃ z h k j, y = ix4 z h k j := ⟨y 0, y 1, y 2, y 3, by funext a; fin_cases a <;> rfl⟩
    obtain rfl : z = 0 := Subsingleton.elim _ _
    exact (state_at m c r ⟨t.val / 4, by omega⟩ h k j t (by simp only []; omega)).trans (emb7 (stateG (argP m c) (argL m c)) t ⟨t.val / 4, by omega⟩ rfl 0 h k j).symm
  exact key y

end Cert.HgrnPrompt
-- ==== Proof.HgpRef.lean ====
module

public import proofs.«01_k».proof.Proof.Gen.Reference11Ideal.Run
public import proofs.«01_k».proof.Proof.Gen.Reference11Ideal.Read
public import proofs.«01_k».proof.Proof.GlpRef
public import proofs.«01_k».proof.Proof.HgpArr
public import proofs.«01_k».proof.Proof.Scan
public import proofs.«01_k».proof.Proof.Scalar

@[expose] public section

set_option maxRecDepth 16384

noncomputable section

namespace Cert.HgrnPrompt

open Cert.Reference11Ideal Cert.Reference11Ideal.Gen Cert.Reference11Ideal.Read Idealize.ShloMosaic Idealize.ShloMosaic.TcCoe Idealize.SL.Sem
open Cert.GlaPrompt (closed upto)
open Cert.HgrnDecode (lgs peak bound)

variable (p : Vec Ideal S16x2048x3352 .f32) (l : Vec Ideal S2x512 .f32)

theorem ref_soft (x : Fin 2) (j : Fin 512) :
    val_main_v10 (F := Ideal) l (ix2 x j)
      = Ideal.div (Ideal.exp (l (ix2 x j) - peak fun x => l (ix2 x j))) (∑ y, Ideal.exp (l (ix2 y j) - peak fun x => l (ix2 x j))) := by
  have hb : ∀ z : EReal, max (Ideal.ofBits .f32 0xFF800000#32) z = z := fun z => by rw [Scalar.negInf_lit]; exact max_eq_right bot_le
  unfold peak
  pointwise [val_main_v10, val_main_v9, val_main_v8, val_main_v7, val_main_v6, val_main_v5, val_main_v4, val_main_v3, val_main_v2,
    val_main_v1, val_main_v0, val_main_cst, val_main_cst_0, val_main_cst_1]
  simp only [hb]

theorem ref_bound (j : Fin 512) : val_main_v13 (F := Ideal) l (ix1 j) = bound fun x => l (ix2 x j) := by
  have h : val_main_v11 (F := Ideal) l (ix2 0 j) = bound fun x => l (ix2 x j) := by
    unfold val_main_v11
    refine (Cert.Scan.window_first _ _ _ _ _).trans ?_
    rw [ref_soft]
    pointwise [val_main_call0_call0_v0, val_main_call0_call0_cst]
    rfl
  pointwise [val_main_v13, val_main_v12]
  exact h

theorem ref_gate (b : Fin 16) (τ : Fin 2048) (h : Fin 4) (k : Fin 128) :
    val_main_v29 (F := Ideal) p l (ix4 b τ h k) = gate p l b τ (chan h k) := by
  have e : (⟨h.val * 128 + k.val, by omega⟩ : Fin 512) = chan h k := Fin.ext (by simp only []; omega)
  unfold gate forget lgs
  rw [Scalar.sigmoid_eq, ← e]
  pointwise [val_main_v29, val_main_v28, val_main_v27, val_main_v26, val_main_v25, val_main_v24, val_main_v23, val_main_v22, val_main_v21, val_main_v20,
    val_main_v19, val_main_v18, val_main_v17, val_main_v16, val_main_v15, val_main_v14, val_main_cst_2, val_main_cst_3, val_main_cst_4, ref_bound]
  rfl

theorem ref_k (b : Fin 16) (τ : Fin 2048) (h : Fin 4) (k : Fin 128) :
    val_main_v33 (F := Ideal) p l (ix4 b τ h k) = keys p l b (chan h k) τ.val := by
  unfold keys
  rw [dif_pos τ.isLt]
  pointwise [val_main_v33, val_main_v32, val_main_cst_5, ref_gate]

theorem ref_v (b : Fin 16) (τ : Fin 2048) (h : Fin 4) (j : Fin 128) :
    val_main_v31 (F := Ideal) p (ix4 b τ h j) = vals p b (chan h j) τ.val := by
  unfold vals
  rw [dif_pos τ.isLt]
  pointwise [val_main_v31, val_main_v30]
  exact congrArg (fun i => p (ix3 b τ i)) (Fin.ext (by simp only []; omega))

theorem ref_log (b : Fin 16) (τ : Fin 2048) (h : Fin 4) (k : Fin 128) :
    val_main_v34 (F := Ideal) p l (ix4 b τ h k) = Ideal.log (gate p l b τ (chan h k)) := by
  pointwise [val_main_v34, ref_gate]

variable {p l}

theorem cum_zero : val_main_call1_call0_v0 (F := Ideal) (Shape.Idx.first h_S_) = ((0 : ℝ) : EReal) := by
  pointwise [val_main_call1_call0_v0, val_main_call1_call0_cst]
  rw [EReal.coe_zero]

/-- The running sum of the logarithms of a prompt's forget gates. -/
theorem ref_cum (r : ∀ i, Scalar.IsReal (l i)) (b : Fin 16) (τ : Fin 2048) (h : Fin 4) (k : Fin 128) :
    val_main_v35 (F := Ideal) p l (ix4 b τ h k) = ((upto (decays p l b (chan h k)) (τ.val + 1) : ℝ) : EReal) := by
  unfold val_main_v35
  exact Cert.GlaPrompt.cum_real _ _ _ _ (decays p l b (chan h k)) b h k cum_zero (fun τ => (ref_log p l b τ h k).trans (log_coe r b (chan h k) τ)) τ

theorem ref_term (r : ∀ i, Scalar.IsReal (l i)) (b : Fin 16) (τ : Fin 2048) (h : Fin 4) (k : Fin 128) :
    val_main_v42 (F := Ideal) p l (ix4 b τ h k) = keys p l b (chan h k) τ.val
      * Ideal.exp ((upto (decays p l b (chan h k)) 2048 - upto (decays p l b (chan h k)) (τ.val + 1) : ℝ) : EReal) := by
  pointwise [val_main_v42, val_main_v41, val_main_v40, val_main_v39, val_main_v38, val_main_v37, val_main_v36, ref_k]
  rw [ref_cum r, ref_cum r, ← EReal.coe_sub]
  rfl

theorem ref_state (r : ∀ i, Scalar.IsReal (l i)) : val_main_v43 (F := Ideal) p l = stateG p l := by
  funext y
  obtain ⟨b, h, k, j, rfl⟩ : ∃ b h k j, y = ix4 b h k j := ⟨y 0, y 1, y 2, y 3, by funext a; fin_cases a <;> rfl⟩
  show _ = stateAt p l b h k j 2048
  unfold stateAt closed
  rw [← Fin.sum_univ_eq_sum_range (fun i => vals p b (chan h j) i * (keys p l b (chan h k) i
    * Ideal.exp ((upto (decays p l b (chan h k)) 2048 - upto (decays p l b (chan h k)) (i + 1) : ℝ) : EReal)))]
  pointwise [val_main_v43]
  refine Finset.sum_congr rfl fun τ _ => ?_
  rw [ref_term r, ref_v, mul_comm]

end Cert.HgrnPrompt
-- ==== Proof.HgpClaim.lean ====
module

public import proofs.«01_k».proof.Defs
public import proofs.«01_k».proof.Proof.Gen.Pre_bound_finite
public import proofs.«01_k».proof.Proof.Gen.Reference11Ideal
public import proofs.«01_k».proof.Proof.HgpRef
public import proofs.«01_k».proof.Proof.Finite
public import Idealize.ShloMosaic.Lib.Claim

@[expose] public section

set_option maxRecDepth 16384

noncomputable section

namespace Cert.HgrnPrompt

open Idealize.ShloMosaic Idealize.ShloMosaic.TcCoe Idealize.SL.Sem

variable (m : (ℓ : Loc Cert.Kernel11Ideal.nD Cert.Kernel11Ideal.τ Cert.Kernel11Ideal.sig) → Buf (Elt Ideal) ℓ)

instance : Subsingleton Cert.Pre_bound_finite.S_.Idx := ⟨fun a b => funext fun i => i.elim0⟩

/-- What the precondition says of the lower bound's logits. -/
theorem reals (hpre : Cert.Pre_Kernel11Ideal_bound_finite m) (c : Dev Cert.Kernel11Ideal.nD) (i) : Scalar.IsReal (argL m c i) :=
  Scalar.isReal_of_all _ _ _ _ _ _ _ (congrFun (hpre c) (fun i => i.elim0)) i

theorem algebraic : Cert.algebraic_Kernel11Ideal_Reference11Ideal_pre_bound_finite := by
  pair_intro
  · run_from Cert.Kernel11Ideal.Gen.run_main m g
    · exact Cert.Kernel11Ideal.Gen.V_main_arg0 m c
    · exact Cert.Kernel11Ideal.Gen.V_main_arg2 m c
  · refine θ_run_mono (Cert.Reference11Ideal.Value.run m' g') fun r h c => ⟨(h c).1.trans ?_, (h c).2⟩
    refine (Cert.Reference11Ideal.Read.val_main_v43_eq (F := Ideal) m' c).trans ?_
    rw [(hagree c).1, (hagree c).2.1]
    exact (ref_state (reals m hpre c)).trans (state_arr m c (reals m hpre c)).symm

end Cert.HgrnPrompt
-- ==== Proof.HgpBits.lean ====
module

public import proofs.«01_k».proof.Defs
public import proofs.«01_k».proof.Proof.Gen.Kernel11
public import proofs.«01_k».proof.Proof.HgpFrame
public import Idealize.ShloMosaic.Lib.Claim

@[expose] public section

set_option maxRecDepth 16384

noncomputable section

namespace Cert.HgrnPrompt

open Idealize.ShloMosaic Idealize.ShloMosaic.TcCoe Idealize.SL.Sem

/-- The two programs' kernel has one text. -/
theorem kernel_eq : Cert.Kernel11.cc0_hgrn_chunk (F := Bits) = Cert.Kernel11Ideal.cc0_hgrn_chunk (F := Bits) := rfl

theorem bodies_eq : Cert.Kernel11.defs₀ (F := Bits) = Cert.Kernel11Ideal.defs₀ (F := Bits) := by
  refine congrArg Defs.onTc (funext fun l => funext fun a => ?_)
  obtain rfl : l = 0 := Subsingleton.elim (α := Fin 1) _ _
  obtain ⟨t, s⟩ := a
  rfl

theorem table_eq : Cert.Kernel11.defs (F := Bits) = Cert.Kernel11Ideal.defs (F := Bits) :=
  congrArg (fun D => Pipeline.defs (Cert.Kernel11Ideal.pcfgs (F := Bits)) D) bodies_eq

/-- The kernel's frame is its ideal program's run over the machine's floats. -/
theorem frame_kernel11 : Cert.quiescent_Kernel11 := fun m ρ _ =>
  (congrArg (fun D => θ_run D _ _ _) table_eq).mpr (Cert.Kernel11Ideal.Gen.frame (F := Bits) m ρ)

end Cert.HgrnPrompt
-- ==== Proof.lean ====
/- The certificate: each program's frame and value claim, from the modules beside this file. -/
module

public import proofs.«01_k».proof.Defs
public import proofs.«01_k».proof.Proof.Gen.KernelIdeal.Value
public import proofs.«01_k».proof.Proof.Gen.ReferenceIdeal.Read
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Reference10Ideal.Read
public import proofs.«01_k».proof.Proof.Gen.Kernel.Frame
public import proofs.«01_k».proof.Proof.Gen.KernelIdeal.Frame
public import proofs.«01_k».proof.Proof.Gen.ReferenceIdeal.Run
public import proofs.«01_k».proof.Proof.GlaClaim
public import proofs.«01_k».proof.Proof.Gen.Pre_gla_finite
public import proofs.«01_k».proof.Proof.Gen.Kernel2.Frame
public import proofs.«01_k».proof.Proof.Gen.Kernel2Ideal.Frame
public import proofs.«01_k».proof.Proof.Gen.Reference2Ideal.Run
public import proofs.«01_k».proof.Proof.FfnClaim
public import proofs.«01_k».proof.Proof.Gen.Kernel3.Frame
public import proofs.«01_k».proof.Proof.Gen.Kernel3Ideal.Frame
public import proofs.«01_k».proof.Proof.Gen.Reference3Ideal.Run
public import proofs.«01_k».proof.Proof.ProjTClaim
public import proofs.«01_k».proof.Proof.Gen.Kernel4.Frame
public import proofs.«01_k».proof.Proof.Gen.Kernel4Ideal.Frame
public import proofs.«01_k».proof.Proof.Gen.Reference4Ideal.Run
public import proofs.«01_k».proof.Proof.ProjOClaim
public import proofs.«01_k».proof.Proof.Gen.Kernel5.Frame
public import proofs.«01_k».proof.Proof.Gen.Kernel5Ideal.Frame
public import proofs.«01_k».proof.Proof.Gen.Reference5Ideal.Run
public import proofs.«01_k».proof.Proof.HgrnClaim
public import proofs.«01_k».proof.Proof.Gen.Pre_hgrn_finite
public import proofs.«01_k».proof.Proof.Gen.Kernel6.Frame
public import proofs.«01_k».proof.Proof.Gen.Kernel6Ideal.Frame
public import proofs.«01_k».proof.Proof.Gen.Reference6Ideal.Run
public import proofs.«01_k».proof.Proof.ProjEClaim
public import proofs.«01_k».proof.Proof.Gen.Kernel7.Frame
public import proofs.«01_k».proof.Proof.Gen.Kernel7Ideal.Frame
public import proofs.«01_k».proof.Proof.Gen.Reference7Ideal.Run
public import proofs.«01_k».proof.Proof.Ffn1Claim
public import proofs.«01_k».proof.Proof.Gen.Kernel8.Frame
public import proofs.«01_k».proof.Proof.Gen.Kernel8Ideal.Frame
public import proofs.«01_k».proof.Proof.Gen.Reference8Ideal.Run
public import proofs.«01_k».proof.Proof.Ffn0Claim
public import proofs.«01_k».proof.Proof.Gen.Kernel9.Frame
public import proofs.«01_k».proof.Proof.Gen.Kernel9Ideal.Frame
public import proofs.«01_k».proof.Proof.Gen.Reference9Ideal.Run
public import proofs.«01_k».proof.Proof.CmpClaim
public import proofs.«01_k».proof.Proof.Gen.Kernel10
public import proofs.«01_k».proof.Proof.Gen.Reference10Ideal.Run
public import proofs.«01_k».proof.Proof.GlpClaim
public import proofs.«01_k».proof.Proof.GlpBits
public import proofs.«01_k».proof.Proof.Gen.Pre_gla_gate_finite
public import proofs.«01_k».proof.Proof.Gen.Kernel11
public import proofs.«01_k».proof.Proof.Gen.Reference11Ideal.Run
public import proofs.«01_k».proof.Proof.Gen.Reference11Ideal.Read
public import proofs.«01_k».proof.Proof.HgpClaim
public import proofs.«01_k».proof.Proof.HgpBits
public import proofs.«01_k».proof.Proof.Gen.Pre_bound_finite
public import proofs.«01_k».proof.Proof.Gen.Kernel11
public import proofs.«01_k».proof.Proof.HgpClaim
public import proofs.«01_k».proof.Proof.HgpBits
public import proofs.«01_k».proof.Proof.Gen.Pre_bound_finite
public import Idealize.ShloMosaic.Lib.Claim
public import Idealize.ShloMosaic.Adequacy
public import Idealize.ShloMosaic.Init

@[expose] public section

noncomputable section

namespace Cert.Proof

open Idealize.ShloMosaic Idealize.SL.Sem

/-- Reference 1 runs, leaves its arguments unchanged and every counter at zero. -/
theorem frame_reference1 : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run m ρ)

/-- Reference 2 runs, leaves its arguments unchanged and every counter at zero. -/
theorem frame_reference2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run m ρ)

/-- Reference 3 runs, leaves its arguments unchanged and every counter at zero. -/
theorem frame_reference3 : Cert.quiescent_Reference3Ideal := by
  intro m ρ _
  exact (θ_run Cert.Reference3Ideal.defs _ _).mono (fun r h => ⟨fun c => (h c).2.2.2.2.2, sem_eq_zero_of_no_sems (by decide) r.2⟩)
    (Cert.Reference3Ideal.Value.run m ρ)

/-- Reference 4 runs, leaves its arguments unchanged and every counter at zero. -/
theorem frame_reference4 : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run m ρ)

/-- Reference 5 runs, leaves its arguments unchanged and every counter at zero. -/
theorem frame_reference5 : Cert.quiescent_Reference5Ideal := by
  intro m ρ _
  exact (θ_run Cert.Reference5Ideal.defs _ _).mono (fun r h => ⟨fun c => (h c).2.2, sem_eq_zero_of_no_sems (by decide) r.2⟩)
    (Cert.Reference5Ideal.Value.run m ρ)

/-- Reference 6 runs, leaves its arguments unchanged and every counter at zero. -/
theorem frame_reference6 : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run m ρ)

/-- Reference 7 runs, leaves its arguments unchanged and every counter at zero. -/
theorem frame_reference7 : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run m ρ)

/-- Reference 8 runs, leaves its arguments unchanged and every counter at zero. -/
theorem frame_reference8 : Cert.quiescent_Reference8Ideal := by
  intro m ρ _
  exact (θ_run Cert.Reference8Ideal.defs _ _).mono (fun r h => ⟨fun c => (h c).2, sem_eq_zero_of_no_sems (by decide) r.2⟩)
    (Cert.Reference8Ideal.Value.run m ρ)

/-- Reference 9 runs, leaves its arguments unchanged and every counter at zero. -/
theorem frame_reference9 : Cert.quiescent_Reference9Ideal := by
  intro m ρ _
  exact (θ_run Cert.Reference9Ideal.defs _ _).mono (fun r h => ⟨fun c => (h c).2, sem_eq_zero_of_no_sems (by decide) r.2⟩)
    (Cert.Reference9Ideal.Value.run m ρ)

/-- Reference 10 runs, leaves its arguments unchanged and every counter at zero. -/
theorem frame_reference10 : Cert.quiescent_Reference10Ideal := by
  intro m ρ _
  exact (θ_run Cert.Reference10Ideal.defs _ _).mono (fun r h => ⟨fun c => (h c).2, sem_eq_zero_of_no_sems (by decide) r.2⟩)
    (Cert.Reference10Ideal.Value.run m ρ)

/-- Reference 11 runs, leaves its arguments unchanged and every counter at zero. -/
theorem frame_reference11 : Cert.quiescent_Reference11Ideal := by
  intro m ρ _
  exact (θ_run Cert.Reference11Ideal.defs _ _).mono (fun r h => ⟨fun c => (h c).2, sem_eq_zero_of_no_sems (by decide) r.2⟩)
    (Cert.Reference11Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_gla_finite.Gen.facts, Cert.Pre_hgrn_finite.Gen.facts, Cert.Pre_gla_gate_finite.Gen.facts, Cert.Pre_bound_finite.Gen.facts,
  fun m ρ _ => Cert.Kernel.Gen.frame m ρ,
  fun m ρ _ => Cert.KernelIdeal.Gen.frame m ρ,
  fun m ρ _ => Cert.KernelIdeal.Gen.frame m ρ,
  frame_reference1,
  fun m ρ _ => frame_reference1 m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  fun m ρ _ => Cert.Kernel5Ideal.Gen.frame m ρ,
  frame_reference5,
  fun m ρ _ => frame_reference5 m ρ trivial,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  Cert.GlaPrompt.frame_kernel10,
  fun m ρ _ => Cert.Kernel10Ideal.Gen.frame m ρ,
  fun m ρ _ => Cert.Kernel10Ideal.Gen.frame m ρ,
  frame_reference10,
  fun m ρ _ => frame_reference10 m ρ trivial,
  Cert.HgrnPrompt.frame_kernel11,
  fun m ρ _ => Cert.Kernel11Ideal.Gen.frame m ρ,
  fun m ρ _ => Cert.Kernel11Ideal.Gen.frame m ρ,
  frame_reference11,
  fun m ρ _ => frame_reference11 m ρ trivial,
  trivial,
  Cert.GlaDecode.algebraic,
  trivial,
  Cert.OutFfn.algebraic,
  trivial,
  Cert.NormProjT.algebraic,
  trivial,
  Cert.NormProjOdd.algebraic,
  trivial,
  Cert.HgrnDecode.algebraic,
  trivial,
  Cert.NormProjEven.algebraic,
  trivial,
  Cert.OutFfn1.algebraic,
  trivial,
  Cert.OutFfnEven.algebraic,
  trivial,
  Cert.Compress.algebraic,
  trivial,
  Cert.GlaPrompt.algebraic,
  trivial,
  Cert.HgrnPrompt.algebraic⟩

end Cert.Proof

end
